-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "scale" .f32 0x3E38AA3B#32 (((8 * (Real.log 2))⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v36_0)) (v1 : (c : Dev Cert.Kernel3Ideal.nD) → Buf (Elt Ideal) ((c.tc : Thread Cert.Kernel3Ideal.nD Cert.Kernel3Ideal.τ).loc Cert.Kernel3Ideal.main_v36_1)) (v2 : (c : Dev Cert.Kernel3Ideal.nD) → Buf (Elt Ideal) ((c.tc : Thread Cert.Kernel3Ideal.nD Cert.Kernel3Ideal.τ).loc Cert.Kernel3Ideal.main_v36_2)) (v3 : (c : Dev Cert.Kernel3Ideal.nD) → Buf (Elt Ideal) ((c.tc : Thread Cert.Kernel3Ideal.nD Cert.Kernel3Ideal.τ).loc Cert.Kernel3Ideal.main_v36_3)) (v4 : (c : Dev Cert.Kernel3Ideal.nD) → Buf (Elt Ideal) ((c.tc : Thread Cert.Kernel3Ideal.nD Cert.Kernel3Ideal.τ).loc Cert.Kernel3Ideal.main_v36_4)) (v5 : (c : Dev Cert.Kernel3Ideal.nD) → Buf (Elt Ideal) ((c.tc : Thread Cert.Kernel3Ideal.nD Cert.Kernel3Ideal.τ).loc Cert.Kernel3Ideal.main_v36_5)) (v6 : (c : Dev Cert.Kernel3Ideal.nD) → Buf (Elt Ideal) ((c.tc : Thread Cert.Kernel3Ideal.nD Cert.Kernel3Ideal.τ).loc Cert.Kernel3Ideal.main_v36_6)) (v7 : (c : Dev Cert.Kernel3Ideal.nD) → Buf (Elt Ideal) ((c.tc : Thread Cert.Kernel3Ideal.nD Cert.Kernel3Ideal.τ).loc Cert.Kernel3Ideal.main_v36_7)) (v8 : (c : Dev Cert.Kernel3Ideal.nD) → Buf (Elt Ideal) ((c.tc : Thread Cert.Kernel3Ideal.nD Cert.Kernel3Ideal.τ).loc Cert.Kernel3Ideal.main_v36_8)) (v9 : (c : Dev Cert.Kernel3Ideal.nD) → Buf (Elt Ideal) ((c.tc : Thread Cert.Kernel3Ideal.nD Cert.Kernel3Ideal.τ).loc Cert.Kernel3Ideal.main_v36_9)) (v10 : (c : Dev Cert.Kernel3Ideal.nD) → Buf (Elt Ideal) ((c.tc : Thread Cert.Kernel3Ideal.nD Cert.Kernel3Ideal.τ).loc Cert.Kernel3Ideal.main_v36_10)) (v11 : (c : Dev Cert.Kernel3Ideal.nD) → Buf (Elt Ideal) ((c.tc : Thread Cert.Kernel3Ideal.nD Cert.Kernel3Ideal.τ).loc Cert.Kernel3Ideal.main_v36_11)) (v12 : (c : Dev Cert.Kernel3Ideal.nD) → Buf (Elt Ideal) ((c.tc : Thread Cert.Kernel3Ideal.nD Cert.Kernel3Ideal.τ).loc Cert.Kernel3Ideal.main_v36_12)) (v13 : (c : Dev Cert.Kernel3Ideal.nD) → Buf (Elt Ideal) ((c.tc : Thread Cert.Kernel3Ideal.nD Cert.Kernel3Ideal.τ).loc Cert.Kernel3Ideal.main_v36_13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v36_0) = v0 c
          ∧ r.2.mem ((c.tc : Thread Cert.Kernel3Ideal.nD Cert.Kernel3Ideal.τ).loc Cert.Kernel3Ideal.main_v36_1) = v1 c
          ∧ r.2.mem ((c.tc : Thread Cert.Kernel3Ideal.nD Cert.Kernel3Ideal.τ).loc Cert.Kernel3Ideal.main_v36_2) = v2 c
          ∧ r.2.mem ((c.tc : Thread Cert.Kernel3Ideal.nD Cert.Kernel3Ideal.τ).loc Cert.Kernel3Ideal.main_v36_3) = v3 c
          ∧ r.2.mem ((c.tc : Thread Cert.Kernel3Ideal.nD Cert.Kernel3Ideal.τ).loc Cert.Kernel3Ideal.main_v36_4) = v4 c
          ∧ r.2.mem ((c.tc : Thread Cert.Kernel3Ideal.nD Cert.Kernel3Ideal.τ).loc Cert.Kernel3Ideal.main_v36_5) = v5 c
          ∧ r.2.mem ((c.tc : Thread Cert.Kernel3Ideal.nD Cert.Kernel3Ideal.τ).loc Cert.Kernel3Ideal.main_v36_6) = v6 c
          ∧ r.2.mem ((c.tc : Thread Cert.Kernel3Ideal.nD Cert.Kernel3Ideal.τ).loc Cert.Kernel3Ideal.main_v36_7) = v7 c
          ∧ r.2.mem ((c.tc : Thread Cert.Kernel3Ideal.nD Cert.Kernel3Ideal.τ).loc Cert.Kernel3Ideal.main_v36_8) = v8 c
          ∧ r.2.mem ((c.tc : Thread Cert.Kernel3Ideal.nD Cert.Kernel3Ideal.τ).loc Cert.Kernel3Ideal.main_v36_9) = v9 c
          ∧ r.2.mem ((c.tc : Thread Cert.Kernel3Ideal.nD Cert.Kernel3Ideal.τ).loc Cert.Kernel3Ideal.main_v36_10) = v10 c
          ∧ r.2.mem ((c.tc : Thread Cert.Kernel3Ideal.nD Cert.Kernel3Ideal.τ).loc Cert.Kernel3Ideal.main_v36_11) = v11 c
          ∧ r.2.mem ((c.tc : Thread Cert.Kernel3Ideal.nD Cert.Kernel3Ideal.τ).loc Cert.Kernel3Ideal.main_v36_12) = v12 c
          ∧ r.2.mem ((c.tc : Thread Cert.Kernel3Ideal.nD Cert.Kernel3Ideal.τ).loc Cert.Kernel3Ideal.main_v36_13) = v13 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v160) = v0 c
          ∧ r.2.mem ((c.tc : Thread Cert.Reference3Ideal.nD Cert.Reference3Ideal.τ).loc Cert.Reference3Ideal.main_v165) = v1 c
          ∧ r.2.mem ((c.tc : Thread Cert.Reference3Ideal.nD Cert.Reference3Ideal.τ).loc Cert.Reference3Ideal.main_v170) = v2 c
          ∧ r.2.mem ((c.tc : Thread Cert.Reference3Ideal.nD Cert.Reference3Ideal.τ).loc Cert.Reference3Ideal.main_v171) = v3 c
          ∧ r.2.mem ((c.tc : Thread Cert.Reference3Ideal.nD Cert.Reference3Ideal.τ).loc Cert.Reference3Ideal.main_v174) = v4 c
          ∧ r.2.mem ((c.tc : Thread Cert.Reference3Ideal.nD Cert.Reference3Ideal.τ).loc Cert.Reference3Ideal.main_v175) = v5 c
          ∧ r.2.mem ((c.tc : Thread Cert.Reference3Ideal.nD Cert.Reference3Ideal.τ).loc Cert.Reference3Ideal.main_v177) = v6 c
          ∧ r.2.mem ((c.tc : Thread Cert.Reference3Ideal.nD Cert.Reference3Ideal.τ).loc Cert.Reference3Ideal.main_v178) = v7 c
          ∧ r.2.mem ((c.tc : Thread Cert.Reference3Ideal.nD Cert.Reference3Ideal.τ).loc Cert.Reference3Ideal.main_v181) = v8 c
          ∧ r.2.mem ((c.tc : Thread Cert.Reference3Ideal.nD Cert.Reference3Ideal.τ).loc Cert.Reference3Ideal.main_v182) = v9 c
          ∧ r.2.mem ((c.tc : Thread Cert.Reference3Ideal.nD Cert.Reference3Ideal.τ).loc Cert.Reference3Ideal.main_v183) = v10 c
          ∧ r.2.mem ((c.tc : Thread Cert.Reference3Ideal.nD Cert.Reference3Ideal.τ).loc Cert.Reference3Ideal.main_v186) = v11 c
          ∧ r.2.mem ((c.tc : Thread Cert.Reference3Ideal.nD Cert.Reference3Ideal.τ).loc Cert.Reference3Ideal.main_v187) = v12 c
          ∧ r.2.mem ((c.tc : Thread Cert.Reference3Ideal.nD Cert.Reference3Ideal.τ).loc Cert.Reference3Ideal.main_v189) = v13 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  IdealRules.named_const.Statement Cert.Kernel4Ideal.κ "scale" .f32 0x3E38AA3B#32 (((8 * (Real.log 2))⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v33_0)) (v1 : (c : Dev Cert.Kernel4Ideal.nD) → Buf (Elt Ideal) ((c.tc : Thread Cert.Kernel4Ideal.nD Cert.Kernel4Ideal.τ).loc Cert.Kernel4Ideal.main_v33_1)) (v2 : (c : Dev Cert.Kernel4Ideal.nD) → Buf (Elt Ideal) ((c.tc : Thread Cert.Kernel4Ideal.nD Cert.Kernel4Ideal.τ).loc Cert.Kernel4Ideal.main_v33_2)) (v3 : (c : Dev Cert.Kernel4Ideal.nD) → Buf (Elt Ideal) ((c.tc : Thread Cert.Kernel4Ideal.nD Cert.Kernel4Ideal.τ).loc Cert.Kernel4Ideal.main_v33_3)) (v4 : (c : Dev Cert.Kernel4Ideal.nD) → Buf (Elt Ideal) ((c.tc : Thread Cert.Kernel4Ideal.nD Cert.Kernel4Ideal.τ).loc Cert.Kernel4Ideal.main_v33_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v33_0) = v0 c
          ∧ r.2.mem ((c.tc : Thread Cert.Kernel4Ideal.nD Cert.Kernel4Ideal.τ).loc Cert.Kernel4Ideal.main_v33_1) = v1 c
          ∧ r.2.mem ((c.tc : Thread Cert.Kernel4Ideal.nD Cert.Kernel4Ideal.τ).loc Cert.Kernel4Ideal.main_v33_2) = v2 c
          ∧ r.2.mem ((c.tc : Thread Cert.Kernel4Ideal.nD Cert.Kernel4Ideal.τ).loc Cert.Kernel4Ideal.main_v33_3) = v3 c
          ∧ r.2.mem ((c.tc : Thread Cert.Kernel4Ideal.nD Cert.Kernel4Ideal.τ).loc Cert.Kernel4Ideal.main_v33_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v90) = v0 c
          ∧ r.2.mem ((c.tc : Thread Cert.Reference4Ideal.nD Cert.Reference4Ideal.τ).loc Cert.Reference4Ideal.main_v91) = v1 c
          ∧ r.2.mem ((c.tc : Thread Cert.Reference4Ideal.nD Cert.Reference4Ideal.τ).loc Cert.Reference4Ideal.main_v94) = v2 c
          ∧ r.2.mem ((c.tc : Thread Cert.Reference4Ideal.nD Cert.Reference4Ideal.τ).loc Cert.Reference4Ideal.main_v95) = v3 c
          ∧ r.2.mem ((c.tc : Thread Cert.Reference4Ideal.nD Cert.Reference4Ideal.τ).loc Cert.Reference4Ideal.main_v97) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v46) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  IdealRules.named_const.Statement Cert.Kernel6Ideal.κ "scale" .f32 0x3E38AA3B#32 (((8 * (Real.log 2))⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v44_0)) (v1 : (c : Dev Cert.Kernel6Ideal.nD) → Buf (Elt Ideal) ((c.tc : Thread Cert.Kernel6Ideal.nD Cert.Kernel6Ideal.τ).loc Cert.Kernel6Ideal.main_v44_1)) (v2 : (c : Dev Cert.Kernel6Ideal.nD) → Buf (Elt Ideal) ((c.tc : Thread Cert.Kernel6Ideal.nD Cert.Kernel6Ideal.τ).loc Cert.Kernel6Ideal.main_v44_2)) (v3 : (c : Dev Cert.Kernel6Ideal.nD) → Buf (Elt Ideal) ((c.tc : Thread Cert.Kernel6Ideal.nD Cert.Kernel6Ideal.τ).loc Cert.Kernel6Ideal.main_v44_3)) (v4 : (c : Dev Cert.Kernel6Ideal.nD) → Buf (Elt Ideal) ((c.tc : Thread Cert.Kernel6Ideal.nD Cert.Kernel6Ideal.τ).loc Cert.Kernel6Ideal.main_v44_4)) (v5 : (c : Dev Cert.Kernel6Ideal.nD) → Buf (Elt Ideal) ((c.tc : Thread Cert.Kernel6Ideal.nD Cert.Kernel6Ideal.τ).loc Cert.Kernel6Ideal.main_v44_5)) (v6 : (c : Dev Cert.Kernel6Ideal.nD) → Buf (Elt Ideal) ((c.tc : Thread Cert.Kernel6Ideal.nD Cert.Kernel6Ideal.τ).loc Cert.Kernel6Ideal.main_v44_6)) (v7 : (c : Dev Cert.Kernel6Ideal.nD) → Buf (Elt Ideal) ((c.tc : Thread Cert.Kernel6Ideal.nD Cert.Kernel6Ideal.τ).loc Cert.Kernel6Ideal.main_v44_7)) (v8 : (c : Dev Cert.Kernel6Ideal.nD) → Buf (Elt Ideal) ((c.tc : Thread Cert.Kernel6Ideal.nD Cert.Kernel6Ideal.τ).loc Cert.Kernel6Ideal.main_v44_8)) (v9 : (c : Dev Cert.Kernel6Ideal.nD) → Buf (Elt Ideal) ((c.tc : Thread Cert.Kernel6Ideal.nD Cert.Kernel6Ideal.τ).loc Cert.Kernel6Ideal.main_v44_9)) (v10 : (c : Dev Cert.Kernel6Ideal.nD) → Buf (Elt Ideal) ((c.tc : Thread Cert.Kernel6Ideal.nD Cert.Kernel6Ideal.τ).loc Cert.Kernel6Ideal.main_v44_10)) (v11 : (c : Dev Cert.Kernel6Ideal.nD) → Buf (Elt Ideal) ((c.tc : Thread Cert.Kernel6Ideal.nD Cert.Kernel6Ideal.τ).loc Cert.Kernel6Ideal.main_v44_11)) (v12 : (c : Dev Cert.Kernel6Ideal.nD) → Buf (Elt Ideal) ((c.tc : Thread Cert.Kernel6Ideal.nD Cert.Kernel6Ideal.τ).loc Cert.Kernel6Ideal.main_v44_12)) (v13 : (c : Dev Cert.Kernel6Ideal.nD) → Buf (Elt Ideal) ((c.tc : Thread Cert.Kernel6Ideal.nD Cert.Kernel6Ideal.τ).loc Cert.Kernel6Ideal.main_v44_13)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v44_0) = v0 c
          ∧ r.2.mem ((c.tc : Thread Cert.Kernel6Ideal.nD Cert.Kernel6Ideal.τ).loc Cert.Kernel6Ideal.main_v44_1) = v1 c
          ∧ r.2.mem ((c.tc : Thread Cert.Kernel6Ideal.nD Cert.Kernel6Ideal.τ).loc Cert.Kernel6Ideal.main_v44_2) = v2 c
          ∧ r.2.mem ((c.tc : Thread Cert.Kernel6Ideal.nD Cert.Kernel6Ideal.τ).loc Cert.Kernel6Ideal.main_v44_3) = v3 c
          ∧ r.2.mem ((c.tc : Thread Cert.Kernel6Ideal.nD Cert.Kernel6Ideal.τ).loc Cert.Kernel6Ideal.main_v44_4) = v4 c
          ∧ r.2.mem ((c.tc : Thread Cert.Kernel6Ideal.nD Cert.Kernel6Ideal.τ).loc Cert.Kernel6Ideal.main_v44_5) = v5 c
          ∧ r.2.mem ((c.tc : Thread Cert.Kernel6Ideal.nD Cert.Kernel6Ideal.τ).loc Cert.Kernel6Ideal.main_v44_6) = v6 c
          ∧ r.2.mem ((c.tc : Thread Cert.Kernel6Ideal.nD Cert.Kernel6Ideal.τ).loc Cert.Kernel6Ideal.main_v44_7) = v7 c
          ∧ r.2.mem ((c.tc : Thread Cert.Kernel6Ideal.nD Cert.Kernel6Ideal.τ).loc Cert.Kernel6Ideal.main_v44_8) = v8 c
          ∧ r.2.mem ((c.tc : Thread Cert.Kernel6Ideal.nD Cert.Kernel6Ideal.τ).loc Cert.Kernel6Ideal.main_v44_9) = v9 c
          ∧ r.2.mem ((c.tc : Thread Cert.Kernel6Ideal.nD Cert.Kernel6Ideal.τ).loc Cert.Kernel6Ideal.main_v44_10) = v10 c
          ∧ r.2.mem ((c.tc : Thread Cert.Kernel6Ideal.nD Cert.Kernel6Ideal.τ).loc Cert.Kernel6Ideal.main_v44_11) = v11 c
          ∧ r.2.mem ((c.tc : Thread Cert.Kernel6Ideal.nD Cert.Kernel6Ideal.τ).loc Cert.Kernel6Ideal.main_v44_12) = v12 c
          ∧ r.2.mem ((c.tc : Thread Cert.Kernel6Ideal.nD Cert.Kernel6Ideal.τ).loc Cert.Kernel6Ideal.main_v44_13) = v13 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v162) = v0 c
          ∧ r.2.mem ((c.tc : Thread Cert.Reference6Ideal.nD Cert.Reference6Ideal.τ).loc Cert.Reference6Ideal.main_v167) = v1 c
          ∧ r.2.mem ((c.tc : Thread Cert.Reference6Ideal.nD Cert.Reference6Ideal.τ).loc Cert.Reference6Ideal.main_v172) = v2 c
          ∧ r.2.mem ((c.tc : Thread Cert.Reference6Ideal.nD Cert.Reference6Ideal.τ).loc Cert.Reference6Ideal.main_v173) = v3 c
          ∧ r.2.mem ((c.tc : Thread Cert.Reference6Ideal.nD Cert.Reference6Ideal.τ).loc Cert.Reference6Ideal.main_v176) = v4 c
          ∧ r.2.mem ((c.tc : Thread Cert.Reference6Ideal.nD Cert.Reference6Ideal.τ).loc Cert.Reference6Ideal.main_v177) = v5 c
          ∧ r.2.mem ((c.tc : Thread Cert.Reference6Ideal.nD Cert.Reference6Ideal.τ).loc Cert.Reference6Ideal.main_v179) = v6 c
          ∧ r.2.mem ((c.tc : Thread Cert.Reference6Ideal.nD Cert.Reference6Ideal.τ).loc Cert.Reference6Ideal.main_v180) = v7 c
          ∧ r.2.mem ((c.tc : Thread Cert.Reference6Ideal.nD Cert.Reference6Ideal.τ).loc Cert.Reference6Ideal.main_v183) = v8 c
          ∧ r.2.mem ((c.tc : Thread Cert.Reference6Ideal.nD Cert.Reference6Ideal.τ).loc Cert.Reference6Ideal.main_v184) = v9 c
          ∧ r.2.mem ((c.tc : Thread Cert.Reference6Ideal.nD Cert.Reference6Ideal.τ).loc Cert.Reference6Ideal.main_v185) = v10 c
          ∧ r.2.mem ((c.tc : Thread Cert.Reference6Ideal.nD Cert.Reference6Ideal.τ).loc Cert.Reference6Ideal.main_v188) = v11 c
          ∧ r.2.mem ((c.tc : Thread Cert.Reference6Ideal.nD Cert.Reference6Ideal.τ).loc Cert.Reference6Ideal.main_v189) = v12 c
          ∧ r.2.mem ((c.tc : Thread Cert.Reference6Ideal.nD Cert.Reference6Ideal.τ).loc Cert.Reference6Ideal.main_v191) = v13 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  IdealRules.named_const.Statement Cert.Kernel7Ideal.κ "scale" .f32 0x3E38AA3B#32 (((8 * (Real.log 2))⁻¹ : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v25_0)) (v1 : (c : Dev Cert.Kernel7Ideal.nD) → Buf (Elt Ideal) ((c.tc : Thread Cert.Kernel7Ideal.nD Cert.Kernel7Ideal.τ).loc Cert.Kernel7Ideal.main_v25_1)) (v2 : (c : Dev Cert.Kernel7Ideal.nD) → Buf (Elt Ideal) ((c.tc : Thread Cert.Kernel7Ideal.nD Cert.Kernel7Ideal.τ).loc Cert.Kernel7Ideal.main_v25_2)) (v3 : (c : Dev Cert.Kernel7Ideal.nD) → Buf (Elt Ideal) ((c.tc : Thread Cert.Kernel7Ideal.nD Cert.Kernel7Ideal.τ).loc Cert.Kernel7Ideal.main_v25_3)) (v4 : (c : Dev Cert.Kernel7Ideal.nD) → Buf (Elt Ideal) ((c.tc : Thread Cert.Kernel7Ideal.nD Cert.Kernel7Ideal.τ).loc Cert.Kernel7Ideal.main_v25_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v25_0) = v0 c
          ∧ r.2.mem ((c.tc : Thread Cert.Kernel7Ideal.nD Cert.Kernel7Ideal.τ).loc Cert.Kernel7Ideal.main_v25_1) = v1 c
          ∧ r.2.mem ((c.tc : Thread Cert.Kernel7Ideal.nD Cert.Kernel7Ideal.τ).loc Cert.Kernel7Ideal.main_v25_2) = v2 c
          ∧ r.2.mem ((c.tc : Thread Cert.Kernel7Ideal.nD Cert.Kernel7Ideal.τ).loc Cert.Kernel7Ideal.main_v25_3) = v3 c
          ∧ r.2.mem ((c.tc : Thread Cert.Kernel7Ideal.nD Cert.Kernel7Ideal.τ).loc Cert.Kernel7Ideal.main_v25_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v88) = v0 c
          ∧ r.2.mem ((c.tc : Thread Cert.Reference7Ideal.nD Cert.Reference7Ideal.τ).loc Cert.Reference7Ideal.main_v89) = v1 c
          ∧ r.2.mem ((c.tc : Thread Cert.Reference7Ideal.nD Cert.Reference7Ideal.τ).loc Cert.Reference7Ideal.main_v92) = v2 c
          ∧ r.2.mem ((c.tc : Thread Cert.Reference7Ideal.nD Cert.Reference7Ideal.τ).loc Cert.Reference7Ideal.main_v93) = v3 c
          ∧ r.2.mem ((c.tc : Thread Cert.Reference7Ideal.nD Cert.Reference7Ideal.τ).loc Cert.Reference7Ideal.main_v95) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S8x2048x8x128 : Shape := ⟨4, ![8, 2048, 8, 128]⟩
abbrev S8x2048x4x128 : Shape := ⟨4, ![8, 2048, 4, 128]⟩
abbrev S64 : Shape := ⟨1, ![64]⟩
abbrev S128 : Shape := ⟨1, ![128]⟩
abbrev S_ : Shape := ⟨0, ![]⟩

class Facts : Prop where
  bcast_S_S8x2048x8x128 : S_.BroadcastsInDim S8x2048x8x128 (![] : Fin 0 → Fin S8x2048x8x128.rank)
  bcast_S_S8x2048x4x128 : S_.BroadcastsInDim S8x2048x4x128 (![] : Fin 0 → Fin S8x2048x4x128.rank)
  bcast_S_S64 : S_.BroadcastsInDim S64 (![] : Fin 0 → Fin S64.rank)

variable [Facts]

def fn_part1 {F : FTy → Type} [FloatOps F] (main_arg6 : FVec F S64 .f32) (main_v2 : IVec S8x2048x8x128 1) (main_v5 : IVec S8x2048x4x128 1) (main_v8 : IVec S8x2048x4x128 1) (main_v11 : IVec S64 1) (main_v14 : IVec S64 1) (main_v17 : IVec S64 1) : IVec S8x2048x8x128 1 × IVec S8x2048x4x128 1 × IVec S8x2048x4x128 1 × IVec S64 1 × IVec S64 1 × IVec S64 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  (main_v2, main_v5, main_v8, main_v11, main_v14, main_v17, main_v20)

def fn {F : FTy → Type} [FloatOps F] (main_arg0 : FVec F S8x2048x8x128 .f32) (main_arg1 : FVec F S8x2048x4x128 .f32) (main_arg2 : FVec F S8x2048x4x128 .f32) (main_arg3 : FVec F S64 .f32) (main_arg4 : FVec F S64 .f32) (main_arg5 : FVec F S64 .f32) (main_arg6 : FVec F S64 .f32) (main_arg7 : FVec F S128 .f32) : IVec S8x2048x8x128 1 × IVec S8x2048x4x128 1 × IVec S8x2048x4x128 1 × IVec S64 1 × IVec S64 1 × IVec S64 1 × IVec S64 1 :=
  let main_v0 : FVec F S8x2048x8x128 .f32 := Host.absf main_arg0
  let main_cst : FVec F S_ .f32 := constant S_ .f32 0x7F800000#32
  let main_v1 : FVec F S8x2048x8x128 .f32 := broadcastInDim S8x2048x8x128 ![] bcast_S_S8x2048x8x128 main_cst
  let main_v2 : IVec S8x2048x8x128 1 := cmpf .olt main_v0 main_v1
  let main_v3 : FVec F S8x2048x4x128 .f32 := Host.absf main_arg1
  let main_cst_0 : FVec F S_ .f32 := constant S_ .f32 0x7F800000#32
  let main_v4 : FVec F S8x2048x4x128 .f32 := broadcastInDim S8x2048x4x128 ![] bcast_S_S8x2048x4x128 main_cst_0
  let main_v5 : IVec S8x2048x4x128 1 := cmpf .olt main_v3 main_v4
  let main_v6 : FVec F S8x2048x4x128 .f32 := Host.absf main_arg2
  let main_cst_1 : FVec F S_ .f32 := constant S_ .f32 0x7F800000#32
  let main_v7 : FVec F S8x2048x4x128 .f32 := broadcastInDim S8x2048x4x128 ![] bcast_S_S8x2048x4x128 main_cst_1
  let main_v8 : IVec S8x2048x4x128 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_v2 main_v5 main_v8 main_v11 main_v14 main_v17
-- ==== Kernel.lean ====
abbrev S8x2048x8x128 : Shape := ⟨4, ![8, 2048, 8, 128]⟩
abbrev S8x2048x4x128 : Shape := ⟨4, ![8, 2048, 4, 128]⟩
abbrev S64 : Shape := ⟨1, ![64]⟩
abbrev S128 : Shape := ⟨1, ![128]⟩
abbrev S16384x4x2x2x64 : Shape := ⟨5, ![16384, 4, 2, 2, 64]⟩
abbrev S4x2x2x16384x64 : Shape := ⟨5, ![4, 2, 2, 16384, 64]⟩
abbrev S16x16384x64 : Shape := ⟨3, ![16, 16384, 64]⟩
abbrev S_ : Shape := ⟨0, ![]⟩
abbrev S16384x8x64 : Shape := ⟨3, ![16384, 8, 64]⟩
abbrev S8x64x16384 : Shape := ⟨3, ![8, 64, 16384]⟩
abbrev S16384x512 : Shape := ⟨2, ![16384, 512]⟩
abbrev S1x64 : Shape := ⟨2, ![1, 64]⟩
abbrev S1x128 : Shape := ⟨2, ![1, 128]⟩
abbrev S16384x1024 : Shape := ⟨2, ![16384, 1024]⟩
abbrev S16x256x64 : Shape := ⟨3, ![16, 256, 64]⟩
abbrev S8x64x2048 : Shape := ⟨3, ![8, 64, 2048]⟩
abbrev S2048x512 : Shape := ⟨2, ![2048, 512]⟩
abbrev S256x1024 : Shape := ⟨2, ![256, 1024]⟩
abbrev S8x512x128 : Shape := ⟨3, ![8, 512, 128]⟩
abbrev S8x512x256 : Shape := ⟨3, ![8, 512, 256]⟩
abbrev S512x256 : Shape := ⟨2, ![512, 256]⟩
abbrev S256x128 : Shape := ⟨2, ![256, 128]⟩
abbrev S256x256 : Shape := ⟨2, ![256, 256]⟩
abbrev S2x256x64 : Shape := ⟨3, ![2, 256, 64]⟩
abbrev S512x64 : Shape := ⟨2, ![512, 64]⟩
abbrev S1x64x256 : Shape := ⟨3, ![1, 64, 256]⟩
abbrev S64x256 : Shape := ⟨2, ![64, 256]⟩
abbrev S1x512x128 : Shape := ⟨3, ![1, 512, 128]⟩
abbrev S512x128 : Shape := ⟨2, ![512, 128]⟩
abbrev S1x512x256 : Shape := ⟨3, ![1, 512, 256]⟩
abbrev S512 : Shape := ⟨1, ![512]⟩
abbrev S512x1 : Shape := ⟨2, ![512, 1]⟩
abbrev S1 : Shape := ⟨1, ![1]⟩
abbrev S1x1 : Shape := ⟨2, ![1, 1]⟩
abbrev S256 : Shape := ⟨1, ![256]⟩
abbrev S256x1 : Shape := ⟨2, ![256, 1]⟩

abbrev nBuf : Space → Nat
  | .hbm => 29
  | .vmem => 15
  | .smem => 0
  | _ => 0

abbrev bufTy : (tb : Table) → Fin (tcTables nBuf tb) → BufTy
  | .hbm, ⟨0, _⟩ => ⟨S8x2048x8x128, .f32⟩
  | .hbm, ⟨1, _⟩ => ⟨S8x2048x4x128, .f32⟩
  | .hbm, ⟨2, _⟩ => ⟨S8x2048x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S16384x4x2x2x64, .f32⟩
  | .hbm, ⟨9, _⟩ => ⟨S4x2x2x16384x64, .f32⟩
  | .hbm, ⟨10, _⟩ => ⟨S16x16384x64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16x16384x64, .f32⟩
  | .hbm, ⟨16, _⟩ => ⟨S16x16384x64, .f32⟩
  | .hbm, ⟨17, _⟩ => ⟨S16x16384x64, .bf16⟩
  | .hbm, ⟨18, _⟩ => ⟨S16384x8x64, .f32⟩
  | .hbm, ⟨19, _⟩ => ⟨S8x64x16384, .f32⟩
  | .hbm, ⟨20, _⟩ => ⟨S8x64x16384, .bf16⟩
  | .hbm, ⟨21, _⟩ => ⟨S16384x512, .f32⟩
  | .hbm, ⟨22, _⟩ => ⟨S16384x512, .bf16⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S1x128, .f32⟩
  | .hbm, ⟨28, _⟩ => ⟨S16384x1024, .bf16⟩
  | .local _ .vmem, ⟨0, _⟩ => ⟨S16x256x64, .bf16⟩
  | .local _ .vmem, ⟨1, _⟩ => ⟨S16x256x64, .bf16⟩
  | .local _ .vmem, ⟨2, _⟩ => ⟨S8x64x2048, .bf16⟩
  | .local _ .vmem, ⟨3, _⟩ => ⟨S8x64x2048, .bf16⟩
  | .local _ .vmem, ⟨4, _⟩ => ⟨S2048x512, .bf16⟩
  | .local _ .vmem, ⟨5, _⟩ => ⟨S2048x512, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S256x1024, .bf16⟩
  | .local _ .vmem, ⟨12, _⟩ => ⟨S256x1024, .bf16⟩
  | .local _ .vmem, ⟨13, _⟩ => ⟨S8x512x128, .f32⟩
  | .local _ .vmem, ⟨14, _⟩ => ⟨S8x512x256, .f32⟩
  | _, _ => ⟨S8x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_13 : BitVec 32 := 1#32
  ⟨c0_i32_11, v26, c1_i32_13⟩
def k0_mult1 (i : grid0.Coords) (k0_t1 : Fin (k0_t1_loop i).trips) : BitVec 32 :=
  let c0_i32_11 : BitVec 32 := 0#32
  let c1_i32_13 : BitVec 32 := 1#32
  let arg13 : BitVec 32 := Scf.iv c0_i32_11 c1_i32_13 k0_t1
  let c256_i32_286 : BitVec 32 := 256#32
  let v616 : BitVec 32 := Scalar.muli arg13 c256_i32_286
  v616
def k0_off1 (i : grid0.Coords) (k0_t1 : Fin (k0_t1_loop i).trips) : Fin 2 → Nat :=
  let c0_i32_11 : BitVec 32 := 0#32
  let c1_i32_13 : BitVec 32 := 1#32
  let arg13 : BitVec 32 := Scf.iv c0_i32_11 c1_i32_13 k0_t1
  let c256_i32_286 : BitVec 32 := 256#32
  let v616 : BitVec 32 := Scalar.muli arg13 c256_i32_286
  let v617 : BitVec 32 := v616
  let v618 : Index := Scalar.indexCast v617
  let c0_287 : Index := 0#32
  ![v618.toNat, 0]
def k0_mult2 (i : grid0.Coords) (k0_t1 : Fin (k0_t1_loop i).trips) : BitVec 32 :=
  let c0_i32_11 : BitVec 32 := 0#32
  let c1_i32_13 : BitVec 32 := 1#32
  let arg13 : BitVec 32 := Scf.iv c0_i32_11 c1_i32_13 k0_t1
  let c256_i32_291 : BitVec 32 := 256#32
  let v625 : BitVec 32 := Scalar.muli arg13 c256_i32_291
  v625
def k0_off2 (i : grid0.Coords) (k0_t1 : Fin (k0_t1_loop i).trips) : Fin 3 → Nat :=
  let c0_292 : Index := 0#32
  let c0_293 : Index := 0#32
  let c0_i32_11 : BitVec 32 := 0#32
  let c1_i32_13 : BitVec 32 := 1#32
  let arg13 : BitVec 32 := Scf.iv c0_i32_11 c1_i32_13 k0_t1
  let c256_i32_291 : BitVec 32 := 256#32
  let v625 : BitVec 32 := Scalar.muli arg13 c256_i32_291
  let v626 : BitVec 32 := v625
  let v627 : Index := Scalar.indexCast v626
  ![0, 0, v627.toNat]
def k0_mult3 (i : grid0.Coords) (k0_t1 : Fin (k0_t1_loop i).trips) : BitVec 32 :=
  let c0_i32_11 : BitVec 32 := 0#32
  let c1_i32_13 : BitVec 32 := 1#32
  let arg13 : BitVec 32 := Scf.iv c0_i32_11 c1_i32_13 k0_t1
  let c256_i32_312 : BitVec 32 := 256#32
  let v660 : BitVec 32 := Scalar.muli arg13 c256_i32_312
  v660
def k0_off3 (i : grid0.Coords) (k0_t1 : Fin (k0_t1_loop i).trips) : Fin 3 → Nat :=
  let c1_313 : Index := 1#32
  let c0_314 : Index := 0#32
  let c0_i32_11 : BitVec 32 := 0#32
  let c1_i32_13 : BitVec 32 := 1#32
  let arg13 : BitVec 32 := Scf.iv c0_i32_11 c1_i32_13 k0_t1
  let c256_i32_312 : BitVec 32 := 256#32
  let v660 : BitVec 32 := Scalar.muli arg13 c256_i32_312
  let v661 : BitVec 32 := v660
  let v662 : Index := Scalar.indexCast v661
  ![1, 0, v662.toNat]
def k0_mult4 (i : grid0.Coords) (k0_t1 : Fin (k0_t1_loop i).trips) : BitVec 32 :=
  let c0_i32_11 : BitVec 32 := 0#32
  let c1_i32_13 : BitVec 32 := 1#32
  let arg13 : BitVec 32 := Scf.iv c0_i32_11 c1_i32_13 k0_t1
  let c256_i32_330 : BitVec 32 := 256#32
  let v692 : BitVec 32 := Scalar.muli arg13 c256_i32_330
  v692
def k0_off4 (i : grid0.Coords) (k0_t1 : Fin (k0_t1_loop i).trips) : Fin 2 → Nat :=
  let c0_i32_11 : BitVec 32 := 0#32
  let c1_i32_13 : BitVec 32 := 1#32
  let arg13 : BitVec 32 := Scf.iv c0_i32_11 c1_i32_13 k0_t1
  let c256_i32_330 : BitVec 32 := 256#32
  let v692 : BitVec 32 := Scalar.muli arg13 c256_i32_330
  let v693 : BitVec 32 := v692
  let v694 : Index := Scalar.indexCast v693
  let c128_331 : Index := 128#32
  ![v694.toNat, 128]
def k0_mult5 (i : grid0.Coords) (k0_t1 : Fin (k0_t1_loop i).trips) : BitVec 32 :=
  let c0_i32_11 : BitVec 32 := 0#32
  let c1_i32_13 : BitVec 32 := 1#32
  let arg13 : BitVec 32 := Scf.iv c0_i32_11 c1_i32_13 k0_t1
  let c256_i32_335 : BitVec 32 := 256#32
  let v701 : BitVec 32 := Scalar.muli arg13 c256_i32_335
  v701
def k0_off5 (i : grid0.Coords) (k0_t1 : Fin (k0_t1_loop i).trips) : Fin 3 → Nat :=
  let c2_336 : Index := 2#32
  let c0_337 : Index := 0#32
  let c0_i32_11 : BitVec 32 := 0#32
  let c1_i32_13 : BitVec 32 := 1#32
  let arg13 : BitVec 32 := Scf.iv c0_i32_11 c1_i32_13 k0_t1
  let c256_i32_335 : BitVec 32 := 256#32
  let v701 : BitVec 32 := Scalar.muli arg13 c256_i32_335
  let v702 : BitVec 32 := v701
  let v703 : Index := Scalar.indexCast v702
  ![2, 0, v703.toNat]
def k0_mult6 (i : grid0.Coords) (k0_t1 : Fin (k0_t1_loop i).trips) : BitVec 32 :=
  let c0_i32_11 : BitVec 32 := 0#32
  let c1_i32_13 : BitVec 32 := 1#32
  let arg13 : BitVec 32 := Scf.iv c0_i32_11 c1_i32_13 k0_t1
  let c256_i32_356 : BitVec 32 := 256#32
  let v736 : BitVec 32 := Scalar.muli arg13 c256_i32_356
  v736
def k0_off6 (i : grid0.Coords) (k0_t1 : Fin (k0_t1_loop i).trips) : Fin 3 → Nat :=
  let c3_357 : Index := 3#32
  let c0_358 : Index := 0#32
  let c0_i32_11 : BitVec 32 := 0#32
  let c1_i32_13 : BitVec 32 := 1#32
  let arg13 : BitVec 32 := Scf.iv c0_i32_11 c1_i32_13 k0_t1
  let c256_i32_356 : BitVec 32 := 256#32
  let v736 : BitVec 32 := Scalar.muli arg13 c256_i32_356
  let v737 : BitVec 32 := v736
  let v738 : Index := Scalar.indexCast v737
  ![3, 0, v738.toNat]
def k0_mult7 (i : grid0.Coords) (k0_t1 : Fin (k0_t1_loop i).trips) : BitVec 32 :=
  let c0_i32_11 : BitVec 32 := 0#32
  let c1_i32_13 : BitVec 32 := 1#32
  let arg13 : BitVec 32 := Scf.iv c0_i32_11 c1_i32_13 k0_t1
  let c256_i32_374 : BitVec 32 := 256#32
  let v768 : BitVec 32 := Scalar.muli arg13 c256_i32_374
  v768
def k0_off7 (i : grid0.Coords) (k0_t1 : Fin (k0_t1_loop i).trips) : Fin 2 → Nat :=
  let c0_i32_11 : BitVec 32 := 0#32
  let c1_i32_13 : BitVec 32 := 1#32
  let arg13 : BitVec 32 := Scf.iv c0_i32_11 c1_i32_13 k0_t1
  let c256_i32_374 : BitVec 32 := 256#32
  let v768 : BitVec 32 := Scalar.muli arg13 c256_i32_374
  let v769 : BitVec 32 := v768
  let v770 : Index := Scalar.indexCast v769
  let c256_375 : Index := 256#32
  ![v770.toNat, 256]
def k0_mult8 (i : grid0.Coords) (k0_t1 : Fin (k0_t1_loop i).trips) : BitVec 32 :=
  let c0_i32_11 : BitVec 32 := 0#32
  let c1_i32_13 : BitVec 32 := 1#32
  let arg13 : BitVec 32 := Scf.iv c0_i32_11 c1_i32_13 k0_t1
  let c256_i32_379 : BitVec 32 := 256#32
  let v777 : BitVec 32 := Scalar.muli arg13 c256_i32_379
  v777
def k0_off8 (i : grid0.Coords) (k0_t1 : Fin (k0_t1_loop i).trips) : Fin 3 → Nat :=
  let c4_380 : Index := 4#32
  let c0_381 : Index := 0#32
  let c0_i32_11 : BitVec 32 := 0#32
  let c1_i32_13 : BitVec 32 := 1#32
  let arg13 : BitVec 32 := Scf.iv c0_i32_11 c1_i32_13 k0_t1
  let c256_i32_379 : BitVec 32 := 256#32
  let v777 : BitVec 32 := Scalar.muli arg13 c256_i32_379
  let v778 : BitVec 32 := v777
  let v779 : Index := Scalar.indexCast v778
  ![4, 0, v779.toNat]
def k0_mult9 (i : grid0.Coords) (k0_t1 : Fin (k0_t1_loop i).trips) : BitVec 32 :=
  let c0_i32_11 : BitVec 32 := 0#32
  let c1_i32_13 : BitVec 32 := 1#32
  let arg13 : BitVec 32 := Scf.iv c0_i32_11 c1_i32_13 k0_t1
  let c256_i32_400 : BitVec 32 := 256#32
  let v812 : BitVec 32 := Scalar.muli arg13 c256_i32_400
  v812
def k0_off9 (i : grid0.Coords) (k0_t1 : Fin (k0_t1_loop i).trips) : Fin 3 → Nat :=
  let c5_401 : Index := 5#32
  let c0_402 : Index := 0#32
  let c0_i32_11 : BitVec 32 := 0#32
  let c1_i32_13 : BitVec 32 := 1#32
  let arg13 : BitVec 32 := Scf.iv c0_i32_11 c1_i32_13 k0_t1
  let c256_i32_400 : BitVec 32 := 256#32
  let v812 : BitVec 32 := Scalar.muli arg13 c256_i32_400
  let v813 : BitVec 32 := v812
  let v814 : Index := Scalar.indexCast v813
  ![5, 0, v814.toNat]
def k0_mult10 (i : grid0.Coords) (k0_t1 : Fin (k0_t1_loop i).trips) : BitVec 32 :=
  let c0_i32_11 : BitVec 32 := 0#32
  let c1_i32_13 : BitVec 32 := 1#32
  let arg13 : BitVec 32 := Scf.iv c0_i32_11 c1_i32_13 k0_t1
  let c256_i32_418 : BitVec 32 := 256#32
  let v844 : BitVec 32 := Scalar.muli arg13 c256_i32_418
  v844
def k0_off10 (i : grid0.Coords) (k0_t1 : Fin (k0_t1_loop i).trips) : Fin 2 → Nat :=
  let c0_i32_11 : BitVec 32 := 0#32
  let c1_i32_13 : BitVec 32 := 1#32
  let arg13 : BitVec 32 := Scf.iv c0_i32_11 c1_i32_13 k0_t1
  let c256_i32_418 : BitVec 32 := 256#32
  let v844 : BitVec 32 := Scalar.muli arg13 c256_i32_418
  let v845 : BitVec 32 := v844
  let v846 : Index := Scalar.indexCast v845
  let c384_419 : Index := 384#32
  ![v846.toNat, 384]
def k0_mult11 (i : grid0.Coords) (k0_t1 : Fin (k0_t1_loop i).trips) : BitVec 32 :=
  let c0_i32_11 : BitVec 32 := 0#32
  let c1_i32_13 : BitVec 32 := 1#32
  let arg13 : BitVec 32 := Scf.iv c0_i32_11 c1_i32_13 k0_t1
  let c256_i32_423 : BitVec 32 := 256#32
  let v853 : BitVec 32 := Scalar.muli arg13 c256_i32_423
  v853
def k0_off11 (i : grid0.Coords) (k0_t1 : Fin (k0_t1_loop i).trips) : Fin 3 → Nat :=
  let c6_424 : Index := 6#32
  let c0_425 : Index := 0#32
  let c0_i32_11 : BitVec 32 := 0#32
  let c1_i32_13 : BitVec 32 := 1#32
  let arg13 : BitVec 32 := Scf.iv c0_i32_11 c1_i32_13 k0_t1
  let c256_i32_423 : BitVec 32 := 256#32
  let v853 : BitVec 32 := Scalar.muli arg13 c256_i32_423
  let v854 : BitVec 32 := v853
  let v855 : Index := Scalar.indexCast v854
  ![6, 0, v855.toNat]
def k0_mult12 (i : grid0.Coords) (k0_t1 : Fin (k0_t1_loop i).trips) : BitVec 32 :=
  let c0_i32_11 : BitVec 32 := 0#32
  let c1_i32_13 : BitVec 32 := 1#32
  let arg13 : BitVec 32 := Scf.iv c0_i32_11 c1_i32_13 k0_t1
  let c256_i32_444 : BitVec 32 := 256#32
  let v888 : BitVec 32 := Scalar.muli arg13 c256_i32_444
  v888
def k0_off12 (i : grid0.Coords) (k0_t1 : Fin (k0_t1_loop i).trips) : Fin 3 → Nat :=
  let c7_445 : Index := 7#32
  let c0_446 : Index := 0#32
  let c0_i32_11 : BitVec 32 := 0#32
  let c1_i32_13 : BitVec 32 := 1#32
  let arg13 : BitVec 32 := Scf.iv c0_i32_11 c1_i32_13 k0_t1
  let c256_i32_444 : BitVec 32 := 256#32
  let v888 : BitVec 32 := Scalar.muli arg13 c256_i32_444
  let v889 : BitVec 32 := v888
  let v890 : Index := Scalar.indexCast v889
  ![7, 0, v890.toNat]
@[reducible] def k0_t2_loop (i : grid0.Coords) : Scf.Loop 32 :=
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let v23 : BitVec 32 := Scalar.addi c0_i32_11 v22
  let c1_i32_14 : BitVec 32 := 1#32
  ⟨v26, v23, c1_i32_14⟩
def k0_mult13 (i : grid0.Coords) (k0_t2 : Fin (k0_t2_loop i).trips) : BitVec 32 :=
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_14 : BitVec 32 := 1#32
  let arg13 : BitVec 32 := Scf.iv v26 c1_i32_14 k0_t2
  let c256_i32_286 : BitVec 32 := 256#32
  let v616 : BitVec 32 := Scalar.muli arg13 c256_i32_286
  v616
def k0_off13 (i : grid0.Coords) (k0_t2 : Fin (k0_t2_loop i).trips) : Fin 2 → Nat :=
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_14 : BitVec 32 := 1#32
  let arg13 : BitVec 32 := Scf.iv v26 c1_i32_14 k0_t2
  let c256_i32_286 : BitVec 32 := 256#32
  let v616 : BitVec 32 := Scalar.muli arg13 c256_i32_286
  let v617 : BitVec 32 := v616
  let v618 : Index := Scalar.indexCast v617
  let c0_287 : Index := 0#32
  ![v618.toNat, 0]
def k0_mult14 (i : grid0.Coords) (k0_t2 : Fin (k0_t2_loop i).trips) : BitVec 32 :=
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_14 : BitVec 32 := 1#32
  let arg13 : BitVec 32 := Scf.iv v26 c1_i32_14 k0_t2
  let c256_i32_291 : BitVec 32 := 256#32
  let v625 : BitVec 32 := Scalar.muli arg13 c256_i32_291
  v625
def k0_off14 (i : grid0.Coords) (k0_t2 : Fin (k0_t2_loop i).trips) : Fin 3 → Nat :=
  let c0_292 : Index := 0#32
  let c0_293 : Index := 0#32
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_14 : BitVec 32 := 1#32
  let arg13 : BitVec 32 := Scf.iv v26 c1_i32_14 k0_t2
  let c256_i32_291 : BitVec 32 := 256#32
  let v625 : BitVec 32 := Scalar.muli arg13 c256_i32_291
  let v626 : BitVec 32 := v625
  let v627 : Index := Scalar.indexCast v626
  ![0, 0, v627.toNat]
def k0_mult15 (i : grid0.Coords) (k0_t2 : Fin (k0_t2_loop i).trips) : BitVec 32 :=
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_14 : BitVec 32 := 1#32
  let arg13 : BitVec 32 := Scf.iv v26 c1_i32_14 k0_t2
  let c256_i32_312 : BitVec 32 := 256#32
  let v660 : BitVec 32 := Scalar.muli arg13 c256_i32_312
  v660
def k0_off15 (i : grid0.Coords) (k0_t2 : Fin (k0_t2_loop i).trips) : Fin 3 → Nat :=
  let c1_313 : Index := 1#32
  let c0_314 : Index := 0#32
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_14 : BitVec 32 := 1#32
  let arg13 : BitVec 32 := Scf.iv v26 c1_i32_14 k0_t2
  let c256_i32_312 : BitVec 32 := 256#32
  let v660 : BitVec 32 := Scalar.muli arg13 c256_i32_312
  let v661 : BitVec 32 := v660
  let v662 : Index := Scalar.indexCast v661
  ![1, 0, v662.toNat]
def k0_mult16 (i : grid0.Coords) (k0_t2 : Fin (k0_t2_loop i).trips) : BitVec 32 :=
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_14 : BitVec 32 := 1#32
  let arg13 : BitVec 32 := Scf.iv v26 c1_i32_14 k0_t2
  let c256_i32_330 : BitVec 32 := 256#32
  let v692 : BitVec 32 := Scalar.muli arg13 c256_i32_330
  v692
def k0_off16 (i : grid0.Coords) (k0_t2 : Fin (k0_t2_loop i).trips) : Fin 2 → Nat :=
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_14 : BitVec 32 := 1#32
  let arg13 : BitVec 32 := Scf.iv v26 c1_i32_14 k0_t2
  let c256_i32_330 : BitVec 32 := 256#32
  let v692 : BitVec 32 := Scalar.muli arg13 c256_i32_330
  let v693 : BitVec 32 := v692
  let v694 : Index := Scalar.indexCast v693
  let c128_331 : Index := 128#32
  ![v694.toNat, 128]
def k0_mult17 (i : grid0.Coords) (k0_t2 : Fin (k0_t2_loop i).trips) : BitVec 32 :=
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_14 : BitVec 32 := 1#32
  let arg13 : BitVec 32 := Scf.iv v26 c1_i32_14 k0_t2
  let c256_i32_335 : BitVec 32 := 256#32
  let v701 : BitVec 32 := Scalar.muli arg13 c256_i32_335
  v701
def k0_off17 (i : grid0.Coords) (k0_t2 : Fin (k0_t2_loop i).trips) : Fin 3 → Nat :=
  let c2_336 : Index := 2#32
  let c0_337 : Index := 0#32
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_14 : BitVec 32 := 1#32
  let arg13 : BitVec 32 := Scf.iv v26 c1_i32_14 k0_t2
  let c256_i32_335 : BitVec 32 := 256#32
  let v701 : BitVec 32 := Scalar.muli arg13 c256_i32_335
  let v702 : BitVec 32 := v701
  let v703 : Index := Scalar.indexCast v702
  ![2, 0, v703.toNat]
def k0_mult18 (i : grid0.Coords) (k0_t2 : Fin (k0_t2_loop i).trips) : BitVec 32 :=
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_14 : BitVec 32 := 1#32
  let arg13 : BitVec 32 := Scf.iv v26 c1_i32_14 k0_t2
  let c256_i32_356 : BitVec 32 := 256#32
  let v736 : BitVec 32 := Scalar.muli arg13 c256_i32_356
  v736
def k0_off18 (i : grid0.Coords) (k0_t2 : Fin (k0_t2_loop i).trips) : Fin 3 → Nat :=
  let c3_357 : Index := 3#32
  let c0_358 : Index := 0#32
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_14 : BitVec 32 := 1#32
  let arg13 : BitVec 32 := Scf.iv v26 c1_i32_14 k0_t2
  let c256_i32_356 : BitVec 32 := 256#32
  let v736 : BitVec 32 := Scalar.muli arg13 c256_i32_356
  let v737 : BitVec 32 := v736
  let v738 : Index := Scalar.indexCast v737
  ![3, 0, v738.toNat]
def k0_mult19 (i : grid0.Coords) (k0_t2 : Fin (k0_t2_loop i).trips) : BitVec 32 :=
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_14 : BitVec 32 := 1#32
  let arg13 : BitVec 32 := Scf.iv v26 c1_i32_14 k0_t2
  let c256_i32_374 : BitVec 32 := 256#32
  let v768 : BitVec 32 := Scalar.muli arg13 c256_i32_374
  v768
def k0_off19 (i : grid0.Coords) (k0_t2 : Fin (k0_t2_loop i).trips) : Fin 2 → Nat :=
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_14 : BitVec 32 := 1#32
  let arg13 : BitVec 32 := Scf.iv v26 c1_i32_14 k0_t2
  let c256_i32_374 : BitVec 32 := 256#32
  let v768 : BitVec 32 := Scalar.muli arg13 c256_i32_374
  let v769 : BitVec 32 := v768
  let v770 : Index := Scalar.indexCast v769
  let c256_375 : Index := 256#32
  ![v770.toNat, 256]
def k0_mult20 (i : grid0.Coords) (k0_t2 : Fin (k0_t2_loop i).trips) : BitVec 32 :=
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_14 : BitVec 32 := 1#32
  let arg13 : BitVec 32 := Scf.iv v26 c1_i32_14 k0_t2
  let c256_i32_379 : BitVec 32 := 256#32
  let v777 : BitVec 32 := Scalar.muli arg13 c256_i32_379
  v777
def k0_off20 (i : grid0.Coords) (k0_t2 : Fin (k0_t2_loop i).trips) : Fin 3 → Nat :=
  let c4_380 : Index := 4#32
  let c0_381 : Index := 0#32
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_14 : BitVec 32 := 1#32
  let arg13 : BitVec 32 := Scf.iv v26 c1_i32_14 k0_t2
  let c256_i32_379 : BitVec 32 := 256#32
  let v777 : BitVec 32 := Scalar.muli arg13 c256_i32_379
  let v778 : BitVec 32 := v777
  let v779 : Index := Scalar.indexCast v778
  ![4, 0, v779.toNat]
def k0_mult21 (i : grid0.Coords) (k0_t2 : Fin (k0_t2_loop i).trips) : BitVec 32 :=
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_14 : BitVec 32 := 1#32
  let arg13 : BitVec 32 := Scf.iv v26 c1_i32_14 k0_t2
  let c256_i32_400 : BitVec 32 := 256#32
  let v812 : BitVec 32 := Scalar.muli arg13 c256_i32_400
  v812
def k0_off21 (i : grid0.Coords) (k0_t2 : Fin (k0_t2_loop i).trips) : Fin 3 → Nat :=
  let c5_401 : Index := 5#32
  let c0_402 : Index := 0#32
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_14 : BitVec 32 := 1#32
  let arg13 : BitVec 32 := Scf.iv v26 c1_i32_14 k0_t2
  let c256_i32_400 : BitVec 32 := 256#32
  let v812 : BitVec 32 := Scalar.muli arg13 c256_i32_400
  let v813 : BitVec 32 := v812
  let v814 : Index := Scalar.indexCast v813
  ![5, 0, v814.toNat]
def k0_mult22 (i : grid0.Coords) (k0_t2 : Fin (k0_t2_loop i).trips) : BitVec 32 :=
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_14 : BitVec 32 := 1#32
  let arg13 : BitVec 32 := Scf.iv v26 c1_i32_14 k0_t2
  let c256_i32_418 : BitVec 32 := 256#32
  let v844 : BitVec 32 := Scalar.muli arg13 c256_i32_418
  v844
def k0_off22 (i : grid0.Coords) (k0_t2 : Fin (k0_t2_loop i).trips) : Fin 2 → Nat :=
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_14 : BitVec 32 := 1#32
  let arg13 : BitVec 32 := Scf.iv v26 c1_i32_14 k0_t2
  let c256_i32_418 : BitVec 32 := 256#32
  let v844 : BitVec 32 := Scalar.muli arg13 c256_i32_418
  let v845 : BitVec 32 := v844
  let v846 : Index := Scalar.indexCast v845
  let c384_419 : Index := 384#32
  ![v846.toNat, 384]
def k0_mult23 (i : grid0.Coords) (k0_t2 : Fin (k0_t2_loop i).trips) : BitVec 32 :=
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_14 : BitVec 32 := 1#32
  let arg13 : BitVec 32 := Scf.iv v26 c1_i32_14 k0_t2
  let c256_i32_423 : BitVec 32 := 256#32
  let v853 : BitVec 32 := Scalar.muli arg13 c256_i32_423
  v853
def k0_off23 (i : grid0.Coords) (k0_t2 : Fin (k0_t2_loop i).trips) : Fin 3 → Nat :=
  let c6_424 : Index := 6#32
  let c0_425 : Index := 0#32
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_14 : BitVec 32 := 1#32
  let arg13 : BitVec 32 := Scf.iv v26 c1_i32_14 k0_t2
  let c256_i32_423 : BitVec 32 := 256#32
  let v853 : BitVec 32 := Scalar.muli arg13 c256_i32_423
  let v854 : BitVec 32 := v853
  let v855 : Index := Scalar.indexCast v854
  ![6, 0, v855.toNat]
def k0_mult24 (i : grid0.Coords) (k0_t2 : Fin (k0_t2_loop i).trips) : BitVec 32 :=
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_14 : BitVec 32 := 1#32
  let arg13 : BitVec 32 := Scf.iv v26 c1_i32_14 k0_t2
  let c256_i32_444 : BitVec 32 := 256#32
  let v888 : BitVec 32 := Scalar.muli arg13 c256_i32_444
  v888
def k0_off24 (i : grid0.Coords) (k0_t2 : Fin (k0_t2_loop i).trips) : Fin 3 → Nat :=
  let c7_445 : Index := 7#32
  let c0_446 : Index := 0#32
  let c0_i32_11 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_10 : BitVec 32 := 1#32
  let v21 : BitVec 32 := Scalar.subi v4 c1_i32_10
  let v22 : BitVec 32 := Scalar.subi v21 c0_i32_11
  let c1_i32_12 : BitVec 32 := 1#32
  let v24 : BitVec 32 := Scalar.divsi v22 c1_i32_12
  let v25 : BitVec 32 := Scalar.muli v24 c1_i32_12
  let v26 : BitVec 32 := Scalar.addi c0_i32_11 v25
  let c1_i32_14 : BitVec 32 := 1#32
  let arg13 : BitVec 32 := Scf.iv v26 c1_i32_14 k0_t2
  let c256_i32_444 : BitVec 32 := 256#32
  let v888 : BitVec 32 := Scalar.muli arg13 c256_i32_444
  let v889 : BitVec 32 := v888
  let v890 : Index := Scalar.indexCast v889
  ![7, 0, v890.toNat]
def k0_mult25 (i : grid0.Coords) : BitVec 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_15 : BitVec 32 := 1#32
  let v27 : BitVec 32 := Scalar.subi v4 c1_i32_15
  let c256_i32_19 : BitVec 32 := 256#32
  let v35 : BitVec 32 := Scalar.muli v27 c256_i32_19
  v35
def k0_off25 (i : grid0.Coords) : Fin 2 → Nat :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_15 : BitVec 32 := 1#32
  let v27 : BitVec 32 := Scalar.subi v4 c1_i32_15
  let c256_i32_19 : BitVec 32 := 256#32
  let v35 : BitVec 32 := Scalar.muli v27 c256_i32_19
  let v36 : BitVec 32 := v35
  let v37 : Index := Scalar.indexCast v36
  let c0_20 : Index := 0#32
  ![v37.toNat, 0]
def k0_mult26 (i : grid0.Coords) : BitVec 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_15 : BitVec 32 := 1#32
  let v27 : BitVec 32 := Scalar.subi v4 c1_i32_15
  let c256_i32_24 : BitVec 32 := 256#32
  let v44 : BitVec 32 := Scalar.muli v27 c256_i32_24
  v44
def k0_off26 (i : grid0.Coords) : Fin 3 → Nat :=
  let c0_25 : Index := 0#32
  let c0_26 : Index := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_15 : BitVec 32 := 1#32
  let v27 : BitVec 32 := Scalar.subi v4 c1_i32_15
  let c256_i32_24 : BitVec 32 := 256#32
  let v44 : BitVec 32 := Scalar.muli v27 c256_i32_24
  let v45 : BitVec 32 := v44
  let v46 : Index := Scalar.indexCast v45
  ![0, 0, v46.toNat]
def k0_mult27 (i : grid0.Coords) : BitVec 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_15 : BitVec 32 := 1#32
  let v27 : BitVec 32 := Scalar.subi v4 c1_i32_15
  let c256_i32_44 : BitVec 32 := 256#32
  let v80 : BitVec 32 := Scalar.muli v27 c256_i32_44
  v80
def k0_off27 (i : grid0.Coords) : Fin 3 → Nat :=
  let c1 : Index := 1#32
  let c0_45 : Index := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_15 : BitVec 32 := 1#32
  let v27 : BitVec 32 := Scalar.subi v4 c1_i32_15
  let c256_i32_44 : BitVec 32 := 256#32
  let v80 : BitVec 32 := Scalar.muli v27 c256_i32_44
  let v81 : BitVec 32 := v80
  let v82 : Index := Scalar.indexCast v81
  ![1, 0, v82.toNat]
def k0_mult28 (i : grid0.Coords) : BitVec 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_15 : BitVec 32 := 1#32
  let v27 : BitVec 32 := Scalar.subi v4 c1_i32_15
  let c256_i32_61 : BitVec 32 := 256#32
  let v113 : BitVec 32 := Scalar.muli v27 c256_i32_61
  v113
def k0_off28 (i : grid0.Coords) : Fin 2 → Nat :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_15 : BitVec 32 := 1#32
  let v27 : BitVec 32 := Scalar.subi v4 c1_i32_15
  let c256_i32_61 : BitVec 32 := 256#32
  let v113 : BitVec 32 := Scalar.muli v27 c256_i32_61
  let v114 : BitVec 32 := v113
  let v115 : Index := Scalar.indexCast v114
  let c128 : Index := 128#32
  ![v115.toNat, 128]
def k0_mult29 (i : grid0.Coords) : BitVec 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_15 : BitVec 32 := 1#32
  let v27 : BitVec 32 := Scalar.subi v4 c1_i32_15
  let c256_i32_64 : BitVec 32 := 256#32
  let v122 : BitVec 32 := Scalar.muli v27 c256_i32_64
  v122
def k0_off29 (i : grid0.Coords) : Fin 3 → Nat :=
  let c2_65 : Index := 2#32
  let c0_66 : Index := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_15 : BitVec 32 := 1#32
  let v27 : BitVec 32 := Scalar.subi v4 c1_i32_15
  let c256_i32_64 : BitVec 32 := 256#32
  let v122 : BitVec 32 := Scalar.muli v27 c256_i32_64
  let v123 : BitVec 32 := v122
  let v124 : Index := Scalar.indexCast v123
  ![2, 0, v124.toNat]
def k0_mult30 (i : grid0.Coords) : BitVec 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_15 : BitVec 32 := 1#32
  let v27 : BitVec 32 := Scalar.subi v4 c1_i32_15
  let c256_i32_84 : BitVec 32 := 256#32
  let v158 : BitVec 32 := Scalar.muli v27 c256_i32_84
  v158
def k0_off30 (i : grid0.Coords) : Fin 3 → Nat :=
  let c3 : Index := 3#32
  let c0_85 : Index := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_15 : BitVec 32 := 1#32
  let v27 : BitVec 32 := Scalar.subi v4 c1_i32_15
  let c256_i32_84 : BitVec 32 := 256#32
  let v158 : BitVec 32 := Scalar.muli v27 c256_i32_84
  let v159 : BitVec 32 := v158
  let v160 : Index := Scalar.indexCast v159
  ![3, 0, v160.toNat]
def k0_mult31 (i : grid0.Coords) : BitVec 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_15 : BitVec 32 := 1#32
  let v27 : BitVec 32 := Scalar.subi v4 c1_i32_15
  let c256_i32_101 : BitVec 32 := 256#32
  let v191 : BitVec 32 := Scalar.muli v27 c256_i32_101
  v191
def k0_off31 (i : grid0.Coords) : Fin 2 → Nat :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_15 : BitVec 32 := 1#32
  let v27 : BitVec 32 := Scalar.subi v4 c1_i32_15
  let c256_i32_101 : BitVec 32 := 256#32
  let v191 : BitVec 32 := Scalar.muli v27 c256_i32_101
  let v192 : BitVec 32 := v191
  let v193 : Index := Scalar.indexCast v192
  let c256 : Index := 256#32
  ![v193.toNat, 256]
def k0_mult32 (i : grid0.Coords) : BitVec 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_15 : BitVec 32 := 1#32
  let v27 : BitVec 32 := Scalar.subi v4 c1_i32_15
  let c256_i32_104 : BitVec 32 := 256#32
  let v200 : BitVec 32 := Scalar.muli v27 c256_i32_104
  v200
def k0_off32 (i : grid0.Coords) : Fin 3 → Nat :=
  let c4_105 : Index := 4#32
  let c0_106 : Index := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_15 : BitVec 32 := 1#32
  let v27 : BitVec 32 := Scalar.subi v4 c1_i32_15
  let c256_i32_104 : BitVec 32 := 256#32
  let v200 : BitVec 32 := Scalar.muli v27 c256_i32_104
  let v201 : BitVec 32 := v200
  let v202 : Index := Scalar.indexCast v201
  ![4, 0, v202.toNat]
def k0_mult33 (i : grid0.Coords) : BitVec 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_15 : BitVec 32 := 1#32
  let v27 : BitVec 32 := Scalar.subi v4 c1_i32_15
  let c256_i32_124 : BitVec 32 := 256#32
  let v236 : BitVec 32 := Scalar.muli v27 c256_i32_124
  v236
def k0_off33 (i : grid0.Coords) : Fin 3 → Nat :=
  let c5 : Index := 5#32
  let c0_125 : Index := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_15 : BitVec 32 := 1#32
  let v27 : BitVec 32 := Scalar.subi v4 c1_i32_15
  let c256_i32_124 : BitVec 32 := 256#32
  let v236 : BitVec 32 := Scalar.muli v27 c256_i32_124
  let v237 : BitVec 32 := v236
  let v238 : Index := Scalar.indexCast v237
  ![5, 0, v238.toNat]
def k0_mult34 (i : grid0.Coords) : BitVec 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_15 : BitVec 32 := 1#32
  let v27 : BitVec 32 := Scalar.subi v4 c1_i32_15
  let c256_i32_141 : BitVec 32 := 256#32
  let v269 : BitVec 32 := Scalar.muli v27 c256_i32_141
  v269
def k0_off34 (i : grid0.Coords) : Fin 2 → Nat :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_15 : BitVec 32 := 1#32
  let v27 : BitVec 32 := Scalar.subi v4 c1_i32_15
  let c256_i32_141 : BitVec 32 := 256#32
  let v269 : BitVec 32 := Scalar.muli v27 c256_i32_141
  let v270 : BitVec 32 := v269
  let v271 : Index := Scalar.indexCast v270
  let c384 : Index := 384#32
  ![v271.toNat, 384]
def k0_mult35 (i : grid0.Coords) : BitVec 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_15 : BitVec 32 := 1#32
  let v27 : BitVec 32 := Scalar.subi v4 c1_i32_15
  let c256_i32_144 : BitVec 32 := 256#32
  let v278 : BitVec 32 := Scalar.muli v27 c256_i32_144
  v278
def k0_off35 (i : grid0.Coords) : Fin 3 → Nat :=
  let c6_145 : Index := 6#32
  let c0_146 : Index := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_15 : BitVec 32 := 1#32
  let v27 : BitVec 32 := Scalar.subi v4 c1_i32_15
  let c256_i32_144 : BitVec 32 := 256#32
  let v278 : BitVec 32 := Scalar.muli v27 c256_i32_144
  let v279 : BitVec 32 := v278
  let v280 : Index := Scalar.indexCast v279
  ![6, 0, v280.toNat]
def k0_mult36 (i : grid0.Coords) : BitVec 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_15 : BitVec 32 := 1#32
  let v27 : BitVec 32 := Scalar.subi v4 c1_i32_15
  let c256_i32_164 : BitVec 32 := 256#32
  let v314 : BitVec 32 := Scalar.muli v27 c256_i32_164
  v314
def k0_off36 (i : grid0.Coords) : Fin 3 → Nat :=
  let c7 : Index := 7#32
  let c0_165 : Index := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c1_i32_0 : BitVec 32 := 1#32
  let v2 : BitVec 32 := Scalar.subi v1 c1_i32_0
  let c8_i32 : BitVec 32 := 8#32
  let v3 : BitVec 32 := Scalar.shrui v2 c8_i32
  let c1_i32_1 : BitVec 32 := 1#32
  let v4 : BitVec 32 := Scalar.addi v3 c1_i32_1
  let c1_i32_15 : BitVec 32 := 1#32
  let v27 : BitVec 32 := Scalar.subi v4 c1_i32_15
  let c256_i32_164 : BitVec 32 := 256#32
  let v314 : BitVec 32 := Scalar.muli v27 c256_i32_164
  let v315 : BitVec 32 := v314
  let v316 : Index := Scalar.indexCast v315
  ![7, 0, v316.toNat]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S16x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x8x128 : Shape := ⟨4, ![8, 2048, 8, 128]⟩
abbrev S8x2048x4x128 : Shape := ⟨4, ![8, 2048, 4, 128]⟩
abbrev S64 : Shape := ⟨1, ![64]⟩
abbrev S128 : Shape := ⟨1, ![128]⟩
abbrev S8x2048x4x2x2x64 : Shape := ⟨6, ![8, 2048, 4, 2, 2, 64]⟩
abbrev S8x2048x4x2x64 : Shape := ⟨5, ![8, 2048, 4, 2, 64]⟩
abbrev S8x2x4x2048x2048x2 : Shape := ⟨6, ![8, 2, 4, 2048, 2048, 2]⟩
abbrev S8x2x4x2x2048x2048 : Shape := ⟨6, ![8, 2, 4, 2, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2x4x2x2048 : Shape := ⟨5, ![8, 2, 4, 2, 2048]⟩
abbrev S8x2x4x2x2048x1 : Shape := ⟨6, ![8, 2, 4, 2, 2048, 1]⟩
abbrev S8x1x4x2x2048x2048 : Shape := ⟨6, ![8, 1, 4, 2, 2048, 2048]⟩
abbrev S8x4x2x2048x2048 : Shape := ⟨5, ![8, 4, 2, 2048, 2048]⟩
abbrev S8x4x128x2x2048 : Shape := ⟨5, ![8, 4, 128, 2, 2048]⟩
abbrev S8x2048x4x2x128 : Shape := ⟨5, ![8, 2048, 4, 2, 128]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S16384x1024 : Shape := ⟨2, ![16384, 1024]⟩

abbrev nBuf : Space → Nat
  | .hbm => 82
  | .vmem => 0
  | .smem => 0
  | _ => 0

abbrev bufTy : (tb : Table) → Fin (tcTables nBuf tb) → BufTy
  | .hbm, ⟨0, _⟩ => ⟨S8x2048x8x128, .f32⟩
  | .hbm, ⟨1, _⟩ => ⟨S8x2048x4x128, .f32⟩
  | .hbm, ⟨2, _⟩ => ⟨S8x2048x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S8x2048x4x2x2x64, .f32⟩
  | .hbm, ⟨9, _⟩ => ⟨S8x2048x4x2x64, .f32⟩
  | .hbm, ⟨10, _⟩ => ⟨S8x2x4x2048x2048x2, .f32⟩
  | .hbm, ⟨11, _⟩ => ⟨S8x2x4x2x2048x2048, .f32⟩
  | .hbm, ⟨12, _⟩ => ⟨S_, .f32⟩
  | .hbm, ⟨13, _⟩ => ⟨S8x2x4x2x2048x2048, .f32⟩
  | .hbm, ⟨14, _⟩ => ⟨S8x2x4x2x2048x2048, .f32⟩
  | .hbm, ⟨15, _⟩ => ⟨S2048, .i32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S8x2x4x2x2048x2048, .i1⟩
  | .hbm, ⟨24, _⟩ => ⟨S8x2x4x2x2048x2048, .f32⟩
  | .hbm, ⟨25, _⟩ => ⟨S8x2x4x2x2048x2048, .f32⟩
  | .hbm, ⟨26, _⟩ => ⟨S_, .f32⟩
  | .hbm, ⟨27, _⟩ => ⟨S8x2x4x2x2048, .f32⟩
  | .hbm, ⟨28, _⟩ => ⟨S_, .f32⟩
  | .hbm, ⟨29, _⟩ => ⟨S8x2x4x2x2048, .f32⟩
  | .hbm, ⟨30, _⟩ => ⟨S8x2x4x2x2048, .f32⟩
  | .hbm, ⟨31, _⟩ => ⟨S8x2x4x2x2048x1, .f32⟩
  | .hbm, ⟨32, _⟩ => ⟨S8x2x4x2x2048x2048, .f32⟩
  | .hbm, ⟨33, _⟩ => ⟨S8x2x4x2x2048x2048, .f32⟩
  | .hbm, ⟨34, _⟩ => ⟨S8x2x4x2x2048x2048, .f32⟩
  | .hbm, ⟨35, _⟩ => ⟨S_, .f32⟩
  | .hbm, ⟨36, _⟩ => ⟨S8x2x4x2x2048, .f32⟩
  | .hbm, ⟨37, _⟩ => ⟨S8x2x4x2x2048x1, .f32⟩
  | .hbm, ⟨38, _⟩ => ⟨S8x2x4x2x2048x2048, .f32⟩
  | .hbm, ⟨39, _⟩ => ⟨S8x2x4x2x2048x2048, .f32⟩
  | .hbm, ⟨40, _⟩ => ⟨S64, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S64, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S8x1x4x2x2048x2048, .f32⟩
  | .hbm, ⟨52, _⟩ => ⟨S8x4x2x2048x2048, .f32⟩
  | .hbm, ⟨53, _⟩ => ⟨S8x1x4x2x2048x2048, .f32⟩
  | .hbm, ⟨54, _⟩ => ⟨S8x4x2x2048x2048, .f32⟩
  | .hbm, ⟨55, _⟩ => ⟨S8x4x2x2048x2048, .f32⟩
  | .hbm, ⟨56, _⟩ => ⟨S8x4x2x2048x2048, .f32⟩
  | .hbm, ⟨57, _⟩ => ⟨S8x4x2x2048x2048, .f32⟩
  | .hbm, ⟨58, _⟩ => ⟨S8x4x128x2x2048, .f32⟩
  | .hbm, ⟨59, _⟩ => ⟨S8x2048x4x2x128, .f32⟩
  | .hbm, ⟨60, _⟩ => ⟨S8x2048x8x128, .f32⟩
  | .hbm, ⟨61, _⟩ => ⟨S8x2048x8x128, .f32⟩
  | .hbm, ⟨62, _⟩ => ⟨S_, .f32⟩
  | .hbm, ⟨63, _⟩ => ⟨S8x2048x8, .f32⟩
  | .hbm, ⟨64, _⟩ => ⟨S8x2048x8x1, .f32⟩
  | .hbm, ⟨65, _⟩ => ⟨S_, .f32⟩
  | .hbm, ⟨66, _⟩ => ⟨S8x2048x8x1, .f32⟩
  | .hbm, ⟨67, _⟩ => ⟨S8x2048x8x1, .f32⟩
  | .hbm, ⟨68, _⟩ => ⟨S_, .f32⟩
  | .hbm, ⟨69, _⟩ => ⟨S8x2048x8x1, .f32⟩
  | .hbm, ⟨70, _⟩ => ⟨S8x2048x8x1, .f32⟩
  | .hbm, ⟨71, _⟩ => ⟨S8x2048x8x1, .f32⟩
  | .hbm, ⟨72, _⟩ => ⟨S8x2048x8x128, .f32⟩
  | .hbm, ⟨73, _⟩ => ⟨S8x2048x8x128, .f32⟩
  | .hbm, ⟨74, _⟩ => ⟨S1x1x1x128, .f32⟩
  | .hbm, ⟨75, _⟩ => ⟨S8x2048x8x128, .f32⟩
  | .hbm, ⟨76, _⟩ => ⟨S8x2048x8x128, .f32⟩
  | .hbm, ⟨77, _⟩ => ⟨S_, .f32⟩
  | .hbm, ⟨78, _⟩ => ⟨S8x2048x8x128, .f32⟩
  | .hbm, ⟨79, _⟩ => ⟨S8x2048x8x128, .f32⟩
  | .hbm, ⟨80, _⟩ => ⟨S16384x1024, .f32⟩
  | .hbm, ⟨81, _⟩ => ⟨S16384x1024, .bf16⟩
  | _, _ => ⟨S8x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 18
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S16384x1024, .f32⟩
  | .hbm, ⟨9, _⟩ => ⟨S16384x1024, .bf16⟩
  | .hbm, ⟨10, _⟩ => ⟨S16384x1024, .f32⟩
  | .hbm, ⟨11, _⟩ => ⟨S1024x1024, .bf16⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8x2048x1024 : Shape := ⟨3, ![8, 2048, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S16384x1024 : Shape := ⟨2, ![16384, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S8x2048x1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x1, .f32⟩
  | .hbm, ⟨37, _⟩ => ⟨S8x2048x1024, .f32⟩
  | .hbm, ⟨38, _⟩ => ⟨S8x2048x1024, .f32⟩
  | .hbm, ⟨39, _⟩ => ⟨S1x1x1024, .f32⟩
  | .hbm, ⟨40, _⟩ => ⟨S8x2048x1024, .f32⟩
  | .hbm, ⟨41, _⟩ => ⟨S8x2048x1024, .f32⟩
  | .hbm, ⟨42, _⟩ => ⟨S8x2048x4096, .f32⟩
  | .hbm, ⟨43, _⟩ => ⟨S_, .f32⟩
  | .hbm, ⟨44, _⟩ => ⟨S8x2048x4096, .f32⟩
  | .hbm, ⟨45, _⟩ => ⟨S8x2048x4096, .f32⟩
  | .hbm, ⟨46, _⟩ => ⟨S8x2048x4096, .f32⟩
  | .hbm, ⟨47, _⟩ => ⟨S8x2048x1024, .f32⟩
  | .hbm, ⟨48, _⟩ => ⟨S8x2048x1024, .f32⟩
  | .hbm, ⟨49, _⟩ => ⟨S_, .f32⟩
  | .hbm, ⟨50, _⟩ => ⟨S8x2048, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S_, .f32⟩
  | .hbm, ⟨56, _⟩ => ⟨S8x2048x1, .f32⟩
  | .hbm, ⟨57, _⟩ => ⟨S8x2048x1, .f32⟩
  | .hbm, ⟨58, _⟩ => ⟨S8x2048x1, .f32⟩
  | .hbm, ⟨59, _⟩ => ⟨S8x2048x1024, .f32⟩
  | .hbm, ⟨60, _⟩ => ⟨S8x2048x1024, .f32⟩
  | .hbm, ⟨61, _⟩ => ⟨S1x1x1024, .f32⟩
  | .hbm, ⟨62, _⟩ => ⟨S8x2048x1024, .f32⟩
  | .hbm, ⟨63, _⟩ => ⟨S8x2048x1024, .f32⟩
  | .hbm, ⟨64, _⟩ => ⟨S8x2048x1024, .f32⟩
  | .hbm, ⟨65, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Kernel3.lean ====
abbrev S8x2048x1024 : Shape := ⟨3, ![8, 2048, 1024]⟩
abbrev S2x1024 : Shape := ⟨2, ![2, 1024]⟩
abbrev S1x1024x2888 : Shape := ⟨3, ![1, 1024, 2888]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S16384x1024 : Shape := ⟨2, ![16384, 1024]⟩
abbrev S1x1024 : Shape := ⟨2, ![1, 1024]⟩
abbrev S1024 : Shape := ⟨1, ![1024]⟩
abbrev S1024x2888 : Shape := ⟨2, ![1024, 2888]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x56 : Shape := ⟨2, ![1024, 56]⟩
abbrev S1024x2944 : Shape := ⟨2, ![1024, 2944]⟩
abbrev S8x16384x64 : Shape := ⟨3, ![8, 16384, 64]⟩
abbrev S8x2x64x2048 : Shape := ⟨4, ![8, 2, 64, 2048]⟩
abbrev S2x64x16384 : Shape := ⟨3, ![2, 64, 16384]⟩
abbrev S16384x128 : Shape := ⟨2, ![16384, 128]⟩
abbrev S8x64x2048 : Shape := ⟨3, ![8, 64, 2048]⟩
abbrev S64x16384 : Shape := ⟨2, ![64, 16384]⟩
abbrev S16384x8 : Shape := ⟨2, ![16384, 8]⟩
abbrev S8x8x64x2048 : Shape := ⟨4, ![8, 8, 64, 2048]⟩
abbrev S8x64x16384 : Shape := ⟨3, ![8, 64, 16384]⟩
abbrev S16384x512 : Shape := ⟨2, ![16384, 512]⟩
abbrev S512x1024 : Shape := ⟨2, ![512, 1024]⟩
abbrev S512x128 : Shape := ⟨2, ![512, 128]⟩
abbrev S8x512x64 : Shape := ⟨3, ![8, 512, 64]⟩
abbrev S1x2x64x512 : Shape := ⟨4, ![1, 2, 64, 512]⟩
abbrev S2x64x512 : Shape := ⟨3, ![2, 64, 512]⟩
abbrev S1x64x512 : Shape := ⟨3, ![1, 64, 512]⟩
abbrev S64x512 : Shape := ⟨2, ![64, 512]⟩
abbrev S512x8 : Shape := ⟨2, ![512, 8]⟩
abbrev S1x8x64x512 : Shape := ⟨4, ![1, 8, 64, 512]⟩
abbrev S8x64x512 : Shape := ⟨3, ![8, 64, 512]⟩
abbrev S512x512 : Shape := ⟨2, ![512, 512]⟩
abbrev S512 : Shape := ⟨1, ![512]⟩
abbrev S512x1 : Shape := ⟨2, ![512, 1]⟩
abbrev S512x64 : Shape := ⟨2, ![512, 64]⟩
abbrev S1x512x64 : Shape := ⟨3, ![1, 512, 64]⟩
abbrev S128x512 : Shape := ⟨2, ![128, 512]⟩
abbrev S1x1x64x512 : Shape := ⟨4, ![1, 1, 64, 512]⟩

abbrev nBuf : Space → Nat
  | .hbm => 56
  | .vmem => 36
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x2888, .f32⟩
  | .hbm, ⟨3, _⟩ => ⟨S2048, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S2048, .f32⟩
  | .hbm, ⟨13, _⟩ => ⟨S2048x1, .f32⟩
  | .hbm, ⟨14, _⟩ => ⟨S1x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x128, .f32⟩
  | .hbm, ⟨21, _⟩ => ⟨S2048x32, .f32⟩
  | .hbm, ⟨22, _⟩ => ⟨S2048x32, .f32⟩
  | .hbm, ⟨23, _⟩ => ⟨S2048x128, .f32⟩
  | .hbm, ⟨24, _⟩ => ⟨S16384x1024, .f32⟩
  | .hbm, ⟨25, _⟩ => ⟨S1x1024, .f32⟩
  | .hbm, ⟨26, _⟩ => ⟨S1024, .f32⟩
  | .hbm, ⟨27, _⟩ => ⟨S1024x2888, .f32⟩
  | .hbm, ⟨28, _⟩ => ⟨S1024x512, .f32⟩
  | .hbm, ⟨29, _⟩ => ⟨S1024x128, .f32⟩
  | .hbm, ⟨30, _⟩ => ⟨S1024x128, .f32⟩
  | .hbm, ⟨31, _⟩ => ⟨S1024x512, .f32⟩
  | .hbm, ⟨32, _⟩ => ⟨S1024x64, .f32⟩
  | .hbm, ⟨33, _⟩ => ⟨S1024x8, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x56, .f32⟩
  | .hbm, ⟨39, _⟩ => ⟨S1024x2944, .f32⟩
  | .hbm, ⟨40, _⟩ => ⟨S1024x2944, .bf16⟩
  | .hbm, ⟨41, _⟩ => ⟨S1x1024, .f32⟩
  | .hbm, ⟨42, _⟩ => ⟨S8x16384x64, .bf16⟩
  | .hbm, ⟨43, _⟩ => ⟨S8x16384x64, .bf16⟩
  | .hbm, ⟨44, _⟩ => ⟨S8x16384x64, .bf16⟩
  | .hbm, ⟨45, _⟩ => ⟨S8x2x64x2048, .f32⟩
  | .hbm, ⟨46, _⟩ => ⟨S2x64x16384, .bf16⟩
  | .hbm, ⟨47, _⟩ => ⟨S8x2x64x2048, .f32⟩
  | .hbm, ⟨48, _⟩ => ⟨S16384x128, .bf16⟩
  | .hbm, ⟨49, _⟩ => ⟨S8x64x2048, .f32⟩
  | .hbm, ⟨50, _⟩ => ⟨S64x16384, .bf16⟩
  | .hbm, ⟨51, _⟩ => ⟨S16384x8, .f32⟩
  | .hbm, ⟨52, _⟩ => ⟨S8x8x64x2048, .f32⟩
  | .hbm, ⟨53, _⟩ => ⟨S8x64x16384, .bf16⟩
  | .hbm, ⟨54, _⟩ => ⟨S8x8x64x2048, .f32⟩
  | .hbm, ⟨55, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2944, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S8x512x64, .bf16⟩
  | .local _ .vmem, ⟨9, _⟩ => ⟨S8x512x64, .bf16⟩
  | .local _ .vmem, ⟨10, _⟩ => ⟨S8x512x64, .bf16⟩
  | .local _ .vmem, ⟨11, _⟩ => ⟨S8x512x64, .bf16⟩
  | .local _ .vmem, ⟨12, _⟩ => ⟨S8x512x64, .bf16⟩
  | .local _ .vmem, ⟨13, _⟩ => ⟨S8x512x64, .bf16⟩
  | .local _ .vmem, ⟨14, _⟩ => ⟨S1x2x64x512, .f32⟩
  | .local _ .vmem, ⟨15, _⟩ => ⟨S1x2x64x512, .f32⟩
  | .local _ .vmem, ⟨16, _⟩ => ⟨S2x64x512, .bf16⟩
  | .local _ .vmem, ⟨17, _⟩ => ⟨S2x64x512, .bf16⟩
  | .local _ .vmem, ⟨18, _⟩ => ⟨S1x2x64x512, .f32⟩
  | .local _ .vmem, ⟨19, _⟩ => ⟨S1x2x64x512, .f32⟩
  | .local _ .vmem, ⟨20, _⟩ => ⟨S512x128, .bf16⟩
  | .local _ .vmem, ⟨21, _⟩ => ⟨S512x128, .bf16⟩
  | .local _ .vmem, ⟨22, _⟩ => ⟨S1x64x512, .f32⟩
  | .local _ .vmem, ⟨23, _⟩ => ⟨S1x64x512, .f32⟩
  | .local _ .vmem, ⟨24, _⟩ => ⟨S64x512, .bf16⟩
  | .local _ .vmem, ⟨25, _⟩ => ⟨S64x512, .bf16⟩
  | .local _ .vmem, ⟨26, _⟩ => ⟨S512x8, .f32⟩
  | .local _ .vmem, ⟨27, _⟩ => ⟨S512x8, .f32⟩
  | .local _ .vmem, ⟨28, _⟩ => ⟨S1x8x64x512, .f32⟩
  | .local _ .vmem, ⟨29, _⟩ => ⟨S1x8x64x512, .f32⟩
  | .local _ .vmem, ⟨30, _⟩ => ⟨S8x64x512, .bf16⟩
  | .local _ .vmem, ⟨31, _⟩ => ⟨S8x64x512, .bf16⟩
  | .local _ .vmem, ⟨32, _⟩ => ⟨S1x8x64x512, .f32⟩
  | .local _ .vmem, ⟨33, _⟩ => ⟨S1x8x64x512, .f32⟩
  | .local _ .vmem, ⟨34, _⟩ => ⟨S512x512, .bf16⟩
  | .local _ .vmem, ⟨35, _⟩ => ⟨S512x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36_0 : Ref sig .tc := ⟨.hbm, 42, rfl⟩
abbrev main_v36_1 : Ref sig .tc := ⟨.hbm, 43, rfl⟩
abbrev main_v36_2 : Ref sig .tc := ⟨.hbm, 44, rfl⟩
abbrev main_v36_3 : Ref sig .tc := ⟨.hbm, 45, rfl⟩
abbrev main_v36_4 : Ref sig .tc := ⟨.hbm, 46, rfl⟩
abbrev main_v36_5 : Ref sig .tc := ⟨.hbm, 47, rfl⟩
abbrev main_v36_6 : Ref sig .tc := ⟨.hbm, 48, rfl⟩
abbrev main_v36_7 : Ref sig .tc := ⟨.hbm, 49, rfl⟩
abbrev main_v36_8 : Ref sig .tc := ⟨.hbm, 50, rfl⟩
abbrev main_v36_9 : Ref sig .tc := ⟨.hbm, 51, rfl⟩
abbrev main_v36_10 : Ref sig .tc := ⟨.hbm, 52, rfl⟩
abbrev main_v36_11 : Ref sig .tc := ⟨.hbm, 53, rfl⟩
abbrev main_v36_12 : Ref sig .tc := ⟨.hbm, 54, rfl⟩
abbrev main_v36_13 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_17 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x64x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x64x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x8x64x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Kernel3Ideal.lean ====
variable {F : FTy → Type} [FloatOps F] [Named F]
def κ : String → Option EReal := fun
  | "scale" => some (((8 * (Real.log 2))⁻¹ : ℝ) : EReal)
  | _ => none
-- ==== Reference3Ideal.lean ====
abbrev S8x2048x1024 : Shape := ⟨3, ![8, 2048, 1024]⟩
abbrev S2x1024 : Shape := ⟨2, ![2, 1024]⟩
abbrev S1x1024x2888 : Shape := ⟨3, ![1, 1024, 2888]⟩
abbrev S2048 : Shape := ⟨1, ![2048]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2888 : Shape := ⟨2, ![1024, 2888]⟩
abbrev S8x2048x2888 : Shape := ⟨3, ![8, 2048, 2888]⟩
abbrev S8x2048x512 : Shape := ⟨3, ![8, 2048, 512]⟩
abbrev S8x2048x128 : Shape := ⟨3, ![8, 2048, 128]⟩
abbrev S8x2048x64 : Shape := ⟨3, ![8, 2048, 64]⟩
abbrev S8x2048x8 : Shape := ⟨3, ![8, 2048, 8]⟩
abbrev S8x2048x8x64 : Shape := ⟨4, ![8, 2048, 8, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x8x32 : Shape := ⟨4, ![8, 2048, 8, 32]⟩
abbrev S8x2048x2x64 : Shape := ⟨4, ![8, 2048, 2, 64]⟩
abbrev S8x2048x2x32 : Shape := ⟨4, ![8, 2048, 2, 32]⟩
abbrev S8x2048x1x64 : Shape := ⟨4, ![8, 2048, 1, 64]⟩
abbrev S8x2048x1x32 : Shape := ⟨4, ![8, 2048, 1, 32]⟩
abbrev S8x8x2048x64 : Shape := ⟨4, ![8, 8, 2048, 64]⟩
abbrev S8x16384x64 : Shape := ⟨3, ![8, 16384, 64]⟩
abbrev S8x2x64x2048 : Shape := ⟨4, ![8, 2, 64, 2048]⟩
abbrev S2x64x8x2048 : Shape := ⟨4, ![2, 64, 8, 2048]⟩
abbrev S2x64x16384 : Shape := ⟨3, ![2, 64, 16384]⟩
abbrev S16384x128 : Shape := ⟨2, ![16384, 128]⟩
abbrev S8x64x2048 : Shape := ⟨3, ![8, 64, 2048]⟩
abbrev S64x8x2048 : Shape := ⟨3, ![64, 8, 2048]⟩
abbrev S64x16384 : Shape := ⟨2, ![64, 16384]⟩
abbrev S16384x8 : Shape := ⟨2, ![16384, 8]⟩
abbrev S8x8x64x2048 : Shape := ⟨4, ![8, 8, 64, 2048]⟩
abbrev S8x64x8x2048 : Shape := ⟨4, ![8, 64, 8, 2048]⟩
abbrev S8x64x16384 : Shape := ⟨3, ![8, 64, 16384]⟩
abbrev S16384x512 : Shape := ⟨2, ![16384, 512]⟩

abbrev nBuf : Space → Nat
  | .hbm => 208
  | .vmem => 0
  | .smem => 0
  | _ => 0

abbrev hbmTy0_0 (i : Nat) : BufTy := match i % 128 with
  | 0 => ⟨S8x2048x1024, .f32⟩
  | 1 => ⟨S2x1024, .f32⟩
  | 2 => ⟨S1x1024x2888, .f32⟩
  | 3 => ⟨S2048, .i32⟩
  | 4 => ⟨S1x1024, .f32⟩
  | 5 => ⟨S1024, .f32⟩
  | 6 => ⟨S8x2048x1024, .f32⟩
  | 7 => ⟨S_, .f32⟩
  | 8 => ⟨S8x2048, .f32⟩
  | 9 => ⟨S8x2048x1, .f32⟩
  | 10 => ⟨S_, .f32⟩
  | 11 => ⟨S8x2048x1, .f32⟩
  | 12 => ⟨S8x2048x1, .f32⟩
  | 13 => ⟨S_, .f32⟩
  | 14 => ⟨S8x2048x1, .f32⟩
  | 15 => ⟨S8x2048x1, .f32⟩
  | 16 => ⟨S8x2048x1, .f32⟩
  | 17 => ⟨S8x2048x1024, .f32⟩
  | 18 => ⟨S8x2048x1024, .f32⟩
  | 19 => ⟨S1x1x1024, .f32⟩
  | 20 => ⟨S8x2048x1024, .f32⟩
  | 21 => ⟨S8x2048x1024, .f32⟩
  | 22 => ⟨S1024x2888, .f32⟩
  | 23 => ⟨S8x2048x2888, .f32⟩
  | 24 => ⟨S8x2048x512, .f32⟩
  | 25 => ⟨S8x2048x128, .f32⟩
  | 26 => ⟨S8x2048x128, .f32⟩
  | 27 => ⟨S8x2048x512, .f32⟩
  | 28 => ⟨S8x2048x64, .f32⟩
  | 29 => ⟨S8x2048x8, .f32⟩
  | 30 => ⟨S8x2048x512, .f32⟩
  | 31 => ⟨S8x2048x512, .f32⟩
  | 32 => ⟨S8x2048x512, .f32⟩
  | 33 => ⟨S8x2048x8x64, .f32⟩
  | 34 => ⟨S32, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S2048, .f32⟩
  | 43 => ⟨S2048x1, .f32⟩
  | 44 => ⟨S1x32, .f32⟩
  | 45 => ⟨S2048x32, .f32⟩
  | 46 => ⟨S2048x32, .f32⟩
  | 47 => ⟨S2048x32, .f32⟩
  | 48 => ⟨S2048x32, .f32⟩
  | 49 => ⟨S1x2048x1x32, .f32⟩
  | 50 => ⟨S2048x32, .f32⟩
  | 51 => ⟨S1x2048x1x32, .f32⟩
  | 52 => ⟨S8x2048x8x32, .f32⟩
  | 53 => ⟨S8x2048x8x32, .f32⟩
  | 54 => ⟨S8x2048x8x32, .f32⟩
  | 55 => ⟨S8x2048x8x32, .f32⟩
  | 56 => ⟨S8x2048x8x32, .f32⟩
  | 57 => ⟨S8x2048x8x32, .f32⟩
  | 58 => ⟨S8x2048x8x32, .f32⟩
  | 59 => ⟨S8x2048x8x32, .f32⟩
  | 60 => ⟨S8x2048x8x32, .f32⟩
  | 61 => ⟨S8x2048x8x32, .f32⟩
  | 62 => ⟨S8x2048x8x32, .f32⟩
  | 63 => ⟨S8x2048x8x32, .f32⟩
  | 64 => ⟨S8x2048x8x64, .f32⟩
  | 65 => ⟨S8x2048x2x64, .f32⟩
  | 66 => ⟨S32, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S2048, .f32⟩
  | 75 => ⟨S2048x1, .f32⟩
  | 76 => ⟨S1x32, .f32⟩
  | 77 => ⟨S2048x32, .f32⟩
  | 78 => ⟨S2048x32, .f32⟩
  | 79 => ⟨S2048x32, .f32⟩
  | 80 => ⟨S2048x32, .f32⟩
  | 81 => ⟨S1x2048x1x32, .f32⟩
  | 82 => ⟨S2048x32, .f32⟩
  | 83 => ⟨S1x2048x1x32, .f32⟩
  | 84 => ⟨S8x2048x2x32, .f32⟩
  | 85 => ⟨S8x2048x2x32, .f32⟩
  | 86 => ⟨S8x2048x2x32, .f32⟩
  | 87 => ⟨S8x2048x2x32, .f32⟩
  | 88 => ⟨S8x2048x2x32, .f32⟩
  | 89 => ⟨S8x2048x2x32, .f32⟩
  | 90 => ⟨S8x2048x2x32, .f32⟩
  | 91 => ⟨S8x2048x2x32, .f32⟩
  | 92 => ⟨S8x2048x2x32, .f32⟩
  | 93 => ⟨S8x2048x2x32, .f32⟩
  | 94 => ⟨S8x2048x2x32, .f32⟩
  | 95 => ⟨S8x2048x2x32, .f32⟩
  | 96 => ⟨S8x2048x2x64, .f32⟩
  | 97 => ⟨S8x2048x2x64, .f32⟩
  | 98 => ⟨S8x2048x8x64, .f32⟩
  | 99 => ⟨S32, .f32⟩
  | 100 => ⟨S32, .f32⟩
  | 101 => ⟨S_, .f32⟩
  | 102 => ⟨S32, .f32⟩
  | 103 => ⟨S32, .f32⟩
  | 104 => ⟨S_, .f32⟩
  | 105 => ⟨S32, .f32⟩
  | 106 => ⟨S32, .f32⟩
  | 107 => ⟨S2048, .f32⟩
  | 108 => ⟨S2048x1, .f32⟩
  | 109 => ⟨S1x32, .f32⟩
  | 110 => ⟨S2048x32, .f32⟩
  | 111 => ⟨S2048x32, .f32⟩
  | 112 => ⟨S2048x32, .f32⟩
  | 113 => ⟨S2048x32, .f32⟩
  | 114 => ⟨S1x2048x1x32, .f32⟩
  | 115 => ⟨S2048x32, .f32⟩
  | 116 => ⟨S1x2048x1x32, .f32⟩
  | 117 => ⟨S8x2048x8x32, .f32⟩
  | 118 => ⟨S8x2048x8x32, .f32⟩
  | 119 => ⟨S8x2048x8x32, .f32⟩
  | 120 => ⟨S8x2048x8x32, .f32⟩
  | 121 => ⟨S8x2048x8x32, .f32⟩
  | 122 => ⟨S8x2048x8x32, .f32⟩
  | 123 => ⟨S8x2048x8x32, .f32⟩
  | 124 => ⟨S8x2048x8x32, .f32⟩
  | 125 => ⟨S8x2048x8x32, .f32⟩
  | 126 => ⟨S8x2048x8x32, .f32⟩
  | 127 => ⟨S8x2048x8x32, .f32⟩
  | _ => ⟨S8x2048x1024, .f32⟩

abbrev hbmTy0_1 (i : Nat) : BufTy := match i % 128 with
  | 0 => ⟨S8x2048x8x32, .f32⟩
  | 1 => ⟨S8x2048x8x64, .f32⟩
  | 2 => ⟨S8x2048x1x64, .f32⟩
  | 3 => ⟨S32, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S2048, .f32⟩
  | 12 => ⟨S2048x1, .f32⟩
  | 13 => ⟨S1x32, .f32⟩
  | 14 => ⟨S2048x32, .f32⟩
  | 15 => ⟨S2048x32, .f32⟩
  | 16 => ⟨S2048x32, .f32⟩
  | 17 => ⟨S2048x32, .f32⟩
  | 18 => ⟨S1x2048x1x32, .f32⟩
  | 19 => ⟨S2048x32, .f32⟩
  | 20 => ⟨S1x2048x1x32, .f32⟩
  | 21 => ⟨S8x2048x1x32, .f32⟩
  | 22 => ⟨S8x2048x1x32, .f32⟩
  | 23 => ⟨S8x2048x1x32, .f32⟩
  | 24 => ⟨S8x2048x1x32, .f32⟩
  | 25 => ⟨S8x2048x1x32, .f32⟩
  | 26 => ⟨S8x2048x1x32, .f32⟩
  | 27 => ⟨S8x2048x1x32, .f32⟩
  | 28 => ⟨S8x2048x1x32, .f32⟩
  | 29 => ⟨S8x2048x1x32, .f32⟩
  | 30 => ⟨S8x2048x1x32, .f32⟩
  | 31 => ⟨S8x2048x1x32, .f32⟩
  | 32 => ⟨S8x2048x1x32, .f32⟩
  | 33 => ⟨S8x2048x1x64, .f32⟩
  | 34 => ⟨S8x2048x64, .f32⟩
  | 35 => ⟨S_, .f32⟩
  | 36 => ⟨S8x2048x8, .f32⟩
  | 37 => ⟨S8x2048x8, .f32⟩
  | 38 => ⟨S8x2048x8x64, .f32⟩
  | 39 => ⟨S8x2048x8x64, .f32⟩
  | 40 => ⟨S8x2048x8x64, .f32⟩
  | 41 => ⟨S_, .f32⟩
  | 42 => ⟨S_, .f32⟩
  | 43 => ⟨S_, .f32⟩
  | 44 => ⟨S_, .f32⟩
  | 45 => ⟨S8x8x2048x64, .f32⟩
  | 46 => ⟨S8x16384x64, .f32⟩
  | 47 => ⟨S8x16384x64, .f32⟩
  | 48 => ⟨S8x16384x64, .f32⟩
  | 49 => ⟨S8x16384x64, .bf16⟩
  | 50 => ⟨S8x8x2048x64, .f32⟩
  | 51 => ⟨S8x16384x64, .f32⟩
  | 52 => ⟨S_, .f32⟩
  | 53 => ⟨S8x16384x64, .f32⟩
  | 54 => ⟨S8x16384x64, .f32⟩
  | 55 => ⟨S8x16384x64, .bf16⟩
  | 56 => ⟨S8x8x2048x64, .f32⟩
  | 57 => ⟨S8x16384x64, .f32⟩
  | 58 => ⟨S8x16384x64, .f32⟩
  | 59 => ⟨S8x16384x64, .f32⟩
  | 60 => ⟨S8x16384x64, .bf16⟩
  | 61 => ⟨S8x2x64x2048, .f32⟩
  | 62 => ⟨S2x64x8x2048, .f32⟩
  | 63 => ⟨S2x64x16384, .f32⟩
  | 64 => ⟨S2x64x16384, .bf16⟩
  | 65 => ⟨S8x2x64x2048, .f32⟩
  | 66 => ⟨S16384x128, .f32⟩
  | 67 => ⟨S16384x128, .bf16⟩
  | 68 => ⟨S8x64x2048, .f32⟩
  | 69 => ⟨S64x8x2048, .f32⟩
  | 70 => ⟨S64x16384, .f32⟩
  | 71 => ⟨S64x16384, .bf16⟩
  | 72 => ⟨S16384x8, .f32⟩
  | 73 => ⟨S8x8x64x2048, .f32⟩
  | 74 => ⟨S8x64x8x2048, .f32⟩
  | 75 => ⟨S8x64x16384, .f32⟩
  | 76 => ⟨S8x64x16384, .bf16⟩
  | 77 => ⟨S8x8x64x2048, .f32⟩
  | 78 => ⟨S16384x512, .f32⟩
  | 79 => ⟨S16384x512, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_cst_4 : Ref sig .tc := ⟨.hbm, 68, rfl⟩
abbrev main_v60 : Ref sig .tc := ⟨.hbm, 69, rfl⟩
abbrev main_v61 : Ref sig .tc := ⟨.hbm, 70, rfl⟩
abbrev main_cst_5 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_cst_6 : Ref sig .tc := ⟨.hbm, 101, rfl⟩
abbrev main_v91 : Ref sig .tc := ⟨.hbm, 102, rfl⟩
abbrev main_v92 : Ref sig .tc := ⟨.hbm, 103, rfl⟩
abbrev main_cst_7 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_cst_8 : Ref sig .tc := ⟨.hbm, 133, rfl⟩
abbrev main_v121 : Ref sig .tc := ⟨.hbm, 134, rfl⟩
abbrev main_v122 : Ref sig .tc := ⟨.hbm, 135, rfl⟩
abbrev main_cst_9 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_cst_10 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_cst_11 : Ref sig .tc := ⟨.hbm, 169, rfl⟩
abbrev main_v154 : Ref sig .tc := ⟨.hbm, 170, rfl⟩
abbrev main_cst_12 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_cst_13 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩

abbrev nD : Nat := 1
abbrev τ : Topo := Topo.v7x

variable {F : FTy → Type} [FloatOps F]
-- ==== Kernel4.lean ====
abbrev S32x8x1024 : Shape := ⟨3, ![32, 8, 1024]⟩
abbrev S2x1024 : Shape := ⟨2, ![2, 1024]⟩
abbrev S1x1024x2048 : Shape := ⟨3, ![1, 1024, 2048]⟩
abbrev S8 : Shape := ⟨1, ![8]⟩
abbrev S_ : Shape := ⟨0, ![]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x128 : Shape := ⟨2, ![8, 128]⟩
abbrev S1x8x1x128 : Shape := ⟨4, ![1, 8, 1, 128]⟩
abbrev S32x8x1x128 : Shape := ⟨4, ![32, 8, 1, 128]⟩
abbrev S256x128 : Shape := ⟨2, ![256, 128]⟩
abbrev S256x1024 : Shape := ⟨2, ![256, 1024]⟩
abbrev S1x1024 : Shape := ⟨2, ![1, 1024]⟩
abbrev S1024 : Shape := ⟨1, ![1024]⟩
abbrev S1024x2048 : Shape := ⟨2, ![1024, 2048]⟩
abbrev S16x256x64 : Shape := ⟨3, ![16, 256, 64]⟩
abbrev S256x512 : Shape := ⟨2, ![256, 512]⟩
abbrev S8x64x256 : Shape := ⟨3, ![8, 64, 256]⟩
abbrev S256 : Shape := ⟨1, ![256]⟩
abbrev S256x1 : Shape := ⟨2, ![256, 1]⟩
abbrev S1024x512 : Shape := ⟨2, ![1024, 512]⟩
abbrev S256x64 : Shape := ⟨2, ![256, 64]⟩
abbrev S1x256x64 : Shape := ⟨3, ![1, 256, 64]⟩
abbrev S512x256 : Shape := ⟨2, ![512, 256]⟩
abbrev S64x256 : Shape := ⟨2, ![64, 256]⟩
abbrev S1x64x256 : Shape := ⟨3, ![1, 64, 256]⟩

abbrev nBuf : Space → Nat
  | .hbm => 44
  | .vmem => 10
  | .smem => 0
  | _ => 0

abbrev bufTy : (tb : Table) → Fin (tcTables nBuf tb) → BufTy
  | .hbm, ⟨0, _⟩ => ⟨S32x8x1024, .f32⟩
  | .hbm, ⟨1, _⟩ => ⟨S2x1024, .f32⟩
  | .hbm, ⟨2, _⟩ => ⟨S1x1024x2048, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S8, .f32⟩
  | .hbm, ⟨16, _⟩ => ⟨S8x1, .f32⟩
  | .hbm, ⟨17, _⟩ => ⟨S1x32, .f32⟩
  | .hbm, ⟨18, _⟩ => ⟨S8x32, .f32⟩
  | .hbm, ⟨19, _⟩ => ⟨S8x32, .f32⟩
  | .hbm, ⟨20, _⟩ => ⟨S8x32, .f32⟩
  | .hbm, ⟨21, _⟩ => ⟨S8x32, .f32⟩
  | .hbm, ⟨22, _⟩ => ⟨S8x32, .f32⟩
  | .hbm, ⟨23, _⟩ => ⟨S8x128, .f32⟩
  | .hbm, ⟨24, _⟩ => ⟨S8x32, .f32⟩
  | .hbm, ⟨25, _⟩ => ⟨S8x32, .f32⟩
  | .hbm, ⟨26, _⟩ => ⟨S8x128, .f32⟩
  | .hbm, ⟨27, _⟩ => ⟨S1x8x1x128, .f32⟩
  | .hbm, ⟨28, _⟩ => ⟨S32x8x1x128, .f32⟩
  | .hbm, ⟨29, _⟩ => ⟨S256x128, .f32⟩
  | .hbm, ⟨30, _⟩ => ⟨S1x8x1x128, .f32⟩
  | .hbm, ⟨31, _⟩ => ⟨S32x8x1x128, .f32⟩
  | .hbm, ⟨32, _⟩ => ⟨S256x128, .f32⟩
  | .hbm, ⟨33, _⟩ => ⟨S256x1024, .f32⟩
  | .hbm, ⟨34, _⟩ => ⟨S1x1024, .f32⟩
  | .hbm, ⟨35, _⟩ => ⟨S1024, .f32⟩
  | .hbm, ⟨36, _⟩ => ⟨S1024x2048, .f32⟩
  | .hbm, ⟨37, _⟩ => ⟨S1024x2048, .bf16⟩
  | .hbm, ⟨38, _⟩ => ⟨S1x1024, .f32⟩
  | .hbm, ⟨39, _⟩ => ⟨S16x256x64, .bf16⟩
  | .hbm, ⟨40, _⟩ => ⟨S256x512, .f32⟩
  | .hbm, ⟨41, _⟩ => ⟨S8x64x256, .bf16⟩
  | .hbm, ⟨42, _⟩ => ⟨S256x512, .f32⟩
  | .hbm, ⟨43, _⟩ => ⟨S256x512, .bf16⟩
  | .local _ .vmem, ⟨0, _⟩ => ⟨S256x1024, .f32⟩
  | .local _ .vmem, ⟨1, _⟩ => ⟨S1x1024, .f32⟩
  | .local _ .vmem, ⟨2, _⟩ => ⟨S1024x2048, .bf16⟩
  | .local _ .vmem, ⟨3, _⟩ => ⟨S256x128, .f32⟩
  | .local _ .vmem, ⟨4, _⟩ => ⟨S256x128, .f32⟩
  | .local _ .vmem, ⟨5, _⟩ => ⟨S16x256x64, .bf16⟩
  | .local _ .vmem, ⟨6, _⟩ => ⟨S256x512, .f32⟩
  | .local _ .vmem, ⟨7, _⟩ => ⟨S8x64x256, .bf16⟩
  | .local _ .vmem, ⟨8, _⟩ => ⟨S256x512, .f32⟩
  | .local _ .vmem, ⟨9, _⟩ => ⟨S256x512, .bf16⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33_0 : Ref sig .tc := ⟨.hbm, 39, rfl⟩
abbrev main_v33_1 : Ref sig .tc := ⟨.hbm, 40, rfl⟩
abbrev main_v33_2 : Ref sig .tc := ⟨.hbm, 41, rfl⟩
abbrev main_v33_3 : Ref sig .tc := ⟨.hbm, 42, rfl⟩
abbrev main_v33_4 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x256x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x64x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Kernel4Ideal.lean ====
variable {F : FTy → Type} [FloatOps F] [Named F]
def κ : String → Option EReal := fun
  | "scale" => some (((8 * (Real.log 2))⁻¹ : ℝ) : EReal)
  | _ => none
-- ==== Reference4Ideal.lean ====
abbrev S32x8x1024 : Shape := ⟨3, ![32, 8, 1024]⟩
abbrev S2x1024 : Shape := ⟨2, ![2, 1024]⟩
abbrev S1x1024x2048 : Shape := ⟨3, ![1, 1024, 2048]⟩
abbrev S8 : Shape := ⟨1, ![8]⟩
abbrev S_ : Shape := ⟨0, ![]⟩
abbrev S1x1024 : Shape := ⟨2, ![1, 1024]⟩
abbrev S1024 : Shape := ⟨1, ![1024]⟩
abbrev S32x8 : Shape := ⟨2, ![32, 8]⟩
abbrev S32x8x1 : Shape := ⟨3, ![32, 8, 1]⟩
abbrev S1x1x1024 : Shape := ⟨3, ![1, 1, 1024]⟩
abbrev S1024x2048 : Shape := ⟨2, ![1024, 2048]⟩
abbrev S32x8x2048 : Shape := ⟨3, ![32, 8, 2048]⟩
abbrev S32x8x512 : Shape := ⟨3, ![32, 8, 512]⟩
abbrev S32x8x16x64 : Shape := ⟨4, ![32, 8, 16, 64]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S1x8x1x32 : Shape := ⟨4, ![1, 8, 1, 32]⟩
abbrev S32x8x16x32 : Shape := ⟨4, ![32, 8, 16, 32]⟩
abbrev S32x8x8x64 : Shape := ⟨4, ![32, 8, 8, 64]⟩
abbrev S32x8x8x32 : Shape := ⟨4, ![32, 8, 8, 32]⟩
abbrev S256x4x2x2x64 : Shape := ⟨5, ![256, 4, 2, 2, 64]⟩
abbrev S4x2x2x256x64 : Shape := ⟨5, ![4, 2, 2, 256, 64]⟩
abbrev S16x256x64 : Shape := ⟨3, ![16, 256, 64]⟩
abbrev S256x512 : Shape := ⟨2, ![256, 512]⟩
abbrev S8x64x32x8 : Shape := ⟨4, ![8, 64, 32, 8]⟩
abbrev S8x64x256 : Shape := ⟨3, ![8, 64, 256]⟩

abbrev nBuf : Space → Nat
  | .hbm => 111
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S2x1024, .f32⟩
  | .hbm, ⟨2, _⟩ => ⟨S1x1024x2048, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S1x1024, .f32⟩
  | .hbm, ⟨8, _⟩ => ⟨S1024, .f32⟩
  | .hbm, ⟨9, _⟩ => ⟨S32x8x1024, .f32⟩
  | .hbm, ⟨10, _⟩ => ⟨S_, .f32⟩
  | .hbm, ⟨11, _⟩ => ⟨S32x8, .f32⟩
  | .hbm, ⟨12, _⟩ => ⟨S32x8x1, .f32⟩
  | .hbm, ⟨13, _⟩ => ⟨S_, .f32⟩
  | .hbm, ⟨14, _⟩ => ⟨S32x8x1, .f32⟩
  | .hbm, ⟨15, _⟩ => ⟨S32x8x1, .f32⟩
  | .hbm, ⟨16, _⟩ => ⟨S_, .f32⟩
  | .hbm, ⟨17, _⟩ => ⟨S32x8x1, .f32⟩
  | .hbm, ⟨18, _⟩ => ⟨S32x8x1, .f32⟩
  | .hbm, ⟨19, _⟩ => ⟨S32x8x1, .f32⟩
  | .hbm, ⟨20, _⟩ => ⟨S32x8x1024, .f32⟩
  | .hbm, ⟨21, _⟩ => ⟨S32x8x1024, .f32⟩
  | .hbm, ⟨22, _⟩ => ⟨S1x1x1024, .f32⟩
  | .hbm, ⟨23, _⟩ => ⟨S32x8x1024, .f32⟩
  | .hbm, ⟨24, _⟩ => ⟨S32x8x1024, .f32⟩
  | .hbm, ⟨25, _⟩ => ⟨S1024x2048, .f32⟩
  | .hbm, ⟨26, _⟩ => ⟨S32x8x2048, .f32⟩
  | .hbm, ⟨27, _⟩ => ⟨S32x8x1024, .f32⟩
  | .hbm, ⟨28, _⟩ => ⟨S32x8x512, .f32⟩
  | .hbm, ⟨29, _⟩ => ⟨S32x8x512, .f32⟩
  | .hbm, ⟨30, _⟩ => ⟨S32x8x16x64, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S8, .f32⟩
  | .hbm, ⟨40, _⟩ => ⟨S8x1, .f32⟩
  | .hbm, ⟨41, _⟩ => ⟨S1x32, .f32⟩
  | .hbm, ⟨42, _⟩ => ⟨S8x32, .f32⟩
  | .hbm, ⟨43, _⟩ => ⟨S8x32, .f32⟩
  | .hbm, ⟨44, _⟩ => ⟨S8x32, .f32⟩
  | .hbm, ⟨45, _⟩ => ⟨S8x32, .f32⟩
  | .hbm, ⟨46, _⟩ => ⟨S1x8x1x32, .f32⟩
  | .hbm, ⟨47, _⟩ => ⟨S8x32, .f32⟩
  | .hbm, ⟨48, _⟩ => ⟨S1x8x1x32, .f32⟩
  | .hbm, ⟨49, _⟩ => ⟨S32x8x16x32, .f32⟩
  | .hbm, ⟨50, _⟩ => ⟨S32x8x16x32, .f32⟩
  | .hbm, ⟨51, _⟩ => ⟨S32x8x16x32, .f32⟩
  | .hbm, ⟨52, _⟩ => ⟨S32x8x16x32, .f32⟩
  | .hbm, ⟨53, _⟩ => ⟨S32x8x16x32, .f32⟩
  | .hbm, ⟨54, _⟩ => ⟨S32x8x16x32, .f32⟩
  | .hbm, ⟨55, _⟩ => ⟨S32x8x16x32, .f32⟩
  | .hbm, ⟨56, _⟩ => ⟨S32x8x16x32, .f32⟩
  | .hbm, ⟨57, _⟩ => ⟨S32x8x16x32, .f32⟩
  | .hbm, ⟨58, _⟩ => ⟨S32x8x16x32, .f32⟩
  | .hbm, ⟨59, _⟩ => ⟨S32x8x16x32, .f32⟩
  | .hbm, ⟨60, _⟩ => ⟨S32x8x16x32, .f32⟩
  | .hbm, ⟨61, _⟩ => ⟨S32x8x16x64, .f32⟩
  | .hbm, ⟨62, _⟩ => ⟨S32x8x8x64, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S8, .f32⟩
  | .hbm, ⟨72, _⟩ => ⟨S8x1, .f32⟩
  | .hbm, ⟨73, _⟩ => ⟨S1x32, .f32⟩
  | .hbm, ⟨74, _⟩ => ⟨S8x32, .f32⟩
  | .hbm, ⟨75, _⟩ => ⟨S8x32, .f32⟩
  | .hbm, ⟨76, _⟩ => ⟨S8x32, .f32⟩
  | .hbm, ⟨77, _⟩ => ⟨S8x32, .f32⟩
  | .hbm, ⟨78, _⟩ => ⟨S1x8x1x32, .f32⟩
  | .hbm, ⟨79, _⟩ => ⟨S8x32, .f32⟩
  | .hbm, ⟨80, _⟩ => ⟨S1x8x1x32, .f32⟩
  | .hbm, ⟨81, _⟩ => ⟨S32x8x8x32, .f32⟩
  | .hbm, ⟨82, _⟩ => ⟨S32x8x8x32, .f32⟩
  | .hbm, ⟨83, _⟩ => ⟨S32x8x8x32, .f32⟩
  | .hbm, ⟨84, _⟩ => ⟨S32x8x8x32, .f32⟩
  | .hbm, ⟨85, _⟩ => ⟨S32x8x8x32, .f32⟩
  | .hbm, ⟨86, _⟩ => ⟨S32x8x8x32, .f32⟩
  | .hbm, ⟨87, _⟩ => ⟨S32x8x8x32, .f32⟩
  | .hbm, ⟨88, _⟩ => ⟨S32x8x8x32, .f32⟩
  | .hbm, ⟨89, _⟩ => ⟨S32x8x8x32, .f32⟩
  | .hbm, ⟨90, _⟩ => ⟨S32x8x8x32, .f32⟩
  | .hbm, ⟨91, _⟩ => ⟨S32x8x8x32, .f32⟩
  | .hbm, ⟨92, _⟩ => ⟨S32x8x8x32, .f32⟩
  | .hbm, ⟨93, _⟩ => ⟨S32x8x8x64, .f32⟩
  | .hbm, ⟨94, _⟩ => ⟨S256x4x2x2x64, .f32⟩
  | .hbm, ⟨95, _⟩ => ⟨S4x2x2x256x64, .f32⟩
  | .hbm, ⟨96, _⟩ => ⟨S16x256x64, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S16x256x64, .f32⟩
  | .hbm, ⟨102, _⟩ => ⟨S16x256x64, .f32⟩
  | .hbm, ⟨103, _⟩ => ⟨S16x256x64, .bf16⟩
  | .hbm, ⟨104, _⟩ => ⟨S256x512, .f32⟩
  | .hbm, ⟨105, _⟩ => ⟨S8x64x32x8, .f32⟩
  | .hbm, ⟨106, _⟩ => ⟨S8x64x256, .f32⟩
  | .hbm, ⟨107, _⟩ => ⟨S8x64x256, .bf16⟩
  | .hbm, ⟨108, _⟩ => ⟨S256x512, .f32⟩
  | .hbm, ⟨109, _⟩ => ⟨S256x512, .f32⟩
  | .hbm, ⟨110, _⟩ => ⟨S256x512, .bf16⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_4 : Ref sig .tc := ⟨.hbm, 65, rfl⟩
abbrev main_v56 : Ref sig .tc := ⟨.hbm, 66, rfl⟩
abbrev main_v57 : Ref sig .tc := ⟨.hbm, 67, rfl⟩
abbrev main_cst_5 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_cst_6 : Ref sig .tc := ⟨.hbm, 97, rfl⟩
abbrev main_v86 : Ref sig .tc := ⟨.hbm, 98, rfl⟩
abbrev main_cst_7 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩

abbrev nD : Nat := 1
abbrev τ : Topo := Topo.v7x

variable {F : FTy → Type} [FloatOps F]
-- ==== Kernel5.lean ====
abbrev S32x8x1024 : Shape := ⟨3, ![32, 8, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 18
  | .vmem => 9
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S256x1024, .f32⟩
  | .hbm, ⟨9, _⟩ => ⟨S256x1024, .bf16⟩
  | .hbm, ⟨10, _⟩ => ⟨S256x1024, .f32⟩
  | .hbm, ⟨11, _⟩ => ⟨S1024x1024, .bf16⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S256x1024, .f32⟩
  | .local _ .vmem, ⟨0, _⟩ => ⟨S256x1024, .bf16⟩
  | .local _ .vmem, ⟨1, _⟩ => ⟨S256x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1024x4096, .bf16⟩
  | .local _ .vmem, ⟨6, _⟩ => ⟨S4096x1024, .bf16⟩
  | .local _ .vmem, ⟨7, _⟩ => ⟨S1x1024, .f32⟩
  | .local _ .vmem, ⟨8, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference5Ideal.lean ====
abbrev S32x8x1024 : Shape := ⟨3, ![32, 8, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x4096 : Shape := ⟨3, ![32, 8, 4096]⟩
abbrev S256x1024 : Shape := ⟨2, ![256, 1024]⟩

abbrev nBuf : Space → Nat
  | .hbm => 66
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S32x8x1024, .f32⟩
  | .hbm, ⟨9, _⟩ => ⟨S32x8x1024, .f32⟩
  | .hbm, ⟨10, _⟩ => ⟨S_, .f32⟩
  | .hbm, ⟨11, _⟩ => ⟨S32x8, .f32⟩
  | .hbm, ⟨12, _⟩ => ⟨S32x8x1, .f32⟩
  | .hbm, ⟨13, _⟩ => ⟨S_, .f32⟩
  | .hbm, ⟨14, _⟩ => ⟨S32x8x1, .f32⟩
  | .hbm, ⟨15, _⟩ => ⟨S32x8x1, .f32⟩
  | .hbm, ⟨16, _⟩ => ⟨S_, .f32⟩
  | .hbm, ⟨17, _⟩ => ⟨S32x8x1, .f32⟩
  | .hbm, ⟨18, _⟩ => ⟨S32x8x1, .f32⟩
  | .hbm, ⟨19, _⟩ => ⟨S32x8x1, .f32⟩
  | .hbm, ⟨20, _⟩ => ⟨S32x8x1024, .f32⟩
  | .hbm, ⟨21, _⟩ => ⟨S32x8x1024, .f32⟩
  | .hbm, ⟨22, _⟩ => ⟨S1x1x1024, .f32⟩
  | .hbm, ⟨23, _⟩ => ⟨S32x8x1024, .f32⟩
  | .hbm, ⟨24, _⟩ => ⟨S32x8x1024, .f32⟩
  | .hbm, ⟨25, _⟩ => ⟨S32x8x1024, .f32⟩
  | .hbm, ⟨26, _⟩ => ⟨S32x8x1024, .f32⟩
  | .hbm, ⟨27, _⟩ => ⟨S_, .f32⟩
  | .hbm, ⟨28, _⟩ => ⟨S32x8, .f32⟩
  | .hbm, ⟨29, _⟩ => ⟨S32x8x1, .f32⟩
  | .hbm, ⟨30, _⟩ => ⟨S_, .f32⟩
  | .hbm, ⟨31, _⟩ => ⟨S32x8x1, .f32⟩
  | .hbm, ⟨32, _⟩ => ⟨S32x8x1, .f32⟩
  | .hbm, ⟨33, _⟩ => ⟨S_, .f32⟩
  | .hbm, ⟨34, _⟩ => ⟨S32x8x1, .f32⟩
  | .hbm, ⟨35, _⟩ => ⟨S32x8x1, .f32⟩
  | .hbm, ⟨36, _⟩ => ⟨S32x8x1, .f32⟩
  | .hbm, ⟨37, _⟩ => ⟨S32x8x1024, .f32⟩
  | .hbm, ⟨38, _⟩ => ⟨S32x8x1024, .f32⟩
  | .hbm, ⟨39, _⟩ => ⟨S1x1x1024, .f32⟩
  | .hbm, ⟨40, _⟩ => ⟨S32x8x1024, .f32⟩
  | .hbm, ⟨41, _⟩ => ⟨S32x8x1024, .f32⟩
  | .hbm, ⟨42, _⟩ => ⟨S32x8x4096, .f32⟩
  | .hbm, ⟨43, _⟩ => ⟨S_, .f32⟩
  | .hbm, ⟨44, _⟩ => ⟨S32x8x4096, .f32⟩
  | .hbm, ⟨45, _⟩ => ⟨S32x8x4096, .f32⟩
  | .hbm, ⟨46, _⟩ => ⟨S32x8x4096, .f32⟩
  | .hbm, ⟨47, _⟩ => ⟨S32x8x1024, .f32⟩
  | .hbm, ⟨48, _⟩ => ⟨S32x8x1024, .f32⟩
  | .hbm, ⟨49, _⟩ => ⟨S_, .f32⟩
  | .hbm, ⟨50, _⟩ => ⟨S32x8, .f32⟩
  | .hbm, ⟨51, _⟩ => ⟨S32x8x1, .f32⟩
  | .hbm, ⟨52, _⟩ => ⟨S_, .f32⟩
  | .hbm, ⟨53, _⟩ => ⟨S32x8x1, .f32⟩
  | .hbm, ⟨54, _⟩ => ⟨S32x8x1, .f32⟩
  | .hbm, ⟨55, _⟩ => ⟨S_, .f32⟩
  | .hbm, ⟨56, _⟩ => ⟨S32x8x1, .f32⟩
  | .hbm, ⟨57, _⟩ => ⟨S32x8x1, .f32⟩
  | .hbm, ⟨58, _⟩ => ⟨S32x8x1, .f32⟩
  | .hbm, ⟨59, _⟩ => ⟨S32x8x1024, .f32⟩
  | .hbm, ⟨60, _⟩ => ⟨S32x8x1024, .f32⟩
  | .hbm, ⟨61, _⟩ => ⟨S1x1x1024, .f32⟩
  | .hbm, ⟨62, _⟩ => ⟨S32x8x1024, .f32⟩
  | .hbm, ⟨63, _⟩ => ⟨S32x8x1024, .f32⟩
  | .hbm, ⟨64, _⟩ => ⟨S32x8x1024, .f32⟩
  | .hbm, ⟨65, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Kernel6.lean ====
abbrev S32x8x1024 : Shape := ⟨3, ![32, 8, 1024]⟩
abbrev S2x1024 : Shape := ⟨2, ![2, 1024]⟩
abbrev S1x1024x2888 : Shape := ⟨3, ![1, 1024, 2888]⟩
abbrev S8 : Shape := ⟨1, ![8]⟩
abbrev S_ : Shape := ⟨0, ![]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x128 : Shape := ⟨2, ![8, 128]⟩
abbrev S1x8x1x128 : Shape := ⟨4, ![1, 8, 1, 128]⟩
abbrev S32x8x1x128 : Shape := ⟨4, ![32, 8, 1, 128]⟩
abbrev S256x128 : Shape := ⟨2, ![256, 128]⟩
abbrev S256x1024 : Shape := ⟨2, ![256, 1024]⟩
abbrev S1x1024 : Shape := ⟨2, ![1, 1024]⟩
abbrev S1024 : Shape := ⟨1, ![1024]⟩
abbrev S1024x2888 : Shape := ⟨2, ![1024, 2888]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x56 : Shape := ⟨2, ![1024, 56]⟩
abbrev S1024x2944 : Shape := ⟨2, ![1024, 2944]⟩
abbrev S8x256x64 : Shape := ⟨3, ![8, 256, 64]⟩
abbrev S2x64x256 : Shape := ⟨3, ![2, 64, 256]⟩
abbrev S256x64 : Shape := ⟨2, ![256, 64]⟩
abbrev S64x256 : Shape := ⟨2, ![64, 256]⟩
abbrev S256x8 : Shape := ⟨2, ![256, 8]⟩
abbrev S256x512 : Shape := ⟨2, ![256, 512]⟩
abbrev S8x64x256 : Shape := ⟨3, ![8, 64, 256]⟩
abbrev S256 : Shape := ⟨1, ![256]⟩
abbrev S256x1 : Shape := ⟨2, ![256, 1]⟩
abbrev S1x256x64 : Shape := ⟨3, ![1, 256, 64]⟩
abbrev S128x256 : Shape := ⟨2, ![128, 256]⟩
abbrev S1x64x256 : Shape := ⟨3, ![1, 64, 256]⟩
abbrev S512x256 : Shape := ⟨2, ![512, 256]⟩

abbrev nBuf : Space → Nat
  | .hbm => 65
  | .vmem => 19
  | .smem => 0
  | _ => 0

abbrev bufTy : (tb : Table) → Fin (tcTables nBuf tb) → BufTy
  | .hbm, ⟨0, _⟩ => ⟨S32x8x1024, .f32⟩
  | .hbm, ⟨1, _⟩ => ⟨S2x1024, .f32⟩
  | .hbm, ⟨2, _⟩ => ⟨S1x1024x2888, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S8, .f32⟩
  | .hbm, ⟨16, _⟩ => ⟨S8x1, .f32⟩
  | .hbm, ⟨17, _⟩ => ⟨S1x32, .f32⟩
  | .hbm, ⟨18, _⟩ => ⟨S8x32, .f32⟩
  | .hbm, ⟨19, _⟩ => ⟨S8x32, .f32⟩
  | .hbm, ⟨20, _⟩ => ⟨S8x32, .f32⟩
  | .hbm, ⟨21, _⟩ => ⟨S8x32, .f32⟩
  | .hbm, ⟨22, _⟩ => ⟨S8x32, .f32⟩
  | .hbm, ⟨23, _⟩ => ⟨S8x128, .f32⟩
  | .hbm, ⟨24, _⟩ => ⟨S8x32, .f32⟩
  | .hbm, ⟨25, _⟩ => ⟨S8x32, .f32⟩
  | .hbm, ⟨26, _⟩ => ⟨S8x128, .f32⟩
  | .hbm, ⟨27, _⟩ => ⟨S1x8x1x128, .f32⟩
  | .hbm, ⟨28, _⟩ => ⟨S32x8x1x128, .f32⟩
  | .hbm, ⟨29, _⟩ => ⟨S256x128, .f32⟩
  | .hbm, ⟨30, _⟩ => ⟨S1x8x1x128, .f32⟩
  | .hbm, ⟨31, _⟩ => ⟨S32x8x1x128, .f32⟩
  | .hbm, ⟨32, _⟩ => ⟨S256x128, .f32⟩
  | .hbm, ⟨33, _⟩ => ⟨S256x1024, .f32⟩
  | .hbm, ⟨34, _⟩ => ⟨S1x1024, .f32⟩
  | .hbm, ⟨35, _⟩ => ⟨S1024, .f32⟩
  | .hbm, ⟨36, _⟩ => ⟨S1024x2888, .f32⟩
  | .hbm, ⟨37, _⟩ => ⟨S1024x512, .f32⟩
  | .hbm, ⟨38, _⟩ => ⟨S1024x128, .f32⟩
  | .hbm, ⟨39, _⟩ => ⟨S1024x128, .f32⟩
  | .hbm, ⟨40, _⟩ => ⟨S1024x512, .f32⟩
  | .hbm, ⟨41, _⟩ => ⟨S1024x64, .f32⟩
  | .hbm, ⟨42, _⟩ => ⟨S1024x8, .f32⟩
  | .hbm, ⟨43, _⟩ => ⟨S1024x512, .f32⟩
  | .hbm, ⟨44, _⟩ => ⟨S1024x512, .f32⟩
  | .hbm, ⟨45, _⟩ => ⟨S1024x512, .f32⟩
  | .hbm, ⟨46, _⟩ => ⟨S_, .f32⟩
  | .hbm, ⟨47, _⟩ => ⟨S1024x56, .f32⟩
  | .hbm, ⟨48, _⟩ => ⟨S1024x2944, .f32⟩
  | .hbm, ⟨49, _⟩ => ⟨S1024x2944, .bf16⟩
  | .hbm, ⟨50, _⟩ => ⟨S1x1024, .f32⟩
  | .hbm, ⟨51, _⟩ => ⟨S8x256x64, .bf16⟩
  | .hbm, ⟨52, _⟩ => ⟨S8x256x64, .bf16⟩
  | .hbm, ⟨53, _⟩ => ⟨S8x256x64, .bf16⟩
  | .hbm, ⟨54, _⟩ => ⟨S256x128, .f32⟩
  | .hbm, ⟨55, _⟩ => ⟨S2x64x256, .bf16⟩
  | .hbm, ⟨56, _⟩ => ⟨S256x128, .f32⟩
  | .hbm, ⟨57, _⟩ => ⟨S256x128, .bf16⟩
  | .hbm, ⟨58, _⟩ => ⟨S256x64, .f32⟩
  | .hbm, ⟨59, _⟩ => ⟨S64x256, .bf16⟩
  | .hbm, ⟨60, _⟩ => ⟨S256x8, .f32⟩
  | .hbm, ⟨61, _⟩ => ⟨S256x512, .f32⟩
  | .hbm, ⟨62, _⟩ => ⟨S8x64x256, .bf16⟩
  | .hbm, ⟨63, _⟩ => ⟨S256x512, .f32⟩
  | .hbm, ⟨64, _⟩ => ⟨S256x512, .bf16⟩
  | .local _ .vmem, ⟨0, _⟩ => ⟨S256x1024, .f32⟩
  | .local _ .vmem, ⟨1, _⟩ => ⟨S1x1024, .f32⟩
  | .local _ .vmem, ⟨2, _⟩ => ⟨S1024x2944, .bf16⟩
  | .local _ .vmem, ⟨3, _⟩ => ⟨S256x128, .f32⟩
  | .local _ .vmem, ⟨4, _⟩ => ⟨S256x128, .f32⟩
  | .local _ .vmem, ⟨5, _⟩ => ⟨S8x256x64, .bf16⟩
  | .local _ .vmem, ⟨6, _⟩ => ⟨S8x256x64, .bf16⟩
  | .local _ .vmem, ⟨7, _⟩ => ⟨S8x256x64, .bf16⟩
  | .local _ .vmem, ⟨8, _⟩ => ⟨S256x128, .f32⟩
  | .local _ .vmem, ⟨9, _⟩ => ⟨S2x64x256, .bf16⟩
  | .local _ .vmem, ⟨10, _⟩ => ⟨S256x128, .f32⟩
  | .local _ .vmem, ⟨11, _⟩ => ⟨S256x128, .bf16⟩
  | .local _ .vmem, ⟨12, _⟩ => ⟨S256x64, .f32⟩
  | .local _ .vmem, ⟨13, _⟩ => ⟨S64x256, .bf16⟩
  | .local _ .vmem, ⟨14, _⟩ => ⟨S256x8, .f32⟩
  | .local _ .vmem, ⟨15, _⟩ => ⟨S256x512, .f32⟩
  | .local _ .vmem, ⟨16, _⟩ => ⟨S8x64x256, .bf16⟩
  | .local _ .vmem, ⟨17, _⟩ => ⟨S256x512, .f32⟩
  | .local _ .vmem, ⟨18, _⟩ => ⟨S256x512, .bf16⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_1 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44_0 : Ref sig .tc := ⟨.hbm, 51, rfl⟩
abbrev main_v44_1 : Ref sig .tc := ⟨.hbm, 52, rfl⟩
abbrev main_v44_2 : Ref sig .tc := ⟨.hbm, 53, rfl⟩
abbrev main_v44_3 : Ref sig .tc := ⟨.hbm, 54, rfl⟩
abbrev main_v44_4 : Ref sig .tc := ⟨.hbm, 55, rfl⟩
abbrev main_v44_5 : Ref sig .tc := ⟨.hbm, 56, rfl⟩
abbrev main_v44_6 : Ref sig .tc := ⟨.hbm, 57, rfl⟩
abbrev main_v44_7 : Ref sig .tc := ⟨.hbm, 58, rfl⟩
abbrev main_v44_8 : Ref sig .tc := ⟨.hbm, 59, rfl⟩
abbrev main_v44_9 : Ref sig .tc := ⟨.hbm, 60, rfl⟩
abbrev main_v44_10 : Ref sig .tc := ⟨.hbm, 61, rfl⟩
abbrev main_v44_11 : Ref sig .tc := ⟨.hbm, 62, rfl⟩
abbrev main_v44_12 : Ref sig .tc := ⟨.hbm, 63, rfl⟩
abbrev main_v44_13 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x256x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x256x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S2x64x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S64x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S8x64x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S256x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S256x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]
-- ==== Kernel6Ideal.lean ====
variable {F : FTy → Type} [FloatOps F] [Named F]
def κ : String → Option EReal := fun
  | "scale" => some (((8 * (Real.log 2))⁻¹ : ℝ) : EReal)
  | _ => none
-- ==== Reference6Ideal.lean ====
abbrev S32x8x1024 : Shape := ⟨3, ![32, 8, 1024]⟩
abbrev S2x1024 : Shape := ⟨2, ![2, 1024]⟩
abbrev S1x1024x2888 : Shape := ⟨3, ![1, 1024, 2888]⟩
abbrev S8 : Shape := ⟨1, ![8]⟩
abbrev S_ : Shape := ⟨0, ![]⟩
abbrev S1x1024 : Shape := ⟨2, ![1, 1024]⟩
abbrev S1024 : Shape := ⟨1, ![1024]⟩
abbrev S32x8 : Shape := ⟨2, ![32, 8]⟩
abbrev S32x8x1 : Shape := ⟨3, ![32, 8, 1]⟩
abbrev S1x1x1024 : Shape := ⟨3, ![1, 1, 1024]⟩
abbrev S1024x2888 : Shape := ⟨2, ![1024, 2888]⟩
abbrev S32x8x2888 : Shape := ⟨3, ![32, 8, 2888]⟩
abbrev S32x8x512 : Shape := ⟨3, ![32, 8, 512]⟩
abbrev S32x8x128 : Shape := ⟨3, ![32, 8, 128]⟩
abbrev S32x8x64 : Shape := ⟨3, ![32, 8, 64]⟩
abbrev S32x8x8 : Shape := ⟨3, ![32, 8, 8]⟩
abbrev S32x8x8x64 : Shape := ⟨4, ![32, 8, 8, 64]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S1x8x1x32 : Shape := ⟨4, ![1, 8, 1, 32]⟩
abbrev S32x8x8x32 : Shape := ⟨4, ![32, 8, 8, 32]⟩
abbrev S32x8x2x64 : Shape := ⟨4, ![32, 8, 2, 64]⟩
abbrev S32x8x2x32 : Shape := ⟨4, ![32, 8, 2, 32]⟩
abbrev S32x8x1x64 : Shape := ⟨4, ![32, 8, 1, 64]⟩
abbrev S32x8x1x32 : Shape := ⟨4, ![32, 8, 1, 32]⟩
abbrev S8x32x8x64 : Shape := ⟨4, ![8, 32, 8, 64]⟩
abbrev S8x256x64 : Shape := ⟨3, ![8, 256, 64]⟩
abbrev S256x128 : Shape := ⟨2, ![256, 128]⟩
abbrev S2x64x32x8 : Shape := ⟨4, ![2, 64, 32, 8]⟩
abbrev S2x64x256 : Shape := ⟨3, ![2, 64, 256]⟩
abbrev S256x64 : Shape := ⟨2, ![256, 64]⟩
abbrev S64x32x8 : Shape := ⟨3, ![64, 32, 8]⟩
abbrev S64x256 : Shape := ⟨2, ![64, 256]⟩
abbrev S256x8 : Shape := ⟨2, ![256, 8]⟩
abbrev S256x512 : Shape := ⟨2, ![256, 512]⟩
abbrev S8x64x32x8 : Shape := ⟨4, ![8, 64, 32, 8]⟩
abbrev S8x64x256 : Shape := ⟨3, ![8, 64, 256]⟩

abbrev nBuf : Space → Nat
  | .hbm => 211
  | .vmem => 0
  | .smem => 0
  | _ => 0

abbrev hbmTy0_0 (i : Nat) : BufTy := match i % 128 with
  | 0 => ⟨S32x8x1024, .f32⟩
  | 1 => ⟨S2x1024, .f32⟩
  | 2 => ⟨S1x1024x2888, .f32⟩
  | 3 => ⟨S8, .i32⟩
  | 4 => ⟨S_, .i32⟩
  | 5 => ⟨S8, .i32⟩
  | 6 => ⟨S8, .i32⟩
  | 7 => ⟨S1x1024, .f32⟩
  | 8 => ⟨S1024, .f32⟩
  | 9 => ⟨S32x8x1024, .f32⟩
  | 10 => ⟨S_, .f32⟩
  | 11 => ⟨S32x8, .f32⟩
  | 12 => ⟨S32x8x1, .f32⟩
  | 13 => ⟨S_, .f32⟩
  | 14 => ⟨S32x8x1, .f32⟩
  | 15 => ⟨S32x8x1, .f32⟩
  | 16 => ⟨S_, .f32⟩
  | 17 => ⟨S32x8x1, .f32⟩
  | 18 => ⟨S32x8x1, .f32⟩
  | 19 => ⟨S32x8x1, .f32⟩
  | 20 => ⟨S32x8x1024, .f32⟩
  | 21 => ⟨S32x8x1024, .f32⟩
  | 22 => ⟨S1x1x1024, .f32⟩
  | 23 => ⟨S32x8x1024, .f32⟩
  | 24 => ⟨S32x8x1024, .f32⟩
  | 25 => ⟨S1024x2888, .f32⟩
  | 26 => ⟨S32x8x2888, .f32⟩
  | 27 => ⟨S32x8x512, .f32⟩
  | 28 => ⟨S32x8x128, .f32⟩
  | 29 => ⟨S32x8x128, .f32⟩
  | 30 => ⟨S32x8x512, .f32⟩
  | 31 => ⟨S32x8x64, .f32⟩
  | 32 => ⟨S32x8x8, .f32⟩
  | 33 => ⟨S32x8x512, .f32⟩
  | 34 => ⟨S32x8x512, .f32⟩
  | 35 => ⟨S32x8x512, .f32⟩
  | 36 => ⟨S32x8x8x64, .f32⟩
  | 37 => ⟨S32, .f32⟩
  | 38 => ⟨S32, .f32⟩
  | 39 => ⟨S_, .f32⟩
  | 40 => ⟨S32, .f32⟩
  | 41 => ⟨S32, .f32⟩
  | 42 => ⟨S_, .f32⟩
  | 43 => ⟨S32, .f32⟩
  | 44 => ⟨S32, .f32⟩
  | 45 => ⟨S8, .f32⟩
  | 46 => ⟨S8x1, .f32⟩
  | 47 => ⟨S1x32, .f32⟩
  | 48 => ⟨S8x32, .f32⟩
  | 49 => ⟨S8x32, .f32⟩
  | 50 => ⟨S8x32, .f32⟩
  | 51 => ⟨S8x32, .f32⟩
  | 52 => ⟨S1x8x1x32, .f32⟩
  | 53 => ⟨S8x32, .f32⟩
  | 54 => ⟨S1x8x1x32, .f32⟩
  | 55 => ⟨S32x8x8x32, .f32⟩
  | 56 => ⟨S32x8x8x32, .f32⟩
  | 57 => ⟨S32x8x8x32, .f32⟩
  | 58 => ⟨S32x8x8x32, .f32⟩
  | 59 => ⟨S32x8x8x32, .f32⟩
  | 60 => ⟨S32x8x8x32, .f32⟩
  | 61 => ⟨S32x8x8x32, .f32⟩
  | 62 => ⟨S32x8x8x32, .f32⟩
  | 63 => ⟨S32x8x8x32, .f32⟩
  | 64 => ⟨S32x8x8x32, .f32⟩
  | 65 => ⟨S32x8x8x32, .f32⟩
  | 66 => ⟨S32x8x8x32, .f32⟩
  | 67 => ⟨S32x8x8x64, .f32⟩
  | 68 => ⟨S32x8x2x64, .f32⟩
  | 69 => ⟨S32, .f32⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S8, .f32⟩
  | 78 => ⟨S8x1, .f32⟩
  | 79 => ⟨S1x32, .f32⟩
  | 80 => ⟨S8x32, .f32⟩
  | 81 => ⟨S8x32, .f32⟩
  | 82 => ⟨S8x32, .f32⟩
  | 83 => ⟨S8x32, .f32⟩
  | 84 => ⟨S1x8x1x32, .f32⟩
  | 85 => ⟨S8x32, .f32⟩
  | 86 => ⟨S1x8x1x32, .f32⟩
  | 87 => ⟨S32x8x2x32, .f32⟩
  | 88 => ⟨S32x8x2x32, .f32⟩
  | 89 => ⟨S32x8x2x32, .f32⟩
  | 90 => ⟨S32x8x2x32, .f32⟩
  | 91 => ⟨S32x8x2x32, .f32⟩
  | 92 => ⟨S32x8x2x32, .f32⟩
  | 93 => ⟨S32x8x2x32, .f32⟩
  | 94 => ⟨S32x8x2x32, .f32⟩
  | 95 => ⟨S32x8x2x32, .f32⟩
  | 96 => ⟨S32x8x2x32, .f32⟩
  | 97 => ⟨S32x8x2x32, .f32⟩
  | 98 => ⟨S32x8x2x32, .f32⟩
  | 99 => ⟨S32x8x2x64, .f32⟩
  | 100 => ⟨S32x8x2x64, .f32⟩
  | 101 => ⟨S32x8x8x64, .f32⟩
  | 102 => ⟨S32, .f32⟩
  | 103 => ⟨S32, .f32⟩
  | 104 => ⟨S_, .f32⟩
  | 105 => ⟨S32, .f32⟩
  | 106 => ⟨S32, .f32⟩
  | 107 => ⟨S_, .f32⟩
  | 108 => ⟨S32, .f32⟩
  | 109 => ⟨S32, .f32⟩
  | 110 => ⟨S8, .f32⟩
  | 111 => ⟨S8x1, .f32⟩
  | 112 => ⟨S1x32, .f32⟩
  | 113 => ⟨S8x32, .f32⟩
  | 114 => ⟨S8x32, .f32⟩
  | 115 => ⟨S8x32, .f32⟩
  | 116 => ⟨S8x32, .f32⟩
  | 117 => ⟨S1x8x1x32, .f32⟩
  | 118 => ⟨S8x32, .f32⟩
  | 119 => ⟨S1x8x1x32, .f32⟩
  | 120 => ⟨S32x8x8x32, .f32⟩
  | 121 => ⟨S32x8x8x32, .f32⟩
  | 122 => ⟨S32x8x8x32, .f32⟩
  | 123 => ⟨S32x8x8x32, .f32⟩
  | 124 => ⟨S32x8x8x32, .f32⟩
  | 125 => ⟨S32x8x8x32, .f32⟩
  | 126 => ⟨S32x8x8x32, .f32⟩
  | 127 => ⟨S32x8x8x32, .f32⟩
  | _ => ⟨S32x8x1024, .f32⟩

abbrev hbmTy0_1 (i : Nat) : BufTy := match i % 128 with
  | 0 => ⟨S32x8x8x32, .f32⟩
  | 1 => ⟨S32x8x8x32, .f32⟩
  | 2 => ⟨S32x8x8x32, .f32⟩
  | 3 => ⟨S32x8x8x32, .f32⟩
  | 4 => ⟨S32x8x8x64, .f32⟩
  | 5 => ⟨S32x8x1x64, .f32⟩
  | 6 => ⟨S32, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S8, .f32⟩
  | 15 => ⟨S8x1, .f32⟩
  | 16 => ⟨S1x32, .f32⟩
  | 17 => ⟨S8x32, .f32⟩
  | 18 => ⟨S8x32, .f32⟩
  | 19 => ⟨S8x32, .f32⟩
  | 20 => ⟨S8x32, .f32⟩
  | 21 => ⟨S1x8x1x32, .f32⟩
  | 22 => ⟨S8x32, .f32⟩
  | 23 => ⟨S1x8x1x32, .f32⟩
  | 24 => ⟨S32x8x1x32, .f32⟩
  | 25 => ⟨S32x8x1x32, .f32⟩
  | 26 => ⟨S32x8x1x32, .f32⟩
  | 27 => ⟨S32x8x1x32, .f32⟩
  | 28 => ⟨S32x8x1x32, .f32⟩
  | 29 => ⟨S32x8x1x32, .f32⟩
  | 30 => ⟨S32x8x1x32, .f32⟩
  | 31 => ⟨S32x8x1x32, .f32⟩
  | 32 => ⟨S32x8x1x32, .f32⟩
  | 33 => ⟨S32x8x1x32, .f32⟩
  | 34 => ⟨S32x8x1x32, .f32⟩
  | 35 => ⟨S32x8x1x32, .f32⟩
  | 36 => ⟨S32x8x1x64, .f32⟩
  | 37 => ⟨S32x8x64, .f32⟩
  | 38 => ⟨S_, .f32⟩
  | 39 => ⟨S32x8x8, .f32⟩
  | 40 => ⟨S32x8x8, .f32⟩
  | 41 => ⟨S32x8x8x64, .f32⟩
  | 42 => ⟨S32x8x8x64, .f32⟩
  | 43 => ⟨S32x8x8x64, .f32⟩
  | 44 => ⟨S_, .f32⟩
  | 45 => ⟨S_, .f32⟩
  | 46 => ⟨S_, .f32⟩
  | 47 => ⟨S_, .f32⟩
  | 48 => ⟨S8x32x8x64, .f32⟩
  | 49 => ⟨S8x256x64, .f32⟩
  | 50 => ⟨S8x256x64, .f32⟩
  | 51 => ⟨S8x256x64, .f32⟩
  | 52 => ⟨S8x256x64, .bf16⟩
  | 53 => ⟨S8x32x8x64, .f32⟩
  | 54 => ⟨S8x256x64, .f32⟩
  | 55 => ⟨S_, .f32⟩
  | 56 => ⟨S8x256x64, .f32⟩
  | 57 => ⟨S8x256x64, .f32⟩
  | 58 => ⟨S8x256x64, .bf16⟩
  | 59 => ⟨S8x32x8x64, .f32⟩
  | 60 => ⟨S8x256x64, .f32⟩
  | 61 => ⟨S8x256x64, .f32⟩
  | 62 => ⟨S8x256x64, .f32⟩
  | 63 => ⟨S8x256x64, .bf16⟩
  | 64 => ⟨S256x128, .f32⟩
  | 65 => ⟨S2x64x32x8, .f32⟩
  | 66 => ⟨S2x64x256, .f32⟩
  | 67 => ⟨S2x64x256, .bf16⟩
  | 68 => ⟨S256x128, .f32⟩
  | 69 => ⟨S256x128, .f32⟩
  | 70 => ⟨S256x128, .bf16⟩
  | 71 => ⟨S256x64, .f32⟩
  | 72 => ⟨S64x32x8, .f32⟩
  | 73 => ⟨S64x256, .f32⟩
  | 74 => ⟨S64x256, .bf16⟩
  | 75 => ⟨S256x8, .f32⟩
  | 76 => ⟨S256x512, .f32⟩
  | 77 => ⟨S8x64x32x8, .f32⟩
  | 78 => ⟨S8x64x256, .f32⟩
  | 79 => ⟨S8x64x256, .bf16⟩
  | 80 => ⟨S256x512, .f32⟩
  | 81 => ⟨S256x512, .f32⟩
  | 82 => ⟨S256x512, .bf16⟩
  | _ => ⟨S32x8x1024, .f32⟩

abbrev hbmTy (i : Nat) : BufTy := match i / 128 with
  | 0 => hbmTy0_0 i
  | 1 => hbmTy0_1 i
  | _ => ⟨S32x8x1024, .f32⟩

abbrev bufTy : (tb : Table) → Fin (tcTables nBuf tb) → BufTy
  | .hbm, ⟨i, _⟩ => hbmTy i
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_cst_4 : Ref sig .tc := ⟨.hbm, 71, rfl⟩
abbrev main_v62 : Ref sig .tc := ⟨.hbm, 72, rfl⟩
abbrev main_v63 : Ref sig .tc := ⟨.hbm, 73, rfl⟩
abbrev main_cst_5 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_cst_6 : Ref sig .tc := ⟨.hbm, 104, rfl⟩
abbrev main_v93 : Ref sig .tc := ⟨.hbm, 105, rfl⟩
abbrev main_v94 : Ref sig .tc := ⟨.hbm, 106, rfl⟩
abbrev main_cst_7 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_cst_8 : Ref sig .tc := ⟨.hbm, 136, rfl⟩
abbrev main_v123 : Ref sig .tc := ⟨.hbm, 137, rfl⟩
abbrev main_v124 : Ref sig .tc := ⟨.hbm, 138, rfl⟩
abbrev main_cst_9 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_cst_10 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_cst_11 : Ref sig .tc := ⟨.hbm, 172, rfl⟩
abbrev main_v156 : Ref sig .tc := ⟨.hbm, 173, rfl⟩
abbrev main_cst_12 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_cst_13 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩

abbrev nD : Nat := 1
abbrev τ : Topo := Topo.v7x

variable {F : FTy → Type} [FloatOps F]
-- ==== Kernel7.lean ====
abbrev S8x2048x1024 : Shape := ⟨3, ![8, 2048, 1024]⟩
abbrev S2x1024 : Shape := ⟨2, ![2, 1024]⟩
abbrev S1x1024x2048 : Shape := ⟨3, ![1, 1024, 2048]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S16384x1024 : Shape := ⟨2, ![16384, 1024]⟩
abbrev S1x1024 : Shape := ⟨2, ![1, 1024]⟩
abbrev S1024 : Shape := ⟨1, ![1024]⟩
abbrev S1024x2048 : Shape := ⟨2, ![1024, 2048]⟩
abbrev S16x16384x64 : Shape := ⟨3, ![16, 16384, 64]⟩
abbrev S65536x128 : Shape := ⟨2, ![65536, 128]⟩
abbrev S8x64x16384 : Shape := ⟨3, ![8, 64, 16384]⟩
abbrev S16384x512 : Shape := ⟨2, ![16384, 512]⟩
abbrev S512x1024 : Shape := ⟨2, ![512, 1024]⟩
abbrev S512x128 : Shape := ⟨2, ![512, 128]⟩
abbrev S16x512x64 : Shape := ⟨3, ![16, 512, 64]⟩
abbrev S8x64x512 : Shape := ⟨3, ![8, 64, 512]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S512x64 : Shape := ⟨2, ![512, 64]⟩
abbrev S1x512x64 : Shape := ⟨3, ![1, 512, 64]⟩
abbrev S64x512 : Shape := ⟨2, ![64, 512]⟩
abbrev S1x64x512 : Shape := ⟨3, ![1, 64, 512]⟩

abbrev nBuf : Space → Nat
  | .hbm => 35
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x2048, .f32⟩
  | .hbm, ⟨3, _⟩ => ⟨S2048, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S2048, .f32⟩
  | .hbm, ⟨13, _⟩ => ⟨S2048x1, .f32⟩
  | .hbm, ⟨14, _⟩ => ⟨S1x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x128, .f32⟩
  | .hbm, ⟨21, _⟩ => ⟨S2048x32, .f32⟩
  | .hbm, ⟨22, _⟩ => ⟨S2048x32, .f32⟩
  | .hbm, ⟨23, _⟩ => ⟨S2048x128, .f32⟩
  | .hbm, ⟨24, _⟩ => ⟨S16384x1024, .f32⟩
  | .hbm, ⟨25, _⟩ => ⟨S1x1024, .f32⟩
  | .hbm, ⟨26, _⟩ => ⟨S1024, .f32⟩
  | .hbm, ⟨27, _⟩ => ⟨S1024x2048, .f32⟩
  | .hbm, ⟨28, _⟩ => ⟨S1024x2048, .bf16⟩
  | .hbm, ⟨29, _⟩ => ⟨S1x1024, .f32⟩
  | .hbm, ⟨30, _⟩ => ⟨S16x16384x64, .bf16⟩
  | .hbm, ⟨31, _⟩ => ⟨S65536x128, .f32⟩
  | .hbm, ⟨32, _⟩ => ⟨S8x64x16384, .bf16⟩
  | .hbm, ⟨33, _⟩ => ⟨S65536x128, .f32⟩
  | .hbm, ⟨34, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S16x512x64, .bf16⟩
  | .local _ .vmem, ⟨9, _⟩ => ⟨S16x512x64, .bf16⟩
  | .local _ .vmem, ⟨10, _⟩ => ⟨S2048x128, .f32⟩
  | .local _ .vmem, ⟨11, _⟩ => ⟨S2048x128, .f32⟩
  | .local _ .vmem, ⟨12, _⟩ => ⟨S8x64x512, .bf16⟩
  | .local _ .vmem, ⟨13, _⟩ => ⟨S8x64x512, .bf16⟩
  | .local _ .vmem, ⟨14, _⟩ => ⟨S2048x128, .f32⟩
  | .local _ .vmem, ⟨15, _⟩ => ⟨S2048x128, .f32⟩
  | .local _ .vmem, ⟨16, _⟩ => ⟨S512x512, .bf16⟩
  | .local _ .vmem, ⟨17, _⟩ => ⟨S512x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25_0 : Ref sig .tc := ⟨.hbm, 30, rfl⟩
abbrev main_v25_1 : Ref sig .tc := ⟨.hbm, 31, rfl⟩
abbrev main_v25_2 : Ref sig .tc := ⟨.hbm, 32, rfl⟩
abbrev main_v25_3 : Ref sig .tc := ⟨.hbm, 33, rfl⟩
abbrev main_v25_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel7Ideal.lean ====
variable {F : FTy → Type} [FloatOps F] [Named F]
def κ : String → Option EReal := fun
  | "scale" => some (((8 * (Real.log 2))⁻¹ : ℝ) : EReal)
  | _ => none
-- ==== Reference7Ideal.lean ====
abbrev S8x2048x1024 : Shape := ⟨3, ![8, 2048, 1024]⟩
abbrev S2x1024 : Shape := ⟨2, ![2, 1024]⟩
abbrev S1x1024x2048 : Shape := ⟨3, ![1, 1024, 2048]⟩
abbrev S2048 : Shape := ⟨1, ![2048]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2048 : Shape := ⟨2, ![1024, 2048]⟩
abbrev S8x2048x2048 : Shape := ⟨3, ![8, 2048, 2048]⟩
abbrev S8x2048x512 : Shape := ⟨3, ![8, 2048, 512]⟩
abbrev S8x2048x16x64 : Shape := ⟨4, ![8, 2048, 16, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x16x32 : Shape := ⟨4, ![8, 2048, 16, 32]⟩
abbrev S8x2048x8x64 : Shape := ⟨4, ![8, 2048, 8, 64]⟩
abbrev S8x2048x8x32 : Shape := ⟨4, ![8, 2048, 8, 32]⟩
abbrev S16384x4x2x2x64 : Shape := ⟨5, ![16384, 4, 2, 2, 64]⟩
abbrev S4x2x2x16384x64 : Shape := ⟨5, ![4, 2, 2, 16384, 64]⟩
abbrev S16x16384x64 : Shape := ⟨3, ![16, 16384, 64]⟩
abbrev S65536x128 : Shape := ⟨2, ![65536, 128]⟩
abbrev S8x64x8x2048 : Shape := ⟨4, ![8, 64, 8, 2048]⟩
abbrev S8x64x16384 : Shape := ⟨3, ![8, 64, 16384]⟩
abbrev S16384x512 : Shape := ⟨2, ![16384, 512]⟩

abbrev nBuf : Space → Nat
  | .hbm => 108
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x2048, .f32⟩
  | .hbm, ⟨3, _⟩ => ⟨S2048, .i32⟩
  | .hbm, ⟨4, _⟩ => ⟨S1x1024, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1024x2048, .f32⟩
  | .hbm, ⟨23, _⟩ => ⟨S8x2048x2048, .f32⟩
  | .hbm, ⟨24, _⟩ => ⟨S8x2048x1024, .f32⟩
  | .hbm, ⟨25, _⟩ => ⟨S8x2048x512, .f32⟩
  | .hbm, ⟨26, _⟩ => ⟨S8x2048x512, .f32⟩
  | .hbm, ⟨27, _⟩ => ⟨S8x2048x16x64, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S2048, .f32⟩
  | .hbm, ⟨37, _⟩ => ⟨S2048x1, .f32⟩
  | .hbm, ⟨38, _⟩ => ⟨S1x32, .f32⟩
  | .hbm, ⟨39, _⟩ => ⟨S2048x32, .f32⟩
  | .hbm, ⟨40, _⟩ => ⟨S2048x32, .f32⟩
  | .hbm, ⟨41, _⟩ => ⟨S2048x32, .f32⟩
  | .hbm, ⟨42, _⟩ => ⟨S2048x32, .f32⟩
  | .hbm, ⟨43, _⟩ => ⟨S1x2048x1x32, .f32⟩
  | .hbm, ⟨44, _⟩ => ⟨S2048x32, .f32⟩
  | .hbm, ⟨45, _⟩ => ⟨S1x2048x1x32, .f32⟩
  | .hbm, ⟨46, _⟩ => ⟨S8x2048x16x32, .f32⟩
  | .hbm, ⟨47, _⟩ => ⟨S8x2048x16x32, .f32⟩
  | .hbm, ⟨48, _⟩ => ⟨S8x2048x16x32, .f32⟩
  | .hbm, ⟨49, _⟩ => ⟨S8x2048x16x32, .f32⟩
  | .hbm, ⟨50, _⟩ => ⟨S8x2048x16x32, .f32⟩
  | .hbm, ⟨51, _⟩ => ⟨S8x2048x16x32, .f32⟩
  | .hbm, ⟨52, _⟩ => ⟨S8x2048x16x32, .f32⟩
  | .hbm, ⟨53, _⟩ => ⟨S8x2048x16x32, .f32⟩
  | .hbm, ⟨54, _⟩ => ⟨S8x2048x16x32, .f32⟩
  | .hbm, ⟨55, _⟩ => ⟨S8x2048x16x32, .f32⟩
  | .hbm, ⟨56, _⟩ => ⟨S8x2048x16x32, .f32⟩
  | .hbm, ⟨57, _⟩ => ⟨S8x2048x16x32, .f32⟩
  | .hbm, ⟨58, _⟩ => ⟨S8x2048x16x64, .f32⟩
  | .hbm, ⟨59, _⟩ => ⟨S8x2048x8x64, .f32⟩
  | .hbm, ⟨60, _⟩ => ⟨S32, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S2048, .f32⟩
  | .hbm, ⟨69, _⟩ => ⟨S2048x1, .f32⟩
  | .hbm, ⟨70, _⟩ => ⟨S1x32, .f32⟩
  | .hbm, ⟨71, _⟩ => ⟨S2048x32, .f32⟩
  | .hbm, ⟨72, _⟩ => ⟨S2048x32, .f32⟩
  | .hbm, ⟨73, _⟩ => ⟨S2048x32, .f32⟩
  | .hbm, ⟨74, _⟩ => ⟨S2048x32, .f32⟩
  | .hbm, ⟨75, _⟩ => ⟨S1x2048x1x32, .f32⟩
  | .hbm, ⟨76, _⟩ => ⟨S2048x32, .f32⟩
  | .hbm, ⟨77, _⟩ => ⟨S1x2048x1x32, .f32⟩
  | .hbm, ⟨78, _⟩ => ⟨S8x2048x8x32, .f32⟩
  | .hbm, ⟨79, _⟩ => ⟨S8x2048x8x32, .f32⟩
  | .hbm, ⟨80, _⟩ => ⟨S8x2048x8x32, .f32⟩
  | .hbm, ⟨81, _⟩ => ⟨S8x2048x8x32, .f32⟩
  | .hbm, ⟨82, _⟩ => ⟨S8x2048x8x32, .f32⟩
  | .hbm, ⟨83, _⟩ => ⟨S8x2048x8x32, .f32⟩
  | .hbm, ⟨84, _⟩ => ⟨S8x2048x8x32, .f32⟩
  | .hbm, ⟨85, _⟩ => ⟨S8x2048x8x32, .f32⟩
  | .hbm, ⟨86, _⟩ => ⟨S8x2048x8x32, .f32⟩
  | .hbm, ⟨87, _⟩ => ⟨S8x2048x8x32, .f32⟩
  | .hbm, ⟨88, _⟩ => ⟨S8x2048x8x32, .f32⟩
  | .hbm, ⟨89, _⟩ => ⟨S8x2048x8x32, .f32⟩
  | .hbm, ⟨90, _⟩ => ⟨S8x2048x8x64, .f32⟩
  | .hbm, ⟨91, _⟩ => ⟨S16384x4x2x2x64, .f32⟩
  | .hbm, ⟨92, _⟩ => ⟨S4x2x2x16384x64, .f32⟩
  | .hbm, ⟨93, _⟩ => ⟨S16x16384x64, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S16x16384x64, .f32⟩
  | .hbm, ⟨99, _⟩ => ⟨S16x16384x64, .f32⟩
  | .hbm, ⟨100, _⟩ => ⟨S16x16384x64, .bf16⟩
  | .hbm, ⟨101, _⟩ => ⟨S65536x128, .f32⟩
  | .hbm, ⟨102, _⟩ => ⟨S8x64x8x2048, .f32⟩
  | .hbm, ⟨103, _⟩ => ⟨S8x64x16384, .f32⟩
  | .hbm, ⟨104, _⟩ => ⟨S8x64x16384, .bf16⟩
  | .hbm, ⟨105, _⟩ => ⟨S65536x128, .f32⟩
  | .hbm, ⟨106, _⟩ => ⟨S16384x512, .f32⟩
  | .hbm, ⟨107, _⟩ => ⟨S16384x512, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_4 : Ref sig .tc := ⟨.hbm, 62, rfl⟩
abbrev main_v54 : Ref sig .tc := ⟨.hbm, 63, rfl⟩
abbrev main_v55 : Ref sig .tc := ⟨.hbm, 64, rfl⟩
abbrev main_cst_5 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_cst_6 : Ref sig .tc := ⟨.hbm, 94, rfl⟩
abbrev main_v84 : Ref sig .tc := ⟨.hbm, 95, rfl⟩
abbrev main_cst_7 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩

abbrev nD : Nat := 1
abbrev τ : Topo := Topo.v7x

variable {F : FTy → Type} [FloatOps F]
-- ==== Proof.Online.lean ====
/- The ARITHMETIC of the running softmax, over plain functions: nothing here names a program.
   Keys come in chunks. After `n` keys the kernel holds a level `μ` (the greatest score so far) and, per output
   lane, the sum `acc x ok v μ n` of `2 ^ (x c - μ) * v c` over the admitted keys `c < n`. One more chunk raises
   the level and rescales the sum (`step`); at the end the quotient of two such sums does not depend on the level
   (`quotient`), and it is the softmax-weighted mean of the values (`wmean`). -/
module

public import Idealize.ShloMosaic.PureOps.Ideal
public import Mathlib.Analysis.SpecialFunctions.Pow.Real
public import Mathlib.Algebra.BigOperators.Fin

@[expose] public section

noncomputable section

namespace Cert.DiffAttn

open Idealize.ShloMosaic

/-- `2 ^ (x - μ)` at reals, as the extended reals have it. -/
theorem exp2_sub (x μ : ℝ) : Ideal.exp2 ((x : EReal) - (μ : EReal)) = (((2 : ℝ) ^ (x - μ) : ℝ) : EReal) := by
  rw [← EReal.coe_sub, Ideal.exp2_coe]; rfl

/-- A score of `-∞` weighs nothing. -/
theorem exp2_bot_sub (μ : ℝ) : Ideal.exp2 ((⊥ : EReal) - (μ : EReal)) = 0 := by
  rw [EReal.bot_sub, Ideal.exp2_bot]

/-- A finite sum of reals, as the extended reals have it. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The score of key `c`: real where the key is admitted, `-∞` elsewhere. -/
def score (x : ℕ → ℝ) (ok : ℕ → Prop) [DecidablePred ok] (c : ℕ) : EReal := if ok c then (x c : EReal) else ⊥

/-- The weighted sum over the first `n` keys, relative to level `μ`. -/
def acc (x : ℕ → ℝ) (ok : ℕ → Prop) [DecidablePred ok] (v : ℕ → ℝ) (μ : ℝ) (n : ℕ) : ℝ :=
  ∑ c ∈ Finset.range n, if ok c then (2 : ℝ) ^ (x c - μ) * v c else 0

variable (x : ℕ → ℝ) (ok : ℕ → Prop) [DecidablePred ok]

/-- Changing the level rescales the sum. -/
theorem acc_level (v : ℕ → ℝ) (μ μ' : ℝ) (n : ℕ) :
    (2 : ℝ) ^ (μ - μ') * acc x ok v μ n = acc x ok v μ' n := by
  unfold acc
  rw [Finset.mul_sum]
  refine Finset.sum_congr rfl fun c _ => ?_
  split_ifs
  · rw [← mul_assoc, ← Real.rpow_add (by norm_num)]; congr 2; ring
  · simp

/-- One more chunk of `K` keys. -/
theorem acc_add (v : ℕ → ℝ) (μ : ℝ) (n K : ℕ) :
    acc x ok v μ (n + K) = acc x ok v μ n + ∑ c : Fin K, if ok (n + c) then (2 : ℝ) ^ (x (n + c) - μ) * v (n + c) else 0 := by
  unfold acc
  rw [Finset.sum_range_add, ← Fin.sum_univ_eq_sum_range (fun c => if ok (n + c) then (2 : ℝ) ^ (x (n + c) - μ) * v (n + c) else 0)]

/-- The weights of one chunk against its values, as the kernel sums them. -/
theorem chunk_sum (v : ℕ → ℝ) (μ : ℝ) (n K : ℕ) :
    ∑ c : Fin K, Ideal.exp2 (score x ok (n + c) - (μ : EReal)) * (v (n + c) : EReal)
      = ((∑ c : Fin K, if ok (n + c) then (2 : ℝ) ^ (x (n + c) - μ) * v (n + c) else 0 : ℝ) : EReal) := by
  rw [← coe_sum]
  refine Finset.sum_congr rfl fun c _ => ?_
  unfold score
  split_ifs
  · rw [exp2_sub, ← EReal.coe_mul]
  · rw [exp2_bot_sub, zero_mul, EReal.coe_zero]

/-- Before any key the level is `-∞` and the sums are zero; after `n` keys, one of them admitted, the level is real and the
    sums are the weighted sums at that level. `L` is the lanes the values have. -/
def Inv {L : Type*} (v : L → ℕ → ℝ) (n : ℕ) (m : EReal) (la : L → EReal) : Prop :=
  ((∀ c < n, ¬ ok c) ∧ m = ⊥ ∧ ∀ l, la l = 0) ∨ ∃ μ : ℝ, m = (μ : EReal) ∧ ∀ l, la l = (acc x ok (v l) μ n : EReal)

/-- The greatest score of a chunk is real or `-∞`. -/
theorem fold_score (n K : ℕ) :
    ((Finset.univ : Finset (Fin K)).fold max ⊥ fun c : Fin K => score x ok (n + c)) = ⊥ ∧ (∀ c : Fin K, ¬ ok (n + c))
      ∨ ∃ r : ℝ, ((Finset.univ : Finset (Fin K)).fold max ⊥ fun c : Fin K => score x ok (n + c)) = (r : EReal) := by
  classical
  suffices h : ∀ s : Finset (Fin K), (s.fold max ⊥ fun c : Fin K => score x ok (n + c)) = ⊥ ∧ (∀ c ∈ s, ¬ ok (n + c))
      ∨ ∃ r : ℝ, (s.fold max ⊥ fun c : Fin K => score x ok (n + c)) = (r : EReal) by
    rcases h Finset.univ with ⟨h1, h2⟩ | h
    · exact .inl ⟨h1, fun c => h2 c (Finset.mem_univ c)⟩
    · exact .inr h
  intro s
  induction s using Finset.induction_on with
  | empty => exact .inl ⟨rfl, by simp⟩
  | insert a s ha ih =>
    rw [Finset.fold_insert ha]
    by_cases hok : ok (n + a)
    · right
      rw [show score x ok (n + a) = (x (n + a) : EReal) from if_pos hok]
      rcases ih with ⟨h, -⟩ | ⟨r, h⟩
      · exact ⟨x (n + a), by rw [h]; exact max_eq_left bot_le⟩
      · exact ⟨max (x (n + a)) r, by rw [h]; exact (EReal.coe_strictMono.monotone.map_max).symm⟩
    · rw [show score x ok (n + a) = ⊥ from if_neg hok]
      rcases ih with ⟨h, h2⟩ | ⟨r, h⟩
      · refine .inl ⟨by rw [h]; exact max_self _, fun c hc => ?_⟩
        rcases Finset.mem_insert.mp hc with rfl | hc
        · exact hok
        · exact h2 c hc
      · exact .inr ⟨r, by rw [h]; exact max_eq_right bot_le⟩

/-- ONE CHUNK: the level raised to the chunk's greatest score, the sums rescaled and the chunk's added. -/
theorem step {L : Type*} (v : L → ℕ → ℝ) (n K : ℕ) (hK : ∃ c < n + K, ok c) (m : EReal) (la : L → EReal) (h : Inv x ok v n m la)
    (m' : EReal) (hm : m' = max m ((Finset.univ : Finset (Fin K)).fold max ⊥ fun c : Fin K => score x ok (n + c)))
    (la' : L → EReal)
    (hla : ∀ l, la' l = Ideal.exp2 (m - m') * la l + ∑ c : Fin K, Ideal.exp2 (score x ok (n + c) - m') * (v l (n + c) : EReal)) :
    Inv x ok v (n + K) m' la' := by
  rcases h with ⟨hno, rfl, h0⟩ | ⟨μ, rfl, ha⟩
  · rcases fold_score x ok n K with ⟨-, hk⟩ | ⟨r, hr⟩
    · exfalso
      obtain ⟨c, hc, hok⟩ := hK
      by_cases hcn : c < n
      · exact hno c hcn hok
      · refine hk ⟨c - n, by omega⟩ ?_
        rw [show n + ((⟨c - n, by omega⟩ : Fin K) : ℕ) = c by simp; omega]; exact hok
    · right
      rw [hr, max_eq_right bot_le] at hm
      refine ⟨r, hm, fun l => ?_⟩
      rw [hla, hm, h0, mul_zero, zero_add, chunk_sum, acc_add]
      have : acc x ok (v l) r n = 0 := Finset.sum_eq_zero fun c hc => if_neg (hno c (Finset.mem_range.mp hc))
      rw [this, zero_add]
  · right
    have : ∃ μ' : ℝ, m' = (μ' : EReal) := by
      rcases fold_score x ok n K with ⟨hr, -⟩ | ⟨r, hr⟩
      · exact ⟨μ, by rw [hm, hr]; exact max_eq_left bot_le⟩
      · exact ⟨max μ r, by rw [hm, hr]; exact (EReal.coe_strictMono.monotone.map_max).symm⟩
    obtain ⟨μ', rfl⟩ := this
    refine ⟨μ', rfl, fun l => ?_⟩
    rw [hla, ha, exp2_sub, ← EReal.coe_mul, acc_level, chunk_sum, ← EReal.coe_add, acc_add]

/-- The weighted mean of `v` under the weights `w`. -/
def wmean (N : ℕ) (w v : ℕ → ℝ) : ℝ := (∑ c ∈ Finset.range N, w c * v c) / ∑ c ∈ Finset.range N, w c

/-- The weights of the softmax, not normalised: `exp s` where the key is admitted. -/
def weight (s : ℕ → ℝ) (ok : ℕ → Prop) [DecidablePred ok] (c : ℕ) : ℝ := if ok c then Real.exp (s c) else 0

/-- A weighted mean does not see a common positive factor of the weights. -/
theorem wmean_scale (N : ℕ) (w v : ℕ → ℝ) (a : ℝ) (ha : a ≠ 0) : wmean N (fun c => a * w c) v = wmean N w v := by
  unfold wmean
  simp only [mul_assoc]
  rw [← Finset.mul_sum, ← Finset.mul_sum, mul_div_mul_left _ _ ha]

/-- The sum at level `μ`, in powers of `e`: `2 ^ (x c) = exp (s c)`. -/
theorem acc_eq (s : ℕ → ℝ) (hs : ∀ c, ok c → (2 : ℝ) ^ x c = Real.exp (s c)) (v : ℕ → ℝ) (μ : ℝ) (n : ℕ) :
    acc x ok v μ n = ∑ c ∈ Finset.range n, ((2 : ℝ) ^ (-μ) * weight s ok c) * v c := by
  unfold acc weight
  refine Finset.sum_congr rfl fun c _ => ?_
  split_ifs with h
  · rw [sub_eq_add_neg, Real.rpow_add (by norm_num), hs c h]; ring
  · simp

/-- Some admitted key among the first `N`: the weights' sum is positive. -/
theorem weight_pos (s : ℕ → ℝ) (N : ℕ) (h : ∃ c < N, ok c) : 0 < ∑ c ∈ Finset.range N, weight s ok c := by
  obtain ⟨c, hc, hok⟩ := h
  refine Finset.sum_pos' (fun i _ => ?_) ⟨c, Finset.mem_range.mpr hc, ?_⟩
  · unfold weight; split_ifs <;> positivity
  · unfold weight; rw [if_pos hok]; positivity

/-- Admitted keys all lie below `n ≤ N`: the sums to `n` and to `N` agree. -/
theorem sum_range_weight (s v : ℕ → ℝ) (a : ℝ) (n N : ℕ) (hn : n ≤ N) (hok : ∀ c, ok c → c < n) :
    ∑ c ∈ Finset.range n, (a * weight s ok c) * v c = ∑ c ∈ Finset.range N, (a * weight s ok c) * v c := by
  refine Finset.sum_subset (Finset.range_mono hn) fun c _ hc => ?_
  have : ¬ ok c := fun h => hc (Finset.mem_range.mpr (hok c h))
  unfold weight; rw [if_neg this]; simp

/-- THE QUOTIENT the kernel forms at the end: the softmax-weighted mean of the values. -/
theorem quotient (s : ℕ → ℝ) (hs : ∀ c, ok c → (2 : ℝ) ^ x c = Real.exp (s c)) (v : ℕ → ℝ) (μ : ℝ) (n N : ℕ) (hn : n ≤ N)
    (hok : ∀ c, ok c → c < n) (hex : ∃ c < n, ok c) :
    Ideal.div (acc x ok v μ n : EReal) (acc x ok (fun _ => 1) μ n : EReal) = (wmean N (weight s ok) v : EReal) := by
  have hp : (2 : ℝ) ^ (-μ) ≠ 0 := (Real.rpow_pos_of_pos (by norm_num) _).ne'
  rw [← wmean_scale N (weight s ok) v _ hp]
  have h1 : acc x ok v μ n = ∑ c ∈ Finset.range N, ((2 : ℝ) ^ (-μ) * weight s ok c) * v c := by
    rw [acc_eq x ok s hs, sum_range_weight ok s v _ n N hn hok]
  have h2 : acc x ok (fun _ => 1) μ n = ∑ c ∈ Finset.range N, ((2 : ℝ) ^ (-μ) * weight s ok c) := by
    rw [acc_eq x ok s hs, sum_range_weight ok s (fun _ => 1) _ n N hn hok]; simp
  have h3 : acc x ok (fun _ => 1) μ n ≠ 0 := by
    rw [h2, ← Finset.mul_sum]
    refine mul_ne_zero hp (weight_pos ok s N ?_).ne'
    obtain ⟨c, hc, hk⟩ := hex
    exact ⟨c, hc.trans_le hn, hk⟩
  rw [Ideal.div_coe h3, ← EReal.coe_mul, mul_one_div, h1, h2]
  rfl

/-- The reference's normalised weight of one key: `exp (score - M) / Σ exp (score - M)`. -/
theorem softmax_coe (s : ℕ → ℝ) (N : ℕ) (h : ∃ c < N, ok c) (M : ℝ) (c : ℕ) :
    Ideal.div (Ideal.exp (score s ok c - (M : EReal))) (∑ k : Fin N, Ideal.exp (score s ok k - (M : EReal)))
      = ((weight s ok c / ∑ k ∈ Finset.range N, weight s ok k : ℝ) : EReal) := by
  have he : ∀ c, Ideal.exp (score s ok c - (M : EReal)) = ((Real.exp (-M) * weight s ok c : ℝ) : EReal) := by
    intro c
    unfold score weight
    split_ifs
    · rw [← EReal.coe_sub, Ideal.exp_coe, ← Real.exp_add]; congr 2; ring
    · rw [EReal.bot_sub, Ideal.exp_bot, mul_zero, EReal.coe_zero]
  have hs : (∑ k : Fin N, Ideal.exp (score s ok k - (M : EReal))) = ((Real.exp (-M) * ∑ k ∈ Finset.range N, weight s ok k : ℝ) : EReal) := by
    rw [Finset.mul_sum, ← Fin.sum_univ_eq_sum_range (fun k => Real.exp (-M) * weight s ok k), ← coe_sum]
    exact Finset.sum_congr rfl fun k _ => he k
  have hp := (weight_pos ok s N h).ne'
  have hM := (Real.exp_pos (-M)).ne'
  rw [he, hs, Ideal.div_coe (mul_ne_zero hM hp), ← EReal.coe_mul, mul_one_div, mul_div_mul_left _ _ hM]

/-- THE REFERENCE'S SUM: the difference of two softmaxes against the values is the difference of two weighted means. -/
theorem diff_sum (s1 s2 v : ℕ → ℝ) (l : ℝ) (N : ℕ) :
    ∑ k : Fin N, (v k : EReal) * (((weight s1 ok k / ∑ j ∈ Finset.range N, weight s1 ok j : ℝ) : EReal)
        - (l : EReal) * ((weight s2 ok k / ∑ j ∈ Finset.range N, weight s2 ok j : ℝ) : EReal))
      = ((wmean N (weight s1 ok) v - l * wmean N (weight s2 ok) v : ℝ) : EReal) := by
  have : ∀ k : Fin N, (v k : EReal) * (((weight s1 ok k / ∑ j ∈ Finset.range N, weight s1 ok j : ℝ) : EReal)
        - (l : EReal) * ((weight s2 ok k / ∑ j ∈ Finset.range N, weight s2 ok j : ℝ) : EReal))
      = ((v k * (weight s1 ok k / ∑ j ∈ Finset.range N, weight s1 ok j) - l * (v k * (weight s2 ok k / ∑ j ∈ Finset.range N, weight s2 ok j)) : ℝ) : EReal) := by
    intro k
    rw [← EReal.coe_mul, ← EReal.coe_sub, ← EReal.coe_mul]; congr 1; ring
  rw [Finset.sum_congr rfl fun k _ => this k, coe_sum, Finset.sum_sub_distrib, ← Finset.mul_sum]
  unfold wmean
  rw [Finset.sum_div, Finset.sum_div, Fin.sum_univ_eq_sum_range (fun k => v k * (weight s1 ok k / ∑ j ∈ Finset.range N, weight s1 ok j)),
    Fin.sum_univ_eq_sum_range (fun k => v k * (weight s2 ok k / ∑ j ∈ Finset.range N, weight s2 ok j))]
  congr 2
  · exact Finset.sum_congr rfl fun c _ => by ring
  · congr 1; exact Finset.sum_congr rfl fun c _ => by ring

end Cert.DiffAttn

end
-- ==== Proof.Chunk.lean ====
/- ONE CHUNK of 256 keys, as the attention kernel's vector operations compute it, read entry by entry.
   A slot of scratch holds, for 512 rows, the running level (128 equal lanes) and the running sums (128 lanes of
   weighted values beside 128 lanes of the weights' own sum). `level` and `weighed` are what one chunk makes of them
   from its scores; every chunk the kernel computes, in the loop or after it, is of this form. -/
module

public import proofs.«01_k».proof.Proof.Gen.KernelIdeal.Value
public import proofs.«01_k».proof.Proof.Online
public import Idealize.ShloMosaic.Lib.Pointwise

@[expose] public section

set_option maxRecDepth 16384

noncomputable section

namespace Cert.DiffAttn

open Idealize.ShloMosaic Cert.KernelIdeal Cert.KernelIdeal.Gen

/-- The new level: the old one against the greatest score of the chunk. -/
def level (s : FVec Ideal S512x256 .f32) (m : Vec Ideal S1x512x128 .f32) : FVec Ideal S512x128 .f32 :=
  maximumf (shapeCast S512x128 m shapeCasts_S1x512x128_S512x128)
    (broadcastTo S512x128 (extf .f32 (shapeCast S512x1 (multiReduction .maximumf [1] S512 (truncf .bf16 s bitsLt_bf16_f32)
      0xFF80#16 reduces_S512x256_S512 (.inr rfl) rfl) shapeCasts_S512_S512x1) bitsLt_bf16_f32) broadcasts_S512x1_S512x128)

/-- The new sums: the old ones rescaled, and the chunk's weighted values added. -/
def weighed (s : FVec Ideal S512x256 .f32) (vv : FVec Ideal S256x256 .bf16) (m : Vec Ideal S1x512x128 .f32)
    (a : Vec Ideal S1x512x256 .f32) : FVec Ideal S512x256 .f32 :=
  addf
    (mulf (concatenate S512x256 1 [⟨S512x128, exp2 (subf (shapeCast S512x128 m shapeCasts_S1x512x128_S512x128) (level s m))⟩,
        ⟨S512x128, exp2 (subf (shapeCast S512x128 m shapeCasts_S1x512x128_S512x128) (level s m))⟩]
        concatenates_S512x128_S512x128_S512x256_d1)
      (shapeCast S512x256 a shapeCasts_S1x512x256_S512x256))
    (matmul dot_S512x256_S256x256_S512x256_1_0_0_1_n_n none
      (truncf .bf16 (exp2 (subf s (concatenate S512x256 1 [⟨S512x128, level s m⟩, ⟨S512x128, level s m⟩]
        concatenates_S512x128_S512x128_S512x256_d1))) bitsLt_bf16_f32)
      vv (constant S512x256 .f32 0x00000000#32))

theorem pay5_eq (q : Vec Ideal S2x256x64 .bf16) (kt : Vec Ideal S1x64x256 .bf16) (m : Vec Ideal S1x512x128 .f32) :
    k0_pay5 q kt m = level (k0_pay3 q kt) m := rfl

theorem pay6_eq (o : FVec Ideal S256x128 .bf16) (v : Vec Ideal S256x128 .bf16) (q : Vec Ideal S2x256x64 .bf16)
    (kt : Vec Ideal S1x64x256 .bf16) (m : Vec Ideal S1x512x128 .f32) (a : Vec Ideal S1x512x256 .f32) :
    k0_pay6 o v q kt m a = weighed (k0_pay3 q kt) (k0_pay2 o v) m a := rfl

theorem ofBits_bf16_bot : Ideal.ofBits (.bf16 : FTy) 0xFF80#16 = (⊥ : EReal) := by
  simp [Ideal.ofBits, Ideal.ieee, -EReal.coe_mul]

theorem level_apply (s : FVec Ideal S512x256 .f32) (m : Vec Ideal S1x512x128 .f32) (R : Fin 512) (l : Fin 128) :
    level s m (ix2 R l) = max (m (ix3 0 R l)) (Finset.univ.fold max ⊥ fun c : Fin 256 => s (ix2 R c)) := by
  pointwise [level]
  rw [ofBits_bf16_bot]

theorem scores_apply (q : Vec Ideal S2x256x64 .bf16) (kt : Vec Ideal S1x64x256 .bf16) (r : Fin 2) (p c : Fin 256) :
    k0_pay3 q kt (ix2 (⟨r.val * 256 + p.val, by omega⟩ : Fin 512) c) = ∑ d : Fin 64, q (ix3 r p d) * kt (ix3 0 d c) := by
  pointwise [k0_pay3]

theorem weighed_apply (s : FVec Ideal S512x256 .f32) (vv : FVec Ideal S256x256 .bf16) (m : Vec Ideal S1x512x128 .f32)
    (a : Vec Ideal S1x512x256 .f32) (R : Fin 512) (l : Fin 256) (h : EReal) (h' : EReal)
    (hm : ∀ l, m (ix3 0 R l) = h) (hl : ∀ l, level s m (ix2 R l) = h') :
    weighed s vv m a (ix2 R l) = Ideal.exp2 (h - h') * a (ix3 0 R l) + ∑ c : Fin 256, Ideal.exp2 (s (ix2 R c) - h') * vv (ix2 c l) := by
  pointwise [weighed]
  simp only [hm, hl, ite_self, dite_eq_ite]
  congr 1
  exact (Fin.sum_univ_add (a := 128) (b := 128) fun c : Fin 256 => Ideal.exp2 (s (ix2 R c) - h') * vv (ix2 c l)).symm

theorem values_apply (o : FVec Ideal S256x128 .bf16) (v : Vec Ideal S256x128 .bf16) (c l : Fin 256) :
    k0_pay2 o v (ix2 c l) = if h : l.val < 128 then v (ix2 c ⟨l.val, h⟩) else o (ix2 c ⟨l.val - 128, by omega⟩) := by
  pointwise [k0_pay2]

/-! ## What a slot holds -/

/-- Row `R` of a slot after `n` keys: all its level lanes are one number, and lane `l` of the sums goes with it. -/
def Slot (x : Fin 512 → ℕ → ℝ) (ok : Fin 512 → ℕ → Prop) [∀ R, DecidablePred (ok R)] (v : Fin 256 → ℕ → ℝ) (n : ℕ)
    (m : Vec Ideal S1x512x128 .f32) (a : Vec Ideal S1x512x256 .f32) : Prop :=
  ∀ R : Fin 512, ∃ h : EReal, (∀ l, m (ix3 0 R l) = h) ∧ Inv (x R) (ok R) v n h fun l => a (ix3 0 R l)

variable {x : Fin 512 → ℕ → ℝ} {ok : Fin 512 → ℕ → Prop} [∀ R, DecidablePred (ok R)] {v : Fin 256 → ℕ → ℝ} {n : ℕ}

/-- Before any key. -/
theorem Slot.zero {m : Vec Ideal S1x512x128 .f32} {a : Vec Ideal S1x512x256 .f32}
    (hm : ∀ R l, m (ix3 0 R l) = ⊥) (ha : ∀ R l, a (ix3 0 R l) = 0) : Slot x ok v 0 m a :=
  fun R => ⟨⊥, hm R, .inl ⟨fun c hc => absurd hc (Nat.not_lt_zero c), rfl, ha R⟩⟩

/-- One chunk more. -/
theorem Slot.step {m : Vec Ideal S1x512x128 .f32} {a : Vec Ideal S1x512x256 .f32} (h : Slot x ok v n m a)
    {s : FVec Ideal S512x256 .f32} {vv : FVec Ideal S256x256 .bf16}
    (hs : ∀ R (c : Fin 256), s (ix2 R c) = score (x R) (ok R) (n + c.val))
    (hv : ∀ (c l : Fin 256), vv (ix2 c l) = ((v l (n + c.val) : ℝ) : EReal))
    (hok : ∀ R, ∃ c < n + 256, ok R c) :
    Slot x ok v (n + 256) (shapeCast S1x512x128 (level s m) shapeCasts_S512x128_S1x512x128)
      (shapeCast S1x512x256 (weighed s vv m a) shapeCasts_S512x256_S1x512x256) := by
  intro R
  obtain ⟨μ, hμ, hinv⟩ := h R
  have hl : ∀ l, level s m (ix2 R l) = max μ (Finset.univ.fold max ⊥ fun c : Fin 256 => s (ix2 R c)) := fun l => by
    rw [level_apply, hμ]
  refine ⟨max μ (Finset.univ.fold max ⊥ fun c : Fin 256 => s (ix2 R c)), fun l => ?_, ?_⟩
  · pointwise
    exact hl l
  · refine DiffAttn.step (x R) (ok R) v n 256 (hok R) μ _ hinv _ (by simp only [hs]) _ fun l => ?_
    have := weighed_apply s vv m a R l μ _ hμ hl
    pointwise
    simpa only [hs, hv] using this

/-! ## One chunk's scores and values, from real operands -/

/-- The score of key `c` for row `R` of a slot: 512 rows are 2 sub-heads of 256 queries. -/
def xs (Q : Fin 2 → Fin 256 → Fin 64 → ℝ) (K : Fin 64 → ℕ → ℝ) (R : Fin 512) (c : ℕ) : ℝ :=
  ∑ d : Fin 64, Q ⟨R.val / 256, by omega⟩ ⟨R.val % 256, by omega⟩ d * K d c

/-- The values of key `c`: 128 of them, then 128 ones. -/
def vs (V : Fin 128 → ℕ → ℝ) (l : Fin 256) (c : ℕ) : ℝ := if h : l.val < 128 then V ⟨l.val, h⟩ c else 1

/-- Key `c` is not after the query of row `R`, in the block of queries that starts at `b`. -/
def okRow (b : ℕ) (R : Fin 512) (c : ℕ) : Prop := c ≤ b + R.val % 256

instance (b : ℕ) (R : Fin 512) : DecidablePred (okRow b R) := fun c => inferInstanceAs (Decidable (c ≤ _))

theorem scores_real {q : Vec Ideal S2x256x64 .bf16} {kt : Vec Ideal S1x64x256 .bf16} {Q : Fin 2 → Fin 256 → Fin 64 → ℝ}
    {K : Fin 64 → ℕ → ℝ} (n : ℕ) (hq : ∀ r p d, q (ix3 r p d) = ((Q r p d : ℝ) : EReal))
    (hk : ∀ d (c : Fin 256), kt (ix3 0 d c) = ((K d (n + c.val) : ℝ) : EReal)) (R : Fin 512) (c : Fin 256) :
    k0_pay3 q kt (ix2 R c) = ((xs Q K R (n + c.val) : ℝ) : EReal) := by
  have h := scores_apply q kt ⟨R.val / 256, by omega⟩ ⟨R.val % 256, by omega⟩ c
  have hR : (⟨R.val / 256 * 256 + R.val % 256, by omega⟩ : Fin 512) = R := Fin.ext (Nat.div_add_mod' _ _)
  simp only [hR] at h
  rw [h]
  simp only [hq, hk, ← EReal.coe_mul]
  rw [coe_sum]; rfl

/-- The scores of a chunk wholly before the block of queries: nothing is masked. -/
theorem scores_before {q : Vec Ideal S2x256x64 .bf16} {kt : Vec Ideal S1x64x256 .bf16} {Q : Fin 2 → Fin 256 → Fin 64 → ℝ}
    {K : Fin 64 → ℕ → ℝ} (n b : ℕ) (hb : n + 256 ≤ b) (hq : ∀ r p d, q (ix3 r p d) = ((Q r p d : ℝ) : EReal))
    (hk : ∀ d (c : Fin 256), kt (ix3 0 d c) = ((K d (n + c.val) : ℝ) : EReal)) (R : Fin 512) (c : Fin 256) :
    k0_pay3 q kt (ix2 R c) = score (xs Q K R) (okRow b R) (n + c.val) := by
  rw [scores_real n hq hk, score, if_pos]
  unfold okRow; omega

/-- The scores of the chunk on the diagonal: the bias removes the keys after the query. -/
theorem scores_diag {q : Vec Ideal S2x256x64 .bf16} {kt : Vec Ideal S1x64x256 .bf16} {Q : Fin 2 → Fin 256 → Fin 64 → ℝ}
    {K : Fin 64 → ℕ → ℝ} (n : ℕ) (hq : ∀ r p d, q (ix3 r p d) = ((Q r p d : ℝ) : EReal))
    (hk : ∀ d (c : Fin 256), kt (ix3 0 d c) = ((K d (n + c.val) : ℝ) : EReal)) (w : FVec Ideal S512x256 .f32)
    (hw : ∀ R c, w (ix2 R c) = if c.val ≤ R.val % 256 then 0 else ⊥) (R : Fin 512) (c : Fin 256) :
    addf (k0_pay3 q kt) w (ix2 R c) = score (xs Q K R) (okRow n R) (n + c.val) := by
  pointwise
  rw [scores_real n hq hk, score, hw]
  by_cases h : c.val ≤ R.val % 256
  · rw [if_pos h, if_pos (by unfold okRow; omega), add_zero]
  · rw [if_neg h, if_neg (by unfold okRow; omega), EReal.add_bot]

theorem values_real {o : FVec Ideal S256x128 .bf16} {w : Vec Ideal S256x128 .bf16} {V : Fin 128 → ℕ → ℝ} (n : ℕ)
    (ho : ∀ c l, o (ix2 c l) = 1) (hw : ∀ (c : Fin 256) l, w (ix2 c l) = ((V l (n + c.val) : ℝ) : EReal)) (c l : Fin 256) :
    k0_pay2 o w (ix2 c l) = ((vs V l (n + c.val) : ℝ) : EReal) := by
  rw [values_apply, vs]
  split
  · rw [hw]
  · rw [ho]; rfl

theorem ofBits_bf16_one : Ideal.ofBits (.bf16 : FTy) 0x3F80#16 = (1 : EReal) := by
  simp [Ideal.ofBits, Ideal.ieee, -EReal.coe_mul]
  norm_num

theorem ones_apply (c : Fin 256) (l : Fin 128) : k0_pay113 (F := Ideal) (ix2 c l) = 1 := by
  exact ofBits_bf16_one

/-- The mask of the kernel is `-∞`. -/
theorem mask_eq : (Named.named Cert.KernelIdeal.κ "mask" 0xF149F2CA#32 : Ideal .f32) = (⊥ : EReal) :=
  IdealRules.named_const.ideal_named_scalar _ _ _ _ rfl

/-- The bias: column `c` against row `R`, in the block of queries `j`. -/
theorem bias_apply (i : grid0.Coords) (R : Fin 512) (c : Fin 256) :
    k0_pay119 (F := Ideal) (iota .tc S512x256 32 [1] iota_S512x256_d1_w32) (k0_pay110 i) (k0_pay118 i) (ix2 R c)
      = if c.val ≤ R.val % 256 then 0 else ⊥ := by
  have hi : (i 1).val < 8 := (i 1).isLt
  pointwise [k0_pay119, k0_pay110, k0_pay118]
  rw [mask_eq, show IntOp.andi (BitVec.ofNat 32 R.val) 255#32 = BitVec.ofNat 32 (R.val % 256) from
    BitVec.eq_of_toNat_eq (by
      simp only [IntOp.andi, BitVec.toNat_and, BitVec.toNat_ofNat]
      rw [show 255 % 2 ^ 32 = 2 ^ 8 - 1 by norm_num, Nat.and_two_pow_sub_one_eq_mod]
      omega)]
  generalize (i 1).val = j at hi
  have hw : Scalar.muli (Scalar.subi (Scalar.addi (Scalar.shrui (Scalar.subi (Scalar.muli (Scalar.addi (BitVec.ofNat 32 j) 1#32)
      256#32) 1#32) 8#32) 1#32) 1#32) 256#32 = BitVec.ofNat 32 (256 * j) := by
    interval_cases j <;> rfl
  have hw' : Scalar.muli (BitVec.ofNat 32 j) 256#32 = BitVec.ofNat 32 (256 * j) := by
    interval_cases j <;> rfl
  rw [hw, hw']
  simp only [IntOp.addi, ← BitVec.ofNat_add]
  rw [WordCmp.cmpi_sle_ofNat (by omega) (by omega)]
  by_cases h : c.val ≤ R.val % 256
  · rw [if_pos h, decide_eq_true (by omega)]; rfl
  · rw [if_neg h, decide_eq_false (by omega)]; rfl

end Cert.DiffAttn

end
-- ==== Proof.Slots.lean ====
/- SLOTS of scratch: 8 slots side by side on the first axis of a buffer, each stored and loaded whole. What a load
   gives is the slot's contents, a store of one slot leaves the others, and a list of stores of distinct slots is read
   slot by slot. Beside it, the loads from the operand blocks. -/
module

public import proofs.«01_k».proof.Proof.Chunk
public import Idealize.ShloMosaic.Lib.WritesUnit
public import Idealize.ShloMosaic.Lib.VecWindow

@[expose] public section

set_option maxRecDepth 16384

noncomputable section

namespace Cert.DiffAttn

open Idealize.ShloMosaic Idealize.SL.Sem

variable {sig : RefSig} {κ : Kind} {sp : Space} {e : EltTy} {Val : EltTy → Type}

/-- A load of a unit-stride window, at one of its entries. -/
theorem load_apply {s : Shape} (v : View sig κ sp s e) (f : v.ty.Contents Val) {off size : Fin s.rank → ℕ}
    (inb : ∀ a, off a + size a ≤ s.size a) (y : (Rect.unit off size inb).shape.Idx) (z : s.Idx)
    (h : ∀ a, (z a).val = off a + (y a).val) : v.readAt Val (Rect.unit off size inb).toLoadRect f y = v.read Val f z := by
  rw [View.readAt_unit v f inb rfl inb]
  unfold VecWindow.window
  congr 1
  funext a
  exact Fin.ext (by rw [h a]; show off a + 1 * (y a).val = _; rw [Nat.one_mul])

section Slot

variable {W : ℕ} (v : View sig κ sp (⟨3, ![8, 512, W]⟩ : Shape) e) (f : v.ty.Contents Val)

/-- Slot `u` of a buffer. -/
def slotOf (u : Fin 8) : (⟨3, ![1, 512, W]⟩ : Shape).Idx → Val e := fun y => v.read Val f (ix3 u (y 1) (y 2))

theorem slot_inb (u : Fin 8) : ∀ a, (![u.val, 0, 0] : Fin 3 → ℕ) a + (![1, 512, W] : Fin 3 → ℕ) a ≤ (![8, 512, W] : Fin 3 → ℕ) a := by
  intro a; fin_cases a <;> simp

/-- A load of a slot gives its contents. -/
theorem load_slot (u : Fin 8) (inb : ∀ a, (![u.val, 0, 0] : Fin 3 → ℕ) a + (![1, 512, W] : Fin 3 → ℕ) a ≤ (![8, 512, W] : Fin 3 → ℕ) a) :
    v.readAt Val (Rect.unit (s := (⟨3, ![8, 512, W]⟩ : Shape)) ![u.val, 0, 0] ![1, 512, W] inb).toLoadRect f = slotOf v f u := by
  funext y
  refine load_apply v f inb y _ fun a => ?_
  have h0 : (y 0).val < 1 := (y 0).isLt
  fin_cases a
  · show u.val = u.val + (y 0).val; omega
  · exact (Nat.zero_add _).symm
  · exact (Nat.zero_add _).symm

/-- A store of a slot, on top of others: that slot holds what was stored. -/
theorem slotOf_store (u : Fin 8) (inb : ∀ a, (![u.val, 0, 0] : Fin 3 → ℕ) a + (![1, 512, W] : Fin 3 → ℕ) a ≤ (![8, 512, W] : Fin 3 → ℕ) a)
    (w : (⟨3, ![1, 512, W]⟩ : Shape).Idx → Val e) (L : List (View.Piece Val (⟨3, ![8, 512, W]⟩ : Shape) e)) :
    slotOf v (v.writes Val f ((⟨Rect.unit (s := (⟨3, ![8, 512, W]⟩ : Shape)) ![u.val, 0, 0] ![1, 512, W] inb, w⟩ :
      View.Piece Val (⟨3, ![8, 512, W]⟩ : Shape) e) :: L)) u = w := by
  funext y
  refine View.read_writes_cons_unit_of_mem v f inb w L (ix3 u (y 1) (y 2)) y rfl fun a => ?_
  have h0 : (y 0).val < 1 := (y 0).isLt
  fin_cases a
  · show u.val = u.val + (y 0).val; omega
  · exact (Nat.zero_add _).symm
  · exact (Nat.zero_add _).symm

/-- The other slots are left. -/
theorem slotOf_other {u u' : Fin 8} (hu : u ≠ u')
    (inb : ∀ a, (![u'.val, 0, 0] : Fin 3 → ℕ) a + (![1, 512, W] : Fin 3 → ℕ) a ≤ (![8, 512, W] : Fin 3 → ℕ) a)
    (w : (⟨3, ![1, 512, W]⟩ : Shape).Idx → Val e) (L : List (View.Piece Val (⟨3, ![8, 512, W]⟩ : Shape) e)) :
    slotOf v (v.writes Val f ((⟨Rect.unit (s := (⟨3, ![8, 512, W]⟩ : Shape)) ![u'.val, 0, 0] ![1, 512, W] inb, w⟩ :
      View.Piece Val (⟨3, ![8, 512, W]⟩ : Shape) e) :: L)) u = slotOf v (v.writes Val f L) u := by
  funext y
  refine View.read_writes_cons_unit_of_not_mem v f inb w L (ix3 u (y 1) (y 2)) rfl 0 ?_
  have : u.val ≠ u'.val := fun h => hu (Fin.ext h)
  show u.val < u'.val ∨ u'.val + 1 ≤ u.val
  omega

/-- The store of slot `u`. -/
def storeSlot (w : Fin 8 → (⟨3, ![1, 512, W]⟩ : Shape).Idx → Val e) (u : Fin 8) : View.Piece Val (⟨3, ![8, 512, W]⟩ : Shape) e :=
  ⟨Rect.unit (s := (⟨3, ![8, 512, W]⟩ : Shape)) ![u.val, 0, 0] ![1, 512, W] (slot_inb u), w u⟩

/-- Stores of distinct slots, read slot by slot. -/
theorem slotOf_stores (w : Fin 8 → (⟨3, ![1, 512, W]⟩ : Shape).Idx → Val e) (u : Fin 8) :
    ∀ l : List (Fin 8), u ∈ l → slotOf v (v.writes Val f (l.map (storeSlot w))) u = w u
  | [], h => by simp at h
  | u' :: l, h => by
    rw [List.map_cons]
    by_cases hu : u = u'
    · subst hu; exact slotOf_store v f u _ _ _
    · exact (slotOf_other v f hu _ _ _).trans (slotOf_stores w u l (by simpa [hu] using h))

/-- A whole store under nothing else fills every slot. -/
theorem slotOf_full (u : Fin 8) (inb : ∀ a, (![0, 0, 0] : Fin 3 → ℕ) a + (![8, 512, W] : Fin 3 → ℕ) a ≤ (![8, 512, W] : Fin 3 → ℕ) a)
    (w : (⟨3, ![8, 512, W]⟩ : Shape).Idx → Val e) (y) :
    slotOf v (v.writes Val f [(⟨Rect.unit (s := (⟨3, ![8, 512, W]⟩ : Shape)) ![0, 0, 0] ![8, 512, W] inb, w⟩ :
      View.Piece Val (⟨3, ![8, 512, W]⟩ : Shape) e)]) u y = w (ix3 u (y 1) (y 2)) := by
  refine View.read_writes_cons_unit_of_mem v f inb w [] (ix3 u (y 1) (y 2)) (ix3 u (y 1) (y 2)) rfl fun a => ?_
  fin_cases a <;> exact (Nat.zero_add _).symm

end Slot

/-! ## The operand blocks -/

/-- Two sub-heads of queries, from the block of 16. -/
theorem load_q (v : View sig κ sp (⟨3, ![16, 256, 64]⟩ : Shape) e) (f : v.ty.Contents Val) (u : Fin 8)
    (inb : ∀ a, (![2 * u.val, 0, 0] : Fin 3 → ℕ) a + (![2, 256, 64] : Fin 3 → ℕ) a ≤ (![16, 256, 64] : Fin 3 → ℕ) a)
    (r : Fin 2) (p : Fin 256) (d : Fin 64) :
    v.readAt Val (Rect.unit (s := (⟨3, ![16, 256, 64]⟩ : Shape)) ![2 * u.val, 0, 0] ![2, 256, 64] inb).toLoadRect f (ix3 r p d)
      = v.read Val f (ix3 ⟨2 * u.val + r.val, by omega⟩ p d) := by
  refine load_apply v f inb _ _ fun a => ?_
  fin_cases a
  · rfl
  · exact (Nat.zero_add _).symm
  · exact (Nat.zero_add _).symm

/-- 256 keys from key `n` on. -/
theorem load_k (v : View sig κ sp (⟨3, ![8, 64, 2048]⟩ : Shape) e) (f : v.ty.Contents Val) (u : Fin 8) (n : ℕ) {off : Fin 3 → ℕ}
    (hoff : off = ![u.val, 0, n]) (hn : n + 256 ≤ 2048)
    (inb : ∀ a, off a + (![1, 64, 256] : Fin 3 → ℕ) a ≤ (![8, 64, 2048] : Fin 3 → ℕ) a) (d : Fin 64) (c : Fin 256) :
    v.readAt Val (Rect.unit (s := (⟨3, ![8, 64, 2048]⟩ : Shape)) off ![1, 64, 256] inb).toLoadRect f (ix3 0 d c)
      = v.read Val f (ix3 u d ⟨n + c.val, by omega⟩) := by
  subst hoff
  refine load_apply v f inb _ _ fun a => ?_
  fin_cases a
  · rfl
  · exact (Nat.zero_add _).symm
  · rfl

/-- 256 values from key `n` on, of key-value head `g`. -/
theorem load_v (v : View sig κ sp (⟨2, ![2048, 512]⟩ : Shape) e) (f : v.ty.Contents Val) (g : Fin 4) (n : ℕ) {off : Fin 2 → ℕ}
    (hoff : off = ![n, 128 * g.val]) (hn : n + 256 ≤ 2048)
    (inb : ∀ a, off a + (![256, 128] : Fin 2 → ℕ) a ≤ (![2048, 512] : Fin 2 → ℕ) a) (c : Fin 256) (l : Fin 128) :
    v.readAt Val (Rect.unit (s := (⟨2, ![2048, 512]⟩ : Shape)) off ![256, 128] inb).toLoadRect f (ix2 c l)
      = v.read Val f (ix2 ⟨n + c.val, by omega⟩ ⟨128 * g.val + l.val, by omega⟩) := by
  subst hoff
  refine load_apply v f inb _ _ fun a => ?_
  fin_cases a <;> rfl

end Cert.DiffAttn

end
-- ==== Proof.Loop.lean ====
/- THE LOOP over the chunks before the block of queries: after `k` trips every slot of the two scratch buffers holds
   the levels and sums of the first `256 * k` keys. One trip stores its 8 slots once each, from what it found there. -/
module

public import proofs.«01_k».proof.Proof.Slots
public import Idealize.ShloMosaic.Lib.LoopRemainder

@[expose] public section

set_option maxRecDepth 16384

noncomputable section

namespace Cert.DiffAttn

open Idealize.ShloMosaic Idealize.ShloMosaic.TcCoe Idealize.SL.Sem Cert.KernelIdeal Cert.KernelIdeal.Gen

variable (𝒱 : Variants) (c : Dev nD) (bd : Option 𝒱.V) (i : grid0.Coords) (arg2 : Memref sig .tc .vmem S16x256x64 .bf16) (harg2 : arg2.IsWhole) (arg3 : Memref sig .tc .vmem S8x64x2048 .bf16) (harg3 : arg3.IsWhole) (arg4 : Memref sig .tc .vmem S2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S256x1024 .bf16) (harg10 : arg10.IsWhole) (arg11 : Memref sig .tc .vmem S8x512x128 .f32) (harg11 : arg11.IsWhole) (arg12 : Memref sig .tc .vmem S8x512x256 .f32) (harg12 : arg12.IsWhole)
  (X_arg2 : BufTy.Contents (Elt Ideal) arg2.view.ty) (X_arg3 : BufTy.Contents (Elt Ideal) arg3.view.ty) (X_arg4 : BufTy.Contents (Elt Ideal) arg4.view.ty) (k : Fin (k0_t1_loop i).trips) (f_arg11 : BufTy.Contents (Elt Ideal) arg11.view.ty) (f_arg12 : BufTy.Contents (Elt Ideal) arg12.view.ty)

/-- The offset of the chunk of trip `k`. -/
def word (k : ℕ) : ℕ := (Scalar.indexCast (Scalar.muli (Scf.iv 0#32 1#32 k) 256#32)).toNat

theorem koff_inb (u : Fin 8) : ∀ a, (![u.val, 0, word k.val] : Fin 3 → ℕ) a + (![1, 64, 256] : Fin 3 → ℕ) a ≤ (![8, 64, 2048] : Fin 3 → ℕ) a := by
  have h := k0_off2_inb i k
  intro a
  have h2 := h 2
  fin_cases a
  · simp
  · simp
  · exact h2

theorem voff_inb (g : Fin 4) : ∀ a, (![word k.val, 128 * g.val] : Fin 2 → ℕ) a + (![256, 128] : Fin 2 → ℕ) a ≤ (![2048, 512] : Fin 2 → ℕ) a := by
  have h := k0_off1_inb i k
  intro a
  have h2 := h 0
  fin_cases a
  · exact h2
  · show 128 * g.val + 128 ≤ 512; omega

theorem qoff_inb (u : Fin 8) : ∀ a, (![2 * u.val, 0, 0] : Fin 3 → ℕ) a + (![2, 256, 64] : Fin 3 → ℕ) a ≤ (![16, 256, 64] : Fin 3 → ℕ) a := by
  intro a
  fin_cases a
  · show 2 * u.val + 2 ≤ 16; omega
  · simp
  · simp

/-- The queries of slot `u`. -/
def qOf (u : Fin 8) : Vec Ideal S2x256x64 .bf16 :=
  arg2.view.readAt (Elt Ideal) (Rect.unit (s := S16x256x64) ![2 * u.val, 0, 0] S2x256x64.size (qoff_inb u)).toLoadRect X_arg2

/-- The keys of slot `u` in trip `k`. -/
def kOf (u : Fin 8) : Vec Ideal S1x64x256 .bf16 :=
  arg3.view.readAt (Elt Ideal) (Rect.unit (s := S8x64x2048) ![u.val, 0, word k.val] S1x64x256.size (koff_inb i k u)).toLoadRect X_arg3

/-- The values of head `g` in trip `k`. -/
def vOf (g : Fin 4) : Vec Ideal S256x128 .bf16 :=
  arg4.view.readAt (Elt Ideal) (Rect.unit (s := S2048x512) ![word k.val, 128 * g.val] S256x128.size (voff_inb i k g)).toLoadRect X_arg4

/-- The level a trip leaves in slot `u`. -/
def tripLevel (u : Fin 8) : Vec Ideal S1x512x128 .f32 :=
  shapeCast S1x512x128 (level (k0_pay3 (qOf arg2 X_arg2 u) (kOf i arg3 X_arg3 k u)) (arg11.view.readAt (Elt Ideal)
    (Rect.unit (s := S8x512x128) ![u.val, 0, 0] S1x512x128.size (slot_inb u)).toLoadRect f_arg11)) shapeCasts_S512x128_S1x512x128

/-- The sums a trip leaves in slot `u`. -/
def tripSums (u : Fin 8) : Vec Ideal S1x512x256 .f32 :=
  shapeCast S1x512x256 (weighed (k0_pay3 (qOf arg2 X_arg2 u) (kOf i arg3 X_arg3 k u)) (k0_pay2 k0_pay113 (vOf i arg4 X_arg4 k ⟨u.val / 2, by omega⟩))
    (arg11.view.readAt (Elt Ideal) (Rect.unit (s := S8x512x128) ![u.val, 0, 0] S1x512x128.size (slot_inb u)).toLoadRect f_arg11)
    (arg12.view.readAt (Elt Ideal) (Rect.unit (s := S8x512x256) ![u.val, 0, 0] S1x512x256.size (slot_inb u)).toLoadRect f_arg12)) shapeCasts_S512x256_S1x512x256

set_option maxHeartbeats 2000000 in
theorem trip_levels :
    (tripL_k0_t1 (F := Ideal) 𝒱 c bd i arg2 harg2 arg3 harg3 arg4 harg4 arg5 harg5 arg6 harg6 arg7 harg7 arg8 harg8 arg9 harg9 arg10 harg10 arg11 harg11 arg12 harg12 X_arg2 X_arg3 X_arg4 k f_arg11 f_arg12).1
      = [7, 6, 5, 4, 3, 2, 1, 0].map (storeSlot (tripLevel i arg2 arg3 arg11 X_arg2 X_arg3 k f_arg11)) := by
  dsimp only [tripL_k0_t1]
  unfold trip_k0_t1
  rfl

set_option maxHeartbeats 2000000 in
theorem trip_sums :
    (tripL_k0_t1 (F := Ideal) 𝒱 c bd i arg2 harg2 arg3 harg3 arg4 harg4 arg5 harg5 arg6 harg6 arg7 harg7 arg8 harg8 arg9 harg9 arg10 harg10 arg11 harg11 arg12 harg12 X_arg2 X_arg3 X_arg4 k f_arg11 f_arg12).2
      = [7, 6, 5, 4, 3, 2, 1, 0].map (storeSlot (tripSums i arg2 arg3 arg4 arg11 arg12 X_arg2 X_arg3 X_arg4 k f_arg11 f_arg12)) := by
  dsimp only [tripL_k0_t1]
  unfold trip_k0_t1
  rfl

/-! ## The words -/

theorem word_eq {k : ℕ} (hk : k < 8) : word k = 256 * k := by
  unfold word; interval_cases k <;> rfl

/-- The loop makes as many trips as there are blocks of keys before the block of queries. -/
theorem trips_eq : (k0_t1_loop i).trips = (i 1).val := by
  have hi : (i 1).val < 8 := (i 1).isLt
  unfold Scf.Loop.trips k0_t1_loop
  dsimp only
  generalize (i 1).val = j at hi
  interval_cases j <;> rfl

/-- The remainder loop makes none. -/
theorem trips2_eq : (k0_t2_loop i).trips = 0 := by
  unfold Scf.Loop.trips k0_t2_loop
  dsimp only
  exact Scf.rem_trips _ _

/-! ## The real operands of one block -/

/-- The queries of slot `u`. -/
def Qs (Q : Fin 16 → Fin 256 → Fin 64 → ℝ) (u : Fin 8) (r : Fin 2) : Fin 256 → Fin 64 → ℝ := Q ⟨2 * u.val + r.val, by omega⟩

/-- The values of slot `u`: those of key-value head `u / 2`. -/
def Vs (V : Fin 512 → ℕ → ℝ) (u : Fin 8) (l : Fin 128) : ℕ → ℝ := V ⟨128 * (u.val / 2) + l.val, by omega⟩

/-- The contents of slot `u` after `n` keys. -/
def SlotAt (Q : Fin 16 → Fin 256 → Fin 64 → ℝ) (K : Fin 8 → Fin 64 → ℕ → ℝ) (V : Fin 512 → ℕ → ℝ) (b n : ℕ) (u : Fin 8)
    (m : Vec Ideal S1x512x128 .f32) (a : Vec Ideal S1x512x256 .f32) : Prop :=
  Slot (xs (Qs Q u) (K u)) (okRow b) (vs (Vs V u)) n m a

variable (Q : Fin 16 → Fin 256 → Fin 64 → ℝ) (K : Fin 8 → Fin 64 → ℕ → ℝ) (V : Fin 512 → ℕ → ℝ)

variable {arg2 arg3 arg4 X_arg2 X_arg3 X_arg4 Q K V} in
/-- One trip on one slot. -/
theorem trip_slot (hq : ∀ s p d, arg2.view.read (Elt Ideal) X_arg2 (ix3 s p d) = ((Q s p d : ℝ) : EReal))
    (hk : ∀ u d (c : Fin 2048), arg3.view.read (Elt Ideal) X_arg3 (ix3 u d c) = ((K u d c.val : ℝ) : EReal))
    (hv : ∀ (c : Fin 2048) j, arg4.view.read (Elt Ideal) X_arg4 (ix2 c j) = ((V j c.val : ℝ) : EReal)) (u : Fin 8)
    (h : SlotAt Q K V (256 * (i 1).val) (256 * k.val) u (slotOf arg11.view f_arg11 u) (slotOf arg12.view f_arg12 u)) :
    SlotAt Q K V (256 * (i 1).val) (256 * (k.val + 1)) u (tripLevel i arg2 arg3 arg11 X_arg2 X_arg3 k f_arg11 u)
      (tripSums i arg2 arg3 arg4 arg11 arg12 X_arg2 X_arg3 X_arg4 k f_arg11 f_arg12 u) := by
  have hi : (i 1).val < 8 := (i 1).isLt
  have hki : k.val < (i 1).val := lt_of_lt_of_eq k.isLt (trips_eq i)
  have hw : word k.val = 256 * k.val := word_eq (by omega)
  unfold tripLevel tripSums
  rw [load_slot arg11.view f_arg11 u, load_slot arg12.view f_arg12 u]
  refine Slot.step h (fun R c => ?_) (fun c l => ?_) fun R => ⟨0, by omega, Nat.zero_le _⟩
  · refine scores_before (256 * k.val) (256 * (i 1).val) (by omega) (fun r p d => ?_) (fun d c => ?_) R c
    · exact (load_q arg2.view X_arg2 u _ r p d).trans (hq _ _ _)
    · exact (load_k arg3.view X_arg3 u (256 * k.val) (by rw [hw]) (by omega) _ d c).trans (hk _ _ _)
  · refine values_real (256 * k.val) ones_apply (fun c l => ?_) c l
    exact (load_v arg4.view X_arg4 ⟨u.val / 2, by omega⟩ (256 * k.val) (by rw [hw]) (by omega) _ c l).trans (hv _ _)

variable {arg2 arg3 arg4 X_arg2 X_arg3 X_arg4 Q K V} in
/-- The loop, trip by trip. -/
theorem loop_slots (hq : ∀ s p d, arg2.view.read (Elt Ideal) X_arg2 (ix3 s p d) = ((Q s p d : ℝ) : EReal))
    (hk : ∀ u d (c : Fin 2048), arg3.view.read (Elt Ideal) X_arg3 (ix3 u d c) = ((K u d c.val : ℝ) : EReal))
    (hv : ∀ (c : Fin 2048) j, arg4.view.read (Elt Ideal) X_arg4 (ix2 c j) = ((V j c.val : ℝ) : EReal))
    (h0 : ∀ u, SlotAt Q K V (256 * (i 1).val) 0 u (slotOf arg11.view f_arg11 u) (slotOf arg12.view f_arg12 u)) (u : Fin 8) :
    ∀ n, n ≤ (k0_t1_loop i).trips → SlotAt Q K V (256 * (i 1).val) (256 * n) u
      (slotOf arg11.view (arg11.view.writes (Elt Ideal) f_arg11 (pb_k0_t1 (F := Ideal) 𝒱 c bd i arg2 harg2 arg3 harg3 arg4 harg4 arg5 harg5 arg6 harg6 arg7 harg7 arg8 harg8 arg9 harg9 arg10 harg10 arg11 harg11 arg12 harg12 X_arg2 X_arg3 X_arg4 f_arg11 f_arg12 n).1) u)
      (slotOf arg12.view (arg12.view.writes (Elt Ideal) f_arg12 (pb_k0_t1 (F := Ideal) 𝒱 c bd i arg2 harg2 arg3 harg3 arg4 harg4 arg5 harg5 arg6 harg6 arg7 harg7 arg8 harg8 arg9 harg9 arg10 harg10 arg11 harg11 arg12 harg12 X_arg2 X_arg3 X_arg4 f_arg11 f_arg12 n).2) u) := by
  intro n
  induction n with
  | zero => intro _; exact h0 u
  | succ n ih =>
    intro hn
    have hs := trip_slot i arg11 arg12 ⟨n, hn⟩ _ _ hq hk hv u (ih (by omega))
    have e := pb_k0_t1_succ (F := Ideal) 𝒱 c bd i arg2 harg2 arg3 harg3 arg4 harg4 arg5 harg5 arg6 harg6 arg7 harg7 arg8 harg8 arg9 harg9 arg10 harg10 arg11 harg11 arg12 harg12 X_arg2 X_arg3 X_arg4 f_arg11 f_arg12 ⟨n, hn⟩
    rw [trip_levels, trip_sums] at e
    have hu : u ∈ ([7, 6, 5, 4, 3, 2, 1, 0] : List (Fin 8)) := by fin_cases u <;> decide
    rw [e]
    dsimp only
    rw [View.writes_append, View.writes_append, slotOf_stores _ _ _ u _ hu, slotOf_stores _ _ _ u _ hu]
    exact hs

end Cert.DiffAttn

end
-- ==== Proof.Body.lean ====
/- THE BODY of the attention kernel at one grid point: after the loop the chunk on the diagonal goes over the 8 slots one
   after the other, and the two slots of each pair of heads are divided out, combined and normalised. The run's stores,
   as lists over the slots and over the heads. -/
module

public import proofs.«01_k».proof.Proof.Loop

@[expose] public section

set_option maxRecDepth 16384

noncomputable section

namespace Cert.DiffAttn

open Idealize.ShloMosaic Idealize.ShloMosaic.TcCoe Idealize.SL.Sem Cert.KernelIdeal Cert.KernelIdeal.Gen

/-! ## Dividing out one head -/

theorem rows_slice (r : Fin 2) : S512x256.Slices ![256 * r.val, 0] S256x256 := by
  fin_cases r
  · exact slices_S512x256_o0_0_S256x256
  · exact slices_S512x256_o256_0_S256x256

/-- The mean of sub-head `r`'s rows under slot `a`: weighted values over the weights' sum. -/
def mean (a : Vec Ideal S1x512x256 .f32) (r : Fin 2) : FVec Ideal S256x128 .f32 :=
  divf (extractStridedSlice S256x128 ![0, 0] (extractStridedSlice S256x256 ![256 * r.val, 0] (shapeCast S512x256 a shapeCasts_S1x512x256_S512x256)
      (rows_slice r)) slices_S256x256_o0_0_S256x128)
    (extractStridedSlice S256x128 ![0, 128] (extractStridedSlice S256x256 ![256 * r.val, 0] (shapeCast S512x256 a shapeCasts_S1x512x256_S512x256)
      (rows_slice r)) slices_S256x256_o0_128_S256x128)

/-- The difference of the two means, the second times lambda. -/
def diff (lam : FVec Ideal S1x1 .f32) (a b : Vec Ideal S1x512x256 .f32) (r : Fin 2) : FVec Ideal S256x128 .f32 :=
  subf (mean a r) (mulf (broadcastTo S256x128 lam broadcasts_S1x1_S256x128) (mean b r))

/-- One head's output: the difference, normalised over its 128 lanes, times the gains. -/
def headOut (lam : FVec Ideal S1x1 .f32) (gs : FVec Ideal S1x128 .f32) (a b : Vec Ideal S1x512x256 .f32) (r : Fin 2) :
    FVec Ideal S256x128 .bf16 :=
  truncf .bf16 (mulf (mulf (mulf (diff lam a b r) (broadcastTo S256x128 (rsqrt (addf (divf (shapeCast S256x1
      (multiReduction .add [1] S256 (mulf (diff lam a b r) (diff lam a b r)) 0x00000000#32 reduces_S256x128_S256 (.inl rfl) rfl)
      shapeCasts_S256_S256x1) (broadcast S256x1 (Scalar.ofBits .f32 0x43000000#32))) (broadcast S256x1 (Scalar.ofBits .f32 0x3727C5AC#32))))
      broadcasts_S256x1_S256x128)) (broadcastTo S256x128 gs broadcasts_S1x128_S256x128)) (broadcast S256x128 (Scalar.ofBits .f32 0x3F24FD5C#32)))
    bitsLt_bf16_f32

/-- Lambda, from the four rows of 64. -/
def lambda (a b a' b' : Vec Ideal S1x64 .f32) : FVec Ideal S1x1 .f32 := k0_pay180 (k0_pay178 a b a' b') k0_pay179

section Run

variable (c : Dev nD) (i : grid0.Coords) (arg2 : Memref sig .tc .vmem S16x256x64 .bf16) (harg2 : arg2.IsWhole) (arg3 : Memref sig .tc .vmem S8x64x2048 .bf16) (harg3 : arg3.IsWhole) (arg4 : Memref sig .tc .vmem S2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S256x1024 .bf16) (harg10 : arg10.IsWhole) (arg11 : Memref sig .tc .vmem S8x512x128 .f32) (harg11 : arg11.IsWhole) (arg12 : Memref sig .tc .vmem S8x512x256 .f32) (harg12 : arg12.IsWhole)
  (X_arg2 : BufTy.Contents (Elt Ideal) arg2.view.ty) (X_arg3 : BufTy.Contents (Elt Ideal) arg3.view.ty) (X_arg4 : BufTy.Contents (Elt Ideal) arg4.view.ty)

/-! ## The chunk on the diagonal -/

/-- The offset of the chunk on the diagonal. -/
def dword (i : grid0.Coords) : ℕ :=
  (Scalar.indexCast (Scalar.muli (Scalar.subi (Scalar.addi (Scalar.shrui (Scalar.subi (Scalar.muli (Scalar.addi
    (BitVec.ofNat 32 (i 1).val) 1#32) 256#32) 1#32) 8#32) 1#32) 1#32) 256#32)).toNat

theorem dword_eq (i : grid0.Coords) : dword i = 256 * (i 1).val := by
  have hi : (i 1).val < 8 := (i 1).isLt
  unfold dword
  generalize (i 1).val = j at hi
  interval_cases j <;> rfl

theorem kd_inb (u : Fin 8) : ∀ a, (![u.val, 0, dword i] : Fin 3 → ℕ) a + (![1, 64, 256] : Fin 3 → ℕ) a ≤ (![8, 64, 2048] : Fin 3 → ℕ) a := by
  intro a
  have hi : (i 1).val < 8 := (i 1).isLt
  have hd := dword_eq i
  fin_cases a
  · simp
  · simp
  · show dword i + 256 ≤ 2048; omega

theorem vd_inb (g : Fin 4) : ∀ a, (![dword i, 128 * g.val] : Fin 2 → ℕ) a + (![256, 128] : Fin 2 → ℕ) a ≤ (![2048, 512] : Fin 2 → ℕ) a := by
  intro a
  have hi : (i 1).val < 8 := (i 1).isLt
  have hd := dword_eq i
  fin_cases a
  · show dword i + 256 ≤ 2048; omega
  · show 128 * g.val + 128 ≤ 512; omega

/-- The keys of slot `u` on the diagonal. -/
def kdOf (u : Fin 8) : Vec Ideal S1x64x256 .bf16 :=
  arg3.view.readAt (Elt Ideal) (Rect.unit (s := S8x64x2048) ![u.val, 0, dword i] S1x64x256.size (kd_inb i u)).toLoadRect X_arg3

/-- The values of head `g` on the diagonal. -/
def vdOf (g : Fin 4) : Vec Ideal S256x128 .bf16 :=
  arg4.view.readAt (Elt Ideal) (Rect.unit (s := S2048x512) ![dword i, 128 * g.val] S256x128.size (vd_inb i g)).toLoadRect X_arg4

/-- The bias of the diagonal chunk. -/
def bias : FVec Ideal S512x256 .f32 :=
  k0_pay119 (F := Ideal) (iota .tc S512x256 32 [1] iota_S512x256_d1_w32) (k0_pay110 i) (k0_pay118 i)

/-- The stores into the two scratch buffers. -/
abbrev Stores := List (View.Piece (Elt Ideal) S8x512x128 .f32) × List (View.Piece (Elt Ideal) S8x512x256 .f32)

/-- The stores of the diagonal chunk into slot `u`, after the stores `p`. -/
def diagStep (p : Stores) (u : Fin 8) : Stores :=
  (storeSlot (fun u => shapeCast S1x512x128 (level (addf (k0_pay3 (qOf arg2 X_arg2 u) (kdOf i arg3 X_arg3 u)) (bias i))
      (arg11.view.readCov p.1 (Rect.unit (s := S8x512x128) ![u.val, 0, 0] S1x512x128.size (slot_inb u)).toLoadRect)) shapeCasts_S512x128_S1x512x128) u :: p.1,
   storeSlot (fun u => shapeCast S1x512x256 (weighed (addf (k0_pay3 (qOf arg2 X_arg2 u) (kdOf i arg3 X_arg3 u)) (bias i))
      (k0_pay2 k0_pay113 (vdOf i arg4 X_arg4 ⟨u.val / 2, by omega⟩))
      (arg11.view.readCov p.1 (Rect.unit (s := S8x512x128) ![u.val, 0, 0] S1x512x128.size (slot_inb u)).toLoadRect)
      (arg12.view.readCov p.2 (Rect.unit (s := S8x512x256) ![u.val, 0, 0] S1x512x256.size (slot_inb u)).toLoadRect)) shapeCasts_S512x256_S1x512x256) u :: p.2)

/-- The stores before the loop: every slot empty. -/
def initStores : Stores :=
  ([⟨Rect.unit (s := S8x512x128) ![0, 0, 0] S8x512x128.size inb_S8x512x128_S8x512x128_0_0_0, k0_pay111 (F := Ideal)⟩],
   [⟨Rect.unit (s := S8x512x256) ![0, 0, 0] S8x512x256.size inb_S8x512x256_S8x512x256_0_0_0, k0_pay112 (F := Ideal)⟩])

/-- The stores up to the end of the first loop. -/
def loopStores : Stores :=
  let p := pb_k0_t1 (F := Ideal) .none c none i arg2 harg2 arg3 harg3 arg4 harg4 arg5 harg5 arg6 harg6 arg7 harg7 arg8 harg8 arg9 harg9 arg10 harg10 arg11 harg11 arg12 harg12 X_arg2 X_arg3 X_arg4
    (arg11.view.writes (Elt Ideal) arg11.view.junk initStores.1) (arg12.view.writes (Elt Ideal) arg12.view.junk initStores.2) (k0_t1_loop i).trips
  (p.1 ++ initStores.1, p.2 ++ initStores.2)

/-- The stores up to the end of the second loop. -/
def loopStores2 : Stores :=
  let p := loopStores c i arg2 harg2 arg3 harg3 arg4 harg4 arg5 harg5 arg6 harg6 arg7 harg7 arg8 harg8 arg9 harg9 arg10 harg10 arg11 harg11 arg12 harg12 X_arg2 X_arg3 X_arg4
  let q := pb_k0_t2 (F := Ideal) .none c none i arg2 harg2 arg3 harg3 arg4 harg4 arg5 harg5 arg6 harg6 arg7 harg7 arg8 harg8 arg9 harg9 arg10 harg10 arg11 harg11 arg12 harg12
    (Scalar.addi 0#32 (Scalar.muli (Scalar.divsi (Scalar.subi (Scalar.subi (Scalar.addi (Scalar.shrui (Scalar.subi (Scalar.muli (Scalar.addi
    (BitVec.ofNat 32 (i 1).val) 1#32) 256#32) 1#32) 8#32) 1#32) 1#32) 0#32) 1#32) 1#32)) X_arg2 X_arg3 X_arg4
    (arg11.view.writes (Elt Ideal) arg11.view.junk p.1) (arg12.view.writes (Elt Ideal) arg12.view.junk p.2) (k0_t2_loop i).trips
  (q.1 ++ p.1, q.2 ++ p.2)

/-- All the stores of scratch. -/
def allStores : Stores :=
  ([0, 1, 2, 3, 4, 5, 6, 7] : List (Fin 8)).foldl (diagStep i arg2 arg3 arg4 arg11 arg12 X_arg2 X_arg3 X_arg4)
    (loopStores2 c i arg2 harg2 arg3 harg3 arg4 harg4 arg5 harg5 arg6 harg6 arg7 harg7 arg8 harg8 arg9 harg9 arg10 harg10 arg11 harg11 arg12 harg12 X_arg2 X_arg3 X_arg4)

end Run

/-! ## The run's stores into the output block -/

theorem cols_inb (h : Fin 8) : ∀ a, (![0, 128 * h.val] : Fin 2 → ℕ) a + (![256, 128] : Fin 2 → ℕ) a ≤ (![256, 1024] : Fin 2 → ℕ) a := by
  intro a
  fin_cases a
  · simp
  · show 128 * h.val + 128 ≤ 1024; omega

/-- The store of the 128 columns of head `h`. -/
def storeCols (w : Fin 8 → FVec Ideal S256x128 .bf16) (h : Fin 8) : View.Piece (Elt Ideal) S256x1024 .bf16 :=
  ⟨Rect.unit (s := S256x1024) ![0, 128 * h.val] S256x128.size (cols_inb h), w h⟩

set_option maxHeartbeats 2000000 in
theorem body_stores (c : Dev nD) (i : grid0.Coords) (arg2 : Memref sig .tc .vmem S16x256x64 .bf16) (harg2 : arg2.IsWhole) (arg3 : Memref sig .tc .vmem S8x64x2048 .bf16) (harg3 : arg3.IsWhole) (arg4 : Memref sig .tc .vmem S2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S256x1024 .bf16) (harg10 : arg10.IsWhole) (arg11 : Memref sig .tc .vmem S8x512x128 .f32) (harg11 : arg11.IsWhole) (arg12 : Memref sig .tc .vmem S8x512x256 .f32) (harg12 : arg12.IsWhole)
    (x0 : Vec Ideal S16x256x64 .bf16) (x1 : Vec Ideal S8x64x2048 .bf16) (x2 : Vec Ideal S2048x512 .bf16) (x3 : Vec Ideal S1x64 .f32) (x4 : Vec Ideal S1x64 .f32) (x5 : Vec Ideal S1x64 .f32) (x6 : Vec Ideal S1x64 .f32) (x7 : Vec Ideal S1x128 .f32) :
    (kernelRun0_A (F := Ideal) c i arg2 harg2 arg3 harg3 arg4 harg4 arg5 harg5 arg6 harg6 arg7 harg7 arg8 harg8 arg9 harg9 arg10 harg10 arg11 harg11 arg12 harg12 x0 x1 x2 x3 x4 x5 x6 x7).1
      = [7, 6, 5, 4, 3, 2, 1, 0].map (storeCols fun h => headOut
          (lambda (arg5.view.readAt (Elt Ideal) (Rect.unit (s := S1x64) ![0, 0] S1x64.size inb_S1x64_S1x64_0_0).toLoadRect (harg5.unread x3))
            (arg6.view.readAt (Elt Ideal) (Rect.unit (s := S1x64) ![0, 0] S1x64.size inb_S1x64_S1x64_0_0).toLoadRect (harg6.unread x4))
            (arg7.view.readAt (Elt Ideal) (Rect.unit (s := S1x64) ![0, 0] S1x64.size inb_S1x64_S1x64_0_0).toLoadRect (harg7.unread x5))
            (arg8.view.readAt (Elt Ideal) (Rect.unit (s := S1x64) ![0, 0] S1x64.size inb_S1x64_S1x64_0_0).toLoadRect (harg8.unread x6)))
          (k0_pay181 (arg9.view.readAt (Elt Ideal) (Rect.unit (s := S1x128) ![0, 0] S1x128.size inb_S1x128_S1x128_0_0).toLoadRect (harg9.unread x7)))
          (arg12.view.readCov (allStores c i arg2 harg2 arg3 harg3 arg4 harg4 arg5 harg5 arg6 harg6 arg7 harg7 arg8 harg8 arg9 harg9 arg10 harg10 arg11 harg11 arg12 harg12
            (harg2.unread x0) (harg3.unread x1) (harg4.unread x2)).2 (Rect.unit (s := S8x512x256) ![2 * (h.val / 2), 0, 0] S1x512x256.size
              (slot_inb ⟨2 * (h.val / 2), by omega⟩)).toLoadRect)
          (arg12.view.readCov (allStores c i arg2 harg2 arg3 harg3 arg4 harg4 arg5 harg5 arg6 harg6 arg7 harg7 arg8 harg8 arg9 harg9 arg10 harg10 arg11 harg11 arg12 harg12
            (harg2.unread x0) (harg3.unread x1) (harg4.unread x2)).2 (Rect.unit (s := S8x512x256) ![2 * (h.val / 2) + 1, 0, 0] S1x512x256.size
              (slot_inb ⟨2 * (h.val / 2) + 1, by omega⟩)).toLoadRect) ⟨h.val % 2, by omega⟩) := by
  unfold kernelRun0_A
  rfl

end Cert.DiffAttn

end
-- ==== Proof.BodyValue.lean ====
/- WHAT THE BODY COMPUTES at one grid point, from real operands: after the diagonal chunk every slot holds the sums over
   all keys up to the query, so the quotient of its two halves is the softmax-weighted mean of the values. -/
module

public import proofs.«01_k».proof.Proof.Body

@[expose] public section

set_option maxRecDepth 16384

noncomputable section

namespace Cert.DiffAttn

open Idealize.ShloMosaic Idealize.ShloMosaic.TcCoe Idealize.SL.Sem Cert.KernelIdeal Cert.KernelIdeal.Gen

/-! ## One head, read at an entry -/

theorem mean_apply (a : Vec Ideal S1x512x256 .f32) (r : Fin 2) (p : Fin 256) (l : Fin 128) :
    mean a r (ix2 p l) = Ideal.div (a (ix3 0 ⟨256 * r.val + p.val, by omega⟩ ⟨l.val, by omega⟩))
      (a (ix3 0 ⟨256 * r.val + p.val, by omega⟩ ⟨128 + l.val, by omega⟩)) := by
  pointwise [mean]

theorem diff_apply (lam : FVec Ideal S1x1 .f32) (a b : Vec Ideal S1x512x256 .f32) (r : Fin 2) (p : Fin 256) (l : Fin 128) :
    diff lam a b r (ix2 p l) = mean a r (ix2 p l) - lam (ix2 0 0) * mean b r (ix2 p l) := by
  pointwise [diff]

/-- A row normalised, at one entry. -/
def normed (o : Fin 128 → EReal) (g : Fin 128 → EReal) (l : Fin 128) : EReal :=
  o l * Ideal.rsqrt (Ideal.div (∑ k, o k * o k) (Ideal.ofBits .f32 0x43000000#32) + Ideal.ofBits .f32 0x3727C5AC#32) * g l
    * Ideal.ofBits .f32 0x3F24FD5C#32

theorem headOut_apply (lam : FVec Ideal S1x1 .f32) (gs : FVec Ideal S1x128 .f32) (a b : Vec Ideal S1x512x256 .f32) (r : Fin 2)
    (p : Fin 256) (l : Fin 128) :
    headOut lam gs a b r (ix2 p l) = normed (fun l => diff lam a b r (ix2 p l)) (fun l => gs (ix2 0 l)) l := by
  pointwise [headOut, normed]

theorem lambda_apply (a b a' b' : Vec Ideal S1x64 .f32) :
    lambda a b a' b' (ix2 0 0) = Ideal.exp (∑ d : Fin 64, a (ix2 0 d) * b (ix2 0 d)) - Ideal.exp (∑ d : Fin 64, a' (ix2 0 d) * b' (ix2 0 d))
      + Ideal.ofBits .f32 0x3EB60549#32 := by
  pointwise [lambda, k0_pay180, k0_pay178, k0_pay179]

/-! ## The slots after the diagonal chunk -/

section Run

variable (c : Dev nD) (i : grid0.Coords) (arg2 : Memref sig .tc .vmem S16x256x64 .bf16) (harg2 : arg2.IsWhole) (arg3 : Memref sig .tc .vmem S8x64x2048 .bf16) (harg3 : arg3.IsWhole) (arg4 : Memref sig .tc .vmem S2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S256x1024 .bf16) (harg10 : arg10.IsWhole) (arg11 : Memref sig .tc .vmem S8x512x128 .f32) (harg11 : arg11.IsWhole) (arg12 : Memref sig .tc .vmem S8x512x256 .f32) (harg12 : arg12.IsWhole)
  {X_arg2 : BufTy.Contents (Elt Ideal) arg2.view.ty} {X_arg3 : BufTy.Contents (Elt Ideal) arg3.view.ty} {X_arg4 : BufTy.Contents (Elt Ideal) arg4.view.ty}
  {Q : Fin 16 → Fin 256 → Fin 64 → ℝ} {K : Fin 8 → Fin 64 → ℕ → ℝ} {V : Fin 512 → ℕ → ℝ}

/-- What the stores `p` leave in slot `u`, after `n` keys. -/
def Holds (Q : Fin 16 → Fin 256 → Fin 64 → ℝ) (K : Fin 8 → Fin 64 → ℕ → ℝ) (V : Fin 512 → ℕ → ℝ) (n : ℕ) (p : Stores) (u : Fin 8) : Prop :=
  SlotAt Q K V (256 * (i 1).val) n u (slotOf arg11.view (arg11.view.writes (Elt Ideal) arg11.view.junk p.1) u)
    (slotOf arg12.view (arg12.view.writes (Elt Ideal) arg12.view.junk p.2) u)

theorem init_holds (u : Fin 8) : Holds i arg11 arg12 Q K V 0 initStores u := by
  refine Slot.zero (fun R l => ?_) fun R l => ?_
  · exact (slotOf_full arg11.view _ u _ _ _).trans mask_eq
  · refine (slotOf_full arg12.view _ u _ _ _).trans ?_
    show Ideal.ofBits .f32 0x00000000#32 = 0
    simp [Ideal.ofBits, Ideal.ieee]

theorem loop_holds (hq : ∀ s p d, arg2.view.read (Elt Ideal) X_arg2 (ix3 s p d) = ((Q s p d : ℝ) : EReal))
    (hk : ∀ u d (c : Fin 2048), arg3.view.read (Elt Ideal) X_arg3 (ix3 u d c) = ((K u d c.val : ℝ) : EReal))
    (hv : ∀ (c : Fin 2048) j, arg4.view.read (Elt Ideal) X_arg4 (ix2 c j) = ((V j c.val : ℝ) : EReal)) (u : Fin 8) :
    Holds i arg11 arg12 Q K V (256 * (i 1).val) (loopStores2 c i arg2 harg2 arg3 harg3 arg4 harg4 arg5 harg5 arg6 harg6 arg7 harg7 arg8 harg8 arg9 harg9 arg10 harg10 arg11 harg11 arg12 harg12 X_arg2 X_arg3 X_arg4) u := by
  have h := loop_slots (𝒱 := .none) c none i (harg2 := harg2) (harg3 := harg3) (harg4 := harg4) arg5 harg5 arg6 harg6 arg7 harg7 arg8 harg8 arg9 harg9 arg10 harg10 arg11 harg11 arg12 harg12
    (arg11.view.writes (Elt Ideal) arg11.view.junk initStores.1) (arg12.view.writes (Elt Ideal) arg12.view.junk initStores.2)
    hq hk hv (fun u => init_holds i arg11 arg12 u) u _ le_rfl
  unfold Holds loopStores2
  rw [trips2_eq]
  dsimp only [pb_k0_t2, List.nil_append]
  unfold loopStores
  dsimp only
  rw [View.writes_append, View.writes_append]
  have e := trips_eq i
  rw [e] at h ⊢
  exact h

/-- One diagonal step on its own slot. -/
theorem diagStep_same (hq : ∀ s p d, arg2.view.read (Elt Ideal) X_arg2 (ix3 s p d) = ((Q s p d : ℝ) : EReal))
    (hk : ∀ u d (c : Fin 2048), arg3.view.read (Elt Ideal) X_arg3 (ix3 u d c) = ((K u d c.val : ℝ) : EReal))
    (hv : ∀ (c : Fin 2048) j, arg4.view.read (Elt Ideal) X_arg4 (ix2 c j) = ((V j c.val : ℝ) : EReal)) (p : Stores) (u : Fin 8)
    (h : Holds i arg11 arg12 Q K V (256 * (i 1).val) p u) :
    Holds i arg11 arg12 Q K V (256 * (i 1).val + 256) (diagStep i arg2 arg3 arg4 arg11 arg12 X_arg2 X_arg3 X_arg4 p u) u := by
  have hi : (i 1).val < 8 := (i 1).isLt
  have hd := dword_eq i
  unfold Holds diagStep
  dsimp only [storeSlot]
  rw [slotOf_store, slotOf_store]
  have e1 : arg11.view.readCov p.1 (Rect.unit (s := S8x512x128) ![u.val, 0, 0] S1x512x128.size (slot_inb u)).toLoadRect
      = slotOf arg11.view (arg11.view.writes (Elt Ideal) arg11.view.junk p.1) u := load_slot arg11.view _ u _
  have e2 : arg12.view.readCov p.2 (Rect.unit (s := S8x512x256) ![u.val, 0, 0] S1x512x256.size (slot_inb u)).toLoadRect
      = slotOf arg12.view (arg12.view.writes (Elt Ideal) arg12.view.junk p.2) u := load_slot arg12.view _ u _
  rw [e1, e2]
  refine Slot.step h (fun R c => ?_) (fun c l => ?_) fun R => ⟨0, by omega, Nat.zero_le _⟩
  · refine scores_diag (256 * (i 1).val) (fun r p d => ?_) (fun d c => ?_) _ (bias_apply i) R c
    · exact (load_q arg2.view X_arg2 u _ r p d).trans (hq _ _ _)
    · exact (load_k arg3.view X_arg3 u (256 * (i 1).val) (by rw [hd]) (by omega) _ d c).trans (hk _ _ _)
  · refine values_real (256 * (i 1).val) ones_apply (fun c l => ?_) c l
    exact (load_v arg4.view X_arg4 ⟨u.val / 2, by omega⟩ (256 * (i 1).val) (by rw [hd]) (by omega) _ c l).trans (hv _ _)

/-- One diagonal step leaves the other slots. -/
theorem diagStep_other (n : ℕ) (p : Stores) {u u' : Fin 8} (hu : u ≠ u') (h : Holds i arg11 arg12 Q K V n p u) :
    Holds i arg11 arg12 Q K V n (diagStep i arg2 arg3 arg4 arg11 arg12 X_arg2 X_arg3 X_arg4 p u') u := by
  unfold Holds diagStep
  dsimp only [storeSlot]
  rw [slotOf_other _ _ hu, slotOf_other _ _ hu]
  exact h

/-- The diagonal steps, slot by slot. -/
theorem diag_holds (hq : ∀ s p d, arg2.view.read (Elt Ideal) X_arg2 (ix3 s p d) = ((Q s p d : ℝ) : EReal))
    (hk : ∀ u d (c : Fin 2048), arg3.view.read (Elt Ideal) X_arg3 (ix3 u d c) = ((K u d c.val : ℝ) : EReal))
    (hv : ∀ (c : Fin 2048) j, arg4.view.read (Elt Ideal) X_arg4 (ix2 c j) = ((V j c.val : ℝ) : EReal)) :
    ∀ (l : List (Fin 8)) (p : Stores), l.Nodup → (∀ u ∈ l, Holds i arg11 arg12 Q K V (256 * (i 1).val) p u) →
      (∀ u, u ∉ l → Holds i arg11 arg12 Q K V (256 * (i 1).val + 256) p u) →
      ∀ u, Holds i arg11 arg12 Q K V (256 * (i 1).val + 256) (l.foldl (diagStep i arg2 arg3 arg4 arg11 arg12 X_arg2 X_arg3 X_arg4) p) u
  | [], p, _, _, h', u => h' u (by simp)
  | u' :: l, p, hl, h, h', u => by
    rw [List.foldl_cons]
    have hn := List.nodup_cons.mp hl
    refine diag_holds hq hk hv l _ hn.2 (fun v hv' => ?_) (fun v hv' => ?_) u
    · exact diagStep_other i arg2 arg3 arg4 arg11 arg12 _ p (fun e => hn.1 (e ▸ hv')) (h v (List.mem_cons_of_mem _ hv'))
    · by_cases e : v = u'
      · subst e; exact diagStep_same i arg2 arg3 arg4 arg11 arg12 hq hk hv p v (h v List.mem_cons_self)
      · exact diagStep_other i arg2 arg3 arg4 arg11 arg12 _ p e (h' v (by simp [e, hv']))

/-- Every slot, after all the stores. -/
theorem all_holds (hq : ∀ s p d, arg2.view.read (Elt Ideal) X_arg2 (ix3 s p d) = ((Q s p d : ℝ) : EReal))
    (hk : ∀ u d (c : Fin 2048), arg3.view.read (Elt Ideal) X_arg3 (ix3 u d c) = ((K u d c.val : ℝ) : EReal))
    (hv : ∀ (c : Fin 2048) j, arg4.view.read (Elt Ideal) X_arg4 (ix2 c j) = ((V j c.val : ℝ) : EReal)) (u : Fin 8) :
    Holds i arg11 arg12 Q K V (256 * (i 1).val + 256) (allStores c i arg2 harg2 arg3 harg3 arg4 harg4 arg5 harg5 arg6 harg6 arg7 harg7 arg8 harg8 arg9 harg9 arg10 harg10 arg11 harg11 arg12 harg12 X_arg2 X_arg3 X_arg4) u :=
  diag_holds i arg2 arg3 arg4 arg11 arg12 hq hk hv _ _ (by decide)
    (fun u _ => loop_holds c i arg2 harg2 arg3 harg3 arg4 harg4 arg5 harg5 arg6 harg6 arg7 harg7 arg8 harg8 arg9 harg9 arg10 harg10 arg11 harg11 arg12 harg12 hq hk hv u) (fun u hu => absurd (by fin_cases u <;> decide) hu) u

end Run

/-! ## The mean of one slot -/

/-- A slot that holds the sums over all admitted keys divides out to the weighted mean. `s` is the score in nats. -/
theorem Slot.mean {x : Fin 512 → ℕ → ℝ} {b : ℕ} {w : Fin 128 → ℕ → ℝ} {n : ℕ} {m : Vec Ideal S1x512x128 .f32}
    {a : Vec Ideal S1x512x256 .f32} (h : Slot x (okRow b) (vs w) n m a) (hn : b + 256 ≤ n) (N : ℕ) (hN : n ≤ N) (s : Fin 512 → ℕ → ℝ)
    (hs : ∀ R c, okRow b R c → (2 : ℝ) ^ (x R c) = Real.exp (s R c)) (r : Fin 2) (p : Fin 256) (l : Fin 128) :
    DiffAttn.mean a r (ix2 p l) = ((wmean N (weight (s ⟨256 * r.val + p.val, by omega⟩) (okRow b ⟨256 * r.val + p.val, by omega⟩)) (w l) : ℝ) : EReal) := by
  rw [mean_apply]
  obtain ⟨h0, -, hinv⟩ := h ⟨256 * r.val + p.val, by omega⟩
  rcases hinv with ⟨hno, -, -⟩ | ⟨μ, -, ha⟩
  · exact absurd (Nat.zero_le _) (hno 0 (by omega))
  · dsimp only at ha
    have h1 := ha ⟨l.val, by omega⟩
    have h2 := ha ⟨128 + l.val, by omega⟩
    rw [h1, h2]
    have e1 : vs w ⟨l.val, by omega⟩ = w l := by funext c; unfold vs; rw [dif_pos l.isLt]
    have e2 : vs w ⟨128 + l.val, by omega⟩ = fun _ => 1 := by funext c; unfold vs; rw [dif_neg (by simp)]
    rw [e1, e2]
    refine quotient _ _ _ (hs _) (w l) μ n N hN (fun c hc => ?_) ⟨0, by omega, Nat.zero_le _⟩
    unfold okRow at hc
    omega

/-! ## The output block -/

/-- Stores of distinct heads' columns, read head by head. -/
theorem read_cols {κ : Kind} {sp : Space} (v : View sig κ sp S256x1024 .bf16) (f : v.ty.Contents (Elt Ideal))
    (w : Fin 8 → FVec Ideal S256x128 .bf16) (h : Fin 8) (p : Fin 256) (l : Fin 128) :
    ∀ L : List (Fin 8), h ∈ L → v.read (Elt Ideal) (v.writes (Elt Ideal) f (L.map (storeCols w))) (ix2 p ⟨128 * h.val + l.val, by omega⟩) = w h (ix2 p l)
  | [], hL => by simp at hL
  | h' :: L, hL => by
    rw [List.map_cons]
    by_cases e : h = h'
    · subst e
      refine View.read_writes_cons_unit_of_mem v f (cols_inb h) (w h) _ _ (ix2 p l) rfl fun a => ?_
      fin_cases a
      · exact (Nat.zero_add _).symm
      · rfl
    · refine (View.read_writes_cons_unit_of_not_mem v f (cols_inb h') (w h') _ _ rfl 1 ?_).trans
        (read_cols v f w h p l L (by simpa [e] using hL))
      have : h.val ≠ h'.val := fun e' => e (Fin.ext e')
      show 128 * h.val + l.val < 128 * h'.val ∨ 128 * h'.val + 128 ≤ 128 * h.val + l.val
      omega

/-- The weighted mean of slot `u`'s values for row `256 r + p`: the query `256 j + p` of the sequence. -/
def slotMean (V : Fin 512 → ℕ → ℝ) (s : Fin 8 → Fin 512 → ℕ → ℝ) (b : ℕ) (u : Fin 8) (r : Fin 2) (p : Fin 256) (l : Fin 128) : ℝ :=
  wmean 2048 (weight (s u ⟨256 * r.val + p.val, by omega⟩) (okRow b ⟨256 * r.val + p.val, by omega⟩)) (Vs V u l)

/-- Lambda, as one extended real. -/
def lam (x3 x4 x5 x6 : Vec Ideal S1x64 .f32) : EReal :=
  Ideal.exp (∑ d : Fin 64, x3 (ix2 0 d) * x4 (ix2 0 d)) - Ideal.exp (∑ d : Fin 64, x5 (ix2 0 d) * x6 (ix2 0 d)) + Ideal.ofBits .f32 0x3EB60549#32

/-- THE BLOCK: column `128 h + l` of row `p`, from real queries, keys and values. -/
theorem block_out (c : Dev nD) (i : grid0.Coords) (arg2 : Memref sig .tc .vmem S16x256x64 .bf16) (harg2 : arg2.IsWhole) (arg3 : Memref sig .tc .vmem S8x64x2048 .bf16) (harg3 : arg3.IsWhole) (arg4 : Memref sig .tc .vmem S2048x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S256x1024 .bf16) (harg10 : arg10.IsWhole) (arg11 : Memref sig .tc .vmem S8x512x128 .f32) (harg11 : arg11.IsWhole) (arg12 : Memref sig .tc .vmem S8x512x256 .f32) (harg12 : arg12.IsWhole)
    (x0 : Vec Ideal S16x256x64 .bf16) (x1 : Vec Ideal S8x64x2048 .bf16) (x2 : Vec Ideal S2048x512 .bf16) (x3 : Vec Ideal S1x64 .f32) (x4 : Vec Ideal S1x64 .f32) (x5 : Vec Ideal S1x64 .f32) (x6 : Vec Ideal S1x64 .f32) (x7 : Vec Ideal S1x128 .f32)
    {Q : Fin 16 → Fin 256 → Fin 64 → ℝ} {K : Fin 8 → Fin 64 → ℕ → ℝ} {V : Fin 512 → ℕ → ℝ}
    (hq : ∀ s p d, x0 (ix3 s p d) = ((Q s p d : ℝ) : EReal))
    (hk : ∀ u d (c : Fin 2048), x1 (ix3 u d c) = ((K u d c.val : ℝ) : EReal))
    (hv : ∀ (c : Fin 2048) j, x2 (ix2 c j) = ((V j c.val : ℝ) : EReal))
    (s : Fin 8 → Fin 512 → ℕ → ℝ)
    (hs : ∀ u R c, okRow (256 * (i 1).val) R c → (2 : ℝ) ^ (xs (Qs Q u) (K u) R c) = Real.exp (s u R c)) (p : Fin 256) (h : Fin 8) (l : Fin 128) :
    out0_A_8 (F := Ideal) c i arg2 harg2 arg3 harg3 arg4 harg4 arg5 harg5 arg6 harg6 arg7 harg7 arg8 harg8 arg9 harg9 arg10 harg10 arg11 harg11 arg12 harg12 x0 x1 x2 x3 x4 x5 x6 x7 (ix2 p ⟨128 * h.val + l.val, by omega⟩)
      = normed (fun l => ((slotMean V s (256 * (i 1).val) ⟨2 * (h.val / 2), by omega⟩ ⟨h.val % 2, by omega⟩ p l : ℝ) : EReal)
          - lam x3 x4 x5 x6 * ((slotMean V s (256 * (i 1).val) ⟨2 * (h.val / 2) + 1, by omega⟩ ⟨h.val % 2, by omega⟩ p l : ℝ) : EReal))
        (fun l => x7 (ix2 0 l)) l := by
  have hi : (i 1).val < 8 := (i 1).isLt
  have hmean (u : Fin 8) (l : Fin 128) : DiffAttn.mean (arg12.view.readCov (allStores c i arg2 harg2 arg3 harg3 arg4 harg4 arg5 harg5 arg6 harg6 arg7 harg7 arg8 harg8 arg9 harg9 arg10 harg10 arg11 harg11 arg12 harg12
      (harg2.unread x0) (harg3.unread x1) (harg4.unread x2)).2 (Rect.unit (s := S8x512x256) ![u.val, 0, 0] S1x512x256.size
        (slot_inb u)).toLoadRect) ⟨h.val % 2, by omega⟩ (ix2 p l)
      = ((slotMean V s (256 * (i 1).val) u ⟨h.val % 2, by omega⟩ p l : ℝ) : EReal) := by
    have e2 := load_slot arg12.view (arg12.view.writes (Elt Ideal) arg12.view.junk (allStores c i arg2 harg2 arg3 harg3 arg4 harg4 arg5 harg5 arg6 harg6 arg7 harg7 arg8 harg8 arg9 harg9 arg10 harg10 arg11 harg11 arg12 harg12
      (harg2.unread x0) (harg3.unread x1) (harg4.unread x2)).2) u (slot_inb u)
    refine (congrArg (fun a => DiffAttn.mean a ⟨h.val % 2, by omega⟩ (ix2 p l)) e2).trans ?_
    refine Slot.mean (all_holds c i arg2 harg2 arg3 harg3 arg4 harg4 arg5 harg5 arg6 harg6 arg7 harg7 arg8 harg8 arg9 harg9 arg10 harg10 arg11 harg11 arg12 harg12 (Q := Q) (K := K) (V := V) ?_ ?_ ?_ u) le_rfl 2048 (by omega) (s u) (hs u) _ p l
    · rw [harg2.read_unread]; exact hq
    · rw [harg3.read_unread]; exact hk
    · rw [harg4.read_unread]; exact hv
  unfold out0_A_8
  rw [body_stores, read_cols _ _ _ h p l _ (by fin_cases h <;> decide), headOut_apply]
  congr 1
  · funext l
    rw [diff_apply, lambda_apply]
    have m1 := hmean ⟨2 * (h.val / 2), by omega⟩ l
    have m2 := hmean ⟨2 * (h.val / 2) + 1, by omega⟩ l
    refine congrArg₂ (fun x y : EReal => x - y) m1 (congrArg₂ (fun x y : EReal => x * y) ?_ m2)
    unfold lam
    rw [View.readAt_full, View.readAt_full, View.readAt_full, View.readAt_full, harg5.read_unread, harg6.read_unread, harg7.read_unread, harg8.read_unread]
  · funext l
    pointwise [k0_pay181]
    rw [View.readAt_full, harg9.read_unread]

end Cert.DiffAttn

end
-- ==== Proof.Spec.lean ====
/- THE LAYER'S MATHEMATICS over the reals: the score of one query and key in one half of a head, the two softmax-weighted
   means of the values, their difference, and its normalisation. Both programs are shown to compute `attn`. -/
module

public import proofs.«01_k».proof.Proof.BodyValue

@[expose] public section

noncomputable section

namespace Cert.DiffAttn

open Idealize.ShloMosaic

/-- A key position, from a number. -/
def key (c : ℕ) : Fin 2048 := Fin.ofNat 2048 c

theorem key_val (c : Fin 2048) : key c.val = c := Fin.ext (Nat.mod_eq_of_lt c.isLt)

variable (q : Fin 8 → Fin 2048 → Fin 8 → Fin 128 → ℝ) (k v : Fin 8 → Fin 2048 → Fin 4 → Fin 128 → ℝ)

/-- Half `a` of head `h`: the scaled score of query `t` and key `c`. -/
def sc (b : Fin 8) (t : Fin 2048) (h : Fin 8) (a : Fin 2) (c : ℕ) : ℝ :=
  (∑ d : Fin 64, k b (key c) ⟨h.val / 2, by omega⟩ ⟨64 * a.val + d.val, by omega⟩ * q b t h ⟨64 * a.val + d.val, by omega⟩) * (1 / 8)

/-- The mean of the values under the causal softmax of half `a` of head `h`. -/
def part (b : Fin 8) (t : Fin 2048) (h : Fin 8) (a : Fin 2) (l : Fin 128) : ℝ :=
  wmean 2048 (weight (sc q k b t h a) (fun c => c ≤ t.val)) (fun c => v b (key c) ⟨h.val / 2, by omega⟩ l)

/-- The weight of the second softmax, from its four vectors. -/
def lamOf (x3 x4 x5 x6 : Fin 64 → EReal) : EReal :=
  Ideal.exp (∑ d, x3 d * x4 d) - Ideal.exp (∑ d, x5 d * x6 d) + Ideal.ofBits .f32 0x3EB60549#32

/-- One entry of the layer's result. -/
def attn (lam : EReal) (g : Fin 128 → EReal) (b : Fin 8) (t : Fin 2048) (h : Fin 8) (l : Fin 128) : EReal :=
  normed (fun l => (part q k v b t h 0 l : EReal) - lam * (part q k v b t h 1 l : EReal)) g l

/-- Of real vectors the weight of the second softmax is real. -/
theorem lamOf_real (x3 x4 x5 x6 : Fin 64 → ℝ) :
    ∃ r : ℝ, lamOf (fun d => (x3 d : EReal)) (fun d => (x4 d : EReal)) (fun d => (x5 d : EReal)) (fun d => (x6 d : EReal)) = (r : EReal) := by
  have hc : ∃ r : ℝ, Ideal.ofBits .f32 0x3EB60549#32 = (r : EReal) := ⟨_, rfl⟩
  obtain ⟨r, hr⟩ := hc
  unfold lamOf
  simp only [← EReal.coe_mul, coe_sum, Ideal.exp_coe, hr, ← EReal.coe_sub, ← EReal.coe_add]
  exact ⟨_, rfl⟩

end Cert.DiffAttn

end
-- ==== Proof.Operands.lean ====
/- THE OPERANDS OF A GRID POINT: what the blocks staged at point `t` hold, read off the arguments. Point `t` is batch entry
   `t / 8` and query block `t % 8`. -/
module

public import proofs.«01_k».proof.Proof.Gen.KernelIdeal.Value
public import Idealize.ShloMosaic.Lib.Pipeline.ValueKit
public import Idealize.ShloMosaic.Lib.Pointwise
public import Idealize.ShloMosaic.Lib.Claim

@[expose] public section

set_option maxRecDepth 16384

noncomputable section

namespace Cert.DiffAttn

open Idealize.ShloMosaic Idealize.ShloMosaic.TcCoe Idealize.SL.Sem Cert.KernelIdeal Cert.KernelIdeal.Gen

variable (m : (ℓ : Loc nD τ sig) → Buf (Elt Ideal) ℓ) (c : Dev nD)

theorem idx : ∀ t : Fin cfg0.N, win0_0.index t = ![0, t.val, 0] ∧ win0_1.index t = ![0, 0, t.val / 8] ∧ win0_2.index t = ![t.val / 8, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ (grid0.coords t 1).val = t.val % 8 ∧ t.val < 64 :=
  (by decide +kernel : ∀ t : Fin grid0.N, _)

/-- The queries' factor, `1/8` over `log 2`. -/
def qscale : EReal := Ideal.div (Ideal.ofBits .f32 0x3E000000#32) (Ideal.log (Ideal.ofBits .f32 0x40000000#32))

/-- The prepared queries: slot `s` is head `2 (s / 4) + s % 2`, half `s / 2 % 2`. -/
theorem entry_q (s : Fin 16) (n : Fin 16384) (d : Fin 64) :
    (V m c main_v7 : FVec Ideal S16x16384x64 .bf16) (ix3 s n d)
      = (show EReal from (m ((c : Thread nD τ).loc main_arg0) : FVec Ideal S8x2048x8x128 .f32)
          (ix4 ⟨n.val / 2048, by omega⟩ ⟨n.val % 2048, by omega⟩ ⟨2 * (s.val / 4) + s.val % 2, by omega⟩
            ⟨64 * (s.val / 2 % 2) + d.val, by omega⟩)) * qscale := by
  entry_read
  pointwise [qscale]
  refine congrArg (fun z : EReal => z * _) ?_
  blk_ext []

theorem entry_k (u : Fin 8) (d : Fin 64) (n : Fin 16384) :
    (V m c main_v10 : FVec Ideal S8x64x16384 .bf16) (ix3 u d n)
      = (m ((c : Thread nD τ).loc main_arg1) : FVec Ideal S8x2048x4x128 .f32)
          (ix4 ⟨n.val / 2048, by omega⟩ ⟨n.val % 2048, by omega⟩ ⟨u.val / 2, by omega⟩ ⟨64 * (u.val % 2) + d.val, by omega⟩) := by
  entry_read
  pointwise
  blk_ext []

theorem entry_v (n : Fin 16384) (j : Fin 512) :
    (V m c main_v12 : FVec Ideal S16384x512 .bf16) (ix2 n j)
      = (m ((c : Thread nD τ).loc main_arg2) : FVec Ideal S8x2048x4x128 .f32)
          (ix4 ⟨n.val / 2048, by omega⟩ ⟨n.val % 2048, by omega⟩ ⟨j.val / 128, by omega⟩ ⟨j.val % 128, by omega⟩) := by
  entry_read
  pointwise

theorem entry_l3 (d : Fin 64) :
    (V m c main_v13 : FVec Ideal S1x64 .f32) (ix2 0 d) = (m ((c : Thread nD τ).loc main_arg3) : FVec Ideal S64 .f32) (ix1 d) := by
  entry_read
  pointwise

theorem entry_l4 (d : Fin 64) :
    (V m c main_v14 : FVec Ideal S1x64 .f32) (ix2 0 d) = (m ((c : Thread nD τ).loc main_arg4) : FVec Ideal S64 .f32) (ix1 d) := by
  entry_read
  pointwise

theorem entry_l5 (d : Fin 64) :
    (V m c main_v15 : FVec Ideal S1x64 .f32) (ix2 0 d) = (m ((c : Thread nD τ).loc main_arg5) : FVec Ideal S64 .f32) (ix1 d) := by
  entry_read
  pointwise

theorem entry_l6 (d : Fin 64) :
    (V m c main_v16 : FVec Ideal S1x64 .f32) (ix2 0 d) = (m ((c : Thread nD τ).loc main_arg6) : FVec Ideal S64 .f32) (ix1 d) := by
  entry_read
  pointwise

theorem entry_g (d : Fin 128) :
    (V m c main_v17 : FVec Ideal S1x128 .f32) (ix2 0 d) = (m ((c : Thread nD τ).loc main_arg7) : FVec Ideal S128 .f32) (ix1 d) := by
  entry_read
  pointwise

/-! ## The blocks of a grid point -/

theorem blk_q (t : Fin cfg0.N) (s : Fin 16) (p : Fin 256) (d : Fin 64) :
    (iblk m c 0 t : FVec Ideal S16x256x64 .bf16) (ix3 s p d)
      = (V m c main_v7 : FVec Ideal S16x16384x64 .bf16) (ix3 s ⟨256 * t.val + p.val, by have := (idx t).2.2.2.2.2.2.2.2.2.2; omega⟩ d) := by
  blk_ext [iblk, idx t]

theorem blk_k (t : Fin cfg0.N) (u : Fin 8) (d : Fin 64) (n : Fin 2048) :
    (iblk m c 1 t : FVec Ideal S8x64x2048 .bf16) (ix3 u d n)
      = (V m c main_v10 : FVec Ideal S8x64x16384 .bf16) (ix3 u d ⟨2048 * (t.val / 8) + n.val, by have := (idx t).2.2.2.2.2.2.2.2.2.2; omega⟩) := by
  blk_ext [iblk, idx t]

theorem blk_v (t : Fin cfg0.N) (n : Fin 2048) (j : Fin 512) :
    (iblk m c 2 t : FVec Ideal S2048x512 .bf16) (ix2 n j)
      = (V m c main_v12 : FVec Ideal S16384x512 .bf16) (ix2 ⟨2048 * (t.val / 8) + n.val, by have := (idx t).2.2.2.2.2.2.2.2.2.2; omega⟩ j) := by
  blk_ext [iblk, idx t]

theorem blk_l3 (t : Fin cfg0.N) (d : Fin 64) :
    (iblk m c 3 t : FVec Ideal S1x64 .f32) (ix2 0 d) = (V m c main_v13 : FVec Ideal S1x64 .f32) (ix2 0 d) := by
  blk_ext [iblk, idx t]

theorem blk_l4 (t : Fin cfg0.N) (d : Fin 64) :
    (iblk m c 4 t : FVec Ideal S1x64 .f32) (ix2 0 d) = (V m c main_v14 : FVec Ideal S1x64 .f32) (ix2 0 d) := by
  blk_ext [iblk, idx t]

theorem blk_l5 (t : Fin cfg0.N) (d : Fin 64) :
    (iblk m c 5 t : FVec Ideal S1x64 .f32) (ix2 0 d) = (V m c main_v15 : FVec Ideal S1x64 .f32) (ix2 0 d) := by
  blk_ext [iblk, idx t]

theorem blk_l6 (t : Fin cfg0.N) (d : Fin 64) :
    (iblk m c 6 t : FVec Ideal S1x64 .f32) (ix2 0 d) = (V m c main_v16 : FVec Ideal S1x64 .f32) (ix2 0 d) := by
  blk_ext [iblk, idx t]

theorem blk_g (t : Fin cfg0.N) (d : Fin 128) :
    (iblk m c 7 t : FVec Ideal S1x128 .f32) (ix2 0 d) = (V m c main_v17 : FVec Ideal S1x128 .f32) (ix2 0 d) := by
  blk_ext [iblk, idx t]

end Cert.DiffAttn

end
-- ==== Proof.Value.lean ====
/- THE KERNEL'S RESULT: every block of the result array holds the layer's attention. -/
module

public import proofs.«01_k».proof.Proof.Spec
public import proofs.«01_k».proof.Proof.Operands

@[expose] public section

set_option maxRecDepth 16384

noncomputable section

namespace Cert.DiffAttn

open Idealize.ShloMosaic Idealize.ShloMosaic.TcCoe Idealize.SL.Sem Cert.KernelIdeal Cert.KernelIdeal.Gen

/-! ## The queries' factor -/

theorem qscale_eq : qscale = ((1 / (8 * Real.log 2) : ℝ) : EReal) := by
  have h8 : Ideal.ofBits .f32 0x3E000000#32 = ((1 / 8 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have hl : (0 : ℝ) < Real.log 2 := Real.log_pos (by norm_num)
  unfold qscale
  rw [h8, h2, Ideal.log_coe, if_neg (by norm_num), Ideal.div_coe hl.ne', ← EReal.coe_mul]
  congr 1
  field_simp

/-! ## One slot's mean is the mean of one half of one head -/

section slots
variable (q : Fin 8 → Fin 2048 → Fin 8 → Fin 128 → ℝ) (k v : Fin 8 → Fin 2048 → Fin 4 → Fin 128 → ℝ) (b : Fin 8) (n : Fin 8)

/-- The queries of batch entry `b`, query block `n`, as the slots hold them. -/
def slotQ (s : Fin 16) (p : Fin 256) (d : Fin 64) : ℝ :=
  q b ⟨256 * n.val + p.val, by omega⟩ ⟨2 * (s.val / 4) + s.val % 2, by omega⟩ ⟨64 * (s.val / 2 % 2) + d.val, by omega⟩ * (1 / (8 * Real.log 2))

def slotK (u : Fin 8) (d : Fin 64) (c : ℕ) : ℝ := k b (key c) ⟨u.val / 2, by omega⟩ ⟨64 * (u.val % 2) + d.val, by omega⟩

def slotV (j : Fin 512) (c : ℕ) : ℝ := v b (key c) ⟨j.val / 128, by omega⟩ ⟨j.val % 128, by omega⟩

/-- The score of row `R` of slot `u`. -/
def slotS (u : Fin 8) (R : Fin 512) (c : ℕ) : ℝ :=
  sc q k b ⟨256 * n.val + R.val % 256, by omega⟩ ⟨2 * (u.val / 2) + R.val / 256, by omega⟩ ⟨u.val % 2, by omega⟩ c

/-- A power of two of the kernel's score is the exponential of the layer's. -/
theorem two_pow_xs (u : Fin 8) (R : Fin 512) (c : ℕ) :
    (2 : ℝ) ^ (xs (Qs (slotQ q b n) u) (slotK k b u) R c) = Real.exp (slotS q k b n u R c) := by
  have hl : Real.log 2 ≠ 0 := (Real.log_pos (by norm_num)).ne'
  have hx : xs (Qs (slotQ q b n) u) (slotK k b u) R c = slotS q k b n u R c / Real.log 2 := by
    unfold xs slotS sc
    rw [Finset.sum_mul, Finset.sum_div]
    refine Finset.sum_congr rfl fun d _ => ?_
    have e1 : (⟨(2 * (u.val / 2) + R.val / 256) / 2, by omega⟩ : Fin 4) = ⟨u.val / 2, by omega⟩ := Fin.ext (by show (2 * (u.val / 2) + R.val / 256) / 2 = u.val / 2; omega)
    have e2 : Qs (slotQ q b n) u ⟨R.val / 256, by omega⟩ ⟨R.val % 256, by omega⟩ d
        = q b ⟨256 * n.val + R.val % 256, by omega⟩ ⟨2 * (u.val / 2) + R.val / 256, by omega⟩ ⟨64 * (u.val % 2) + d.val, by omega⟩
          * (1 / (8 * Real.log 2)) := by
      unfold Qs slotQ
      congr 2
      · exact Fin.ext (by show 2 * ((2 * u.val + R.val / 256) / 4) + (2 * u.val + R.val / 256) % 2 = 2 * (u.val / 2) + R.val / 256; omega)
      · exact Fin.ext (by show 64 * ((2 * u.val + R.val / 256) / 2 % 2) + d.val = 64 * (u.val % 2) + d.val; omega)
    rw [e1, e2]
    unfold slotK
    field_simp
  rw [hx, Real.rpow_def_of_pos (by norm_num)]
  congr 1
  field_simp

theorem slotMean_eq (p : Fin 256) (h : Fin 8) (a : Fin 2) (u : Fin 8) (hu : u.val = 2 * (h.val / 2) + a.val) (l : Fin 128) :
    slotMean (slotV v b) (slotS q k b n) (256 * n.val) u ⟨h.val % 2, by omega⟩ p l
      = part q k v b ⟨256 * n.val + p.val, by omega⟩ h a l := by
  unfold slotMean part
  have hV : Vs (slotV v b) u l = fun c => v b (key c) ⟨h.val / 2, by omega⟩ l := by
    funext c
    unfold Vs slotV
    congr 1
    · exact Fin.ext (by show (128 * (u.val / 2) + l.val) / 128 = h.val / 2; omega)
    · exact Fin.ext (by show (128 * (u.val / 2) + l.val) % 128 = l.val; omega)
  have hS : slotS q k b n u ⟨256 * (h.val % 2) + p.val, by omega⟩ = sc q k b ⟨256 * n.val + p.val, by omega⟩ h a := by
    funext c
    unfold slotS
    congr 1
    · exact Fin.ext (by show 256 * n.val + (256 * (h.val % 2) + p.val) % 256 = 256 * n.val + p.val; omega)
    · exact Fin.ext (by show 2 * (u.val / 2) + (256 * (h.val % 2) + p.val) / 256 = h.val; omega)
    · exact Fin.ext (by show u.val % 2 = a.val; omega)
  have hO : ∀ c, okRow (256 * n.val) ⟨256 * (h.val % 2) + p.val, by omega⟩ c ↔ c ≤ 256 * n.val + p.val := by
    intro c
    show c ≤ 256 * n.val + (256 * (h.val % 2) + p.val) % 256 ↔ _
    omega
  rw [hV]
  congr 1
  funext c
  unfold weight
  rw [hS]
  exact if_congr (hO c) rfl rfl

end slots

/-! ## The array -/

variable (m : (ℓ : Loc nD τ sig) → Buf (Elt Ideal) ℓ) (c : Dev nD)
  {q : Fin 8 → Fin 2048 → Fin 8 → Fin 128 → ℝ} {k v : Fin 8 → Fin 2048 → Fin 4 → Fin 128 → ℝ}
  (hq : ∀ b t h d, (m ((c : Thread nD τ).loc main_arg0) : FVec Ideal S8x2048x8x128 .f32) (ix4 b t h d) = (q b t h d : EReal))
  (hk : ∀ b t h d, (m ((c : Thread nD τ).loc main_arg1) : FVec Ideal S8x2048x4x128 .f32) (ix4 b t h d) = (k b t h d : EReal))
  (hv : ∀ b t h d, (m ((c : Thread nD τ).loc main_arg2) : FVec Ideal S8x2048x4x128 .f32) (ix4 b t h d) = (v b t h d : EReal))

/-- The weight of the second softmax, of the arguments. -/
def lamArg : EReal :=
  lamOf (fun d => (m ((c : Thread nD τ).loc main_arg3) : FVec Ideal S64 .f32) (ix1 d)) (fun d => (m ((c : Thread nD τ).loc main_arg4) : FVec Ideal S64 .f32) (ix1 d))
    (fun d => (m ((c : Thread nD τ).loc main_arg5) : FVec Ideal S64 .f32) (ix1 d)) (fun d => (m ((c : Thread nD τ).loc main_arg6) : FVec Ideal S64 .f32) (ix1 d))

theorem lam_eq (t : Fin cfg0.N) : lam (iblk m c 3 t) (iblk m c 4 t) (iblk m c 5 t) (iblk m c 6 t) = lamArg m c := by
  have h3 := fun d => (blk_l3 m c t d).trans (entry_l3 m c d)
  have h4 := fun d => (blk_l4 m c t d).trans (entry_l4 m c d)
  have h5 := fun d => (blk_l5 m c t d).trans (entry_l5 m c d)
  have h6 := fun d => (blk_l6 m c t d).trans (entry_l6 m c d)
  unfold lam lamArg lamOf
  refine congrArg₂ (fun x y : EReal => Ideal.exp x - Ideal.exp y + _) ?_ ?_
  · exact Finset.sum_congr rfl fun d _ => congrArg₂ (fun x y : EReal => x * y) (h3 d) (h4 d)
  · exact Finset.sum_congr rfl fun d _ => congrArg₂ (fun x y : EReal => x * y) (h5 d) (h6 d)

include hq hk hv in
/-- What point `t` leaves in its block of the result. -/
theorem point_at (t : Fin cfg0.N) (p : Fin 256) (h : Fin 8) (l : Fin 128) :
    outsAt0 m c t (ix2 p ⟨128 * h.val + l.val, by omega⟩)
      = attn q k v (lamArg m c) (fun l => (m ((c : Thread nD τ).loc main_arg7) : FVec Ideal S128 .f32) (ix1 l))
          ⟨t.val / 8, by have := (idx t).2.2.2.2.2.2.2.2.2.2; omega⟩ ⟨256 * (t.val % 8) + p.val, by omega⟩ h l := by
  have ht : t.val < 64 := (idx t).2.2.2.2.2.2.2.2.2.2
  have hi : (grid0.coords t 1).val = t.val % 8 := (idx t).2.2.2.2.2.2.2.2.2.1
  unfold outsAt0
  refine (block_out c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)
    (Q := slotQ q ⟨t.val / 8, by omega⟩ ⟨t.val % 8, by omega⟩) (K := slotK k ⟨t.val / 8, by omega⟩) (V := slotV v ⟨t.val / 8, by omega⟩)
    ?_ ?_ ?_ (slotS q k ⟨t.val / 8, by omega⟩ ⟨t.val % 8, by omega⟩) (fun u R c _ => two_pow_xs q k _ _ u R c) p h l).trans ?_
  · intro s p d
    refine ((blk_q m c t s p d).trans (entry_q m c s _ d)).trans ?_
    unfold slotQ
    rw [EReal.coe_mul, ← hq, ← qscale_eq]
    refine congrArg (fun z : EReal => z * qscale) ?_
    refine congrArg (m ((c : Thread nD τ).loc main_arg0) : FVec Ideal S8x2048x8x128 .f32) ?_
    congr 1
    · exact Fin.ext (by show (256 * t.val + p.val) / 2048 = t.val / 8; omega)
    · exact Fin.ext (by show (256 * t.val + p.val) % 2048 = 256 * (t.val % 8) + p.val; omega)
  · intro u d n
    refine ((blk_k m c t u d n).trans (entry_k m c u d _)).trans ?_
    unfold slotK
    rw [key_val, ← hk]
    refine congrArg (m ((c : Thread nD τ).loc main_arg1) : FVec Ideal S8x2048x4x128 .f32) ?_
    congr 1
    · exact Fin.ext (by show (2048 * (t.val / 8) + n.val) / 2048 = t.val / 8; omega)
    · exact Fin.ext (by show (2048 * (t.val / 8) + n.val) % 2048 = n.val; omega)
  · intro n j
    refine ((blk_v m c t n j).trans (entry_v m c _ j)).trans ?_
    unfold slotV
    rw [key_val, ← hv]
    refine congrArg (m ((c : Thread nD τ).loc main_arg2) : FVec Ideal S8x2048x4x128 .f32) ?_
    congr 1
    · exact Fin.ext (by show (2048 * (t.val / 8) + n.val) / 2048 = t.val / 8; omega)
    · exact Fin.ext (by show (2048 * (t.val / 8) + n.val) % 2048 = n.val; omega)
  · rw [lam_eq]
    unfold attn
    rw [hi]
    congr 1
    · funext l
      rw [slotMean_eq q k v ⟨t.val / 8, by omega⟩ ⟨t.val % 8, by omega⟩ p h 0 _ (by rfl) l,
        slotMean_eq q k v ⟨t.val / 8, by omega⟩ ⟨t.val % 8, by omega⟩ p h 1 _ (by rfl) l]
    · funext l
      exact (blk_g m c t l).trans (entry_g m c l)

/-- The layer's result as an array of 16384 rows and 1024 columns. -/
def attnArr (q : Fin 8 → Fin 2048 → Fin 8 → Fin 128 → ℝ) (k v : Fin 8 → Fin 2048 → Fin 4 → Fin 128 → ℝ) (lam : EReal) (g : Fin 128 → EReal) :
    FVec Ideal S16384x1024 .bf16 := fun i =>
  attn q k v lam g ⟨(i 0).val / 2048, by have : (i 0).val < 16384 := (i 0).isLt; omega⟩ ⟨(i 0).val % 2048, by omega⟩
    ⟨(i 1).val / 128, by have : (i 1).val < 1024 := (i 1).isLt; omega⟩ ⟨(i 1).val % 128, by omega⟩

include hq hk hv in
/-- THE KERNEL'S ARRAY after the run. -/
theorem final : (dats m 0 c).arrAt 8 (cfgs 0).N
    = attnArr q k v (lamArg m c) (fun l => (m ((c : Thread nD τ).loc main_arg7) : FVec Ideal S128 .f32) (ix1 l)) := by
  refine (dats m 0 c).arrAt_eq_of_covers 8 _ (by decide +kernel) fun t _ y => ?_
  blk_simp
  rw [after0_8]
  have ht : t.val < 64 := (idx t).2.2.2.2.2.2.2.2.2.2
  have y0 : (y 0).val < 256 := (y 0).isLt
  have y1 : (y 1).val < 1024 := (y 1).isLt
  have e := point_at m c hq hk hv t ⟨(y 0).val, y0⟩ ⟨(y 1).val / 128, by omega⟩ ⟨(y 1).val % 128, by omega⟩
  have hy : (ix2 ⟨(y 0).val, y0⟩ ⟨128 * ((y 1).val / 128) + (y 1).val % 128, by omega⟩ : S256x1024.Idx) = y := by
    funext z
    match z with
    | ⟨0, _⟩ => rfl
    | ⟨1, _⟩ => exact Fin.ext (by show 128 * ((y 1).val / 128) + (y 1).val % 128 = (y 1).val; omega)
  refine ((congrArg (outsAt0 m c t) hy.symm).trans e).trans ?_
  unfold attnArr
  congr 1 <;> refine Fin.ext ?_ <;> blk_simp [idx t]
  · show t.val / 8 = (t.val * 256 + (y 0).val) / 2048
    omega
  · show 256 * (t.val % 8) + (y 0).val = (t.val * 256 + (y 0).val) % 2048
    omega

end Cert.DiffAttn

end
-- ==== Proof.Ref.lean ====
/- WHAT THE REFERENCE COMPUTES: its result, read at a row and a column, is `attn`. -/
module

public import proofs.«01_k».proof.Proof.Spec
public import proofs.«01_k».proof.Proof.Gen.ReferenceIdeal.Read
public import Idealize.ShloMosaic.Lib.ValueIdxRank6

@[expose] public section

set_option maxRecDepth 16384

noncomputable section

namespace Cert.DiffAttn.Ref

open Idealize.ShloMosaic Cert.ReferenceIdeal Cert.ReferenceIdeal.Gen Cert.ReferenceIdeal.Read

variable {x0 : FVec Ideal S8x2048x8x128 .f32} {x1 x2 : FVec Ideal S8x2048x4x128 .f32} {x3 x4 x5 x6 : FVec Ideal S64 .f32}
  {x7 : FVec Ideal S128 .f32} {q : Fin 8 → Fin 2048 → Fin 8 → Fin 128 → ℝ} {k v : Fin 8 → Fin 2048 → Fin 4 → Fin 128 → ℝ}
  (hq : ∀ b t h d, x0 (ix4 b t h d) = (q b t h d : EReal)) (hk : ∀ b t h d, x1 (ix4 b t h d) = (k b t h d : EReal))
  (hv : ∀ b t h d, x2 (ix4 b t h d) = (v b t h d : EReal))

theorem v0_at (b : Fin 8) (t : Fin 2048) (g : Fin 4) (r a : Fin 2) (d : Fin 64) :
    val_main_v0 (F := Ideal) x0 (ix6 b t g r a d) = x0 (ix4 b t ⟨2 * g.val + r.val, by omega⟩ ⟨64 * a.val + d.val, by omega⟩) := by
  unfold val_main_v0
  refine shapeCast_apply _ _ _ _ ?_
  rw [Shape.rowMajor_val_four, Shape.rowMajor_val_six]
  show ((b.val * 2048 + t.val) * 8 + (2 * g.val + r.val)) * 128 + (64 * a.val + d.val)
    = ((((b.val * 2048 + t.val) * 4 + g.val) * 2 + r.val) * 2 + a.val) * 64 + d.val
  omega

theorem v1_at (b : Fin 8) (t : Fin 2048) (g : Fin 4) (a : Fin 2) (d : Fin 64) :
    val_main_v1 (F := Ideal) x1 (ix5 b t g a d) = x1 (ix4 b t g ⟨64 * a.val + d.val, by omega⟩) := by
  unfold val_main_v1
  refine shapeCast_apply _ _ _ _ ?_
  rw [Shape.rowMajor_val_four, Shape.rowMajor_val_five]
  show ((b.val * 2048 + t.val) * 4 + g.val) * 128 + (64 * a.val + d.val)
    = (((b.val * 2048 + t.val) * 4 + g.val) * 2 + a.val) * 64 + d.val
  omega

theorem negInf : Ideal.ofBits .f32 0xFF800000#32 = ⊥ := by
  simp [Ideal.ofBits, Ideal.ieee]

include hq hk in
/-- The scaled scores. -/
theorem v5_at (b : Fin 8) (a : Fin 2) (g : Fin 4) (r : Fin 2) (t c : Fin 2048) :
    val_main_v5 (F := Ideal) x0 x1 (ix6 b a g r t c) = (sc q k b t ⟨2 * g.val + r.val, by omega⟩ a c.val : EReal) := by
  have hc : Ideal.ofBits .f32 0x3E000000#32 = ((1 / 8 : ℝ) : EReal) := by
    simp [Ideal.ofBits, Ideal.ieee, -EReal.coe_mul]; norm_num
  rw [val_main_v5_apply, val_main_v3_apply, val_main_v2_apply, val_main_v4_apply, val_main_cst_apply]
  refine (congrArg₂ (· * ·) (?_ : _ = ((∑ d : Fin 64, k b c g ⟨64 * a.val + d.val, by omega⟩ * q b t ⟨2 * g.val + r.val, by omega⟩ ⟨64 * a.val + d.val, by omega⟩ : ℝ) : EReal)) hc).trans ?_
  · rw [← coe_sum]
    refine Finset.sum_congr rfl fun d _ => ?_
    rw [EReal.coe_mul, ← hq, ← hk]
    refine congrArg₂ (· * ·) ((congrArg _ ?_).trans (v1_at b c g a d)) ((congrArg _ ?_).trans (v0_at b t g r a d))
    · funext z; match z with | ⟨0, _⟩ => rfl | ⟨1, _⟩ => rfl | ⟨2, _⟩ => rfl | ⟨3, _⟩ => rfl | ⟨4, _⟩ => rfl
    · funext z; match z with | ⟨0, _⟩ => rfl | ⟨1, _⟩ => rfl | ⟨2, _⟩ => rfl | ⟨3, _⟩ => rfl | ⟨4, _⟩ => rfl | ⟨5, _⟩ => rfl
  · rw [← EReal.coe_mul]
    unfold sc
    simp only [key_val]
    have hg : (⟨(2 * g.val + r.val) / 2, by omega⟩ : Fin 4) = g := Fin.ext (by show (2 * g.val + r.val) / 2 = g.val; omega)
    rw [hg]

include hq hk in
/-- The masked scores: a key after the query has the score `-∞`. -/
theorem v12_at (b : Fin 8) (a : Fin 2) (g : Fin 4) (r : Fin 2) (t c : Fin 2048) :
    val_main_v12 (F := Ideal) x0 x1 (ix6 b a g r t c)
      = score (sc q k b t ⟨2 * g.val + r.val, by omega⟩ a) (fun c => c ≤ t.val) c.val := by
  have hm : val_main_call0_v1 (F := Ideal) (ix6 b a g r t c) = if c.val ≤ t.val then 1#1 else 0#1 := by
    rw [val_main_call0_v1_apply, val_main_v11_apply, val_main_v9_apply, val_main_v10_apply, val_main_v7_apply, val_main_v8_apply,
      val_main_v6_apply, val_main_v6_apply]
    refine (WordCmp.cmpi_sle_ofNat (w := 32) (a := c.val) (b := t.val) (by omega) (by omega)).trans ?_
    by_cases h : c.val ≤ t.val
    · rw [if_pos h, decide_eq_true h]; rfl
    · rw [if_neg h, decide_eq_false h]; rfl
  have hb : val_main_call0_v2 (F := Ideal) (ix6 b a g r t c) = ⊥ := by
    rw [val_main_call0_v2_apply, val_main_call0_v0_apply, val_main_cst_0_apply]
    exact negInf
  rw [val_main_v12_apply, hm, hb, v5_at hq hk]
  unfold score
  by_cases h : c.val ≤ t.val
  · rw [if_pos h, if_pos h]; rfl
  · rw [if_neg h, if_neg h]; rfl

include hq hk in
/-- The greatest score of a row is real: the query's own key is admitted, and no score is `+∞`. -/
theorem v15_at (b : Fin 8) (a : Fin 2) (g : Fin 4) (r : Fin 2) (t : Fin 2048) :
    ∃ M : ℝ, val_main_v15 (F := Ideal) x0 x1 (ix5 b a g r t) = (M : EReal) := by
  have h13 : ∃ M : ℝ, val_main_v13 (F := Ideal) x0 x1 (ix5 b a g r t) = (M : EReal) := by
    unfold val_main_v13
    rw [Host.reduce_eq_fold]
    have hi : val_main_cst_1 (F := Ideal) (Shape.Idx.first h_S_) = (⊥ : EReal) := negInf
    rw [hi]
    refine ⟨_, (EReal.coe_toReal (ne_of_lt ((Finset.fold_max_lt (⊤ : EReal)).2 ⟨bot_lt_top, fun i _ => ?_⟩))
      (ne_of_gt ((Finset.lt_fold_max (⊥ : EReal)).2 (.inr ⟨ix6 b a g r t t, ?_, ?_⟩)))).symm⟩
    · refine lt_of_eq_of_lt ((congrArg _ (eq_ix6 i)).trans (v12_at hq hk (i 0) (i 1) (i 2) (i 3) (i 4) (i 5))) ?_
      unfold score
      split_ifs
      · exact EReal.coe_lt_top _
      · exact bot_lt_top
    · refine Finset.mem_filter.2 ⟨Finset.mem_univ _, ?_⟩
      funext z
      match z with
      | ⟨0, _⟩ => rfl
      | ⟨1, _⟩ => rfl
      | ⟨2, _⟩ => rfl
      | ⟨3, _⟩ => rfl
      | ⟨4, _⟩ => rfl
    · rw [v12_at hq hk]
      unfold score
      rw [if_pos le_rfl]
      exact EReal.bot_lt_coe _
  obtain ⟨M, hM⟩ := h13
  refine ⟨M, ?_⟩
  rw [val_main_v15_apply, hM, val_main_v14_apply, val_main_cst_2_apply]
  refine (congrArg (fun z : EReal => max z (M : EReal)) negInf).trans ?_
  exact max_eq_right bot_le

include hq hk in
/-- The softmax weights. -/
theorem v23_at (b : Fin 8) (a : Fin 2) (g : Fin 4) (r : Fin 2) (t c : Fin 2048) :
    val_main_v23 (F := Ideal) x0 x1 (ix6 b a g r t c)
      = ((weight (sc q k b t ⟨2 * g.val + r.val, by omega⟩ a) (fun c => c ≤ t.val) c.val
          / ∑ k' ∈ Finset.range 2048, weight (sc q k b t ⟨2 * g.val + r.val, by omega⟩ a) (fun c => c ≤ t.val) k' : ℝ) : EReal) := by
  obtain ⟨M, hM⟩ := v15_at hq hk b a g r t
  have h19 : ∀ c : Fin 2048, val_main_v19 (F := Ideal) x0 x1 (ix6 b a g r t c)
      = Ideal.exp (score (sc q k b t ⟨2 * g.val + r.val, by omega⟩ a) (fun c => c ≤ t.val) c.val - (M : EReal)) := by
    intro c
    have h17 : val_main_v17 (F := Ideal) x0 x1 (ix6 b a g r t c) = (M : EReal) := by
      rw [val_main_v17_apply, val_main_v16_apply, ← hM]
      refine congrArg (val_main_v15 (F := Ideal) x0 x1) ?_
      funext z; match z with | ⟨0, _⟩ => rfl | ⟨1, _⟩ => rfl | ⟨2, _⟩ => rfl | ⟨3, _⟩ => rfl | ⟨4, _⟩ => rfl
    rw [val_main_v19_apply, val_main_v18_apply, v12_at hq hk, h17]
    rfl
  have h22 : val_main_v22 (F := Ideal) x0 x1 (ix6 b a g r t c)
      = ∑ c : Fin 2048, Ideal.exp (score (sc q k b t ⟨2 * g.val + r.val, by omega⟩ a) (fun c => c ≤ t.val) c.val - (M : EReal)) := by
    rw [val_main_v22_apply, val_main_v21_apply, val_main_v20_apply, val_main_cst_3_apply]
    refine (congrArg (fun z : EReal => z + _) (show Ideal.ofBits .f32 0x00000000#32 = 0 by simp [Ideal.ofBits, Ideal.ieee])).trans ?_
    rw [zero_add]
    refine Finset.sum_congr rfl fun c _ => (congrArg (val_main_v19 (F := Ideal) x0 x1) ?_).trans (h19 c)
    funext z; match z with | ⟨0, _⟩ => rfl | ⟨1, _⟩ => rfl | ⟨2, _⟩ => rfl | ⟨3, _⟩ => rfl | ⟨4, _⟩ => rfl | ⟨5, _⟩ => rfl
  rw [val_main_v23_apply, h19, h22]
  exact softmax_coe (fun c => c ≤ t.val) _ 2048 ⟨0, by norm_num, Nat.zero_le _⟩ M c.val

/-- Dropping the axis of size one a slice leaves. -/
theorem v33_at (b : Fin 8) (g : Fin 4) (r : Fin 2) (t c : Fin 2048) :
    val_main_v33 (F := Ideal) x0 x1 (ix5 b g r t c) = val_main_v23 (F := Ideal) x0 x1 (ix6 b 0 g r t c) := by
  unfold val_main_v33
  refine (shapeCast_apply _ _ _ (ix6 b 0 g r t c) ?_).trans ?_
  · rw [Shape.rowMajor_val_five, Shape.rowMajor_val_six]
    show ((((b.val * 1 + 0) * 4 + g.val) * 2 + r.val) * 2048 + t.val) * 2048 + c.val
      = (((b.val * 4 + g.val) * 2 + r.val) * 2048 + t.val) * 2048 + c.val
    omega
  · rw [val_main_v32_apply]
    refine congrArg (val_main_v23 (F := Ideal) x0 x1) ?_
    funext z; match z with | ⟨0, _⟩ => rfl | ⟨1, _⟩ => rfl | ⟨2, _⟩ => rfl | ⟨3, _⟩ => rfl | ⟨4, _⟩ => rfl | ⟨5, _⟩ => rfl

theorem v35_at (b : Fin 8) (g : Fin 4) (r : Fin 2) (t c : Fin 2048) :
    val_main_v35 (F := Ideal) x0 x1 (ix5 b g r t c) = val_main_v23 (F := Ideal) x0 x1 (ix6 b 1 g r t c) := by
  unfold val_main_v35
  refine (shapeCast_apply _ _ _ (ix6 b 0 g r t c) ?_).trans ?_
  · rw [Shape.rowMajor_val_five, Shape.rowMajor_val_six]
    show ((((b.val * 1 + 0) * 4 + g.val) * 2 + r.val) * 2048 + t.val) * 2048 + c.val
      = (((b.val * 4 + g.val) * 2 + r.val) * 2048 + t.val) * 2048 + c.val
    omega
  · rw [val_main_v34_apply]
    refine congrArg (val_main_v23 (F := Ideal) x0 x1) ?_
    funext z; match z with | ⟨0, _⟩ => rfl | ⟨1, _⟩ => rfl | ⟨2, _⟩ => rfl | ⟨3, _⟩ => rfl | ⟨4, _⟩ => rfl | ⟨5, _⟩ => rfl

/-- The weight of the second softmax. -/
theorem v31_at (i : S_.Idx) :
    val_main_v31 (F := Ideal) x3 x4 x5 x6 i
      = lamOf (fun d => x3 (ix1 d)) (fun d => x4 (ix1 d)) (fun d => x5 (ix1 d)) (fun d => x6 (ix1 d)) := by
  have hz : ∀ z : EReal, Ideal.ofBits .f32 0x00000000#32 + z = z := fun z => by
    rw [show Ideal.ofBits .f32 0x00000000#32 = 0 by simp [Ideal.ofBits, Ideal.ieee], zero_add]
  have h25 : val_main_v25 (F := Ideal) x3 x4 i = ∑ d : Fin 64, x3 (ix1 d) * x4 (ix1 d) := by
    rw [val_main_v25_apply, sum_idx1]
    exact hz _
  have h28 : val_main_v28 (F := Ideal) x5 x6 i = ∑ d : Fin 64, x5 (ix1 d) * x6 (ix1 d) := by
    rw [val_main_v28_apply, sum_idx1]
    exact hz _
  rw [val_main_v31_apply, val_main_v30_apply, val_main_v26_apply, val_main_v29_apply, h25, h28]
  rfl

include hq hk hv in
/-- The attention of one head: the difference of the two means. -/
theorem v39_at (lam : ℝ) (hl : ∀ i, val_main_v31 (F := Ideal) x3 x4 x5 x6 i = (lam : EReal)) (b : Fin 8) (g : Fin 4) (l : Fin 128)
    (r : Fin 2) (t : Fin 2048) :
    val_main_v39 (F := Ideal) x0 x1 x2 x3 x4 x5 x6 (ix5 b g l r t)
      = ((part q k v b t ⟨2 * g.val + r.val, by omega⟩ 0 l - lam * part q k v b t ⟨2 * g.val + r.val, by omega⟩ 1 l : ℝ) : EReal) := by
  have hg : (⟨(2 * g.val + r.val) / 2, by omega⟩ : Fin 4) = g := Fin.ext (by show (2 * g.val + r.val) / 2 = g.val; omega)
  have h38 : ∀ c : Fin 2048, val_main_v38 (F := Ideal) x0 x1 x3 x4 x5 x6 (ix5 b g r t c)
      = val_main_v23 (F := Ideal) x0 x1 (ix6 b 0 g r t c) - (lam : EReal) * val_main_v23 (F := Ideal) x0 x1 (ix6 b 1 g r t c) := by
    intro c
    rw [val_main_v38_apply, v33_at, val_main_v37_apply, v35_at, val_main_v36_apply, hl]
    rfl
  rw [val_main_v39_apply]
  refine Eq.trans ?_ (diff_sum (fun c => c ≤ t.val) (sc q k b t ⟨2 * g.val + r.val, by omega⟩ 0) (sc q k b t ⟨2 * g.val + r.val, by omega⟩ 1)
    (fun c => v b (key c) ⟨(2 * g.val + r.val) / 2, by omega⟩ l) lam 2048)
  refine Finset.sum_congr rfl fun c _ => congrArg₂ (· * ·) ?_ ?_
  · rw [key_val, hg, ← hv]
    refine congrArg x2 ?_
    funext z; match z with | ⟨0, _⟩ => rfl | ⟨1, _⟩ => rfl | ⟨2, _⟩ => rfl | ⟨3, _⟩ => rfl
  · rw [← v23_at hq hk, ← v23_at hq hk, ← h38]
    refine congrArg (val_main_v38 (F := Ideal) x0 x1 x3 x4 x5 x6) ?_
    funext z; match z with | ⟨0, _⟩ => rfl | ⟨1, _⟩ => rfl | ⟨2, _⟩ => rfl | ⟨3, _⟩ => rfl | ⟨4, _⟩ => rfl

include hq hk hv in
theorem v41_at (lam : ℝ) (hl : ∀ i, val_main_v31 (F := Ideal) x3 x4 x5 x6 i = (lam : EReal)) (b : Fin 8) (t : Fin 2048) (h : Fin 8)
    (l : Fin 128) :
    val_main_v41 (F := Ideal) x0 x1 x2 x3 x4 x5 x6 (ix4 b t h l)
      = (part q k v b t h 0 l : EReal) - (lam : EReal) * (part q k v b t h 1 l : EReal) := by
  have e : (⟨2 * (h.val / 2) + h.val % 2, by omega⟩ : Fin 8) = h := Fin.ext (by show 2 * (h.val / 2) + h.val % 2 = h.val; omega)
  have e39 := v39_at hq hk hv lam hl b ⟨h.val / 2, by omega⟩ l ⟨h.val % 2, by omega⟩ t
  rw [e] at e39
  rw [← EReal.coe_mul, ← EReal.coe_sub, ← e39, val_main_v41_apply, val_main_v40_apply]
  refine congrArg (val_main_v39 (F := Ideal) x0 x1 x2 x3 x4 x5 x6) ?_
  funext z
  match z with
  | ⟨0, _⟩ => exact Fin.ext (by show (((b.val * 2048 + t.val) * 8 + h.val) * 128 + l.val) / 2097152 = b.val; omega)
  | ⟨1, _⟩ => exact Fin.ext (by show (((b.val * 2048 + t.val) * 8 + h.val) * 128 + l.val) / 256 % 4 = h.val / 2; omega)
  | ⟨2, _⟩ => exact Fin.ext (by show (((b.val * 2048 + t.val) * 8 + h.val) * 128 + l.val) % 128 = l.val; omega)
  | ⟨3, _⟩ => exact Fin.ext (by show (((b.val * 2048 + t.val) * 8 + h.val) * 128 + l.val) / 128 % 2 = h.val % 2; omega)
  | ⟨4, _⟩ => exact Fin.ext (by show (((b.val * 2048 + t.val) * 8 + h.val) * 128 + l.val) / 1024 % 2048 = t.val; omega)

include hq hk hv in
/-- The normalised attention, read at its coordinates. -/
theorem v56_at (lam : ℝ) (hl : ∀ i, val_main_v31 (F := Ideal) x3 x4 x5 x6 i = (lam : EReal)) (b : Fin 8) (t : Fin 2048) (h : Fin 8)
    (l : Fin 128) :
    val_main_v56 (F := Ideal) x0 x1 x2 x3 x4 x5 x6 x7 (ix4 b t h l) = attn q k v (lam : EReal) (fun l => x7 (ix1 l)) b t h l := by
  have h43 : val_main_v43 (F := Ideal) x0 x1 x2 x3 x4 x5 x6 (ix3 b t h)
      = ∑ l : Fin 128, ((part q k v b t h 0 l : EReal) - (lam : EReal) * (part q k v b t h 1 l : EReal))
          * ((part q k v b t h 0 l : EReal) - (lam : EReal) * (part q k v b t h 1 l : EReal)) := by
    rw [val_main_v43_apply, val_main_cst_7_apply]
    refine (congrArg (fun z : EReal => z + _) (show Ideal.ofBits .f32 0x00000000#32 = 0 by simp [Ideal.ofBits, Ideal.ieee])).trans ?_
    rw [zero_add]
    refine Finset.sum_congr rfl fun l _ => ?_
    have e : idx_main_v43 (ix3 b t h) l = ix4 b t h l := by
      funext z; match z with | ⟨0, _⟩ => rfl | ⟨1, _⟩ => rfl | ⟨2, _⟩ => rfl | ⟨3, _⟩ => rfl
    rw [e, val_main_v42_apply, v41_at hq hk hv lam hl]
    rfl
  have h50 : val_main_v50 (F := Ideal) x0 x1 x2 x3 x4 x5 x6 (ix4 b t h l)
      = Ideal.rsqrt (Ideal.div (val_main_v43 (F := Ideal) x0 x1 x2 x3 x4 x5 x6 (ix3 b t h)) (Ideal.ofBits .f32 0x43000000#32)
          + Ideal.ofBits .f32 0x3727C5AC#32) := by
    rw [val_main_v50_apply, val_main_v49_apply, val_main_v48_apply, val_main_v46_apply, val_main_v44_apply, val_main_v45_apply,
      val_main_v47_apply, val_main_cst_8_apply, val_main_cst_9_apply]
    have e : idx_main_v44 (idx_main_v50 (ix4 b t h l)) = ix3 b t h := by
      funext z; match z with | ⟨0, _⟩ => rfl | ⟨1, _⟩ => rfl | ⟨2, _⟩ => rfl
    rw [e]
    rfl
  have h53 : val_main_v53 (F := Ideal) x7 (ix4 b t h l) = x7 (ix1 l) := by
    rw [val_main_v53_apply, val_main_v52_apply]
    refine congrArg x7 ?_
    funext z; match z with | ⟨0, _⟩ => rfl
  rw [val_main_v56_apply, val_main_v54_apply, val_main_v51_apply, v41_at hq hk hv lam hl, h50, h43, h53, val_main_v55_apply,
    val_main_cst_10_apply]
  rfl

include hq hk hv in
/-- The reference's result at row `2048 b + t`, column `128 h + l`. -/
theorem result_at (lam : ℝ)
    (hl : lamOf (fun d => x3 (ix1 d)) (fun d => x4 (ix1 d)) (fun d => x5 (ix1 d)) (fun d => x6 (ix1 d)) = (lam : EReal))
    (b : Fin 8) (t : Fin 2048) (h : Fin 8) (l : Fin 128) :
    val_main_v58 (F := Ideal) x0 x1 x2 x3 x4 x5 x6 x7 (ix2 ⟨2048 * b.val + t.val, by omega⟩ ⟨128 * h.val + l.val, by omega⟩)
      = attn q k v (lam : EReal) (fun l => x7 (ix1 l)) b t h l := by
  rw [val_main_v58_apply, val_main_v57_apply, ← v56_at hq hk hv lam (fun i => (v31_at i).trans hl)]
  refine congrArg (val_main_v56 (F := Ideal) x0 x1 x2 x3 x4 x5 x6 x7) ?_
  funext z
  match z with
  | ⟨0, _⟩ => exact Fin.ext (by show ((2048 * b.val + t.val) * 1024 + (128 * h.val + l.val)) / 2097152 = b.val; omega)
  | ⟨1, _⟩ => exact Fin.ext (by show ((2048 * b.val + t.val) * 1024 + (128 * h.val + l.val)) / 1024 % 2048 = t.val; omega)
  | ⟨2, _⟩ => exact Fin.ext (by show ((2048 * b.val + t.val) * 1024 + (128 * h.val + l.val)) / 128 % 8 = h.val; omega)
  | ⟨3, _⟩ => exact Fin.ext (by show ((2048 * b.val + t.val) * 1024 + (128 * h.val + l.val)) % 128 = l.val; omega)

end Cert.DiffAttn.Ref

end
-- ==== Proof.Finite.lean ====
/- THE PRECONDITION: an array whose absolute values are all below `+∞` is an array of real numbers. -/
module

public import proofs.«01_k».proof.Pre_finite
public import Idealize.ShloMosaic.Lib.IdealHost

@[expose] public section

noncomputable section

namespace Cert.DiffAttn

open Idealize.ShloMosaic

theorem real_of_lt (x : EReal) (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  have hlt : max x (-x) < ⊤ := by
    by_contra hn
    unfold Ideal.cmp at h
    simp [hn] at h
  rw [max_lt_iff] at hlt
  refine (EReal.coe_toReal hlt.1.ne ?_).symm
  intro hb
  rw [hb] at hlt
  simp at hlt

variable [Cert.Pre_finite.Facts]

open Cert.Pre_finite

/-- What the precondition says of the seven arrays it reads. -/
structure AllReal (x0 : FVec Ideal S8x2048x8x128 .f32) (x1 x2 : FVec Ideal S8x2048x4x128 .f32) (x3 x4 x5 x6 : FVec Ideal S64 .f32) : Prop where
  q : ∀ i, x0 i = (((x0 i : EReal).toReal : ℝ) : EReal)
  k : ∀ i, x1 i = (((x1 i : EReal).toReal : ℝ) : EReal)
  v : ∀ i, x2 i = (((x2 i : EReal).toReal : ℝ) : EReal)
  l3 : ∀ i, x3 i = (((x3 i : EReal).toReal : ℝ) : EReal)
  l4 : ∀ i, x4 i = (((x4 i : EReal).toReal : ℝ) : EReal)
  l5 : ∀ i, x5 i = (((x5 i : EReal).toReal : ℝ) : EReal)
  l6 : ∀ i, x6 i = (((x6 i : EReal).toReal : ℝ) : EReal)

theorem allReal_of (x0 : FVec Ideal S8x2048x8x128 .f32) (x1 x2 : FVec Ideal S8x2048x4x128 .f32) (x3 x4 x5 x6 : FVec Ideal S64 .f32)
    (x7 : FVec Ideal S128 .f32)
    (h : (fn (F := Ideal) x0 x1 x2 x3 x4 x5 x6 x7).1 = (fun _ => 1#1) ∧ (fn (F := Ideal) x0 x1 x2 x3 x4 x5 x6 x7).2.1 = (fun _ => 1#1)
      ∧ (fn (F := Ideal) x0 x1 x2 x3 x4 x5 x6 x7).2.2.1 = (fun _ => 1#1) ∧ (fn (F := Ideal) x0 x1 x2 x3 x4 x5 x6 x7).2.2.2.1 = (fun _ => 1#1)
      ∧ (fn (F := Ideal) x0 x1 x2 x3 x4 x5 x6 x7).2.2.2.2.1 = (fun _ => 1#1)
      ∧ (fn (F := Ideal) x0 x1 x2 x3 x4 x5 x6 x7).2.2.2.2.2.1 = (fun _ => 1#1)
      ∧ (fn (F := Ideal) x0 x1 x2 x3 x4 x5 x6 x7).2.2.2.2.2.2 = (fun _ => 1#1)) : AllReal x0 x1 x2 x3 x4 x5 x6 := by
  obtain ⟨h0, h1, h2, h3, h4, h5, h6⟩ := h
  exact ⟨fun i => real_of_lt _ (congrFun h0 i), fun i => real_of_lt _ (congrFun h1 i), fun i => real_of_lt _ (congrFun h2 i),
    fun i => real_of_lt _ (congrFun h3 i), fun i => real_of_lt _ (congrFun h4 i), fun i => real_of_lt _ (congrFun h5 i),
    fun i => real_of_lt _ (congrFun h6 i)⟩

end Cert.DiffAttn

end
-- ==== Proof.Equation.lean ====
/- THE EQUATION: of real arguments the kernel's array and the reference's result are one array. -/
module

public import proofs.«01_k».proof.Proof.Value
public import proofs.«01_k».proof.Proof.Ref
public import proofs.«01_k».proof.Proof.Finite

@[expose] public section

set_option maxRecDepth 16384

noncomputable section

namespace Cert.DiffAttn

open Idealize.ShloMosaic Idealize.ShloMosaic.TcCoe

/-- The real numbers of an array, by coordinates. -/
def reals {a b c d : ℕ} (x : FVec Ideal ⟨4, ![a, b, c, d]⟩ .f32) (i : Fin a) (j : Fin b) (k : Fin c) (l : Fin d) : ℝ :=
  (x (ix4 i j k l) : EReal).toReal

theorem reference_eq (x0 : FVec Ideal Cert.ReferenceIdeal.S8x2048x8x128 .f32) (x1 x2 : FVec Ideal Cert.ReferenceIdeal.S8x2048x4x128 .f32)
    (x3 x4 x5 x6 : FVec Ideal Cert.ReferenceIdeal.S64 .f32) (x7 : FVec Ideal Cert.ReferenceIdeal.S128 .f32)
    (h : AllReal x0 x1 x2 x3 x4 x5 x6) :
    Cert.ReferenceIdeal.Read.val_main_v58 (F := Ideal) x0 x1 x2 x3 x4 x5 x6 x7
      = attnArr (reals x0) (reals x1) (reals x2)
          (lamOf (fun d => x3 (ix1 d)) (fun d => x4 (ix1 d)) (fun d => x5 (ix1 d)) (fun d => x6 (ix1 d))) (fun l => x7 (ix1 l)) := by
  obtain ⟨r, hr⟩ := lamOf_real (fun d => (x3 (ix1 d) : EReal).toReal) (fun d => (x4 (ix1 d) : EReal).toReal)
    (fun d => (x5 (ix1 d) : EReal).toReal) (fun d => (x6 (ix1 d) : EReal).toReal)
  have hl : lamOf (fun d => x3 (ix1 d)) (fun d => x4 (ix1 d)) (fun d => x5 (ix1 d)) (fun d => x6 (ix1 d)) = (r : EReal) := by
    rw [← hr]
    congr 1 <;> funext d
    · exact h.l3 _
    · exact h.l4 _
    · exact h.l5 _
    · exact h.l6 _
  funext i
  have i0 : (i 0).val < 16384 := (i 0).isLt
  have i1 : (i 1).val < 1024 := (i 1).isLt
  have hi : (ix2 ⟨2048 * ((i 0).val / 2048) + (i 0).val % 2048, by omega⟩ ⟨128 * ((i 1).val / 128) + (i 1).val % 128, by omega⟩
      : Cert.ReferenceIdeal.S16384x1024.Idx) = i := by
    funext z
    match z with
    | ⟨0, _⟩ => exact Fin.ext (by show 2048 * ((i 0).val / 2048) + (i 0).val % 2048 = (i 0).val; omega)
    | ⟨1, _⟩ => exact Fin.ext (by show 128 * ((i 1).val / 128) + (i 1).val % 128 = (i 1).val; omega)
  have e := Ref.result_at (x0 := x0) (x1 := x1) (x2 := x2) (x7 := x7) (q := reals x0) (k := reals x1) (v := reals x2)
    (fun b t h' d => h.q _) (fun b t h' d => h.k _) (fun b t h' d => h.v _) r hl
    ⟨(i 0).val / 2048, by omega⟩ ⟨(i 0).val % 2048, by omega⟩ ⟨(i 1).val / 128, by omega⟩ ⟨(i 1).val % 128, by omega⟩
  refine ((congrArg _ hi.symm).trans e).trans ?_
  unfold attnArr
  rw [hl]

open Cert.KernelIdeal Cert.KernelIdeal.Gen in
/-- The kernel's array is the reference's term over the same arguments. -/
theorem kernel_eq [Cert.Pre_finite.Facts] (m : (ℓ : Loc nD τ sig) → Buf (Elt Ideal) ℓ) (c : Dev nD)
    (h : AllReal (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6))) :
    (dats m 0 c).arrAt 8 (cfgs 0).N
      = Cert.ReferenceIdeal.Read.val_main_v58 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  rw [reference_eq _ _ _ _ _ _ _ _ h]
  exact final m c (fun b t h' d => h.q _) (fun b t h' d => h.k _) (fun b t h' d => h.v _)

end Cert.DiffAttn

end
-- ==== Proof.PostSpec.lean ====
/- THE SECOND HALF OF A LAYER, ROW BY ROW, over the extended reals: the attention's output times the output weights, normalised and
   added to the layer's input; then the two-matrix network with squared rectification, normalised and added. -/
module

public import Idealize.ShloMosaic.Lib.Pointwise

@[expose] public section

noncomputable section

namespace Cert.PostBlock

open Idealize.ShloMosaic

/-- A row divided by its root mean square, times the gains. -/
def rowNorm (x g : Fin 1024 → EReal) (j : Fin 1024) : EReal :=
  x j * Ideal.rsqrt (Ideal.div (∑ k, x k * x k) (Ideal.ofBits .f32 0x44800000#32) + Ideal.ofBits .f32 0x358637BD#32) * g j

/-- A row times a matrix. -/
def rowMul {n p : ℕ} (x : Fin n → EReal) (w : Fin n → Fin p → EReal) (j : Fin p) : EReal := ∑ k, x k * w k j

/-- The row after the attention: the layer's input plus the normalised projection. -/
def mixed (o x : Fin 1024 → EReal) (w : Fin 1024 → Fin 1024 → EReal) (g : Fin 1024 → EReal) (j : Fin 1024) : EReal :=
  x j + rowNorm (rowMul o w) g j

/-- A hidden unit before squaring. -/
def hidden {n : ℕ} (h : Fin 1024 → EReal) (u : Fin 1024 → Fin n → EReal) (k : Fin n) : EReal := max (rowMul h u k) 0

/-- The two-matrix network on a row. -/
def network {n : ℕ} (h : Fin 1024 → EReal) (u : Fin 1024 → Fin n → EReal) (d : Fin n → Fin 1024 → EReal) (j : Fin 1024) : EReal :=
  ∑ k, hidden h u k * hidden h u k * d k j

/-- The row the layer returns. -/
def post (o x : Fin 1024 → EReal) (w : Fin 1024 → Fin 1024 → EReal) (g₁ g₂ : Fin 1024 → EReal) (u : Fin 1024 → Fin 4096 → EReal)
    (d : Fin 4096 → Fin 1024 → EReal) (g₃ : Fin 1024 → EReal) (j : Fin 1024) : EReal :=
  mixed o x w g₁ j + rowNorm (network (rowNorm (mixed o x w g₁) g₂) u d) g₃ j

theorem post_congr {o o' x x' : Fin 1024 → EReal} {w w' : Fin 1024 → Fin 1024 → EReal} {g₁ g₁' g₂ g₂' : Fin 1024 → EReal}
    {u u' : Fin 1024 → Fin 4096 → EReal} {d d' : Fin 4096 → Fin 1024 → EReal} {g₃ g₃' : Fin 1024 → EReal}
    (ho : ∀ k, o k = o' k) (hx : ∀ k, x k = x' k) (hw : ∀ k l, w k l = w' k l) (h₁ : ∀ k, g₁ k = g₁' k) (h₂ : ∀ k, g₂ k = g₂' k)
    (hu : ∀ k l, u k l = u' k l) (hd : ∀ k l, d k l = d' k l) (h₃ : ∀ k, g₃ k = g₃' k) (j : Fin 1024) :
    post o x w g₁ g₂ u d g₃ j = post o' x' w' g₁' g₂' u' d' g₃' j := by
  rw [funext ho, funext hx, funext₂ hw, funext h₁, funext h₂, funext₂ hu, funext₂ hd, funext h₃]

/-- A sum over 4096 indices is the sum of its four quarters' sums. -/
theorem sum_quarters (f : Fin 4096 → EReal) :
    ∑ k, f k = (((∑ k : Fin 1024, f ⟨k.val, by omega⟩) + ∑ k : Fin 1024, f ⟨1024 + k.val, by omega⟩)
      + ∑ k : Fin 1024, f ⟨2048 + k.val, by omega⟩) + ∑ k : Fin 1024, f ⟨3072 + k.val, by omega⟩ := by
  refine (Fin.sum_univ_add (a := 3072) (b := 1024) f).trans (congrArg₂ (· + ·) ?_ rfl)
  refine (Fin.sum_univ_add (a := 2048) (b := 1024) fun k : Fin 3072 => f ⟨k.val, by omega⟩).trans (congrArg₂ (· + ·) ?_ rfl)
  exact Fin.sum_univ_add (a := 1024) (b := 1024) fun k : Fin 2048 => f ⟨k.val, by omega⟩

/-- The network is the sum of what the four quarters of its hidden units give. -/
theorem network_quarters (h : Fin 1024 → EReal) (u : Fin 1024 → Fin 4096 → EReal) (d : Fin 4096 → Fin 1024 → EReal) (j : Fin 1024) :
    network h u d j
      = (((network h (fun i (k : Fin 1024) => u i ⟨k.val, by omega⟩) (fun k => d ⟨k.val, by omega⟩) j
          + network h (fun i (k : Fin 1024) => u i ⟨1024 + k.val, by omega⟩) (fun k => d ⟨1024 + k.val, by omega⟩) j)
          + network h (fun i (k : Fin 1024) => u i ⟨2048 + k.val, by omega⟩) (fun k => d ⟨2048 + k.val, by omega⟩) j)
          + network h (fun i (k : Fin 1024) => u i ⟨3072 + k.val, by omega⟩) (fun k => d ⟨3072 + k.val, by omega⟩) j) :=
  sum_quarters _

end Cert.PostBlock

end
-- ==== Proof.PostBody.lean ====
/- WHAT THE BODY COMPUTES: each step of the kernel body read at an entry is the row operation it stands for. -/
module

public import proofs.«01_k».proof.Proof.Gen.Kernel2Ideal.Skeleton
public import proofs.«01_k».proof.Proof.PostSpec

@[expose] public section

set_option maxRecDepth 16384

noncomputable section

namespace Cert.PostBlock

open Idealize.ShloMosaic Idealize.ShloMosaic.TcCoe Idealize.SL.Sem Cert.Kernel2Ideal Cert.Kernel2Ideal.Gen

/-- A row of a block. -/
abbrev rowOf {s : FTy} {n p : ℕ} (x : FVec Ideal ⟨2, ![n, p]⟩ s) (r : Fin n) (j : Fin p) : EReal := x (ix2 r j)

theorem pay2_at (o : FVec Ideal S512x1024 .bf16) (w : FVec Ideal S1024x1024 .bf16) (x : FVec Ideal S512x1024 .f32)
    (g : FVec Ideal S1x1024 .f32) (r : Fin 512) (j : Fin 1024) :
    k0_pay2 (F := Ideal) o w x g (ix2 r j) = mixed (rowOf o r) (rowOf x r) (rowOf w) (rowOf g 0) j := by
  pointwise! [k0_pay2, mixed, rowNorm, rowMul]

theorem pay3_at (o : FVec Ideal S512x1024 .bf16) (w : FVec Ideal S1024x1024 .bf16) (x : FVec Ideal S512x1024 .f32)
    (g g' : FVec Ideal S1x1024 .f32) (r : Fin 512) (j : Fin 1024) :
    k0_pay3 (F := Ideal) o w x g g' (ix2 r j)
      = rowNorm (mixed (rowOf o r) (rowOf x r) (rowOf w) (rowOf g 0)) (rowOf g' 0) j := by
  have e : rowNorm (mixed (rowOf o r) (rowOf x r) (rowOf w) (rowOf g 0)) (rowOf g' 0) j
      = rowNorm (rowOf (k0_pay2 (F := Ideal) o w x g) r) (rowOf g' 0) j :=
    congrArg (fun z => rowNorm z _ j) (funext fun k => (pay2_at o w x g r k).symm)
  rw [e]
  pointwise! [k0_pay3, rowNorm]

theorem pay6_at (h : FVec Ideal S512x1024 .bf16) (u : FVec Ideal S1024x1024 .bf16) (r : Fin 512) (j : Fin 1024) :
    k0_pay6 (F := Ideal) h u (ix2 r j) = hidden (rowOf h r) (rowOf u) j := by
  pointwise! [k0_pay6, hidden, rowMul]

theorem pay5_at (h : FVec Ideal S512x1024 .bf16) (u₀ d₀ u₁ d₁ u₂ d₂ : FVec Ideal S1024x1024 .bf16) (r : Fin 512) (j : Fin 1024) :
    k0_pay5 (F := Ideal) h (k0_pay4 (F := Ideal)) u₀ d₀ u₁ d₁ u₂ d₂ (ix2 r j)
      = (network (rowOf h r) (rowOf u₀) (rowOf d₀) j + network (rowOf h r) (rowOf u₁) (rowOf d₁) j)
        + network (rowOf h r) (rowOf u₂) (rowOf d₂) j := by
  pointwise! [k0_pay5, k0_pay4, network, hidden, rowMul]

theorem pay1_at (x f q : FVec Ideal S512x1024 .f32) (d : FVec Ideal S1024x1024 .bf16) (g : FVec Ideal S1x1024 .f32)
    (r : Fin 512) (j : Fin 1024) :
    k0_pay1 (F := Ideal) x f q d g (ix2 r j)
      = rowOf x r j + rowNorm (fun l => rowOf f r l + ∑ k, rowOf q r k * rowOf q r k * rowOf d k l) (rowOf g 0) j := by
  pointwise! [k0_pay1, rowNorm]

/-- THE WHOLE BODY on a row, from the four quarters of the two matrices. -/
theorem body_at (o : FVec Ideal S512x1024 .bf16) (w : FVec Ideal S1024x1024 .bf16) (x : FVec Ideal S512x1024 .f32)
    (g₁ g₂ g₃ : FVec Ideal S1x1024 .f32) (u₀ d₀ u₁ d₁ u₂ d₂ u₃ d₃ : FVec Ideal S1024x1024 .bf16)
    (U : Fin 1024 → Fin 4096 → EReal) (D : Fin 4096 → Fin 1024 → EReal)
    (hu₀ : ∀ i k : Fin 1024, u₀ (ix2 i k) = U i ⟨k.val, by omega⟩) (hd₀ : ∀ k j : Fin 1024, d₀ (ix2 k j) = D ⟨k.val, by omega⟩ j)
    (hu₁ : ∀ i k : Fin 1024, u₁ (ix2 i k) = U i ⟨1024 + k.val, by omega⟩) (hd₁ : ∀ k j : Fin 1024, d₁ (ix2 k j) = D ⟨1024 + k.val, by omega⟩ j)
    (hu₂ : ∀ i k : Fin 1024, u₂ (ix2 i k) = U i ⟨2048 + k.val, by omega⟩) (hd₂ : ∀ k j : Fin 1024, d₂ (ix2 k j) = D ⟨2048 + k.val, by omega⟩ j)
    (hu₃ : ∀ i k : Fin 1024, u₃ (ix2 i k) = U i ⟨3072 + k.val, by omega⟩) (hd₃ : ∀ k j : Fin 1024, d₃ (ix2 k j) = D ⟨3072 + k.val, by omega⟩ j)
    (r : Fin 512) (j : Fin 1024) :
    k0_pay1 (F := Ideal) (k0_pay2 (F := Ideal) o w x g₁)
        (k0_pay5 (F := Ideal) (k0_pay3 (F := Ideal) o w x g₁ g₂) (k0_pay4 (F := Ideal)) u₀ d₀ u₁ d₁ u₂ d₂)
        (k0_pay6 (F := Ideal) (k0_pay3 (F := Ideal) o w x g₁ g₂) u₃) d₃ g₃ (ix2 r j)
      = post (rowOf o r) (rowOf x r) (rowOf w) (rowOf g₁ 0) (rowOf g₂ 0) U D (rowOf g₃ 0) j := by
  have eh : rowOf (k0_pay3 (F := Ideal) o w x g₁ g₂) r
      = rowNorm (mixed (rowOf o r) (rowOf x r) (rowOf w) (rowOf g₁ 0)) (rowOf g₂ 0) := funext fun k => pay3_at o w x g₁ g₂ r k
  have U₀ : rowOf u₀ = fun i (k : Fin 1024) => U i ⟨k.val, by omega⟩ := funext₂ hu₀
  have U₁ : rowOf u₁ = fun i (k : Fin 1024) => U i ⟨1024 + k.val, by omega⟩ := funext₂ hu₁
  have U₂ : rowOf u₂ = fun i (k : Fin 1024) => U i ⟨2048 + k.val, by omega⟩ := funext₂ hu₂
  have U₃ : rowOf u₃ = fun i (k : Fin 1024) => U i ⟨3072 + k.val, by omega⟩ := funext₂ hu₃
  have D₀ : rowOf d₀ = fun (k : Fin 1024) => D ⟨k.val, by omega⟩ := funext₂ hd₀
  have D₁ : rowOf d₁ = fun (k : Fin 1024) => D ⟨1024 + k.val, by omega⟩ := funext₂ hd₁
  have D₂ : rowOf d₂ = fun (k : Fin 1024) => D ⟨2048 + k.val, by omega⟩ := funext₂ hd₂
  have D₃ : rowOf d₃ = fun (k : Fin 1024) => D ⟨3072 + k.val, by omega⟩ := funext₂ hd₃
  refine (pay1_at _ _ _ _ _ r j).trans ?_
  refine congrArg₂ (fun a b : EReal => a + b) (pay2_at o w x g₁ r j) ?_
  refine congrArg (fun z => rowNorm z (rowOf g₃ 0) j) (funext fun l => ?_)
  rw [network_quarters, ← eh, ← U₀, ← U₁, ← U₂, ← U₃, ← D₀, ← D₁, ← D₂, ← D₃]
  refine congrArg₂ (fun a b : EReal => a + b) (pay5_at _ _ _ _ _ _ _ r l) ?_
  refine Finset.sum_congr rfl fun k _ => ?_
  exact congrArg (fun z : EReal => z * z * rowOf d₃ k l) (pay6_at _ u₃ r k)

end Cert.PostBlock

end
-- ==== Proof.PostRef.lean ====
/- WHAT THE REFERENCE COMPUTES for the second half of a layer: its result at an entry is `post` of the entry's rows. -/
module

public import proofs.«01_k».proof.Proof.PostSpec
public import proofs.«01_k».proof.Proof.Gen.Reference2Ideal.Read

@[expose] public section

set_option maxRecDepth 16384

noncomputable section

namespace Cert.PostBlock.Ref

open Idealize.ShloMosaic Idealize.ShloMosaic.TcCoe Cert.Reference2Ideal Cert.Reference2Ideal.Gen Cert.Reference2Ideal.Read

variable (x0 x1 : FVec Ideal S8x2048x1024 .f32) (x2 : FVec Ideal S1024x1024 .f32) (x3 x4 : FVec Ideal S1024 .f32)
  (x5 : FVec Ideal S1024x4096 .f32) (x6 : FVec Ideal S4096x1024 .f32) (x7 : FVec Ideal S1024 .f32)

theorem v14_at (b : Fin 8) (t : Fin 2048) (j : Fin 1024) :
    val_main_v14 (F := Ideal) x0 x1 x2 x3 (ix3 b t j)
      = mixed (fun k => x0 (ix3 b t k)) (fun k => x1 (ix3 b t k)) (fun k l => x2 (ix2 k l)) (fun k => x3 (ix1 k)) j := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    mixed, rowNorm, rowMul, zero_add]

theorem v27_at (b : Fin 8) (t : Fin 2048) (j : Fin 1024) :
    val_main_v27 (F := Ideal) x0 x1 x2 x3 x4 (ix3 b t j)
      = rowNorm (fun k => val_main_v14 (F := Ideal) x0 x1 x2 x3 (ix3 b t k)) (fun k => x4 (ix1 k)) j := by
  pointwise [val_main_v27, val_main_v26, val_main_v25, val_main_v24, val_main_v23, val_main_v22, val_main_v21, val_main_v20, val_main_v19,
    val_main_v18, val_main_v17, val_main_v16, val_main_v15, val_main_cst_2, val_main_cst_3, val_main_cst_4, rowNorm, zero_add]

theorem v31_at (b : Fin 8) (t : Fin 2048) (j : Fin 1024) :
    val_main_v31 (F := Ideal) x0 x1 x2 x3 x4 x5 x6 (ix3 b t j)
      = network (fun k => val_main_v27 (F := Ideal) x0 x1 x2 x3 x4 (ix3 b t k)) (fun k l => x5 (ix2 k l)) (fun k l => x6 (ix2 k l)) j := by
  pointwise [val_main_v31, val_main_v30, val_main_v29, val_main_v28, val_main_call0_v0, val_main_call0_cst, network, hidden, rowMul]

theorem v45_at (b : Fin 8) (t : Fin 2048) (j : Fin 1024) :
    val_main_v45 (F := Ideal) x0 x1 x2 x3 x4 x5 x6 x7 (ix3 b t j)
      = val_main_v14 (F := Ideal) x0 x1 x2 x3 (ix3 b t j)
        + rowNorm (fun k => val_main_v31 (F := Ideal) x0 x1 x2 x3 x4 x5 x6 (ix3 b t k)) (fun k => x7 (ix1 k)) j := by
  pointwise [val_main_v45, val_main_v44, val_main_v43, val_main_v42, val_main_v41, val_main_v40, val_main_v39, val_main_v38, val_main_v37,
    val_main_v36, val_main_v35, val_main_v34, val_main_v33, val_main_v32, val_main_cst_5, val_main_cst_6, val_main_cst_7, rowNorm, zero_add]

/-- THE REFERENCE'S RESULT at row `n` and column `j`. -/
theorem result_at (n : Fin 16384) (j : Fin 1024) :
    val_main_v46 (F := Ideal) x0 x1 x2 x3 x4 x5 x6 x7 (ix2 n j)
      = post (fun k => x0 (ix3 ⟨n.val / 2048, by omega⟩ ⟨n.val % 2048, by omega⟩ k))
          (fun k => x1 (ix3 ⟨n.val / 2048, by omega⟩ ⟨n.val % 2048, by omega⟩ k)) (fun k l => x2 (ix2 k l)) (fun k => x3 (ix1 k))
          (fun k => x4 (ix1 k)) (fun k l => x5 (ix2 k l)) (fun k l => x6 (ix2 k l)) (fun k => x7 (ix1 k)) j := by
  have e : val_main_v46 (F := Ideal) x0 x1 x2 x3 x4 x5 x6 x7 (ix2 n j)
      = val_main_v45 (F := Ideal) x0 x1 x2 x3 x4 x5 x6 x7 (ix3 ⟨n.val / 2048, by omega⟩ ⟨n.val % 2048, by omega⟩ j) := by
    pointwise [val_main_v46]
  rw [e, v45_at]
  simp only [v31_at, v27_at, v14_at, post]

end Cert.PostBlock.Ref

end
-- ==== Proof.PostValue.lean ====
/- THE BLOCKS OF A GRID POINT AND THE RESULT ARRAY of the second half of a layer. Point `t` works on rows `512 t … 512 t + 511`. -/
module

public import proofs.«01_k».proof.Proof.PostBody
public import proofs.«01_k».proof.Proof.PostRef
public import proofs.«01_k».proof.Proof.Gen.Kernel2Ideal.Value
public import Idealize.ShloMosaic.Lib.Pipeline.ValueKit
public import Idealize.ShloMosaic.Lib.Claim

@[expose] public section

set_option maxRecDepth 16384

noncomputable section

namespace Cert.PostBlock

open Idealize.ShloMosaic Idealize.ShloMosaic.TcCoe Idealize.SL.Sem Cert.Kernel2Ideal Cert.Kernel2Ideal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ t.val < 32 :=
  (by decide +kernel : ∀ t : Fin grid0.N, _)

/-- A row of an argument of the shape of the activations. -/
abbrev actRow (x : FVec Ideal S8x2048x1024 .f32) (n : Fin 16384) (j : Fin 1024) : EReal :=
  x (ix3 ⟨n.val / 2048, by omega⟩ ⟨n.val % 2048, by omega⟩ j)

/-! ## The arrays the host code prepares -/

theorem entry_o (n : Fin 16384) (j : Fin 1024) :
    (V m c main_v1 : FVec Ideal S16384x1024 .bf16) (ix2 n j) = actRow (m ((c : Thread nD τ).loc main_arg0)) n j := by
  entry_read
  pointwise

theorem entry_x (n : Fin 16384) (j : Fin 1024) :
    (V m c main_v2 : FVec Ideal S16384x1024 .f32) (ix2 n j) = actRow (m ((c : Thread nD τ).loc main_arg1)) n j := by
  entry_read
  pointwise

theorem entry_w (k j : Fin 1024) :
    (V m c main_v3 : FVec Ideal S1024x1024 .bf16) (ix2 k j) = (m ((c : Thread nD τ).loc main_arg2) : FVec Ideal S1024x1024 .f32) (ix2 k j) := by
  entry_read
  pointwise

theorem entry_g₁ (j : Fin 1024) :
    (V m c main_v6 : FVec Ideal S1x1024 .f32) (ix2 0 j) = (m ((c : Thread nD τ).loc main_arg3) : FVec Ideal S1024 .f32) (ix1 j) := by
  entry_read
  pointwise

theorem entry_g₂ (j : Fin 1024) :
    (V m c main_v7 : FVec Ideal S1x1024 .f32) (ix2 0 j) = (m ((c : Thread nD τ).loc main_arg4) : FVec Ideal S1024 .f32) (ix1 j) := by
  entry_read
  pointwise

theorem entry_u (k : Fin 1024) (j : Fin 4096) :
    (V m c main_v4 : FVec Ideal S1024x4096 .bf16) (ix2 k j) = (m ((c : Thread nD τ).loc main_arg5) : FVec Ideal S1024x4096 .f32) (ix2 k j) := by
  entry_read
  pointwise

theorem entry_d (k : Fin 4096) (j : Fin 1024) :
    (V m c main_v5 : FVec Ideal S4096x1024 .bf16) (ix2 k j) = (m ((c : Thread nD τ).loc main_arg6) : FVec Ideal S4096x1024 .f32) (ix2 k j) := by
  entry_read
  pointwise

theorem entry_g₃ (j : Fin 1024) :
    (V m c main_v8 : FVec Ideal S1x1024 .f32) (ix2 0 j) = (m ((c : Thread nD τ).loc main_arg7) : FVec Ideal S1024 .f32) (ix1 j) := by
  entry_read
  pointwise

/-! ## The blocks of a grid point -/

/-- The row of the arrays that row `r` of point `t` is. -/
abbrev rowAt (t : Fin cfg0.N) (r : Fin 512) : Fin 16384 := ⟨512 * t.val + r.val, by have := (idx t).2.2.2.2.2.2.2.2.2; omega⟩

theorem blk_o (t : Fin cfg0.N) (r : Fin 512) (j : Fin 1024) :
    (iblk m c 0 t : FVec Ideal S512x1024 .bf16) (ix2 r j) = actRow (m ((c : Thread nD τ).loc main_arg0)) (rowAt t r) j := by
  refine Eq.trans ?_ (entry_o m c (rowAt t r) j)
  blk_ext [iblk, idx t]

theorem blk_x (t : Fin cfg0.N) (r : Fin 512) (j : Fin 1024) :
    (iblk m c 1 t : FVec Ideal S512x1024 .f32) (ix2 r j) = actRow (m ((c : Thread nD τ).loc main_arg1)) (rowAt t r) j := by
  refine Eq.trans ?_ (entry_x m c (rowAt t r) j)
  blk_ext [iblk, idx t]

theorem blk_w (t : Fin cfg0.N) (k j : Fin 1024) :
    (iblk m c 2 t : FVec Ideal S1024x1024 .bf16) (ix2 k j) = (m ((c : Thread nD τ).loc main_arg2) : FVec Ideal S1024x1024 .f32) (ix2 k j) := by
  refine Eq.trans ?_ (entry_w m c k j)
  blk_ext [iblk, idx t]

theorem blk_g₁ (t : Fin cfg0.N) (j : Fin 1024) :
    (iblk m c 3 t : FVec Ideal S1x1024 .f32) (ix2 0 j) = (m ((c : Thread nD τ).loc main_arg3) : FVec Ideal S1024 .f32) (ix1 j) := by
  refine Eq.trans ?_ (entry_g₁ m c j)
  blk_ext [iblk, idx t]

theorem blk_g₂ (t : Fin cfg0.N) (j : Fin 1024) :
    (iblk m c 4 t : FVec Ideal S1x1024 .f32) (ix2 0 j) = (m ((c : Thread nD τ).loc main_arg4) : FVec Ideal S1024 .f32) (ix1 j) := by
  refine Eq.trans ?_ (entry_g₂ m c j)
  blk_ext [iblk, idx t]

theorem blk_u (t : Fin cfg0.N) (k : Fin 1024) (j : Fin 4096) :
    (iblk m c 5 t : FVec Ideal S1024x4096 .bf16) (ix2 k j) = (m ((c : Thread nD τ).loc main_arg5) : FVec Ideal S1024x4096 .f32) (ix2 k j) := by
  refine Eq.trans ?_ (entry_u m c k j)
  blk_ext [iblk, idx t]

theorem blk_d (t : Fin cfg0.N) (k : Fin 4096) (j : Fin 1024) :
    (iblk m c 6 t : FVec Ideal S4096x1024 .bf16) (ix2 k j) = (m ((c : Thread nD τ).loc main_arg6) : FVec Ideal S4096x1024 .f32) (ix2 k j) := by
  refine Eq.trans ?_ (entry_d m c k j)
  blk_ext [iblk, idx t]

theorem blk_g₃ (t : Fin cfg0.N) (j : Fin 1024) :
    (iblk m c 7 t : FVec Ideal S1x1024 .f32) (ix2 0 j) = (m ((c : Thread nD τ).loc main_arg7) : FVec Ideal S1024 .f32) (ix1 j) := by
  refine Eq.trans ?_ (entry_g₃ m c j)
  blk_ext [iblk, idx t]

/-! ## The result -/

/-- WHAT A POINT STORES, from its blocks. -/
theorem out_at (o : FVec Ideal S512x1024 .bf16) (x : FVec Ideal S512x1024 .f32) (w : FVec Ideal S1024x1024 .bf16)
    (g₁ g₂ : FVec Ideal S1x1024 .f32) (u : FVec Ideal S1024x4096 .bf16) (d : FVec Ideal S4096x1024 .bf16) (g₃ : FVec Ideal S1x1024 .f32)
    (r : Fin 512) (j : Fin 1024) :
    out0_8 (F := Ideal) o x w g₁ g₂ u d g₃ (ix2 r j)
      = post (rowOf o r) (rowOf x r) (rowOf w) (rowOf g₁ 0) (rowOf g₂ 0) (rowOf u) (rowOf d) (rowOf g₃ 0) j := by
  unfold_out out0_8
  frame_out
  refine body_at o w x g₁ g₂ g₃ _ _ _ _ _ _ _ _ _ _ ?_ ?_ ?_ ?_ ?_ ?_ ?_ ?_ r j <;> intro i k <;> pointwise

/-- The result array. -/
abbrev postArr (x0 x1 : FVec Ideal S8x2048x1024 .f32) (x2 : FVec Ideal S1024x1024 .f32) (x3 x4 : FVec Ideal S1024 .f32)
    (x5 : FVec Ideal S1024x4096 .f32) (x6 : FVec Ideal S4096x1024 .f32) (x7 : FVec Ideal S1024 .f32) : FVec Ideal S16384x1024 .f32 :=
  Cert.Reference2Ideal.Read.val_main_v46 (F := Ideal) x0 x1 x2 x3 x4 x5 x6 x7

theorem point_at (t : Fin cfg0.N) (r : Fin 512) (j : Fin 1024) :
    out0_8 (F := Ideal) (iblk m c 0 t) (iblk m c 1 t) (iblk m c 2 t) (iblk m c 3 t) (iblk m c 4 t) (iblk m c 5 t) (iblk m c 6 t) (iblk m c 7 t)
        (ix2 r j)
      = postArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (ix2 (rowAt t r) j) := by
  refine (out_at _ _ _ _ _ _ _ _ r j).trans (Eq.trans ?_ (Ref.result_at _ _ _ _ _ _ _ _ (rowAt t r) j).symm)
  exact post_congr (blk_o m c t r) (blk_x m c t r) (blk_w m c t) (blk_g₁ m c t) (blk_g₂ m c t) (blk_u m c t) (blk_d m c t) (blk_g₃ m c t) j

/-- THE KERNEL'S ARRAY after the run is the reference's result. -/
theorem kernel_eq : (dats m 0 c).arrAt 8 (cfgs 0).N
    = postArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (dats m 0 c).arrAt_eq_of_covers 8 _ (by decide +kernel) fun t _ y => ?_
  blk_simp
  rw [after0_8]
  have y0 : (y 0).val < 512 := (y 0).isLt
  have y1 : (y 1).val < 1024 := (y 1).isLt
  have hy : (ix2 ⟨(y 0).val, y0⟩ ⟨(y 1).val, y1⟩ : S512x1024.Idx) = y := by
    funext z
    match z with
    | ⟨0, _⟩ => rfl
    | ⟨1, _⟩ => rfl
  refine ((congrArg (out0_8 (F := Ideal) _ _ _ _ _ _ _ _) hy.symm).trans (point_at m c t ⟨(y 0).val, y0⟩ ⟨(y 1).val, y1⟩)).trans ?_
  refine congrArg (postArr _ _ _ _ _ _ _ _) ?_
  blk_ext [idx t]

end Cert.PostBlock

end
-- ==== Proof.ProjSpec.lean ====
/- THE INPUT PROJECTION, ROW BY ROW, over the extended reals: the normalised row times a group of the projection's columns, with the
   rotary positions applied to the halves of every 64 columns. -/
module

public import proofs.«01_k».proof.Proof.PostSpec

@[expose] public section

noncomputable section

namespace Cert.Proj

open Idealize.ShloMosaic Cert.PostBlock

/-- The rotary positions on the 64 columns of a head: cosines `c` and sines `s` of the row's position. -/
def rope (c s : Fin 32 → EReal) (y : Fin 64 → EReal) (d : Fin 64) : EReal :=
  if h : d.val < 32 then y d * c ⟨d.val, h⟩ - y ⟨d.val + 32, by omega⟩ * s ⟨d.val, h⟩
  else y d * c ⟨d.val - 32, by omega⟩ + y ⟨d.val - 32, by omega⟩ * s ⟨d.val - 32, by omega⟩

/-- The same on 128 columns, two heads side by side: cosines `c` and signed sines `s` on every column, and each column's partner. -/
def laneRope (c s y : Fin 128 → EReal) (l : Fin 128) : EReal :=
  y l * c l + (if l.val % 64 < 32 then y ⟨(l.val + 32) % 128, by omega⟩ else y ⟨(l.val + 96) % 128, by omega⟩) * s l

/-- With the cosines repeated and the sines signed, the 128 columns hold the rotary positions of their two heads. -/
theorem laneRope_eq (c s y : Fin 128 → EReal) (c' s' : Fin 32 → EReal)
    (hc : ∀ l : Fin 128, c l = c' ⟨l.val % 32, by omega⟩)
    (hs : ∀ l : Fin 128, s l = if l.val % 64 < 32 then -s' ⟨l.val % 32, by omega⟩ else s' ⟨l.val % 32, by omega⟩)
    (a : Fin 2) (d : Fin 64) :
    laneRope c s y ⟨64 * a.val + d.val, by omega⟩ = rope c' s' (fun e => y ⟨64 * a.val + e.val, by omega⟩) d := by
  unfold laneRope rope
  rw [hc, hs]
  by_cases hd : d.val < 32
  · have h0 : (64 * a.val + d.val) % 64 < 32 := by omega
    simp only [h0, hd, if_true, dif_pos]
    rw [mul_neg, ← sub_eq_add_neg]
    refine congrArg₂ (fun u v : EReal => u - v) (congrArg₂ (fun u v : EReal => u * v) rfl (congrArg c' (Fin.ext ?_)))
      (congrArg₂ (fun u v : EReal => u * v) (congrArg y (Fin.ext ?_)) (congrArg s' (Fin.ext ?_)))
    · show (64 * a.val + d.val) % 32 = d.val
      omega
    · show (64 * a.val + d.val + 32) % 128 = 64 * a.val + (d.val + 32)
      omega
    · show (64 * a.val + d.val) % 32 = d.val
      omega
  · have h0 : ¬ (64 * a.val + d.val) % 64 < 32 := by omega
    simp only [h0, hd, if_false, dif_neg, not_false_eq_true]
    refine congrArg₂ (fun u v : EReal => u + v) (congrArg₂ (fun u v : EReal => u * v) rfl (congrArg c' (Fin.ext ?_)))
      (congrArg₂ (fun u v : EReal => u * v) (congrArg y (Fin.ext ?_)) (congrArg s' (Fin.ext ?_)))
    · show (64 * a.val + d.val) % 32 = d.val - 32
      omega
    · show (64 * a.val + d.val + 96) % 128 = 64 * a.val + (d.val - 32)
      omega
    · show (64 * a.val + d.val) % 32 = d.val - 32
      omega

/-- 512 columns worked on as four groups of 128 hold the rotary positions of their eight heads. -/
theorem heads_of_lanes (c s : Fin 128 → EReal) (c' s' : Fin 32 → EReal) (y f : Fin 512 → EReal)
    (hc : ∀ l : Fin 128, c l = c' ⟨l.val % 32, by omega⟩)
    (hs : ∀ l : Fin 128, s l = if l.val % 64 < 32 then -s' ⟨l.val % 32, by omega⟩ else s' ⟨l.val % 32, by omega⟩)
    (hf : ∀ (a : Fin 4) (l : Fin 128), f ⟨128 * a.val + l.val, by omega⟩ = laneRope c s (fun e => y ⟨128 * a.val + e.val, by omega⟩) l)
    (h : Fin 8) (d : Fin 64) :
    f ⟨64 * h.val + d.val, by omega⟩ = rope c' s' (fun e => y ⟨64 * h.val + e.val, by omega⟩) d := by
  have hl := hf ⟨h.val / 2, by omega⟩ ⟨64 * (h.val % 2) + d.val, by omega⟩
  have hr := laneRope_eq c s (fun e => y ⟨128 * (h.val / 2) + e.val, by omega⟩) c' s' hc hs ⟨h.val % 2, by omega⟩ d
  refine (congrArg f (Fin.ext ?_)).trans (hl.trans (hr.trans (congrArg (fun z => rope c' s' z d) (funext fun e => congrArg y (Fin.ext ?_)))))
  · show 64 * h.val + d.val = 128 * (h.val / 2) + (64 * (h.val % 2) + d.val)
    omega
  · show 128 * (h.val / 2) + (64 * (h.val % 2) + e.val) = 64 * h.val + e.val
    omega

/-- The lanes of the first half of a head, as the body compares them. -/
theorem first_half : ∀ l : Fin 128, IntOp.cmpi .slt (IntOp.andi (BitVec.ofNat 32 l.val) 63#32) 32#32 = if l.val % 64 < 32 then 1#1 else 0#1 := by
  decide +kernel

/-- A rotation of 128 lanes by 96, and by 32, at a lane. -/
theorem up_at (l : ℕ) : (l + 128 - 96) % 128 = (l + 32) % 128 := by omega

@[inherit_doc up_at]
theorem down_at (l : ℕ) : (l + 128 - 32) % 128 = (l + 96) % 128 := by omega

/-- Equal rows and equal columns have equal products. -/
theorem rowMul_congr {K N N' : ℕ} {y y' : Fin K → EReal} {w : Fin K → Fin N → EReal} {w' : Fin K → Fin N' → EReal} {j : Fin N} {j' : Fin N'}
    (hy : y = y') (hw : ∀ k, w k j = w' k j') : rowMul y w j = rowMul y' w' j' := by
  subst hy
  exact Finset.sum_congr rfl fun k _ => congrArg (fun z : EReal => y k * z) (hw k)

end Cert.Proj

end
-- ==== Proof.ProjBody.lean ====
/- WHAT THE BODY OF THE INPUT PROJECTION COMPUTES, at an entry. -/
module

public import proofs.«01_k».proof.Proof.Gen.Kernel3Ideal.Frame
public import proofs.«01_k».proof.Proof.ProjSpec
public import Idealize.ShloMosaic.Lib.Pipeline.ValueKit

@[expose] public section

set_option maxRecDepth 16384

noncomputable section

namespace Cert.Proj

open Idealize.ShloMosaic Idealize.ShloMosaic.TcCoe Idealize.SL.Sem Cert.Kernel3Ideal Cert.Kernel3Ideal.Gen Cert.PostBlock

/-- A row of a block. -/
abbrev rowOf {s : FTy} {n p : ℕ} (x : FVec Ideal ⟨2, ![n, p]⟩ s) (r : Fin n) (j : Fin p) : EReal := x (ix2 r j)

variable (x : FVec Ideal S512x1024 .f32) (g : FVec Ideal S1x1024 .f32) (w : FVec Ideal S1024x2944 .bf16) (c s : FVec Ideal S512x128 .f32)

/-- The projected row `r`, at column `j` of the weights. -/
def cell (r : Fin 512) (j : Fin 2944) : EReal := rowMul (rowNorm (rowOf x r) (rowOf g 0)) (rowOf w) j

/-! ## The values the body computes -/

theorem norm_at (r : Fin 512) (j : Fin 1024) : k0_pay91 (F := Ideal) x g w c s (ix2 r j) = rowNorm (rowOf x r) (rowOf g 0) j := by
  pointwise! [k0_pay91, k0_pay2, rowNorm]

theorem mask_at (r : Fin 512) (l : Fin 128) (a b : EReal) :
    Scalar.select (k0_pay5 (ix2 r l)) a b = if l.val % 64 < 32 then a else b := by
  pointwise [k0_pay5]
  rw [first_half]
  by_cases h : l.val % 64 < 32
  · simp only [h, if_true]
    rfl
  · simp only [h, if_false]
    rfl

theorem mask94_at (w' : Vec Ideal S1024x2944 .bf16) (x' : Vec Ideal S512x1024 .f32) (g' : Vec Ideal S1x1024 .f32) (c' s' : Vec Ideal S512x128 .f32) (r : Fin 512) (l : Fin 128) (a b : EReal) :
    Scalar.select (k0_pay94 (F := Ideal) x' g' w' c' s' (ix2 r l)) a b = if l.val % 64 < 32 then a else b :=
  mask_at r l a b

theorem aq_at (a : Fin 4) (r : Fin 512) (l : Fin 128) :
    k0_pay100 (F := Ideal) x g w c s (ix2 r ⟨128 * a.val + l.val, by omega⟩)
      = laneRope (rowOf c r) (rowOf s r) (fun e => cell x g w r ⟨(128 * a.val + e.val), by omega⟩) l := by
  match a with
  | 0 =>
    pointwise [k0_pay100, k0_pay92, k0_pay93, k0_pay94, k0_pay95, k0_pay96, k0_pay97, k0_pay98, k0_pay99, k0_pay11, k0_pay3, k0_pay4, k0_pay6, k0_pay7, k0_pay8,
      k0_pay9, k0_pay10, k0_pay2, mask_at, laneRope, cell, rowMul, rowNorm]
    simp only [up_at, down_at]
  | 1 =>
    pointwise [k0_pay100, k0_pay92, k0_pay93, k0_pay94, k0_pay95, k0_pay96, k0_pay97, k0_pay98, k0_pay99, k0_pay11, k0_pay3, k0_pay4, k0_pay6, k0_pay7, k0_pay8,
      k0_pay9, k0_pay10, k0_pay2, mask_at, laneRope, cell, rowMul, rowNorm]
    simp only [up_at, down_at]
  | 2 =>
    pointwise [k0_pay100, k0_pay92, k0_pay93, k0_pay94, k0_pay95, k0_pay96, k0_pay97, k0_pay98, k0_pay99, k0_pay11, k0_pay3, k0_pay4, k0_pay6, k0_pay7, k0_pay8,
      k0_pay9, k0_pay10, k0_pay2, mask_at, laneRope, cell, rowMul, rowNorm]
    rw [dif_neg (by omega), dif_neg (by omega), dif_pos (by omega)]
    simp only [show 256 + l.val - 128 - 128 = l.val by omega]
    simp only [up_at, down_at]
  | 3 =>
    pointwise [k0_pay100, k0_pay92, k0_pay93, k0_pay94, k0_pay95, k0_pay96, k0_pay97, k0_pay98, k0_pay99, k0_pay11, k0_pay3, k0_pay4, k0_pay6, k0_pay7, k0_pay8,
      k0_pay9, k0_pay10, k0_pay2, mask_at, laneRope, cell, rowMul, rowNorm]
    rw [dif_neg (by omega), dif_neg (by omega), dif_neg (by omega)]
    simp only [show 384 + l.val - 128 - 128 - 128 = l.val by omega]
    simp only [up_at, down_at]

theorem iq_at (a : Fin 4) (r : Fin 512) (l : Fin 128) :
    k0_pay101 (F := Ideal) x g w c s (ix2 r ⟨128 * a.val + l.val, by omega⟩)
      = laneRope (rowOf c r) (rowOf s r) (fun e => cell x g w r ⟨512 + (128 * a.val + e.val), by omega⟩) l := by
  match a with
  | 0 =>
    pointwise [k0_pay101, k0_pay92, k0_pay93, k0_pay21, k0_pay3, k0_pay4, norm_at, mask94_at, laneRope, cell, rowMul]
    simp only [up_at, down_at]
  | 1 =>
    pointwise [k0_pay101, k0_pay92, k0_pay93, k0_pay21, k0_pay3, k0_pay4, norm_at, mask94_at, laneRope, cell, rowMul]
    simp only [up_at, down_at]
  | 2 =>
    pointwise [k0_pay101, k0_pay92, k0_pay93, k0_pay21, k0_pay3, k0_pay4, norm_at, mask94_at, laneRope, cell, rowMul]
    rw [dif_neg (by omega), dif_neg (by omega), dif_pos (by omega)]
    simp only [show 256 + l.val - 128 - 128 = l.val by omega]
    simp only [up_at, down_at]
  | 3 =>
    pointwise [k0_pay101, k0_pay92, k0_pay93, k0_pay21, k0_pay3, k0_pay4, norm_at, mask94_at, laneRope, cell, rowMul]
    rw [dif_neg (by omega), dif_neg (by omega), dif_neg (by omega)]
    simp only [show 384 + l.val - 128 - 128 - 128 = l.val by omega]
    simp only [up_at, down_at]

theorem ak_at (r : Fin 512) (l : Fin 128) :
    k0_pay41 (F := Ideal) (k0_pay91 (F := Ideal) x g w c s) (k0_pay92 (F := Ideal) x g w c s) (k0_pay93 (F := Ideal) x g w c s) (k0_pay94 (F := Ideal) x g w c s) (View.ld w r0_14) (ix2 r l)
      = laneRope (rowOf c r) (rowOf s r) (fun e => cell x g w r ⟨1024 + e.val, by omega⟩) l := by
  pointwise [k0_pay92, k0_pay93, k0_pay41, k0_pay3, k0_pay4, norm_at, mask94_at, laneRope, cell, rowMul]
  simp only [up_at, down_at]

theorem av_at (r : Fin 512) (j : Fin 128) :
    k0_pay48 (F := Ideal) (k0_pay91 (F := Ideal) x g w c s) (View.ld w r0_19) (ix2 r j) = cell x g w r ⟨1152 + j.val, by omega⟩ := by
  pointwise! [k0_pay48, norm_at, cell, rowMul]

theorem bq_at (r j : Fin 512) : k0_pay102 (F := Ideal) x g w c s (ix2 r j) = cell x g w r ⟨1280 + j.val, by omega⟩ := by
  pointwise! [k0_pay102, k0_pay32, norm_at, cell, rowMul]

theorem bk_at (r j : Fin 512) : k0_pay103 (F := Ideal) x g w c s (ix2 r j) = cell x g w r ⟨1792 + j.val, by omega⟩ := by
  pointwise! [k0_pay103, k0_pay54, norm_at, cell, rowMul]

theorem bv_at (r j : Fin 512) : k0_pay106 (F := Ideal) x g w c s (ix2 r j) = cell x g w r ⟨2304 + j.val, by omega⟩ := by
  pointwise! [k0_pay106, k0_pay74, norm_at, cell, rowMul]

theorem tail_at (r : Fin 512) (j : Fin 128) :
    k0_pay86 (F := Ideal) (k0_pay91 (F := Ideal) x g w c s) (View.ld w r0_39) (ix2 r j) = cell x g w r ⟨2816 + j.val, by omega⟩ := by
  pointwise! [k0_pay86, norm_at, cell, rowMul]

theorem ik_at (l : Fin 64) (r : Fin 512) :
    k0_pay87 (F := Ideal) (k0_pay91 (F := Ideal) x g w c s) (k0_pay92 (F := Ideal) x g w c s) (k0_pay93 (F := Ideal) x g w c s)
        (k0_pay94 (F := Ideal) x g w c s) (View.ld w r0_39) (ix2 l r)
      = laneRope (rowOf c r) (rowOf s r) (fun e => cell x g w r ⟨2816 + e.val, by omega⟩) ⟨l.val, by omega⟩ := by
  pointwise [k0_pay92, k0_pay93, k0_pay87, k0_pay86, k0_pay3, k0_pay4, norm_at, mask94_at, laneRope, cell, rowMul]
  simp only [up_at, down_at]

/-! ## Heads: the rotary positions of the 64 columns of one head -/

/-- What the tables of a row hold: the cosines `c'` repeated four times, and the sines `s'` with a sign. -/
def Tables (r : Fin 512) (c' s' : Fin 32 → EReal) : Prop :=
  (∀ l : Fin 128, rowOf c r l = c' ⟨l.val % 32, by omega⟩)
    ∧ ∀ l : Fin 128, rowOf s r l = if l.val % 64 < 32 then -s' ⟨l.val % 32, by omega⟩ else s' ⟨l.val % 32, by omega⟩

variable {c s} {r : Fin 512} {c' s' : Fin 32 → EReal} (T : Tables c s r c' s')

include T

theorem aq_head (h : Fin 8) (d : Fin 64) :
    k0_pay100 (F := Ideal) x g w c s (ix2 r ⟨64 * h.val + d.val, by omega⟩)
      = rope c' s' (fun e => cell x g w r ⟨64 * h.val + e.val, by omega⟩) d :=
  heads_of_lanes (rowOf c r) (rowOf s r) c' s' (fun j => cell x g w r ⟨j.val, by omega⟩) (fun j => k0_pay100 (F := Ideal) x g w c s (ix2 r j))
    T.1 T.2 (fun a l => aq_at x g w c s a r l) h d

theorem iq_head (h : Fin 8) (d : Fin 64) :
    k0_pay101 (F := Ideal) x g w c s (ix2 r ⟨64 * h.val + d.val, by omega⟩)
      = rope c' s' (fun e => cell x g w r ⟨512 + (64 * h.val + e.val), by omega⟩) d :=
  heads_of_lanes (rowOf c r) (rowOf s r) c' s' (fun j => cell x g w r ⟨512 + j.val, by omega⟩) (fun j => k0_pay101 (F := Ideal) x g w c s (ix2 r j))
    T.1 T.2 (fun a l => iq_at x g w c s a r l) h d

theorem ak_head (h : Fin 2) (d : Fin 64) :
    k0_pay41 (F := Ideal) (k0_pay91 (F := Ideal) x g w c s) (k0_pay92 (F := Ideal) x g w c s) (k0_pay93 (F := Ideal) x g w c s)
        (k0_pay94 (F := Ideal) x g w c s) (View.ld w r0_14) (ix2 r ⟨64 * h.val + d.val, by omega⟩)
      = rope c' s' (fun e => cell x g w r ⟨1024 + (64 * h.val + e.val), by omega⟩) d :=
  (ak_at x g w c s r _).trans (laneRope_eq (rowOf c r) (rowOf s r) (fun l => cell x g w r ⟨1024 + l.val, by omega⟩) c' s' T.1 T.2 h d)

theorem ik_head (d : Fin 64) :
    k0_pay87 (F := Ideal) (k0_pay91 (F := Ideal) x g w c s) (k0_pay92 (F := Ideal) x g w c s) (k0_pay93 (F := Ideal) x g w c s)
        (k0_pay94 (F := Ideal) x g w c s) (View.ld w r0_39) (ix2 d r)
      = rope c' s' (fun e => cell x g w r ⟨2816 + e.val, by omega⟩) d := by
  have e := laneRope_eq (rowOf c r) (rowOf s r) (fun l => cell x g w r ⟨2816 + l.val, by omega⟩) c' s' T.1 T.2 0 d
  refine (ik_at x g w c s d r).trans ((congrArg (laneRope (rowOf c r) (rowOf s r) _) (Fin.ext ?_)).trans (e.trans ?_))
  · show d.val = 64 * 0 + d.val
    omega
  · refine congrArg (fun z => rope c' s' z d) (funext fun e => congrArg (cell x g w r) (Fin.ext ?_))
    show 2816 + (64 * 0 + e.val) = 2816 + e.val
    omega

/-! ## The blocks a point stores -/

omit T in
/-- The factor of the queries that meet in powers of two: `1 / (8 log 2)`. -/
theorem scale_eq : (Named.named Cert.Kernel3Ideal.κ "scale" 0x3E38AA3B#32 : Ideal .f32) = (((8 * Real.log 2)⁻¹ : ℝ) : EReal) :=
  IdealRules.named_const.ideal_named_scalar _ _ _ _ rfl

/-- The queries of the first attention. -/
theorem out_aq (h : Fin 8) (d : Fin 64) :
    out0_5 (F := Ideal) x g w c s (ix3 h r d)
      = rope c' s' (fun e => cell x g w r ⟨64 * h.val + e.val, by omega⟩) d * (((8 * Real.log 2)⁻¹ : ℝ) : EReal) := by
  rw [← aq_head x g w T h d]
  unfold out0_5 k0_pay100
  canon_tiles u q
  all_goals
    change h.val = _ at q0; change r.val = _ at q1; change d.val = _ at q2
    pointwise [k0_pay12, k0_pay13, k0_pay14, k0_pay15, k0_pay16, k0_pay17, k0_pay18, k0_pay19, k0_pay20, scale_eq]
    refine congrArg (fun z : EReal => z * _) ?_
    blk_ext <;> omega

/-- The queries of the index scores. -/
theorem out_iq (h : Fin 8) (d : Fin 64) :
    out0_6 (F := Ideal) x g w c s (ix3 h r d)
      = rope c' s' (fun e => cell x g w r ⟨512 + (64 * h.val + e.val), by omega⟩) d * Ideal.ofBits .f32 0x3E000000#32 := by
  rw [← iq_head x g w T h d]
  unfold out0_6 k0_pay101
  canon_tiles u q
  all_goals
    change h.val = _ at q0; change r.val = _ at q1; change d.val = _ at q2
    pointwise [k0_pay22, k0_pay23, k0_pay24, k0_pay25, k0_pay26, k0_pay27, k0_pay28, k0_pay29, k0_pay30, k0_pay31]
    refine congrArg (fun z : EReal => z * _) ?_
    blk_ext <;> omega

/-- The keys of the first attention, a batch apart. -/
theorem out_ak (h : Fin 2) (d : Fin 64) :
    out0_8 (F := Ideal) x g w c s (ix4 0 h d r)
      = rope c' s' (fun e => cell x g w r ⟨1024 + (64 * h.val + e.val), by omega⟩) d := by
  rw [← ak_head x g w T h d]
  unfold out0_8
  canon_tiles u q
  all_goals
    change h.val = _ at q1; change d.val = _ at q2; change r.val = _ at q3
    pointwise [k0_pay42, k0_pay43, k0_pay44]
    blk_ext <;> omega

/-- The keys of the first attention, all rows side by side. -/
theorem out_akt (h : Fin 2) (d : Fin 64) :
    out0_9 (F := Ideal) x g w c s (ix3 h d r)
      = rope c' s' (fun e => cell x g w r ⟨1024 + (64 * h.val + e.val), by omega⟩) d := by
  rw [← ak_head x g w T h d]
  unfold out0_9
  canon_tiles u q
  all_goals
    change h.val = _ at q0; change d.val = _ at q1; change r.val = _ at q2
    pointwise [k0_pay45, k0_pay46, k0_pay47]
    blk_ext <;> omega

/-- The keys of the index scores, a batch apart. -/
theorem out_ik (d : Fin 64) :
    out0_12 (F := Ideal) x g w c s (ix3 0 d r)
      = rope c' s' (fun e => cell x g w r ⟨2816 + e.val, by omega⟩) d := by
  rw [← ik_head x g w T d]
  unfold out0_12
  canon_tiles u q
  all_goals
    change d.val = _ at q1; change r.val = _ at q2
    pointwise [k0_pay88]
    blk_ext <;> omega

/-- The keys of the index scores, all rows side by side. -/
theorem out_ikt (d : Fin 64) :
    out0_13 (F := Ideal) x g w c s (ix2 d r)
      = rope c' s' (fun e => cell x g w r ⟨2816 + e.val, by omega⟩) d := by
  rw [← ik_head x g w T d]
  unfold out0_13
  canon_tiles u q
  all_goals
    change d.val = _ at q0; change r.val = _ at q1
    pointwise [k0_pay89]
    blk_ext <;> omega

omit T

variable (c s) (r)

/-- The queries of the second attention. -/
theorem out_bq (h : Fin 8) (d : Fin 64) :
    out0_7 (F := Ideal) x g w c s (ix3 h r d)
      = cell x g w r ⟨1280 + (64 * h.val + d.val), by omega⟩ * (((8 * Real.log 2)⁻¹ : ℝ) : EReal) := by
  rw [← bq_at x g w c s r ⟨64 * h.val + d.val, by omega⟩]
  unfold out0_7 k0_pay102
  canon_tiles u q
  all_goals
    change h.val = _ at q0; change r.val = _ at q1; change d.val = _ at q2
    pointwise [k0_pay33, k0_pay34, k0_pay35, k0_pay36, k0_pay37, k0_pay38, k0_pay39, k0_pay40, scale_eq]
    refine congrArg (fun z : EReal => z * _) ?_
    blk_ext <;> omega

/-- The values of the first attention, a batch apart. -/
theorem out_av (h : Fin 2) (d : Fin 64) :
    out0_10 (F := Ideal) x g w c s (ix4 0 h d r)
      = cell x g w r ⟨1152 + (64 * h.val + d.val), by omega⟩ := by
  rw [← av_at x g w c s r ⟨64 * h.val + d.val, by omega⟩]
  unfold out0_10
  canon_tiles u q
  all_goals
    change h.val = _ at q1; change d.val = _ at q2; change r.val = _ at q3
    pointwise [k0_pay49, k0_pay50, k0_pay51, k0_pay52]
    blk_ext <;> omega

/-- The values of the first attention, row by row. -/
theorem out_av16 (j : Fin 128) :
    out0_11 (F := Ideal) x g w c s (ix2 r j)
      = cell x g w r ⟨1152 + j.val, by omega⟩ := by
  rw [← av_at x g w c s r j]
  unfold out0_11
  canon_tiles u q
  all_goals
    change r.val = _ at q0; change j.val = _ at q1
    pointwise [k0_pay53]
    blk_ext <;> omega

/-- The weights of the index scores. -/
theorem out_iw (j : Fin 8) :
    out0_14 (F := Ideal) x g w c s (ix2 r j)
      = cell x g w r ⟨2816 + (64 + j.val), by omega⟩ * Ideal.ofBits .f32 0x3EB504F3#32 := by
  rw [← tail_at x g w c s r ⟨64 + j.val, by omega⟩]
  unfold out0_14
  canon_tiles u q
  all_goals
    change r.val = _ at q0; change j.val = _ at q1
    pointwise [k0_pay1, k0_pay90]
    refine congrArg (fun z : EReal => z * _) ?_
    blk_ext <;> omega

/-- The keys of the second attention, a batch apart. -/
theorem out_bk (h : Fin 8) (d : Fin 64) :
    out0_15 (F := Ideal) x g w c s (ix4 0 h d r)
      = cell x g w r ⟨1792 + (64 * h.val + d.val), by omega⟩ := by
  rw [← bk_at x g w c s r ⟨64 * h.val + d.val, by omega⟩]
  unfold out0_15 k0_pay104 k0_pay103
  canon_tiles u q
  all_goals
    change h.val = _ at q1; change d.val = _ at q2; change r.val = _ at q3
    pointwise [k0_pay55, k0_pay56, k0_pay57, k0_pay58, k0_pay59, k0_pay60, k0_pay61, k0_pay62, k0_pay63, k0_pay64]
    blk_ext <;> omega

/-- The keys of the second attention, all rows side by side. -/
theorem out_bkt (h : Fin 8) (d : Fin 64) :
    out0_16 (F := Ideal) x g w c s (ix3 h d r)
      = cell x g w r ⟨1792 + (64 * h.val + d.val), by omega⟩ := by
  rw [← bk_at x g w c s r ⟨64 * h.val + d.val, by omega⟩]
  unfold out0_16 k0_pay105 k0_pay103
  canon_tiles u q
  all_goals
    change h.val = _ at q0; change d.val = _ at q1; change r.val = _ at q2
    pointwise [k0_pay65, k0_pay66, k0_pay67, k0_pay68, k0_pay69, k0_pay70, k0_pay71, k0_pay72, k0_pay73]
    blk_ext <;> omega

/-- The values of the second attention, a batch apart. -/
theorem out_bv (h : Fin 8) (d : Fin 64) :
    out0_17 (F := Ideal) x g w c s (ix4 0 h d r)
      = cell x g w r ⟨2304 + (64 * h.val + d.val), by omega⟩ := by
  rw [← bv_at x g w c s r ⟨64 * h.val + d.val, by omega⟩]
  unfold out0_17
  canon_tiles u q
  all_goals
    change h.val = _ at q1; change d.val = _ at q2; change r.val = _ at q3
    pointwise [k0_pay75, k0_pay76, k0_pay77, k0_pay78, k0_pay79, k0_pay80, k0_pay81, k0_pay82, k0_pay83, k0_pay84]
    blk_ext <;> omega

/-- The values of the second attention, row by row. -/
theorem out_bv16 (j : Fin 512) :
    out0_18 (F := Ideal) x g w c s (ix2 r j)
      = cell x g w r ⟨2304 + j.val, by omega⟩ := by
  rw [← bv_at x g w c s r j]
  unfold out0_18
  canon_tiles u q
  all_goals
    change r.val = _ at q0; change j.val = _ at q1
    pointwise [k0_pay85]
    blk_ext <;> omega

end Cert.Proj

end
-- ==== Proof.ProjEntry.lean ====
/- WHAT THE GRID POINTS OF THE INPUT PROJECTION READ. Point `t` works on rows `512 t … 512 t + 511` of the batches laid one after the other;
   the weights' columns stand in another order, and the tables of a position are repeated for two heads. -/
module

public import proofs.«01_k».proof.Proof.Gen.Kernel3Ideal.Value
public import proofs.«01_k».proof.Proof.Gen.Reference3Ideal.Read
public import Idealize.ShloMosaic.Lib.Pipeline.ValueKit
public import Idealize.ShloMosaic.Lib.Claim
public import Idealize.ShloMosaic.Lib.StableHlo.ReadAt

@[expose] public section

set_option maxRecDepth 16384
set_option maxHeartbeats 4000000

noncomputable section

namespace Cert.Proj

open Idealize.ShloMosaic Idealize.ShloMosaic.TcCoe Idealize.SL.Sem Cert.Kernel3Ideal Cert.Kernel3Ideal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![t.val % 4, 0] ∧ win0_4.index t = ![t.val % 4, 0] ∧ t.val < 32 :=
  (by decide +kernel : ∀ t : Fin grid0.N, _)

theorem idx_out : ∀ t : Fin cfg0.N, win0_5.index t = ![0, t.val, 0] ∧ win0_6.index t = ![0, t.val, 0] ∧ win0_7.index t = ![0, t.val, 0]
    ∧ win0_8.index t = ![t.val / 4, 0, 0, t.val % 4] ∧ win0_9.index t = ![0, 0, t.val] ∧ win0_10.index t = ![t.val / 4, 0, 0, t.val % 4]
    ∧ win0_11.index t = ![t.val, 0] ∧ win0_12.index t = ![t.val / 4, 0, t.val % 4] ∧ win0_13.index t = ![0, t.val]
    ∧ win0_14.index t = ![t.val, 0] ∧ win0_15.index t = ![t.val / 4, 0, 0, t.val % 4] ∧ win0_16.index t = ![0, 0, t.val]
    ∧ win0_17.index t = ![t.val / 4, 0, 0, t.val % 4] ∧ win0_18.index t = ![t.val, 0] :=
  (by decide +kernel : ∀ t : Fin grid0.N, _)

/-! ## The arrays the host code prepares -/

theorem entry_x (n : Fin 16384) (j : Fin 1024) :
    (V m c main_v19 : FVec Ideal S16384x1024 .f32) (ix2 n j)
      = (m ((c : Thread nD τ).loc main_arg0) : FVec Ideal S8x2048x1024 .f32) (ix3 ⟨n.val / 2048, by omega⟩ ⟨n.val % 2048, by omega⟩ j) := by
  entry_read
  pointwise

theorem entry_g (j : Fin 1024) :
    (V m c main_v35 : FVec Ideal S1x1024 .f32) (ix2 0 j) = (m ((c : Thread nD τ).loc main_arg1) : FVec Ideal S2x1024 .f32) (ix2 0 j) := by
  entry_read
  pointwise

theorem entry_aq (k : Fin 1024) (e : Fin 512) :
    (V m c main_v34 : FVec Ideal S1024x2944 .bf16) (ix2 k ⟨e.val, by omega⟩)
      = (m ((c : Thread nD τ).loc main_arg2) : FVec Ideal S1x1024x2888 .f32) (ix3 0 k ⟨e.val, by omega⟩) := by
  after_reads_simp
  pointwise
  after_reads_at

theorem entry_iq (k : Fin 1024) (e : Fin 512) :
    (V m c main_v34 : FVec Ideal S1024x2944 .bf16) (ix2 k ⟨512 + e.val, by omega⟩)
      = (m ((c : Thread nD τ).loc main_arg2) : FVec Ideal S1x1024x2888 .f32) (ix3 0 k ⟨768 + e.val, by omega⟩) := by
  after_reads_simp
  pointwise
  after_reads_at

theorem entry_ak (k : Fin 1024) (e : Fin 128) :
    (V m c main_v34 : FVec Ideal S1024x2944 .bf16) (ix2 k ⟨1024 + e.val, by omega⟩)
      = (m ((c : Thread nD τ).loc main_arg2) : FVec Ideal S1x1024x2888 .f32) (ix3 0 k ⟨512 + e.val, by omega⟩) := by
  after_reads_simp
  pointwise
  rw [dif_neg (by omega), dif_neg (by omega), dif_pos (by omega)]
  after_reads_at
  blk_ext <;> omega

theorem entry_av (k : Fin 1024) (e : Fin 128) :
    (V m c main_v34 : FVec Ideal S1024x2944 .bf16) (ix2 k ⟨1152 + e.val, by omega⟩)
      = (m ((c : Thread nD τ).loc main_arg2) : FVec Ideal S1x1024x2888 .f32) (ix3 0 k ⟨640 + e.val, by omega⟩) := by
  after_reads_simp
  pointwise
  rw [dif_neg (by omega), dif_neg (by omega), dif_neg (by omega), dif_pos (by omega)]
  after_reads_at
  blk_ext <;> omega

theorem entry_bq (k : Fin 1024) (e : Fin 512) :
    (V m c main_v34 : FVec Ideal S1024x2944 .bf16) (ix2 k ⟨1280 + e.val, by omega⟩)
      = (m ((c : Thread nD τ).loc main_arg2) : FVec Ideal S1x1024x2888 .f32) (ix3 0 k ⟨1352 + e.val, by omega⟩) := by
  after_reads_simp
  pointwise
  rw [dif_neg (by omega), dif_neg (by omega), dif_neg (by omega), dif_neg (by omega), dif_pos (by omega)]
  after_reads_at
  blk_ext <;> omega

theorem entry_bk (k : Fin 1024) (e : Fin 512) :
    (V m c main_v34 : FVec Ideal S1024x2944 .bf16) (ix2 k ⟨1792 + e.val, by omega⟩)
      = (m ((c : Thread nD τ).loc main_arg2) : FVec Ideal S1x1024x2888 .f32) (ix3 0 k ⟨1864 + e.val, by omega⟩) := by
  after_reads_simp
  pointwise
  rw [dif_neg (by omega), dif_neg (by omega), dif_neg (by omega), dif_neg (by omega), dif_neg (by omega), dif_pos (by omega)]
  after_reads_at
  blk_ext <;> omega

theorem entry_bv (k : Fin 1024) (e : Fin 512) :
    (V m c main_v34 : FVec Ideal S1024x2944 .bf16) (ix2 k ⟨2304 + e.val, by omega⟩)
      = (m ((c : Thread nD τ).loc main_arg2) : FVec Ideal S1x1024x2888 .f32) (ix3 0 k ⟨2376 + e.val, by omega⟩) := by
  after_reads_simp
  pointwise
  rw [dif_neg (by omega), dif_neg (by omega), dif_neg (by omega), dif_neg (by omega), dif_neg (by omega), dif_neg (by omega), dif_pos (by
    omega)]
  after_reads_at
  blk_ext <;> omega

theorem entry_ik (k : Fin 1024) (e : Fin 64) :
    (V m c main_v34 : FVec Ideal S1024x2944 .bf16) (ix2 k ⟨2816 + e.val, by omega⟩)
      = (m ((c : Thread nD τ).loc main_arg2) : FVec Ideal S1x1024x2888 .f32) (ix3 0 k ⟨1280 + e.val, by omega⟩) := by
  after_reads_simp
  pointwise
  rw [dif_neg (by omega), dif_neg (by omega), dif_neg (by omega), dif_neg (by omega), dif_neg (by omega), dif_neg (by omega), dif_neg (by
    omega), dif_pos (by omega)]
  after_reads_at
  blk_ext <;> omega

theorem entry_iw (k : Fin 1024) (e : Fin 8) :
    (V m c main_v34 : FVec Ideal S1024x2944 .bf16) (ix2 k ⟨2880 + e.val, by omega⟩)
      = (m ((c : Thread nD τ).loc main_arg2) : FVec Ideal S1x1024x2888 .f32) (ix3 0 k ⟨1344 + e.val, by omega⟩) := by
  after_reads_simp
  pointwise
  rw [dif_neg (by omega), dif_neg (by omega), dif_neg (by omega), dif_neg (by omega), dif_neg (by omega), dif_neg (by omega), dif_neg (by
    omega), dif_neg (by omega), dif_pos (by omega)]
  after_reads_at
  blk_ext <;> omega

theorem entry_cos (t : Fin 2048) (l : Fin 128) :
    (V m c main_v15 : FVec Ideal S2048x128 .f32) (ix2 t l)
      = Cert.Reference3Ideal.Read.val_main_v40 (F := Ideal) (ix2 t ⟨l.val % 32, by omega⟩) := by
  after_reads_simp
  pointwise
  by_cases h0 : l.val < 32
  · rw [dif_pos h0]
    after_reads_simp
    exact congrArg (fun e => Cert.Reference3Ideal.Read.val_main_v40 (F := Ideal) (ix2 t e)) (Fin.ext (by dsimp only; omega))
  rw [dif_neg h0]
  by_cases h1 : l.val - 32 < 32
  · rw [dif_pos h1]
    after_reads_simp
    exact congrArg (fun e => Cert.Reference3Ideal.Read.val_main_v40 (F := Ideal) (ix2 t e)) (Fin.ext (by dsimp only; omega))
  rw [dif_neg h1]
  by_cases h2 : l.val - 32 - 32 < 32
  · rw [dif_pos h2]
    after_reads_simp
    exact congrArg (fun e => Cert.Reference3Ideal.Read.val_main_v40 (F := Ideal) (ix2 t e)) (Fin.ext (by dsimp only; omega))
  rw [dif_neg h2]
  after_reads_simp
  exact congrArg (fun e => Cert.Reference3Ideal.Read.val_main_v40 (F := Ideal) (ix2 t e)) (Fin.ext (by dsimp only; omega))

theorem entry_sin (t : Fin 2048) (l : Fin 128) :
    (V m c main_v18 : FVec Ideal S2048x128 .f32) (ix2 t l)
      = if l.val % 64 < 32 then -Cert.Reference3Ideal.Read.val_main_v42 (F := Ideal) (ix2 t ⟨l.val % 32, by omega⟩)
        else Cert.Reference3Ideal.Read.val_main_v42 (F := Ideal) (ix2 t ⟨l.val % 32, by omega⟩) := by
  have hn (e : Fin 32) : Host.negf (F := Ideal) (φ := .f32) (Cert.Reference3Ideal.Read.val_main_v42 (F := Ideal)) (ix2 t e)
      = -Cert.Reference3Ideal.Read.val_main_v42 (F := Ideal) (ix2 t e) := by pointwise
  after_reads_simp
  pointwise
  by_cases h0 : l.val < 32
  · rw [dif_pos h0]
    refine Eq.trans ?_ (if_pos (by omega)).symm
    after_reads_simp
    exact (hn _).trans (congrArg (fun e => -Cert.Reference3Ideal.Read.val_main_v42 (F := Ideal) (ix2 t e)) (Fin.ext (by dsimp only; omega)))
  rw [dif_neg h0]
  by_cases h1 : l.val - 32 < 32
  · rw [dif_pos h1]
    refine Eq.trans ?_ (if_neg (by omega)).symm
    after_reads_simp
    exact congrArg (fun e => Cert.Reference3Ideal.Read.val_main_v42 (F := Ideal) (ix2 t e)) (Fin.ext (by dsimp only; omega))
  rw [dif_neg h1]
  by_cases h2 : l.val - 32 - 32 < 32
  · rw [dif_pos h2]
    refine Eq.trans ?_ (if_pos (by omega)).symm
    after_reads_simp
    exact (hn _).trans (congrArg (fun e => -Cert.Reference3Ideal.Read.val_main_v42 (F := Ideal) (ix2 t e)) (Fin.ext (by dsimp only; omega)))
  rw [dif_neg h2]
  refine Eq.trans ?_ (if_neg (by omega)).symm
  after_reads_simp
  exact congrArg (fun e => Cert.Reference3Ideal.Read.val_main_v42 (F := Ideal) (ix2 t e)) (Fin.ext (by dsimp only; omega))

end Cert.Proj

end
-- ==== Proof.ProjRef.lean ====
/- WHAT THE REFERENCE OF THE INPUT PROJECTION COMPUTES, at an entry of each of its fourteen results. -/
module

public import proofs.«01_k».proof.Proof.Gen.Reference3Ideal.Read
public import proofs.«01_k».proof.Proof.ProjSpec
public import proofs.«01_k».proof.Proof.Value
public import Idealize.ShloMosaic.Lib.Pipeline.ValueKit

@[expose] public section

set_option maxRecDepth 16384

noncomputable section

namespace Cert.Proj.Ref

open Idealize.ShloMosaic Idealize.ShloMosaic.TcCoe Idealize.SL.Sem Cert.Reference3Ideal Cert.Reference3Ideal.Read Cert.PostBlock

variable (x0 : FVec Ideal S8x2048x1024 .f32) (x1 : FVec Ideal S2x1024 .f32) (x2 : FVec Ideal S1x1024x2888 .f32)

/-- The projected row at batch `b`, position `t`, column `j` of the weights. -/
def column (b : Fin 8) (t : Fin 2048) (j : Fin 2888) : EReal :=
  rowMul (rowNorm (fun i => x0 (ix3 b t i)) (fun i => x1 (ix2 0 i))) (fun k j => x2 (ix3 0 k j)) j

/-- The cosines and the sines of a position. -/
def cosines (t : Fin 2048) (e : Fin 32) : EReal := val_main_v40 (F := Ideal) (ix2 t e)

@[inherit_doc cosines]
def sines (t : Fin 2048) (e : Fin 32) : EReal := val_main_v42 (F := Ideal) (ix2 t e)

theorem v17_at (b : Fin 8) (t : Fin 2048) (j : Fin 2888) : val_main_v17 (F := Ideal) x0 x1 x2 (ix3 b t j) = column x0 x1 x2 b t j := by
  pointwise! [val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_cst, val_main_cst_0,
    val_main_cst_1, column, rowMul, rowNorm, zero_add]

theorem v56_at (b : Fin 8) (t : Fin 2048) (h : Fin 8) (d : Fin 64) : val_main_v56 (F := Ideal) x0 x1 x2 (ix4 b t h d)
    = rope (cosines t) (sines t) (fun e => column x0 x1 x2 b t ⟨64 * h.val + e.val, by omega⟩) d := by
  pointwise [val_main_v56, val_main_v55, val_main_v54, val_main_v53, val_main_v52, val_main_v51, val_main_v50, val_main_v49,
    val_main_v48, val_main_v47, val_main_v46, val_main_v45, val_main_v44, val_main_v43, val_main_v41, val_main_v27, val_main_v18, v17_at,
    rope, cosines, sines]
  by_cases hd : d.val < 32
  · rw [dif_pos hd, dif_pos hd]
    refine congrArg₂ (fun u v : EReal => u - v) (congrArg (fun z : EReal => z * _) ?_) (congrArg (fun z : EReal => z * _) ?_) <;>
      exact congrArg (column x0 x1 x2 b t) (Fin.ext (by simp only [Fin.val_zero] <;> omega))
  · rw [dif_neg hd, dif_neg hd]
    refine congrArg₂ (fun u v : EReal => u + v) (congrArg (fun z : EReal => z * _) ?_) (congrArg (fun z : EReal => z * _) ?_) <;>
      exact congrArg (column x0 x1 x2 b t) (Fin.ext (by simp only [Fin.val_zero] <;> omega))

theorem cosines_86 : val_main_v70 (F := Ideal) = val_main_v40 (F := Ideal) := rfl

theorem sines_86 : val_main_v72 (F := Ideal) = val_main_v42 (F := Ideal) := rfl

theorem v86_at (b : Fin 8) (t : Fin 2048) (h : Fin 2) (d : Fin 64) : val_main_v86 (F := Ideal) x0 x1 x2 (ix4 b t h d)
    = rope (cosines t) (sines t) (fun e => column x0 x1 x2 b t ⟨512 + (64 * h.val + e.val), by omega⟩) d := by
  pointwise [val_main_v86, val_main_v85, val_main_v84, val_main_v83, val_main_v82, val_main_v81, val_main_v80, val_main_v79,
    val_main_v78, val_main_v77, val_main_v76, val_main_v75, val_main_v74, val_main_v73, val_main_v71, val_main_v57, val_main_v19, v17_at,
    rope, cosines_86, sines_86, cosines, sines]
  by_cases hd : d.val < 32
  · rw [dif_pos hd, dif_pos hd]
    refine congrArg₂ (fun u v : EReal => u - v) (congrArg (fun z : EReal => z * _) ?_) (congrArg (fun z : EReal => z * _) ?_) <;>
      exact congrArg (column x0 x1 x2 b t) (Fin.ext (by simp only [Fin.val_zero] <;> omega))
  · rw [dif_neg hd, dif_neg hd]
    refine congrArg₂ (fun u v : EReal => u + v) (congrArg (fun z : EReal => z * _) ?_) (congrArg (fun z : EReal => z * _) ?_) <;>
      exact congrArg (column x0 x1 x2 b t) (Fin.ext (by simp only [Fin.val_zero] <;> omega))

theorem cosines_117 : val_main_v101 (F := Ideal) = val_main_v40 (F := Ideal) := rfl

theorem sines_117 : val_main_v103 (F := Ideal) = val_main_v42 (F := Ideal) := rfl

theorem v117_at (b : Fin 8) (t : Fin 2048) (h : Fin 8) (d : Fin 64) : val_main_v117 (F := Ideal) x0 x1 x2 (ix4 b t h d)
    = rope (cosines t) (sines t) (fun e => column x0 x1 x2 b t ⟨768 + (64 * h.val + e.val), by omega⟩) d := by
  pointwise [val_main_v117, val_main_v116, val_main_v115, val_main_v114, val_main_v113, val_main_v112, val_main_v111, val_main_v110,
    val_main_v109, val_main_v108, val_main_v107, val_main_v106, val_main_v105, val_main_v104, val_main_v102, val_main_v88, val_main_v21,
    v17_at, rope, cosines_117, sines_117, cosines, sines]
  by_cases hd : d.val < 32
  · rw [dif_pos hd, dif_pos hd]
    refine congrArg₂ (fun u v : EReal => u - v) (congrArg (fun z : EReal => z * _) ?_) (congrArg (fun z : EReal => z * _) ?_) <;>
      exact congrArg (column x0 x1 x2 b t) (Fin.ext (by simp only [Fin.val_zero] <;> omega))
  · rw [dif_neg hd, dif_neg hd]
    refine congrArg₂ (fun u v : EReal => u + v) (congrArg (fun z : EReal => z * _) ?_) (congrArg (fun z : EReal => z * _) ?_) <;>
      exact congrArg (column x0 x1 x2 b t) (Fin.ext (by simp only [Fin.val_zero] <;> omega))

theorem cosines_147 : val_main_v131 (F := Ideal) = val_main_v40 (F := Ideal) := rfl

theorem sines_147 : val_main_v133 (F := Ideal) = val_main_v42 (F := Ideal) := rfl

theorem v147_at (b : Fin 8) (t : Fin 2048) (d : Fin 64) : val_main_v147 (F := Ideal) x0 x1 x2 (ix4 b t 0 d)
    = rope (cosines t) (sines t) (fun e => column x0 x1 x2 b t ⟨1280 + e.val, by omega⟩) d := by
  pointwise [val_main_v147, val_main_v146, val_main_v145, val_main_v144, val_main_v143, val_main_v142, val_main_v141, val_main_v140,
    val_main_v139, val_main_v138, val_main_v137, val_main_v136, val_main_v135, val_main_v134, val_main_v132, val_main_v118, val_main_v22,
    v17_at, rope, cosines_147, sines_147, cosines, sines]
  by_cases hd : d.val < 32
  · rw [dif_pos hd, dif_pos hd]
    refine congrArg₂ (fun u v : EReal => u - v) (congrArg (fun z : EReal => z * _) ?_) (congrArg (fun z : EReal => z * _) ?_) <;>
      exact congrArg (column x0 x1 x2 b t) (Fin.ext (by simp only [Fin.val_zero] <;> omega))
  · rw [dif_neg hd, dif_neg hd]
    refine congrArg₂ (fun u v : EReal => u + v) (congrArg (fun z : EReal => z * _) ?_) (congrArg (fun z : EReal => z * _) ?_) <;>
      exact congrArg (column x0 x1 x2 b t) (Fin.ext (by simp only [Fin.val_zero] <;> omega))

theorem v155_eq : val_main_v155 (F := Ideal) ix0 = (((8 * Real.log 2)⁻¹ : ℝ) : EReal) := by
  pointwise [val_main_v155, val_main_v154, val_main_cst_11, val_main_cst_12]
  exact Cert.DiffAttn.qscale_eq.trans (by rw [one_div])

/-- A row's column: row `n` is position `n % 2048` of batch `n / 2048`. -/
abbrev rowColumn (n : Fin 16384) (j : Fin 2888) : EReal := column x0 x1 x2 ⟨n.val / 2048, by omega⟩ ⟨n.val % 2048, by omega⟩ j

/-- The rotary positions of a row. -/
abbrev rowRope (n : Fin 16384) (y : Fin 64 → EReal) (d : Fin 64) : EReal :=
  rope (cosines ⟨n.val % 2048, by omega⟩) (sines ⟨n.val % 2048, by omega⟩) y d

theorem v160_at (h : Fin 8) (n : Fin 16384) (d : Fin 64) : val_main_v160 (F := Ideal) x0 x1 x2 (ix3 h n d)
    = rowRope n (fun e => rowColumn x0 x1 x2 n ⟨64 * h.val + e.val, by omega⟩) d * (((8 * Real.log 2)⁻¹ : ℝ) : EReal) := by
  pointwise [val_main_v160, val_main_v159, val_main_v158, val_main_v157, val_main_v156, v155_eq, v56_at]

theorem v165_at (h : Fin 8) (n : Fin 16384) (d : Fin 64) : val_main_v165 (F := Ideal) x0 x1 x2 (ix3 h n d)
    = rowRope n (fun e => rowColumn x0 x1 x2 n ⟨768 + (64 * h.val + e.val), by omega⟩) d * Ideal.ofBits .f32 0x3E000000#32 := by
  pointwise [val_main_v165, val_main_v164, val_main_v163, val_main_v162, val_main_v161, val_main_cst_13, v117_at]

theorem v170_at (h : Fin 8) (n : Fin 16384) (d : Fin 64) : val_main_v170 (F := Ideal) x0 x1 x2 (ix3 h n d)
    = rowColumn x0 x1 x2 n ⟨1352 + (64 * h.val + d.val), by omega⟩ * (((8 * Real.log 2)⁻¹ : ℝ) : EReal) := by
  pointwise [val_main_v170, val_main_v169, val_main_v168, val_main_v167, val_main_v166, val_main_v151, val_main_v24, v155_eq, v17_at]
  refine congrArg (fun z : EReal => z * _) ?_
  exact congrArg (column x0 x1 x2 _ _) (Fin.ext (by dsimp only; omega))

theorem v171_at (b : Fin 8) (h : Fin 2) (d : Fin 64) (t : Fin 2048) : val_main_v171 (F := Ideal) x0 x1 x2 (ix4 b h d t)
    = rope (cosines t) (sines t) (fun e => column x0 x1 x2 b t ⟨512 + (64 * h.val + e.val), by omega⟩) d := by
  pointwise [val_main_v171, v86_at]

theorem v174_at (h : Fin 2) (d : Fin 64) (n : Fin 16384) : val_main_v174 (F := Ideal) x0 x1 x2 (ix3 h d n)
    = rowRope n (fun e => rowColumn x0 x1 x2 n ⟨512 + (64 * h.val + e.val), by omega⟩) d := by
  pointwise [val_main_v174, val_main_v173, val_main_v172, v86_at]

theorem v175_at (b : Fin 8) (h : Fin 2) (d : Fin 64) (t : Fin 2048) : val_main_v175 (F := Ideal) x0 x1 x2 (ix4 b h d t)
    = column x0 x1 x2 b t ⟨640 + (64 * h.val + d.val), by omega⟩ := by
  pointwise [val_main_v175, val_main_v87, val_main_v20, v17_at]
  exact congrArg (column x0 x1 x2 _ _) (Fin.ext (by dsimp only; omega))

theorem v177_at (n : Fin 16384) (j : Fin 128) : val_main_v177 (F := Ideal) x0 x1 x2 (ix2 n j)
    = rowColumn x0 x1 x2 n ⟨640 + j.val, by omega⟩ := by
  pointwise [val_main_v177, val_main_v176, val_main_v87, val_main_v20, v17_at]

theorem v178_at (b : Fin 8) (d : Fin 64) (t : Fin 2048) : val_main_v178 (F := Ideal) x0 x1 x2 (ix3 b d t)
    = rope (cosines t) (sines t) (fun e => column x0 x1 x2 b t ⟨1280 + e.val, by omega⟩) d := by
  pointwise [val_main_v178, val_main_v148, v147_at]

theorem v181_at (d : Fin 64) (n : Fin 16384) : val_main_v181 (F := Ideal) x0 x1 x2 (ix2 d n)
    = rowRope n (fun e => rowColumn x0 x1 x2 n ⟨1280 + e.val, by omega⟩) d := by
  pointwise [val_main_v181, val_main_v180, val_main_v179, val_main_v148, v147_at]

theorem v182_at (n : Fin 16384) (j : Fin 8) : val_main_v182 (F := Ideal) x0 x1 x2 (ix2 n j)
    = rowColumn x0 x1 x2 n ⟨1344 + j.val, by omega⟩ * Ideal.ofBits .f32 0x3EB504F3#32 := by
  pointwise [val_main_v182, val_main_v150, val_main_v149, val_main_v23, val_main_cst_10, v17_at]

theorem v183_at (b : Fin 8) (h : Fin 8) (d : Fin 64) (t : Fin 2048) : val_main_v183 (F := Ideal) x0 x1 x2 (ix4 b h d t)
    = column x0 x1 x2 b t ⟨1864 + (64 * h.val + d.val), by omega⟩ := by
  pointwise [val_main_v183, val_main_v152, val_main_v25, v17_at]
  exact congrArg (column x0 x1 x2 _ _) (Fin.ext (by dsimp only; omega))

theorem v187_at (b : Fin 8) (h : Fin 8) (d : Fin 64) (t : Fin 2048) : val_main_v187 (F := Ideal) x0 x1 x2 (ix4 b h d t)
    = column x0 x1 x2 b t ⟨2376 + (64 * h.val + d.val), by omega⟩ := by
  pointwise [val_main_v187, val_main_v153, val_main_v26, v17_at]
  exact congrArg (column x0 x1 x2 _ _) (Fin.ext (by dsimp only; omega))

theorem v186_at (h : Fin 8) (d : Fin 64) (n : Fin 16384) : val_main_v186 (F := Ideal) x0 x1 x2 (ix3 h d n)
    = rowColumn x0 x1 x2 n ⟨1864 + (64 * h.val + d.val), by omega⟩ := by
  pointwise [val_main_v186, val_main_v185, val_main_v184, val_main_v152, val_main_v25, v17_at]
  exact congrArg (column x0 x1 x2 _ _) (Fin.ext (by dsimp only; omega))

theorem v189_at (n : Fin 16384) (j : Fin 512) : val_main_v189 (F := Ideal) x0 x1 x2 (ix2 n j)
    = rowColumn x0 x1 x2 n ⟨2376 + j.val, by omega⟩ := by
  pointwise [val_main_v189, val_main_v188, val_main_v153, val_main_v26, v17_at]

end Cert.Proj.Ref

end
-- ==== Proof.ProjValue.lean ====
/- THE BLOCKS OF A GRID POINT OF THE INPUT PROJECTION AND ITS FOURTEEN RESULT ARRAYS. -/
module

public import proofs.«01_k».proof.Proof.ProjBody
public import proofs.«01_k».proof.Proof.ProjEntry
public import proofs.«01_k».proof.Proof.ProjRef

@[expose] public section

set_option maxRecDepth 16384

noncomputable section

namespace Cert.Proj

open Idealize.ShloMosaic Idealize.ShloMosaic.TcCoe Idealize.SL.Sem Cert.Kernel3Ideal Cert.Kernel3Ideal.Gen Cert.PostBlock

variable (m : (ℓ : Loc nD τ sig) → Buf (Elt Ideal) ℓ) (c : Dev nD)

/-- The launch contents of the arguments. -/
abbrev argX : FVec Ideal S8x2048x1024 .f32 := m ((c : Thread nD τ).loc main_arg0)

@[inherit_doc argX]
abbrev argG : FVec Ideal S2x1024 .f32 := m ((c : Thread nD τ).loc main_arg1)

@[inherit_doc argX]
abbrev argW : FVec Ideal S1x1024x2888 .f32 := m ((c : Thread nD τ).loc main_arg2)

/-! ## The blocks of a grid point -/

/-- The row that row `r` of point `t` is, its batch, and its position. -/
abbrev rowAt (t : Fin cfg0.N) (r : Fin 512) : Fin 16384 := ⟨512 * t.val + r.val, by have := (idx t).2.2.2.2.2; omega⟩

@[inherit_doc rowAt]
abbrev batchAt (t : Fin cfg0.N) (r : Fin 512) : Fin 8 := ⟨(rowAt t r).val / 2048, by omega⟩

@[inherit_doc rowAt]
abbrev posAt (t : Fin cfg0.N) (r : Fin 512) : Fin 2048 := ⟨(rowAt t r).val % 2048, by omega⟩

theorem blk_x (t : Fin cfg0.N) (r : Fin 512) (j : Fin 1024) :
    (iblk m c 0 t : FVec Ideal S512x1024 .f32) (ix2 r j) = argX m c (ix3 (batchAt t r) (posAt t r) j) := by
  refine Eq.trans ?_ (entry_x m c (rowAt t r) j)
  blk_ext [iblk, idx t]

theorem blk_g (t : Fin cfg0.N) (j : Fin 1024) : (iblk m c 1 t : FVec Ideal S1x1024 .f32) (ix2 0 j) = argG m c (ix2 0 j) := by
  refine Eq.trans ?_ (entry_g m c j)
  blk_ext [iblk, idx t]

theorem blk_w (t : Fin cfg0.N) (k : Fin 1024) (j : Fin 2944) :
    (iblk m c 2 t : FVec Ideal S1024x2944 .bf16) (ix2 k j) = (V m c main_v34 : FVec Ideal S1024x2944 .bf16) (ix2 k j) := by
  blk_ext [iblk, idx t]

theorem blk_cos (t : Fin cfg0.N) (r : Fin 512) (l : Fin 128) :
    (iblk m c 3 t : FVec Ideal S512x128 .f32) (ix2 r l) = (V m c main_v15 : FVec Ideal S2048x128 .f32) (ix2 (posAt t r) l) := by
  blk_ext [iblk, idx t]

theorem blk_sin (t : Fin cfg0.N) (r : Fin 512) (l : Fin 128) :
    (iblk m c 4 t : FVec Ideal S512x128 .f32) (ix2 r l) = (V m c main_v18 : FVec Ideal S2048x128 .f32) (ix2 (posAt t r) l) := by
  blk_ext [iblk, idx t]

/-- THE TABLES OF A ROW are the reference's cosines and sines of its position. -/
theorem tables (t : Fin cfg0.N) (r : Fin 512) :
    Tables (iblk m c 3 t) (iblk m c 4 t) r (Ref.cosines (posAt t r)) (Ref.sines (posAt t r)) :=
  ⟨fun l => (blk_cos m c t r l).trans (entry_cos m c (posAt t r) l), fun l => (blk_sin m c t r l).trans (entry_sin m c (posAt t r) l)⟩

/-! ## The projected columns -/

/-- A row's columns in the reference, at the arguments' launch contents. -/
abbrev refColumn (n : Fin 16384) (j : Fin 2888) : EReal := Ref.rowColumn (argX m c) (argG m c) (argW m c) n j

/-- A column of the kernel's weights that is column `j'` of the reference's gives the reference's projected column. -/
theorem cell_eq (t : Fin cfg0.N) (r : Fin 512) (j : Fin 2944) (j' : Fin 2888)
    (h : ∀ k, (V m c main_v34 : FVec Ideal S1024x2944 .bf16) (ix2 k j) = argW m c (ix3 0 k j')) :
    cell (iblk m c 0 t) (iblk m c 1 t) (iblk m c 2 t) r j = refColumn m c (rowAt t r) j' := by
  unfold cell refColumn Ref.rowColumn Ref.column
  exact rowMul_congr (congrArg₂ rowNorm (funext fun i => blk_x m c t r i) (funext fun i => blk_g m c t i)) fun k =>
    (blk_w m c t k j).trans (h k)

theorem cell_aq (t : Fin cfg0.N) (r : Fin 512) (e : Fin 512) :
    cell (iblk m c 0 t) (iblk m c 1 t) (iblk m c 2 t) r ⟨e.val, by omega⟩ = refColumn m c (rowAt t r) ⟨e.val, by omega⟩ :=
  cell_eq m c t r _ _ fun k => entry_aq m c k e

theorem cell_iq (t : Fin cfg0.N) (r : Fin 512) (e : Fin 512) :
    cell (iblk m c 0 t) (iblk m c 1 t) (iblk m c 2 t) r ⟨512 + e.val, by omega⟩ = refColumn m c (rowAt t r) ⟨768 + e.val, by omega⟩ :=
  cell_eq m c t r _ _ fun k => entry_iq m c k e

theorem cell_ak (t : Fin cfg0.N) (r : Fin 512) (e : Fin 128) :
    cell (iblk m c 0 t) (iblk m c 1 t) (iblk m c 2 t) r ⟨1024 + e.val, by omega⟩ = refColumn m c (rowAt t r) ⟨512 + e.val, by omega⟩ :=
  cell_eq m c t r _ _ fun k => entry_ak m c k e

theorem cell_av (t : Fin cfg0.N) (r : Fin 512) (e : Fin 128) :
    cell (iblk m c 0 t) (iblk m c 1 t) (iblk m c 2 t) r ⟨1152 + e.val, by omega⟩ = refColumn m c (rowAt t r) ⟨640 + e.val, by omega⟩ :=
  cell_eq m c t r _ _ fun k => entry_av m c k e

theorem cell_bq (t : Fin cfg0.N) (r : Fin 512) (e : Fin 512) :
    cell (iblk m c 0 t) (iblk m c 1 t) (iblk m c 2 t) r ⟨1280 + e.val, by omega⟩ = refColumn m c (rowAt t r) ⟨1352 + e.val, by omega⟩ :=
  cell_eq m c t r _ _ fun k => entry_bq m c k e

theorem cell_bk (t : Fin cfg0.N) (r : Fin 512) (e : Fin 512) :
    cell (iblk m c 0 t) (iblk m c 1 t) (iblk m c 2 t) r ⟨1792 + e.val, by omega⟩ = refColumn m c (rowAt t r) ⟨1864 + e.val, by omega⟩ :=
  cell_eq m c t r _ _ fun k => entry_bk m c k e

theorem cell_bv (t : Fin cfg0.N) (r : Fin 512) (e : Fin 512) :
    cell (iblk m c 0 t) (iblk m c 1 t) (iblk m c 2 t) r ⟨2304 + e.val, by omega⟩ = refColumn m c (rowAt t r) ⟨2376 + e.val, by omega⟩ :=
  cell_eq m c t r _ _ fun k => entry_bv m c k e

theorem cell_ik (t : Fin cfg0.N) (r : Fin 512) (e : Fin 64) :
    cell (iblk m c 0 t) (iblk m c 1 t) (iblk m c 2 t) r ⟨2816 + e.val, by omega⟩ = refColumn m c (rowAt t r) ⟨1280 + e.val, by omega⟩ :=
  cell_eq m c t r _ _ fun k => entry_ik m c k e

theorem cell_iw (t : Fin cfg0.N) (r : Fin 512) (e : Fin 8) :
    cell (iblk m c 0 t) (iblk m c 1 t) (iblk m c 2 t) r ⟨2880 + e.val, by omega⟩ = refColumn m c (rowAt t r) ⟨1344 + e.val, by omega⟩ :=
  cell_eq m c t r _ _ fun k => entry_iw m c k e

/-! ## The results -/

theorem point_5 (t : Fin cfg0.N) (h : Fin 8) (r : Fin 512) (d : Fin 64) :
    out0_5 (F := Ideal) (iblk m c 0 t) (iblk m c 1 t) (iblk m c 2 t) (iblk m c 3 t) (iblk m c 4 t) (ix3 h r d)
      = Cert.Reference3Ideal.Read.val_main_v160 (F := Ideal) (argX m c) (argG m c) (argW m c) (ix3 h (rowAt t r) d) :=
  (out_aq _ _ _ (tables m c t r) h d).trans (Eq.trans (congrArg (fun z : EReal => z * _) (congrArg (fun f => rope _ _ f d) (funext fun e => cell_aq m c t r ⟨64 * h.val + e.val, by omega⟩))) (Ref.v160_at _ _ _ h (rowAt t r) d).symm)

/-- The attention queries. -/
theorem kernel_eq_5 : (dats m 0 c).arrAt 5 (cfgs 0).N = Cert.Reference3Ideal.Read.val_main_v160 (F := Ideal) (argX m c) (argG m c) (argW m c) := by
  refine (dats m 0 c).arrAt_eq_of_covers 5 _ (by decide +kernel) fun t _ y => ?_
  blk_simp
  rw [after0_5]
  have y0 : (y 0).val < 8 := (y 0).isLt
  have y1 : (y 1).val < 512 := (y 1).isLt
  have y2 : (y 2).val < 64 := (y 2).isLt
  have hy : (ix3 ⟨(y 0).val, y0⟩ ⟨(y 1).val, y1⟩ ⟨(y 2).val, y2⟩ : S8x512x64.Idx) = y := by
    funext z
    match z with
    | ⟨0, _⟩ => rfl
    | ⟨1, _⟩ => rfl
    | ⟨2, _⟩ => rfl
  refine ((congrArg (out0_5 (F := Ideal) _ _ _ _ _) hy.symm).trans (point_5 m c t ⟨(y 0).val, y0⟩ ⟨(y 1).val, y1⟩ ⟨(y 2).val, y2⟩)).trans ?_
  refine congrArg (Cert.Reference3Ideal.Read.val_main_v160 (F := Ideal) _ _ _) ?_
  blk_ext [idx_out t]

theorem point_6 (t : Fin cfg0.N) (h : Fin 8) (r : Fin 512) (d : Fin 64) :
    out0_6 (F := Ideal) (iblk m c 0 t) (iblk m c 1 t) (iblk m c 2 t) (iblk m c 3 t) (iblk m c 4 t) (ix3 h r d)
      = Cert.Reference3Ideal.Read.val_main_v165 (F := Ideal) (argX m c) (argG m c) (argW m c) (ix3 h (rowAt t r) d) :=
  (out_iq _ _ _ (tables m c t r) h d).trans (Eq.trans (congrArg (fun z : EReal => z * _) (congrArg (fun f => rope _ _ f d) (funext fun e => cell_iq m c t r ⟨64 * h.val + e.val, by omega⟩))) (Ref.v165_at _ _ _ h (rowAt t r) d).symm)

/-- The index queries. -/
theorem kernel_eq_6 : (dats m 0 c).arrAt 6 (cfgs 0).N = Cert.Reference3Ideal.Read.val_main_v165 (F := Ideal) (argX m c) (argG m c) (argW m c) := by
  refine (dats m 0 c).arrAt_eq_of_covers 6 _ (by decide +kernel) fun t _ y => ?_
  blk_simp
  rw [after0_6]
  have y0 : (y 0).val < 8 := (y 0).isLt
  have y1 : (y 1).val < 512 := (y 1).isLt
  have y2 : (y 2).val < 64 := (y 2).isLt
  have hy : (ix3 ⟨(y 0).val, y0⟩ ⟨(y 1).val, y1⟩ ⟨(y 2).val, y2⟩ : S8x512x64.Idx) = y := by
    funext z
    match z with
    | ⟨0, _⟩ => rfl
    | ⟨1, _⟩ => rfl
    | ⟨2, _⟩ => rfl
  refine ((congrArg (out0_6 (F := Ideal) _ _ _ _ _) hy.symm).trans (point_6 m c t ⟨(y 0).val, y0⟩ ⟨(y 1).val, y1⟩ ⟨(y 2).val, y2⟩)).trans ?_
  refine congrArg (Cert.Reference3Ideal.Read.val_main_v165 (F := Ideal) _ _ _) ?_
  blk_ext [idx_out t]

theorem point_7 (t : Fin cfg0.N) (h : Fin 8) (r : Fin 512) (d : Fin 64) :
    out0_7 (F := Ideal) (iblk m c 0 t) (iblk m c 1 t) (iblk m c 2 t) (iblk m c 3 t) (iblk m c 4 t) (ix3 h r d)
      = Cert.Reference3Ideal.Read.val_main_v170 (F := Ideal) (argX m c) (argG m c) (argW m c) (ix3 h (rowAt t r) d) :=
  (out_bq _ _ _ _ _ r h d).trans (Eq.trans (congrArg (fun z : EReal => z * _) (cell_bq m c t r ⟨64 * h.val + d.val, by omega⟩)) (Ref.v170_at _ _ _ h (rowAt t r) d).symm)

/-- The window queries. -/
theorem kernel_eq_7 : (dats m 0 c).arrAt 7 (cfgs 0).N = Cert.Reference3Ideal.Read.val_main_v170 (F := Ideal) (argX m c) (argG m c) (argW m c) := by
  refine (dats m 0 c).arrAt_eq_of_covers 7 _ (by decide +kernel) fun t _ y => ?_
  blk_simp
  rw [after0_7]
  have y0 : (y 0).val < 8 := (y 0).isLt
  have y1 : (y 1).val < 512 := (y 1).isLt
  have y2 : (y 2).val < 64 := (y 2).isLt
  have hy : (ix3 ⟨(y 0).val, y0⟩ ⟨(y 1).val, y1⟩ ⟨(y 2).val, y2⟩ : S8x512x64.Idx) = y := by
    funext z
    match z with
    | ⟨0, _⟩ => rfl
    | ⟨1, _⟩ => rfl
    | ⟨2, _⟩ => rfl
  refine ((congrArg (out0_7 (F := Ideal) _ _ _ _ _) hy.symm).trans (point_7 m c t ⟨(y 0).val, y0⟩ ⟨(y 1).val, y1⟩ ⟨(y 2).val, y2⟩)).trans ?_
  refine congrArg (Cert.Reference3Ideal.Read.val_main_v170 (F := Ideal) _ _ _) ?_
  blk_ext [idx_out t]

theorem point_8 (t : Fin cfg0.N) (h : Fin 2) (d : Fin 64) (r : Fin 512) :
    out0_8 (F := Ideal) (iblk m c 0 t) (iblk m c 1 t) (iblk m c 2 t) (iblk m c 3 t) (iblk m c 4 t) (ix4 0 h d r)
      = Cert.Reference3Ideal.Read.val_main_v171 (F := Ideal) (argX m c) (argG m c) (argW m c) (ix4 (batchAt t r) h d (posAt t r)) :=
  (out_ak _ _ _ (tables m c t r) h d).trans (Eq.trans ((congrArg (fun f => rope _ _ f d) (funext fun e => cell_ak m c t r ⟨64 * h.val + e.val, by omega⟩))) (Ref.v171_at _ _ _ (batchAt t r) h d (posAt t r)).symm)

/-- The attention keys, batch by batch. -/
theorem kernel_eq_8 : (dats m 0 c).arrAt 8 (cfgs 0).N = Cert.Reference3Ideal.Read.val_main_v171 (F := Ideal) (argX m c) (argG m c) (argW m c) := by
  refine (dats m 0 c).arrAt_eq_of_covers 8 _ (by decide +kernel) fun t _ y => ?_
  blk_simp
  rw [after0_8]
  have y0 : (y 0).val < 1 := (y 0).isLt
  have y1 : (y 1).val < 2 := (y 1).isLt
  have y2 : (y 2).val < 64 := (y 2).isLt
  have y3 : (y 3).val < 512 := (y 3).isLt
  have hy : (ix4 0 ⟨(y 1).val, y1⟩ ⟨(y 2).val, y2⟩ ⟨(y 3).val, y3⟩ : S1x2x64x512.Idx) = y := by
    funext z
    match z with
    | ⟨0, _⟩ => exact Fin.ext (show 0 = (y 0).val by omega)
    | ⟨1, _⟩ => rfl
    | ⟨2, _⟩ => rfl
    | ⟨3, _⟩ => rfl
  refine ((congrArg (out0_8 (F := Ideal) _ _ _ _ _) hy.symm).trans (point_8 m c t ⟨(y 1).val, y1⟩ ⟨(y 2).val, y2⟩ ⟨(y 3).val, y3⟩)).trans ?_
  refine congrArg (Cert.Reference3Ideal.Read.val_main_v171 (F := Ideal) _ _ _) ?_
  blk_ext [idx_out t]

theorem point_9 (t : Fin cfg0.N) (h : Fin 2) (d : Fin 64) (r : Fin 512) :
    out0_9 (F := Ideal) (iblk m c 0 t) (iblk m c 1 t) (iblk m c 2 t) (iblk m c 3 t) (iblk m c 4 t) (ix3 h d r)
      = Cert.Reference3Ideal.Read.val_main_v174 (F := Ideal) (argX m c) (argG m c) (argW m c) (ix3 h d (rowAt t r)) :=
  (out_akt _ _ _ (tables m c t r) h d).trans (Eq.trans ((congrArg (fun f => rope _ _ f d) (funext fun e => cell_ak m c t r ⟨64 * h.val + e.val, by omega⟩))) (Ref.v174_at _ _ _ h d (rowAt t r)).symm)

/-- The attention keys, transposed. -/
theorem kernel_eq_9 : (dats m 0 c).arrAt 9 (cfgs 0).N = Cert.Reference3Ideal.Read.val_main_v174 (F := Ideal) (argX m c) (argG m c) (argW m c) := by
  refine (dats m 0 c).arrAt_eq_of_covers 9 _ (by decide +kernel) fun t _ y => ?_
  blk_simp
  rw [after0_9]
  have y0 : (y 0).val < 2 := (y 0).isLt
  have y1 : (y 1).val < 64 := (y 1).isLt
  have y2 : (y 2).val < 512 := (y 2).isLt
  have hy : (ix3 ⟨(y 0).val, y0⟩ ⟨(y 1).val, y1⟩ ⟨(y 2).val, y2⟩ : S2x64x512.Idx) = y := by
    funext z
    match z with
    | ⟨0, _⟩ => rfl
    | ⟨1, _⟩ => rfl
    | ⟨2, _⟩ => rfl
  refine ((congrArg (out0_9 (F := Ideal) _ _ _ _ _) hy.symm).trans (point_9 m c t ⟨(y 0).val, y0⟩ ⟨(y 1).val, y1⟩ ⟨(y 2).val, y2⟩)).trans ?_
  refine congrArg (Cert.Reference3Ideal.Read.val_main_v174 (F := Ideal) _ _ _) ?_
  blk_ext [idx_out t]

theorem point_10 (t : Fin cfg0.N) (h : Fin 2) (d : Fin 64) (r : Fin 512) :
    out0_10 (F := Ideal) (iblk m c 0 t) (iblk m c 1 t) (iblk m c 2 t) (iblk m c 3 t) (iblk m c 4 t) (ix4 0 h d r)
      = Cert.Reference3Ideal.Read.val_main_v175 (F := Ideal) (argX m c) (argG m c) (argW m c) (ix4 (batchAt t r) h d (posAt t r)) :=
  (out_av _ _ _ _ _ r h d).trans (Eq.trans ((cell_av m c t r ⟨64 * h.val + d.val, by omega⟩)) (Ref.v175_at _ _ _ (batchAt t r) h d (posAt t r)).symm)

/-- The attention values, batch by batch. -/
theorem kernel_eq_10 : (dats m 0 c).arrAt 10 (cfgs 0).N = Cert.Reference3Ideal.Read.val_main_v175 (F := Ideal) (argX m c) (argG m c) (argW m c) := by
  refine (dats m 0 c).arrAt_eq_of_covers 10 _ (by decide +kernel) fun t _ y => ?_
  blk_simp
  rw [after0_10]
  have y0 : (y 0).val < 1 := (y 0).isLt
  have y1 : (y 1).val < 2 := (y 1).isLt
  have y2 : (y 2).val < 64 := (y 2).isLt
  have y3 : (y 3).val < 512 := (y 3).isLt
  have hy : (ix4 0 ⟨(y 1).val, y1⟩ ⟨(y 2).val, y2⟩ ⟨(y 3).val, y3⟩ : S1x2x64x512.Idx) = y := by
    funext z
    match z with
    | ⟨0, _⟩ => exact Fin.ext (show 0 = (y 0).val by omega)
    | ⟨1, _⟩ => rfl
    | ⟨2, _⟩ => rfl
    | ⟨3, _⟩ => rfl
  refine ((congrArg (out0_10 (F := Ideal) _ _ _ _ _) hy.symm).trans (point_10 m c t ⟨(y 1).val, y1⟩ ⟨(y 2).val, y2⟩ ⟨(y 3).val, y3⟩)).trans ?_
  refine congrArg (Cert.Reference3Ideal.Read.val_main_v175 (F := Ideal) _ _ _) ?_
  blk_ext [idx_out t]

theorem point_11 (t : Fin cfg0.N) (r : Fin 512) (j : Fin 128) :
    out0_11 (F := Ideal) (iblk m c 0 t) (iblk m c 1 t) (iblk m c 2 t) (iblk m c 3 t) (iblk m c 4 t) (ix2 r j)
      = Cert.Reference3Ideal.Read.val_main_v177 (F := Ideal) (argX m c) (argG m c) (argW m c) (ix2 (rowAt t r) j) :=
  (out_av16 _ _ _ _ _ r j).trans (Eq.trans ((cell_av m c t r j)) (Ref.v177_at _ _ _ (rowAt t r) j).symm)

/-- The attention values, row by row. -/
theorem kernel_eq_11 : (dats m 0 c).arrAt 11 (cfgs 0).N = Cert.Reference3Ideal.Read.val_main_v177 (F := Ideal) (argX m c) (argG m c) (argW m c) := by
  refine (dats m 0 c).arrAt_eq_of_covers 11 _ (by decide +kernel) fun t _ y => ?_
  blk_simp
  rw [after0_11]
  have y0 : (y 0).val < 512 := (y 0).isLt
  have y1 : (y 1).val < 128 := (y 1).isLt
  have hy : (ix2 ⟨(y 0).val, y0⟩ ⟨(y 1).val, y1⟩ : S512x128.Idx) = y := by
    funext z
    match z with
    | ⟨0, _⟩ => rfl
    | ⟨1, _⟩ => rfl
  refine ((congrArg (out0_11 (F := Ideal) _ _ _ _ _) hy.symm).trans (point_11 m c t ⟨(y 0).val, y0⟩ ⟨(y 1).val, y1⟩)).trans ?_
  refine congrArg (Cert.Reference3Ideal.Read.val_main_v177 (F := Ideal) _ _ _) ?_
  blk_ext [idx_out t]

theorem point_12 (t : Fin cfg0.N) (d : Fin 64) (r : Fin 512) :
    out0_12 (F := Ideal) (iblk m c 0 t) (iblk m c 1 t) (iblk m c 2 t) (iblk m c 3 t) (iblk m c 4 t) (ix3 0 d r)
      = Cert.Reference3Ideal.Read.val_main_v178 (F := Ideal) (argX m c) (argG m c) (argW m c) (ix3 (batchAt t r) d (posAt t r)) :=
  (out_ik _ _ _ (tables m c t r) d).trans (Eq.trans ((congrArg (fun f => rope _ _ f d) (funext fun e => cell_ik m c t r e))) (Ref.v178_at _ _ _ (batchAt t r) d (posAt t r)).symm)

/-- The index keys, batch by batch. -/
theorem kernel_eq_12 : (dats m 0 c).arrAt 12 (cfgs 0).N = Cert.Reference3Ideal.Read.val_main_v178 (F := Ideal) (argX m c) (argG m c) (argW m c) := by
  refine (dats m 0 c).arrAt_eq_of_covers 12 _ (by decide +kernel) fun t _ y => ?_
  blk_simp
  rw [after0_12]
  have y0 : (y 0).val < 1 := (y 0).isLt
  have y1 : (y 1).val < 64 := (y 1).isLt
  have y2 : (y 2).val < 512 := (y 2).isLt
  have hy : (ix3 0 ⟨(y 1).val, y1⟩ ⟨(y 2).val, y2⟩ : S1x64x512.Idx) = y := by
    funext z
    match z with
    | ⟨0, _⟩ => exact Fin.ext (show 0 = (y 0).val by omega)
    | ⟨1, _⟩ => rfl
    | ⟨2, _⟩ => rfl
  refine ((congrArg (out0_12 (F := Ideal) _ _ _ _ _) hy.symm).trans (point_12 m c t ⟨(y 1).val, y1⟩ ⟨(y 2).val, y2⟩)).trans ?_
  refine congrArg (Cert.Reference3Ideal.Read.val_main_v178 (F := Ideal) _ _ _) ?_
  blk_ext [idx_out t]

theorem point_13 (t : Fin cfg0.N) (d : Fin 64) (r : Fin 512) :
    out0_13 (F := Ideal) (iblk m c 0 t) (iblk m c 1 t) (iblk m c 2 t) (iblk m c 3 t) (iblk m c 4 t) (ix2 d r)
      = Cert.Reference3Ideal.Read.val_main_v181 (F := Ideal) (argX m c) (argG m c) (argW m c) (ix2 d (rowAt t r)) :=
  (out_ikt _ _ _ (tables m c t r) d).trans (Eq.trans ((congrArg (fun f => rope _ _ f d) (funext fun e => cell_ik m c t r e))) (Ref.v181_at _ _ _ d (rowAt t r)).symm)

/-- The index keys, transposed. -/
theorem kernel_eq_13 : (dats m 0 c).arrAt 13 (cfgs 0).N = Cert.Reference3Ideal.Read.val_main_v181 (F := Ideal) (argX m c) (argG m c) (argW m c) := by
  refine (dats m 0 c).arrAt_eq_of_covers 13 _ (by decide +kernel) fun t _ y => ?_
  blk_simp
  rw [after0_13]
  have y0 : (y 0).val < 64 := (y 0).isLt
  have y1 : (y 1).val < 512 := (y 1).isLt
  have hy : (ix2 ⟨(y 0).val, y0⟩ ⟨(y 1).val, y1⟩ : S64x512.Idx) = y := by
    funext z
    match z with
    | ⟨0, _⟩ => rfl
    | ⟨1, _⟩ => rfl
  refine ((congrArg (out0_13 (F := Ideal) _ _ _ _ _) hy.symm).trans (point_13 m c t ⟨(y 0).val, y0⟩ ⟨(y 1).val, y1⟩)).trans ?_
  refine congrArg (Cert.Reference3Ideal.Read.val_main_v181 (F := Ideal) _ _ _) ?_
  blk_ext [idx_out t]

theorem point_14 (t : Fin cfg0.N) (r : Fin 512) (j : Fin 8) :
    out0_14 (F := Ideal) (iblk m c 0 t) (iblk m c 1 t) (iblk m c 2 t) (iblk m c 3 t) (iblk m c 4 t) (ix2 r j)
      = Cert.Reference3Ideal.Read.val_main_v182 (F := Ideal) (argX m c) (argG m c) (argW m c) (ix2 (rowAt t r) j) :=
  (out_iw _ _ _ _ _ r j).trans (Eq.trans (congrArg (fun z : EReal => z * _) ((congrArg (cell _ _ _ r) (Fin.ext (by dsimp only; omega))).trans (cell_iw m c t r j))) (Ref.v182_at _ _ _ (rowAt t r) j).symm)

/-- The index weights. -/
theorem kernel_eq_14 : (dats m 0 c).arrAt 14 (cfgs 0).N = Cert.Reference3Ideal.Read.val_main_v182 (F := Ideal) (argX m c) (argG m c) (argW m c) := by
  refine (dats m 0 c).arrAt_eq_of_covers 14 _ (by decide +kernel) fun t _ y => ?_
  blk_simp
  rw [after0_14]
  have y0 : (y 0).val < 512 := (y 0).isLt
  have y1 : (y 1).val < 8 := (y 1).isLt
  have hy : (ix2 ⟨(y 0).val, y0⟩ ⟨(y 1).val, y1⟩ : S512x8.Idx) = y := by
    funext z
    match z with
    | ⟨0, _⟩ => rfl
    | ⟨1, _⟩ => rfl
  refine ((congrArg (out0_14 (F := Ideal) _ _ _ _ _) hy.symm).trans (point_14 m c t ⟨(y 0).val, y0⟩ ⟨(y 1).val, y1⟩)).trans ?_
  refine congrArg (Cert.Reference3Ideal.Read.val_main_v182 (F := Ideal) _ _ _) ?_
  blk_ext [idx_out t]

theorem point_15 (t : Fin cfg0.N) (h : Fin 8) (d : Fin 64) (r : Fin 512) :
    out0_15 (F := Ideal) (iblk m c 0 t) (iblk m c 1 t) (iblk m c 2 t) (iblk m c 3 t) (iblk m c 4 t) (ix4 0 h d r)
      = Cert.Reference3Ideal.Read.val_main_v183 (F := Ideal) (argX m c) (argG m c) (argW m c) (ix4 (batchAt t r) h d (posAt t r)) :=
  (out_bk _ _ _ _ _ r h d).trans (Eq.trans ((cell_bk m c t r ⟨64 * h.val + d.val, by omega⟩)) (Ref.v183_at _ _ _ (batchAt t r) h d (posAt t r)).symm)

/-- The window keys, batch by batch. -/
theorem kernel_eq_15 : (dats m 0 c).arrAt 15 (cfgs 0).N = Cert.Reference3Ideal.Read.val_main_v183 (F := Ideal) (argX m c) (argG m c) (argW m c) := by
  refine (dats m 0 c).arrAt_eq_of_covers 15 _ (by decide +kernel) fun t _ y => ?_
  blk_simp
  rw [after0_15]
  have y0 : (y 0).val < 1 := (y 0).isLt
  have y1 : (y 1).val < 8 := (y 1).isLt
  have y2 : (y 2).val < 64 := (y 2).isLt
  have y3 : (y 3).val < 512 := (y 3).isLt
  have hy : (ix4 0 ⟨(y 1).val, y1⟩ ⟨(y 2).val, y2⟩ ⟨(y 3).val, y3⟩ : S1x8x64x512.Idx) = y := by
    funext z
    match z with
    | ⟨0, _⟩ => exact Fin.ext (show 0 = (y 0).val by omega)
    | ⟨1, _⟩ => rfl
    | ⟨2, _⟩ => rfl
    | ⟨3, _⟩ => rfl
  refine ((congrArg (out0_15 (F := Ideal) _ _ _ _ _) hy.symm).trans (point_15 m c t ⟨(y 1).val, y1⟩ ⟨(y 2).val, y2⟩ ⟨(y 3).val, y3⟩)).trans ?_
  refine congrArg (Cert.Reference3Ideal.Read.val_main_v183 (F := Ideal) _ _ _) ?_
  blk_ext [idx_out t]

theorem point_16 (t : Fin cfg0.N) (h : Fin 8) (d : Fin 64) (r : Fin 512) :
    out0_16 (F := Ideal) (iblk m c 0 t) (iblk m c 1 t) (iblk m c 2 t) (iblk m c 3 t) (iblk m c 4 t) (ix3 h d r)
      = Cert.Reference3Ideal.Read.val_main_v186 (F := Ideal) (argX m c) (argG m c) (argW m c) (ix3 h d (rowAt t r)) :=
  (out_bkt _ _ _ _ _ r h d).trans (Eq.trans ((cell_bk m c t r ⟨64 * h.val + d.val, by omega⟩)) (Ref.v186_at _ _ _ h d (rowAt t r)).symm)

/-- The window keys, transposed. -/
theorem kernel_eq_16 : (dats m 0 c).arrAt 16 (cfgs 0).N = Cert.Reference3Ideal.Read.val_main_v186 (F := Ideal) (argX m c) (argG m c) (argW m c) := by
  refine (dats m 0 c).arrAt_eq_of_covers 16 _ (by decide +kernel) fun t _ y => ?_
  blk_simp
  rw [after0_16]
  have y0 : (y 0).val < 8 := (y 0).isLt
  have y1 : (y 1).val < 64 := (y 1).isLt
  have y2 : (y 2).val < 512 := (y 2).isLt
  have hy : (ix3 ⟨(y 0).val, y0⟩ ⟨(y 1).val, y1⟩ ⟨(y 2).val, y2⟩ : S8x64x512.Idx) = y := by
    funext z
    match z with
    | ⟨0, _⟩ => rfl
    | ⟨1, _⟩ => rfl
    | ⟨2, _⟩ => rfl
  refine ((congrArg (out0_16 (F := Ideal) _ _ _ _ _) hy.symm).trans (point_16 m c t ⟨(y 0).val, y0⟩ ⟨(y 1).val, y1⟩ ⟨(y 2).val, y2⟩)).trans ?_
  refine congrArg (Cert.Reference3Ideal.Read.val_main_v186 (F := Ideal) _ _ _) ?_
  blk_ext [idx_out t]

theorem point_17 (t : Fin cfg0.N) (h : Fin 8) (d : Fin 64) (r : Fin 512) :
    out0_17 (F := Ideal) (iblk m c 0 t) (iblk m c 1 t) (iblk m c 2 t) (iblk m c 3 t) (iblk m c 4 t) (ix4 0 h d r)
      = Cert.Reference3Ideal.Read.val_main_v187 (F := Ideal) (argX m c) (argG m c) (argW m c) (ix4 (batchAt t r) h d (posAt t r)) :=
  (out_bv _ _ _ _ _ r h d).trans (Eq.trans ((cell_bv m c t r ⟨64 * h.val + d.val, by omega⟩)) (Ref.v187_at _ _ _ (batchAt t r) h d (posAt t r)).symm)

/-- The window values, batch by batch. -/
theorem kernel_eq_17 : (dats m 0 c).arrAt 17 (cfgs 0).N = Cert.Reference3Ideal.Read.val_main_v187 (F := Ideal) (argX m c) (argG m c) (argW m c) := by
  refine (dats m 0 c).arrAt_eq_of_covers 17 _ (by decide +kernel) fun t _ y => ?_
  blk_simp
  rw [after0_17]
  have y0 : (y 0).val < 1 := (y 0).isLt
  have y1 : (y 1).val < 8 := (y 1).isLt
  have y2 : (y 2).val < 64 := (y 2).isLt
  have y3 : (y 3).val < 512 := (y 3).isLt
  have hy : (ix4 0 ⟨(y 1).val, y1⟩ ⟨(y 2).val, y2⟩ ⟨(y 3).val, y3⟩ : S1x8x64x512.Idx) = y := by
    funext z
    match z with
    | ⟨0, _⟩ => exact Fin.ext (show 0 = (y 0).val by omega)
    | ⟨1, _⟩ => rfl
    | ⟨2, _⟩ => rfl
    | ⟨3, _⟩ => rfl
  refine ((congrArg (out0_17 (F := Ideal) _ _ _ _ _) hy.symm).trans (point_17 m c t ⟨(y 1).val, y1⟩ ⟨(y 2).val, y2⟩ ⟨(y 3).val, y3⟩)).trans ?_
  refine congrArg (Cert.Reference3Ideal.Read.val_main_v187 (F := Ideal) _ _ _) ?_
  blk_ext [idx_out t]

theorem point_18 (t : Fin cfg0.N) (r : Fin 512) (j : Fin 512) :
    out0_18 (F := Ideal) (iblk m c 0 t) (iblk m c 1 t) (iblk m c 2 t) (iblk m c 3 t) (iblk m c 4 t) (ix2 r j)
      = Cert.Reference3Ideal.Read.val_main_v189 (F := Ideal) (argX m c) (argG m c) (argW m c) (ix2 (rowAt t r) j) :=
  (out_bv16 _ _ _ _ _ r j).trans (Eq.trans ((cell_bv m c t r j)) (Ref.v189_at _ _ _ (rowAt t r) j).symm)

/-- The window values, row by row. -/
theorem kernel_eq_18 : (dats m 0 c).arrAt 18 (cfgs 0).N = Cert.Reference3Ideal.Read.val_main_v189 (F := Ideal) (argX m c) (argG m c) (argW m c) := by
  refine (dats m 0 c).arrAt_eq_of_covers 18 _ (by decide +kernel) fun t _ y => ?_
  blk_simp
  rw [after0_18]
  have y0 : (y 0).val < 512 := (y 0).isLt
  have y1 : (y 1).val < 512 := (y 1).isLt
  have hy : (ix2 ⟨(y 0).val, y0⟩ ⟨(y 1).val, y1⟩ : S512x512.Idx) = y := by
    funext z
    match z with
    | ⟨0, _⟩ => rfl
    | ⟨1, _⟩ => rfl
  refine ((congrArg (out0_18 (F := Ideal) _ _ _ _ _) hy.symm).trans (point_18 m c t ⟨(y 0).val, y0⟩ ⟨(y 1).val, y1⟩)).trans ?_
  refine congrArg (Cert.Reference3Ideal.Read.val_main_v189 (F := Ideal) _ _ _) ?_
  blk_ext [idx_out t]

end Cert.Proj

end
-- ==== Proof.SampleCBody.lean ====
/- WHAT THE BODY OF THE SECOND LAYER'S INPUT PROJECTION OVER THE SAMPLE GROUP COMPUTES, at an entry. -/
module

public import proofs.«01_k».proof.Proof.Gen.Kernel4Ideal.Frame
public import proofs.«01_k».proof.Proof.ProjSpec
public import Idealize.ShloMosaic.Lib.Pipeline.ValueKit

@[expose] public section

set_option maxRecDepth 16384

noncomputable section

namespace Cert.SampleC

open Idealize.ShloMosaic Idealize.ShloMosaic.TcCoe Idealize.SL.Sem Cert.Kernel4Ideal Cert.Kernel4Ideal.Gen Cert.PostBlock Cert.Proj

/-- A row of a block. -/
abbrev rowOf {s : FTy} {n p : ℕ} (x : FVec Ideal ⟨2, ![n, p]⟩ s) (r : Fin n) (j : Fin p) : EReal := x (ix2 r j)

variable (x : FVec Ideal S256x1024 .f32) (g : FVec Ideal S1x1024 .f32) (w : FVec Ideal S1024x2048 .bf16) (c s : FVec Ideal S256x128 .f32)

/-- The projected row `r`, at column `j` of the weights. -/
def cell (r : Fin 256) (j : Fin 2048) : EReal := rowMul (rowNorm (rowOf x r) (rowOf g 0)) (rowOf w) j

/-! ## The values the body computes -/

theorem norm_at (r : Fin 256) (j : Fin 1024) : k0_pay48 (F := Ideal) x g w c s (ix2 r j) = rowNorm (rowOf x r) (rowOf g 0) j := by
  pointwise! [k0_pay48, k0_pay5, rowNorm]

theorem mask_at (r : Fin 256) (l : Fin 128) (a b : EReal) :
    Scalar.select (k0_pay8 (ix2 r l)) a b = if l.val % 64 < 32 then a else b := by
  pointwise [k0_pay8]
  rw [first_half]
  by_cases h : l.val % 64 < 32
  · simp only [h, if_true]
    rfl
  · simp only [h, if_false]
    rfl

theorem mask51_at (w' : Vec Ideal S1024x2048 .bf16) (x' : Vec Ideal S256x1024 .f32) (g' : Vec Ideal S1x1024 .f32) (c' s' : Vec Ideal S256x128 .f32) (r : Fin 256) (l : Fin 128) (a b : EReal) :
    Scalar.select (k0_pay51 (F := Ideal) x' g' w' c' s' (ix2 r l)) a b = if l.val % 64 < 32 then a else b :=
  mask_at r l a b

theorem q1_at (a : Fin 4) (r : Fin 256) (l : Fin 128) :
    k0_pay57 (F := Ideal) x g w c s (ix2 r ⟨128 * a.val + l.val, by omega⟩)
      = laneRope (rowOf c r) (rowOf s r) (fun e => cell x g w r ⟨(128 * a.val + e.val), by omega⟩) l := by
  match a with
  | 0 =>
    pointwise [k0_pay57, k0_pay49, k0_pay50, k0_pay51, k0_pay52, k0_pay53, k0_pay54, k0_pay55, k0_pay56, k0_pay14, k0_pay6, k0_pay7, k0_pay9, k0_pay10, k0_pay11,
      k0_pay12, k0_pay13, k0_pay5, mask_at, laneRope, cell, rowMul, rowNorm]
    simp only [up_at, down_at]
  | 1 =>
    pointwise [k0_pay57, k0_pay49, k0_pay50, k0_pay51, k0_pay52, k0_pay53, k0_pay54, k0_pay55, k0_pay56, k0_pay14, k0_pay6, k0_pay7, k0_pay9, k0_pay10, k0_pay11,
      k0_pay12, k0_pay13, k0_pay5, mask_at, laneRope, cell, rowMul, rowNorm]
    simp only [up_at, down_at]
  | 2 =>
    pointwise [k0_pay57, k0_pay49, k0_pay50, k0_pay51, k0_pay52, k0_pay53, k0_pay54, k0_pay55, k0_pay56, k0_pay14, k0_pay6, k0_pay7, k0_pay9, k0_pay10, k0_pay11,
      k0_pay12, k0_pay13, k0_pay5, mask_at, laneRope, cell, rowMul, rowNorm]
    rw [dif_neg (by omega), dif_neg (by omega), dif_pos (by omega)]
    simp only [show 256 + l.val - 128 - 128 = l.val by omega]
    simp only [up_at, down_at]
  | 3 =>
    pointwise [k0_pay57, k0_pay49, k0_pay50, k0_pay51, k0_pay52, k0_pay53, k0_pay54, k0_pay55, k0_pay56, k0_pay14, k0_pay6, k0_pay7, k0_pay9, k0_pay10, k0_pay11,
      k0_pay12, k0_pay13, k0_pay5, mask_at, laneRope, cell, rowMul, rowNorm]
    rw [dif_neg (by omega), dif_neg (by omega), dif_neg (by omega)]
    simp only [show 384 + l.val - 128 - 128 - 128 = l.val by omega]
    simp only [up_at, down_at]

theorem q2_at (a : Fin 4) (r : Fin 256) (l : Fin 128) :
    k0_pay58 (F := Ideal) x g w c s (ix2 r ⟨128 * a.val + l.val, by omega⟩)
      = laneRope (rowOf c r) (rowOf s r) (fun e => cell x g w r ⟨512 + (128 * a.val + e.val), by omega⟩) l := by
  match a with
  | 0 =>
    pointwise [k0_pay58, k0_pay49, k0_pay50, k0_pay24, k0_pay6, k0_pay7, norm_at, mask51_at, laneRope, cell, rowMul]
    simp only [up_at, down_at]
  | 1 =>
    pointwise [k0_pay58, k0_pay49, k0_pay50, k0_pay24, k0_pay6, k0_pay7, norm_at, mask51_at, laneRope, cell, rowMul]
    simp only [up_at, down_at]
  | 2 =>
    pointwise [k0_pay58, k0_pay49, k0_pay50, k0_pay24, k0_pay6, k0_pay7, norm_at, mask51_at, laneRope, cell, rowMul]
    rw [dif_neg (by omega), dif_neg (by omega), dif_pos (by omega)]
    simp only [show 256 + l.val - 128 - 128 = l.val by omega]
    simp only [up_at, down_at]
  | 3 =>
    pointwise [k0_pay58, k0_pay49, k0_pay50, k0_pay24, k0_pay6, k0_pay7, norm_at, mask51_at, laneRope, cell, rowMul]
    rw [dif_neg (by omega), dif_neg (by omega), dif_neg (by omega)]
    simp only [show 384 + l.val - 128 - 128 - 128 = l.val by omega]
    simp only [up_at, down_at]

theorem k_at (a : Fin 4) (r : Fin 256) (l : Fin 128) :
    k0_pay40 (F := Ideal) (k0_pay59 (F := Ideal) x g w c s) (k0_pay60 (F := Ideal) x g w c s) (k0_pay61 (F := Ideal) x g w c s) (k0_pay62 (F := Ideal) x g w c s) (ix2 r ⟨128 * a.val + l.val, by omega⟩)
      = laneRope (rowOf c r) (rowOf s r) (fun e => cell x g w r ⟨1024 + (128 * a.val + e.val), by omega⟩) l := by
  match a with
  | 0 =>
    pointwise [k0_pay59, k0_pay60, k0_pay61, k0_pay62, k0_pay40, k0_pay35, k0_pay36, k0_pay37, k0_pay38, k0_pay39, k0_pay49, k0_pay50, k0_pay6, k0_pay7, norm_at,
      mask51_at, laneRope, cell, rowMul]
    simp only [up_at, down_at]
  | 1 =>
    pointwise [k0_pay59, k0_pay60, k0_pay61, k0_pay62, k0_pay40, k0_pay35, k0_pay36, k0_pay37, k0_pay38, k0_pay39, k0_pay49, k0_pay50, k0_pay6, k0_pay7, norm_at,
      mask51_at, laneRope, cell, rowMul]
    simp only [up_at, down_at]
  | 2 =>
    pointwise [k0_pay59, k0_pay60, k0_pay61, k0_pay62, k0_pay40, k0_pay35, k0_pay36, k0_pay37, k0_pay38, k0_pay39, k0_pay49, k0_pay50, k0_pay6, k0_pay7, norm_at,
      mask51_at, laneRope, cell, rowMul]
    rw [dif_neg (by omega), dif_neg (by omega), dif_pos (by omega)]
    simp only [show 256 + l.val - 128 - 128 = l.val by omega]
    simp only [up_at, down_at]
  | 3 =>
    pointwise [k0_pay59, k0_pay60, k0_pay61, k0_pay62, k0_pay40, k0_pay35, k0_pay36, k0_pay37, k0_pay38, k0_pay39, k0_pay49, k0_pay50, k0_pay6, k0_pay7, norm_at,
      mask51_at, laneRope, cell, rowMul]
    rw [dif_neg (by omega), dif_neg (by omega), dif_neg (by omega)]
    simp only [show 384 + l.val - 128 - 128 - 128 = l.val by omega]
    simp only [up_at, down_at]

theorem v_at (r : Fin 256) (j : Fin 512) :
    k0_pay3 (F := Ideal) (k0_pay48 (F := Ideal) x g w c s) (View.ld w r0_31) (ix2 r j) = cell x g w r ⟨1536 + j.val, by omega⟩ := by
  pointwise! [k0_pay3, norm_at, cell, rowMul]

/-! ## Heads: the rotary positions of the 64 columns of one head -/

/-- What the tables of a row hold: the cosines `c'` repeated four times, and the sines `s'` with a sign. -/
def Tables (r : Fin 256) (c' s' : Fin 32 → EReal) : Prop :=
  (∀ l : Fin 128, rowOf c r l = c' ⟨l.val % 32, by omega⟩)
    ∧ ∀ l : Fin 128, rowOf s r l = if l.val % 64 < 32 then -s' ⟨l.val % 32, by omega⟩ else s' ⟨l.val % 32, by omega⟩

variable {c s} {r : Fin 256} {c' s' : Fin 32 → EReal} (T : Tables c s r c' s')

include T

theorem q1_head (h : Fin 8) (d : Fin 64) :
    k0_pay57 (F := Ideal) x g w c s (ix2 r ⟨64 * h.val + d.val, by omega⟩)
      = rope c' s' (fun e => cell x g w r ⟨64 * h.val + e.val, by omega⟩) d :=
  heads_of_lanes (rowOf c r) (rowOf s r) c' s' (fun j => cell x g w r ⟨j.val, by omega⟩) (fun j => k0_pay57 (F := Ideal) x g w c s (ix2 r j))
    T.1 T.2 (fun a l => q1_at x g w c s a r l) h d

theorem q2_head (h : Fin 8) (d : Fin 64) :
    k0_pay58 (F := Ideal) x g w c s (ix2 r ⟨64 * h.val + d.val, by omega⟩)
      = rope c' s' (fun e => cell x g w r ⟨512 + (64 * h.val + e.val), by omega⟩) d :=
  heads_of_lanes (rowOf c r) (rowOf s r) c' s' (fun j => cell x g w r ⟨512 + j.val, by omega⟩) (fun j => k0_pay58 (F := Ideal) x g w c s (ix2 r j))
    T.1 T.2 (fun a l => q2_at x g w c s a r l) h d

theorem k_head (h : Fin 8) (d : Fin 64) :
    k0_pay40 (F := Ideal) (k0_pay59 (F := Ideal) x g w c s) (k0_pay60 (F := Ideal) x g w c s) (k0_pay61 (F := Ideal) x g w c s) (k0_pay62 (F := Ideal) x g w c s) (ix2 r ⟨64 * h.val + d.val, by omega⟩)
      = rope c' s' (fun e => cell x g w r ⟨1024 + (64 * h.val + e.val), by omega⟩) d :=
  heads_of_lanes (rowOf c r) (rowOf s r) c' s' (fun j => cell x g w r ⟨1024 + j.val, by omega⟩) (fun j => k0_pay40 (F := Ideal) (k0_pay59 (F := Ideal) x g w c s) (k0_pay60 (F := Ideal) x g w c s) (k0_pay61 (F := Ideal) x g w c s) (k0_pay62 (F := Ideal) x g w c s) (ix2 r j))
    T.1 T.2 (fun a l => k_at x g w c s a r l) h d

/-! ## The blocks a point stores -/

omit T in
/-- The factor of the queries that meet in powers of two: `1 / (8 log 2)`. -/
theorem scale_eq : (Named.named Cert.Kernel4Ideal.κ "scale" 0x3E38AA3B#32 : Ideal .f32) = (((8 * Real.log 2)⁻¹ : ℝ) : EReal) :=
  IdealRules.named_const.ideal_named_scalar _ _ _ _ rfl

/-- The first eight blocks of queries: two heads of 128 columns, their first halves, then their second halves. -/
theorem out_q1 (h : Fin 8) (d : Fin 64) :
    out0_5 (F := Ideal) x g w c s (ix3 ⟨h.val, by omega⟩ r d)
      = rope c' s' (fun e => cell x g w r ⟨64 * (4 * (h.val / 4) + 2 * (h.val % 2) + h.val % 4 / 2) + e.val, by omega⟩) d * (((8 * Real.log 2)⁻¹ : ℝ) : EReal) := by
  refine Eq.trans ?_ (congrArg (fun z : EReal => z * (((8 * Real.log 2)⁻¹ : ℝ) : EReal)) (q1_head x g w T ⟨4 * (h.val / 4) + 2 * (h.val % 2) + h.val % 4 / 2, by omega⟩ d))
  dsimp only
  unfold out0_5 k0_pay57
  canon_tiles u q
  all_goals
    change h.val = _ at q0; change r.val = _ at q1; change d.val = _ at q2
    first
      | (exfalso; omega)
      | (pointwise [k0_pay15, k0_pay16, k0_pay17, k0_pay18, k0_pay19, k0_pay20, k0_pay21, k0_pay22, k0_pay23, scale_eq]
         refine congrArg (fun z : EReal => z * _) ?_
         blk_ext <;> omega)

/-- The other eight blocks of queries. -/
theorem out_q2 (h : Fin 8) (d : Fin 64) :
    out0_5 (F := Ideal) x g w c s (ix3 ⟨8 + h.val, by omega⟩ r d)
      = rope c' s' (fun e => cell x g w r ⟨512 + (64 * (4 * (h.val / 4) + 2 * (h.val % 2) + h.val % 4 / 2) + e.val), by omega⟩) d * (((8 * Real.log 2)⁻¹ : ℝ) : EReal) := by
  refine Eq.trans ?_ (congrArg (fun z : EReal => z * (((8 * Real.log 2)⁻¹ : ℝ) : EReal)) (q2_head x g w T ⟨4 * (h.val / 4) + 2 * (h.val % 2) + h.val % 4 / 2, by omega⟩ d))
  dsimp only
  unfold out0_5 k0_pay58
  canon_tiles u q
  all_goals
    change 8 + h.val = _ at q0; change r.val = _ at q1; change d.val = _ at q2
    first
      | (exfalso; omega)
      | (pointwise [k0_pay25, k0_pay26, k0_pay27, k0_pay28, k0_pay29, k0_pay30, k0_pay31, k0_pay32, k0_pay33, k0_pay34, scale_eq]
         refine congrArg (fun z : EReal => z * _) ?_
         blk_ext <;> omega)

/-- The queries, in the order group, half, head of the group. -/
theorem out_q (h : Fin 16) (d : Fin 64) :
    out0_5 (F := Ideal) x g w c s (ix3 h r d)
      = rope c' s' (fun e => cell x g w r ⟨64 * (4 * (h.val / 4) + 2 * (h.val % 2) + h.val % 4 / 2) + e.val, by omega⟩) d * (((8 * Real.log 2)⁻¹ : ℝ) : EReal) := by
  by_cases h8 : h.val < 8
  · exact out_q1 x g w T ⟨h.val, h8⟩ d
  · refine (congrArg (fun z => out0_5 (F := Ideal) x g w c s (ix3 z r d)) (Fin.ext ?_)).trans
      ((out_q2 x g w T ⟨h.val - 8, by omega⟩ d).trans
        (congrArg (fun f => rope c' s' f d * (((8 * Real.log 2)⁻¹ : ℝ) : EReal)) (funext fun e => congrArg (cell x g w r) (Fin.ext ?_))))
    · show h.val = 8 + (h.val - 8)
      omega
    · show 512 + (64 * (4 * ((h.val - 8) / 4) + 2 * ((h.val - 8) % 2) + (h.val - 8) % 4 / 2) + e.val)
        = 64 * (4 * (h.val / 4) + 2 * (h.val % 2) + h.val % 4 / 2) + e.val
      omega

/-- The keys, row by row. -/
theorem out_k (j : Fin 512) :
    out0_6 (F := Ideal) x g w c s (ix2 r j)
      = rope c' s' (fun e => cell x g w r ⟨1024 + (64 * (j.val / 64) + e.val), by omega⟩) ⟨j.val % 64, by omega⟩ := by
  refine Eq.trans ?_ (k_head x g w T ⟨j.val / 64, by omega⟩ ⟨j.val % 64, by omega⟩)
  unfold out0_6
  canon_tiles u q
  all_goals
    change r.val = _ at q0; change j.val = _ at q1
    blk_ext <;> omega

/-- The keys, all rows side by side. -/
theorem out_kt (h : Fin 8) (d : Fin 64) :
    out0_7 (F := Ideal) x g w c s (ix3 h d r)
      = rope c' s' (fun e => cell x g w r ⟨1024 + (64 * h.val + e.val), by omega⟩) d := by
  rw [← k_head x g w T h d]
  unfold out0_7 k0_pay63
  canon_tiles u q
  all_goals
    change h.val = _ at q0; change d.val = _ at q1; change r.val = _ at q2
    pointwise [k0_pay1, k0_pay2, k0_pay41, k0_pay42, k0_pay43, k0_pay44, k0_pay45, k0_pay46, k0_pay47]
    blk_ext <;> omega

omit T

variable (c s) (r)

/-- The values, row by row. -/
theorem out_v (j : Fin 512) :
    out0_8 (F := Ideal) x g w c s (ix2 r j) = cell x g w r ⟨1536 + j.val, by omega⟩ := by
  rw [← v_at x g w c s r j]
  unfold out0_8
  canon_tiles u q
  all_goals
    change r.val = _ at q0; change j.val = _ at q1
    blk_ext <;> omega

/-- The values, row by row, rounded. -/
theorem out_v16 (j : Fin 512) :
    out0_9 (F := Ideal) x g w c s (ix2 r j) = cell x g w r ⟨1536 + j.val, by omega⟩ := by
  rw [← v_at x g w c s r j]
  unfold out0_9
  canon_tiles u q
  all_goals
    change r.val = _ at q0; change j.val = _ at q1
    pointwise [k0_pay4]
    blk_ext <;> omega

end Cert.SampleC

end
-- ==== Proof.SampleCEntry.lean ====
/- WHAT THE GRID POINT OF THE SECOND LAYER'S INPUT PROJECTION OVER THE SAMPLE GROUP READS. The one point works on all 256 rows, 32 sequences of 8 positions
   laid one after the other; the tables of a position are repeated for two heads. -/
module

public import proofs.«01_k».proof.Proof.Gen.Kernel4Ideal.Value
public import proofs.«01_k».proof.Proof.Gen.Reference4Ideal.Read
public import Idealize.ShloMosaic.Lib.Pipeline.ValueKit
public import Idealize.ShloMosaic.Lib.Claim
public import Idealize.ShloMosaic.Lib.StableHlo.ReadAt

@[expose] public section

set_option maxRecDepth 16384
set_option maxHeartbeats 4000000

noncomputable section

namespace Cert.SampleC

open Idealize.ShloMosaic Idealize.ShloMosaic.TcCoe Idealize.SL.Sem Cert.Kernel4Ideal Cert.Kernel4Ideal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ t.val < 1 :=
  (by decide +kernel : ∀ t : Fin grid0.N, _)

theorem idx_out : ∀ t : Fin cfg0.N, win0_5.index t = ![0, t.val, 0] ∧ win0_6.index t = ![t.val, 0] ∧ win0_7.index t = ![0, 0, t.val]
    ∧ win0_8.index t = ![t.val, 0] ∧ win0_9.index t = ![t.val, 0] :=
  (by decide +kernel : ∀ t : Fin grid0.N, _)

/-! ## The arrays the host code prepares -/

theorem entry_x (n : Fin 256) (j : Fin 1024) :
    (V m c main_v27 : FVec Ideal S256x1024 .f32) (ix2 n j)
      = (m ((c : Thread nD τ).loc main_arg0) : FVec Ideal S32x8x1024 .f32) (ix3 ⟨n.val / 8, by omega⟩ ⟨n.val % 8, by omega⟩ j) := by
  entry_read
  pointwise

theorem entry_g (j : Fin 1024) :
    (V m c main_v32 : FVec Ideal S1x1024 .f32) (ix2 0 j) = (m ((c : Thread nD τ).loc main_arg1) : FVec Ideal S2x1024 .f32) (ix2 1 j) := by
  entry_read
  pointwise

theorem entry_w (k : Fin 1024) (j : Fin 2048) :
    (V m c main_v31 : FVec Ideal S1024x2048 .bf16) (ix2 k j)
      = (m ((c : Thread nD τ).loc main_arg2) : FVec Ideal S1x1024x2048 .f32) (ix3 0 k j) := by
  entry_read
  pointwise

theorem entry_cos (n : Fin 256) (l : Fin 128) :
    (V m c main_v23 : FVec Ideal S256x128 .f32) (ix2 n l)
      = Cert.Reference4Ideal.Read.val_main_v36 (F := Ideal) (ix2 ⟨n.val % 8, by omega⟩ ⟨l.val % 32, by omega⟩) := by
  after_reads_simp
  pointwise
  by_cases h0 : l.val < 32
  · rw [dif_pos h0]
    after_reads_simp
    exact congrArg (fun e => Cert.Reference4Ideal.Read.val_main_v36 (F := Ideal) (ix2 ⟨n.val % 8, by omega⟩ e)) (Fin.ext (by dsimp only; omega))
  rw [dif_neg h0]
  by_cases h1 : l.val - 32 < 32
  · rw [dif_pos h1]
    after_reads_simp
    exact congrArg (fun e => Cert.Reference4Ideal.Read.val_main_v36 (F := Ideal) (ix2 ⟨n.val % 8, by omega⟩ e)) (Fin.ext (by dsimp only; omega))
  rw [dif_neg h1]
  by_cases h2 : l.val - 32 - 32 < 32
  · rw [dif_pos h2]
    after_reads_simp
    exact congrArg (fun e => Cert.Reference4Ideal.Read.val_main_v36 (F := Ideal) (ix2 ⟨n.val % 8, by omega⟩ e)) (Fin.ext (by dsimp only; omega))
  rw [dif_neg h2]
  after_reads_simp
  exact congrArg (fun e => Cert.Reference4Ideal.Read.val_main_v36 (F := Ideal) (ix2 ⟨n.val % 8, by omega⟩ e)) (Fin.ext (by dsimp only; omega))

theorem entry_sin (n : Fin 256) (l : Fin 128) :
    (V m c main_v26 : FVec Ideal S256x128 .f32) (ix2 n l)
      = if l.val % 64 < 32 then -Cert.Reference4Ideal.Read.val_main_v38 (F := Ideal) (ix2 ⟨n.val % 8, by omega⟩ ⟨l.val % 32, by omega⟩)
        else Cert.Reference4Ideal.Read.val_main_v38 (F := Ideal) (ix2 ⟨n.val % 8, by omega⟩ ⟨l.val % 32, by omega⟩) := by
  have hn (e : Fin 32) : Host.negf (F := Ideal) (φ := .f32) (Cert.Reference4Ideal.Read.val_main_v38 (F := Ideal)) (ix2 ⟨n.val % 8, by omega⟩ e)
      = -Cert.Reference4Ideal.Read.val_main_v38 (F := Ideal) (ix2 ⟨n.val % 8, by omega⟩ e) := by pointwise
  after_reads_simp
  pointwise
  by_cases h0 : l.val < 32
  · rw [dif_pos h0]
    refine Eq.trans ?_ (if_pos (by omega)).symm
    after_reads_simp
    exact (hn _).trans (congrArg (fun e => -Cert.Reference4Ideal.Read.val_main_v38 (F := Ideal) (ix2 ⟨n.val % 8, by omega⟩ e)) (Fin.ext (by dsimp only; omega)))
  rw [dif_neg h0]
  by_cases h1 : l.val - 32 < 32
  · rw [dif_pos h1]
    refine Eq.trans ?_ (if_neg (by omega)).symm
    after_reads_simp
    exact congrArg (fun e => Cert.Reference4Ideal.Read.val_main_v38 (F := Ideal) (ix2 ⟨n.val % 8, by omega⟩ e)) (Fin.ext (by dsimp only; omega))
  rw [dif_neg h1]
  by_cases h2 : l.val - 32 - 32 < 32
  · rw [dif_pos h2]
    refine Eq.trans ?_ (if_pos (by omega)).symm
    after_reads_simp
    exact (hn _).trans (congrArg (fun e => -Cert.Reference4Ideal.Read.val_main_v38 (F := Ideal) (ix2 ⟨n.val % 8, by omega⟩ e)) (Fin.ext (by dsimp only; omega)))
  rw [dif_neg h2]
  refine Eq.trans ?_ (if_neg (by omega)).symm
  after_reads_simp
  exact congrArg (fun e => Cert.Reference4Ideal.Read.val_main_v38 (F := Ideal) (ix2 ⟨n.val % 8, by omega⟩ e)) (Fin.ext (by dsimp only; omega))

end Cert.SampleC

end
-- ==== Proof.SampleCRef.lean ====
/- WHAT THE REFERENCE OF THE SECOND LAYER'S INPUT PROJECTION OVER THE SAMPLE GROUP COMPUTES, at an entry of each of its
   five results. -/
module

public import proofs.«01_k».proof.Proof.Gen.Reference4Ideal.Read
public import proofs.«01_k».proof.Proof.ProjSpec
public import proofs.«01_k».proof.Proof.Value
public import Idealize.ShloMosaic.Lib.Pipeline.ValueKit

@[expose] public section

set_option maxRecDepth 16384

noncomputable section

namespace Cert.SampleC.Ref

open Idealize.ShloMosaic Idealize.ShloMosaic.TcCoe Idealize.SL.Sem Cert.Reference4Ideal Cert.Reference4Ideal.Read Cert.PostBlock Cert.Proj

variable (x0 : FVec Ideal S32x8x1024 .f32) (x1 : FVec Ideal S2x1024 .f32) (x2 : FVec Ideal S1x1024x2048 .f32)

/-- The projected row at batch `b`, position `t`, column `j` of the weights. -/
def column (b : Fin 32) (t : Fin 8) (j : Fin 2048) : EReal :=
  rowMul (rowNorm (fun i => x0 (ix3 b t i)) (fun i => x1 (ix2 1 i))) (fun k j => x2 (ix3 0 k j)) j

/-- The cosines and the sines of a position. -/
def cosines (t : Fin 8) (e : Fin 32) : EReal := val_main_v36 (F := Ideal) (ix2 t e)

@[inherit_doc cosines]
def sines (t : Fin 8) (e : Fin 32) : EReal := val_main_v38 (F := Ideal) (ix2 t e)

theorem v19_at (b : Fin 32) (t : Fin 8) (j : Fin 2048) : val_main_v19 (F := Ideal) x0 x1 x2 (ix3 b t j) = column x0 x1 x2 b t j := by
  pointwise! [val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_cst, val_main_cst_0,
    val_main_cst_1, column, rowMul, rowNorm, zero_add]

theorem v52_at (b : Fin 32) (t : Fin 8) (h : Fin 16) (d : Fin 64) : val_main_v52 (F := Ideal) x0 x1 x2 (ix4 b t h d)
    = rope (cosines t) (sines t) (fun e => column x0 x1 x2 b t ⟨64 * h.val + e.val, by omega⟩) d := by
  pointwise [val_main_v52, val_main_v51, val_main_v50, val_main_v49, val_main_v48, val_main_v47, val_main_v46, val_main_v45, val_main_v44, val_main_v43, val_main_v42, val_main_v41, val_main_v40, val_main_v39, val_main_v37, val_main_v23, val_main_v20, v19_at,
    rope, cosines, sines]
  by_cases hd : d.val < 32
  · rw [dif_pos hd, dif_pos hd]
    refine congrArg₂ (fun u v : EReal => u - v) (congrArg (fun z : EReal => z * _) ?_) (congrArg (fun z : EReal => z * _) ?_) <;>
      exact congrArg (column x0 x1 x2 b t) (Fin.ext (by simp only [Fin.val_zero] <;> omega))
  · rw [dif_neg hd, dif_neg hd]
    refine congrArg₂ (fun u v : EReal => u + v) (congrArg (fun z : EReal => z * _) ?_) (congrArg (fun z : EReal => z * _) ?_) <;>
      exact congrArg (column x0 x1 x2 b t) (Fin.ext (by simp only [Fin.val_zero] <;> omega))

theorem cosines_82 : val_main_v66 (F := Ideal) = val_main_v36 (F := Ideal) := rfl

theorem sines_82 : val_main_v68 (F := Ideal) = val_main_v38 (F := Ideal) := rfl

theorem v82_at (b : Fin 32) (t : Fin 8) (h : Fin 8) (d : Fin 64) : val_main_v82 (F := Ideal) x0 x1 x2 (ix4 b t h d)
    = rope (cosines t) (sines t) (fun e => column x0 x1 x2 b t ⟨1024 + (64 * h.val + e.val), by omega⟩) d := by
  pointwise [val_main_v82, val_main_v81, val_main_v80, val_main_v79, val_main_v78, val_main_v77, val_main_v76, val_main_v75, val_main_v74, val_main_v73, val_main_v72, val_main_v71, val_main_v70, val_main_v69, val_main_v67, val_main_v53, val_main_v21, v19_at,
    rope, cosines_82, sines_82, cosines, sines]
  by_cases hd : d.val < 32
  · rw [dif_pos hd, dif_pos hd]
    refine congrArg₂ (fun u v : EReal => u - v) (congrArg (fun z : EReal => z * _) ?_) (congrArg (fun z : EReal => z * _) ?_) <;>
      exact congrArg (column x0 x1 x2 b t) (Fin.ext (by simp only [Fin.val_zero] <;> omega))
  · rw [dif_neg hd, dif_neg hd]
    refine congrArg₂ (fun u v : EReal => u + v) (congrArg (fun z : EReal => z * _) ?_) (congrArg (fun z : EReal => z * _) ?_) <;>
      exact congrArg (column x0 x1 x2 b t) (Fin.ext (by simp only [Fin.val_zero] <;> omega))

theorem v87_eq : val_main_v87 (F := Ideal) ix0 = (((8 * Real.log 2)⁻¹ : ℝ) : EReal) := by
  pointwise [val_main_v87, val_main_v86, val_main_cst_6, val_main_cst_7]
  exact Cert.DiffAttn.qscale_eq.trans (by rw [one_div])

/-- A row's column: row `n` is position `n % 8` of batch `n / 8`. -/
abbrev rowColumn (n : Fin 256) (j : Fin 2048) : EReal := column x0 x1 x2 ⟨n.val / 8, by omega⟩ ⟨n.val % 8, by omega⟩ j

/-- The rotary positions of a row. -/
abbrev rowRope (n : Fin 256) (y : Fin 64 → EReal) (d : Fin 64) : EReal :=
  rope (cosines ⟨n.val % 8, by omega⟩) (sines ⟨n.val % 8, by omega⟩) y d

theorem v90_at (h : Fin 16) (n : Fin 256) (d : Fin 64) : val_main_v90 (F := Ideal) x0 x1 x2 (ix3 h n d)
    = rowRope n (fun e => rowColumn x0 x1 x2 n ⟨64 * (4 * (h.val / 4) + 2 * (h.val % 2) + h.val % 4 / 2) + e.val, by omega⟩) d * (((8 * Real.log 2)⁻¹ : ℝ) : EReal) := by
  have e : val_main_v85 (F := Ideal) x0 x1 x2 (ix3 h n d) = val_main_v52 (F := Ideal) x0 x1 x2
      (ix4 ⟨n.val / 8, by omega⟩ ⟨n.val % 8, by omega⟩ ⟨4 * (h.val / 4) + 2 * (h.val % 2) + h.val % 4 / 2, by omega⟩ d) := by
    pointwise [val_main_v85, val_main_v84, val_main_v83]
    blk_ext <;> omega
  pointwise [val_main_v90, val_main_v89, val_main_v88, v87_eq]
  exact congrArg (fun z : EReal => z * _) (e.trans (v52_at x0 x1 x2 _ _ _ _))

theorem v91_at (n : Fin 256) (j : Fin 512) : val_main_v91 (F := Ideal) x0 x1 x2 (ix2 n j)
    = rowRope n (fun e => rowColumn x0 x1 x2 n ⟨1024 + (64 * (j.val / 64) + e.val), by omega⟩) ⟨j.val % 64, by omega⟩ := by
  have e : val_main_v91 (F := Ideal) x0 x1 x2 (ix2 n j) = val_main_v82 (F := Ideal) x0 x1 x2
      (ix4 ⟨n.val / 8, by omega⟩ ⟨n.val % 8, by omega⟩ ⟨j.val / 64, by omega⟩ ⟨j.val % 64, by omega⟩) := by
    pointwise [val_main_v91]
  exact e.trans (v82_at x0 x1 x2 _ _ _ _)

theorem v94_at (h : Fin 8) (d : Fin 64) (n : Fin 256) : val_main_v94 (F := Ideal) x0 x1 x2 (ix3 h d n)
    = rowRope n (fun e => rowColumn x0 x1 x2 n ⟨1024 + (64 * h.val + e.val), by omega⟩) d := by
  pointwise [val_main_v94, val_main_v93, val_main_v92, v82_at]

theorem v95_at (n : Fin 256) (j : Fin 512) : val_main_v95 (F := Ideal) x0 x1 x2 (ix2 n j)
    = rowColumn x0 x1 x2 n ⟨1536 + j.val, by omega⟩ := by
  pointwise [val_main_v95, val_main_v22, v19_at]

theorem v97_at (n : Fin 256) (j : Fin 512) : val_main_v97 (F := Ideal) x0 x1 x2 (ix2 n j)
    = rowColumn x0 x1 x2 n ⟨1536 + j.val, by omega⟩ := by
  pointwise [val_main_v97, val_main_v96, val_main_v22, v19_at]

end Cert.SampleC.Ref

end
-- ==== Proof.SampleCValue.lean ====
/- THE BLOCKS OF A GRID POINT OF THE SECOND LAYER'S INPUT PROJECTION OVER THE SAMPLE GROUP AND ITS FIVE RESULT ARRAYS. -/
module

public import proofs.«01_k».proof.Proof.SampleCBody
public import proofs.«01_k».proof.Proof.SampleCEntry
public import proofs.«01_k».proof.Proof.SampleCRef

@[expose] public section

set_option maxRecDepth 16384

noncomputable section

namespace Cert.SampleC

open Idealize.ShloMosaic Idealize.ShloMosaic.TcCoe Idealize.SL.Sem Cert.Kernel4Ideal Cert.Kernel4Ideal.Gen Cert.PostBlock Cert.Proj

variable (m : (ℓ : Loc nD τ sig) → Buf (Elt Ideal) ℓ) (c : Dev nD)

/-- The launch contents of the arguments. -/
abbrev argX : FVec Ideal S32x8x1024 .f32 := m ((c : Thread nD τ).loc main_arg0)

@[inherit_doc argX]
abbrev argG : FVec Ideal S2x1024 .f32 := m ((c : Thread nD τ).loc main_arg1)

@[inherit_doc argX]
abbrev argW : FVec Ideal S1x1024x2048 .f32 := m ((c : Thread nD τ).loc main_arg2)

/-! ## The blocks of a grid point -/

/-- The row that row `r` of point `t` is, its batch, and its position. -/
abbrev rowAt (t : Fin cfg0.N) (r : Fin 256) : Fin 256 := ⟨256 * t.val + r.val, by have := (idx t).2.2.2.2.2; omega⟩

@[inherit_doc rowAt]
abbrev batchAt (t : Fin cfg0.N) (r : Fin 256) : Fin 32 := ⟨(rowAt t r).val / 8, by omega⟩

@[inherit_doc rowAt]
abbrev posAt (t : Fin cfg0.N) (r : Fin 256) : Fin 8 := ⟨(rowAt t r).val % 8, by omega⟩

theorem blk_x (t : Fin cfg0.N) (r : Fin 256) (j : Fin 1024) :
    (iblk m c 0 t : FVec Ideal S256x1024 .f32) (ix2 r j) = argX m c (ix3 (batchAt t r) (posAt t r) j) := by
  refine Eq.trans ?_ (entry_x m c (rowAt t r) j)
  blk_ext [iblk, idx t]

theorem blk_g (t : Fin cfg0.N) (j : Fin 1024) : (iblk m c 1 t : FVec Ideal S1x1024 .f32) (ix2 0 j) = argG m c (ix2 1 j) := by
  refine Eq.trans ?_ (entry_g m c j)
  blk_ext [iblk, idx t]

theorem blk_w (t : Fin cfg0.N) (k : Fin 1024) (j : Fin 2048) :
    (iblk m c 2 t : FVec Ideal S1024x2048 .bf16) (ix2 k j) = (V m c main_v31 : FVec Ideal S1024x2048 .bf16) (ix2 k j) := by
  blk_ext [iblk, idx t]

theorem blk_cos (t : Fin cfg0.N) (r : Fin 256) (l : Fin 128) :
    (iblk m c 3 t : FVec Ideal S256x128 .f32) (ix2 r l) = (V m c main_v23 : FVec Ideal S256x128 .f32) (ix2 (rowAt t r) l) := by
  blk_ext [iblk, idx t]

theorem blk_sin (t : Fin cfg0.N) (r : Fin 256) (l : Fin 128) :
    (iblk m c 4 t : FVec Ideal S256x128 .f32) (ix2 r l) = (V m c main_v26 : FVec Ideal S256x128 .f32) (ix2 (rowAt t r) l) := by
  blk_ext [iblk, idx t]

/-- THE TABLES OF A ROW are the reference's cosines and sines of its position. -/
theorem tables (t : Fin cfg0.N) (r : Fin 256) :
    Tables (iblk m c 3 t) (iblk m c 4 t) r (Ref.cosines (posAt t r)) (Ref.sines (posAt t r)) :=
  ⟨fun l => (blk_cos m c t r l).trans (entry_cos m c (rowAt t r) l), fun l => (blk_sin m c t r l).trans (entry_sin m c (rowAt t r) l)⟩

/-! ## The projected columns -/

/-- A row's columns in the reference, at the arguments' launch contents. -/
abbrev refColumn (n : Fin 256) (j : Fin 2048) : EReal := Ref.rowColumn (argX m c) (argG m c) (argW m c) n j

theorem cell_eq (t : Fin cfg0.N) (r : Fin 256) (j : Fin 2048) :
    cell (iblk m c 0 t) (iblk m c 1 t) (iblk m c 2 t) r j = refColumn m c (rowAt t r) j := by
  unfold cell refColumn Ref.rowColumn Ref.column
  exact rowMul_congr (congrArg₂ rowNorm (funext fun i => blk_x m c t r i) (funext fun i => blk_g m c t i)) fun k =>
    (blk_w m c t k j).trans (entry_w m c k j)

/-! ## The results -/

theorem point_5 (t : Fin cfg0.N) (h : Fin 16) (r : Fin 256) (d : Fin 64) :
    out0_5 (F := Ideal) (iblk m c 0 t) (iblk m c 1 t) (iblk m c 2 t) (iblk m c 3 t) (iblk m c 4 t) (ix3 h r d)
      = Cert.Reference4Ideal.Read.val_main_v90 (F := Ideal) (argX m c) (argG m c) (argW m c) (ix3 h (rowAt t r) d) :=
  (out_q _ _ _ (tables m c t r) h d).trans (Eq.trans (congrArg (fun z : EReal => z * _) (congrArg (fun f => rope _ _ f _) (funext fun e => cell_eq m c t r _)))
    (Ref.v90_at _ _ _ h (rowAt t r) d).symm)

/-- The queries. -/
theorem kernel_eq_5 : (dats m 0 c).arrAt 5 (cfgs 0).N = Cert.Reference4Ideal.Read.val_main_v90 (F := Ideal) (argX m c) (argG m c) (argW m c) := by
  refine (dats m 0 c).arrAt_eq_of_covers 5 _ (by decide +kernel) fun t _ y => ?_
  blk_simp
  rw [after0_5]
  have y0 : (y 0).val < 16 := (y 0).isLt
  have y1 : (y 1).val < 256 := (y 1).isLt
  have y2 : (y 2).val < 64 := (y 2).isLt
  have hy : (ix3 ⟨(y 0).val, y0⟩ ⟨(y 1).val, y1⟩ ⟨(y 2).val, y2⟩ : S16x256x64.Idx) = y := by
    funext z
    match z with
    | ⟨0, _⟩ => rfl
    | ⟨1, _⟩ => rfl
    | ⟨2, _⟩ => rfl
  refine ((congrArg (out0_5 (F := Ideal) _ _ _ _ _) hy.symm).trans (point_5 m c t ⟨(y 0).val, y0⟩ ⟨(y 1).val, y1⟩ ⟨(y 2).val, y2⟩)).trans ?_
  refine congrArg (Cert.Reference4Ideal.Read.val_main_v90 (F := Ideal) _ _ _) ?_
  blk_ext [idx_out t]

theorem point_6 (t : Fin cfg0.N) (r : Fin 256) (j : Fin 512) :
    out0_6 (F := Ideal) (iblk m c 0 t) (iblk m c 1 t) (iblk m c 2 t) (iblk m c 3 t) (iblk m c 4 t) (ix2 r j)
      = Cert.Reference4Ideal.Read.val_main_v91 (F := Ideal) (argX m c) (argG m c) (argW m c) (ix2 (rowAt t r) j) :=
  (out_k _ _ _ (tables m c t r) j).trans (Eq.trans (congrArg (fun f => rope _ _ f _) (funext fun e => cell_eq m c t r _))
    (Ref.v91_at _ _ _ (rowAt t r) j).symm)

/-- The keys, row by row. -/
theorem kernel_eq_6 : (dats m 0 c).arrAt 6 (cfgs 0).N = Cert.Reference4Ideal.Read.val_main_v91 (F := Ideal) (argX m c) (argG m c) (argW m c) := by
  refine (dats m 0 c).arrAt_eq_of_covers 6 _ (by decide +kernel) fun t _ y => ?_
  blk_simp
  rw [after0_6]
  have y0 : (y 0).val < 256 := (y 0).isLt
  have y1 : (y 1).val < 512 := (y 1).isLt
  have hy : (ix2 ⟨(y 0).val, y0⟩ ⟨(y 1).val, y1⟩ : S256x512.Idx) = y := by
    funext z
    match z with
    | ⟨0, _⟩ => rfl
    | ⟨1, _⟩ => rfl
  refine ((congrArg (out0_6 (F := Ideal) _ _ _ _ _) hy.symm).trans (point_6 m c t ⟨(y 0).val, y0⟩ ⟨(y 1).val, y1⟩)).trans ?_
  refine congrArg (Cert.Reference4Ideal.Read.val_main_v91 (F := Ideal) _ _ _) ?_
  blk_ext [idx_out t]

theorem point_7 (t : Fin cfg0.N) (h : Fin 8) (d : Fin 64) (r : Fin 256) :
    out0_7 (F := Ideal) (iblk m c 0 t) (iblk m c 1 t) (iblk m c 2 t) (iblk m c 3 t) (iblk m c 4 t) (ix3 h d r)
      = Cert.Reference4Ideal.Read.val_main_v94 (F := Ideal) (argX m c) (argG m c) (argW m c) (ix3 h d (rowAt t r)) :=
  (out_kt _ _ _ (tables m c t r) h d).trans (Eq.trans (congrArg (fun f => rope _ _ f _) (funext fun e => cell_eq m c t r _))
    (Ref.v94_at _ _ _ h d (rowAt t r)).symm)

/-- The keys, transposed. -/
theorem kernel_eq_7 : (dats m 0 c).arrAt 7 (cfgs 0).N = Cert.Reference4Ideal.Read.val_main_v94 (F := Ideal) (argX m c) (argG m c) (argW m c) := by
  refine (dats m 0 c).arrAt_eq_of_covers 7 _ (by decide +kernel) fun t _ y => ?_
  blk_simp
  rw [after0_7]
  have y0 : (y 0).val < 8 := (y 0).isLt
  have y1 : (y 1).val < 64 := (y 1).isLt
  have y2 : (y 2).val < 256 := (y 2).isLt
  have hy : (ix3 ⟨(y 0).val, y0⟩ ⟨(y 1).val, y1⟩ ⟨(y 2).val, y2⟩ : S8x64x256.Idx) = y := by
    funext z
    match z with
    | ⟨0, _⟩ => rfl
    | ⟨1, _⟩ => rfl
    | ⟨2, _⟩ => rfl
  refine ((congrArg (out0_7 (F := Ideal) _ _ _ _ _) hy.symm).trans (point_7 m c t ⟨(y 0).val, y0⟩ ⟨(y 1).val, y1⟩ ⟨(y 2).val, y2⟩)).trans ?_
  refine congrArg (Cert.Reference4Ideal.Read.val_main_v94 (F := Ideal) _ _ _) ?_
  blk_ext [idx_out t]

theorem point_8 (t : Fin cfg0.N) (r : Fin 256) (j : Fin 512) :
    out0_8 (F := Ideal) (iblk m c 0 t) (iblk m c 1 t) (iblk m c 2 t) (iblk m c 3 t) (iblk m c 4 t) (ix2 r j)
      = Cert.Reference4Ideal.Read.val_main_v95 (F := Ideal) (argX m c) (argG m c) (argW m c) (ix2 (rowAt t r) j) :=
  (out_v _ _ _ _ _ r j).trans (Eq.trans (cell_eq m c t r _)
    (Ref.v95_at _ _ _ (rowAt t r) j).symm)

/-- The values, row by row. -/
theorem kernel_eq_8 : (dats m 0 c).arrAt 8 (cfgs 0).N = Cert.Reference4Ideal.Read.val_main_v95 (F := Ideal) (argX m c) (argG m c) (argW m c) := by
  refine (dats m 0 c).arrAt_eq_of_covers 8 _ (by decide +kernel) fun t _ y => ?_
  blk_simp
  rw [after0_8]
  have y0 : (y 0).val < 256 := (y 0).isLt
  have y1 : (y 1).val < 512 := (y 1).isLt
  have hy : (ix2 ⟨(y 0).val, y0⟩ ⟨(y 1).val, y1⟩ : S256x512.Idx) = y := by
    funext z
    match z with
    | ⟨0, _⟩ => rfl
    | ⟨1, _⟩ => rfl
  refine ((congrArg (out0_8 (F := Ideal) _ _ _ _ _) hy.symm).trans (point_8 m c t ⟨(y 0).val, y0⟩ ⟨(y 1).val, y1⟩)).trans ?_
  refine congrArg (Cert.Reference4Ideal.Read.val_main_v95 (F := Ideal) _ _ _) ?_
  blk_ext [idx_out t]

theorem point_9 (t : Fin cfg0.N) (r : Fin 256) (j : Fin 512) :
    out0_9 (F := Ideal) (iblk m c 0 t) (iblk m c 1 t) (iblk m c 2 t) (iblk m c 3 t) (iblk m c 4 t) (ix2 r j)
      = Cert.Reference4Ideal.Read.val_main_v97 (F := Ideal) (argX m c) (argG m c) (argW m c) (ix2 (rowAt t r) j) :=
  (out_v16 _ _ _ _ _ r j).trans (Eq.trans (cell_eq m c t r _)
    (Ref.v97_at _ _ _ (rowAt t r) j).symm)

/-- The values, row by row, rounded. -/
theorem kernel_eq_9 : (dats m 0 c).arrAt 9 (cfgs 0).N = Cert.Reference4Ideal.Read.val_main_v97 (F := Ideal) (argX m c) (argG m c) (argW m c) := by
  refine (dats m 0 c).arrAt_eq_of_covers 9 _ (by decide +kernel) fun t _ y => ?_
  blk_simp
  rw [after0_9]
  have y0 : (y 0).val < 256 := (y 0).isLt
  have y1 : (y 1).val < 512 := (y 1).isLt
  have hy : (ix2 ⟨(y 0).val, y0⟩ ⟨(y 1).val, y1⟩ : S256x512.Idx) = y := by
    funext z
    match z with
    | ⟨0, _⟩ => rfl
    | ⟨1, _⟩ => rfl
  refine ((congrArg (out0_9 (F := Ideal) _ _ _ _ _) hy.symm).trans (point_9 m c t ⟨(y 0).val, y0⟩ ⟨(y 1).val, y1⟩)).trans ?_
  refine congrArg (Cert.Reference4Ideal.Read.val_main_v97 (F := Ideal) _ _ _) ?_
  blk_ext [idx_out t]

end Cert.SampleC

end
-- ==== Proof.SamplePostBody.lean ====
/- WHAT THE BODY COMPUTES: each step of the kernel body read at an entry is the row operation it stands for. -/
module

public import proofs.«01_k».proof.Proof.Gen.Kernel5Ideal.Skeleton
public import proofs.«01_k».proof.Proof.PostSpec

@[expose] public section

set_option maxRecDepth 16384

noncomputable section

namespace Cert.SamplePost

open Idealize.ShloMosaic Idealize.ShloMosaic.TcCoe Idealize.SL.Sem Cert.Kernel5Ideal Cert.Kernel5Ideal.Gen Cert.PostBlock

/-- A row of a block. -/
abbrev rowOf {s : FTy} {n p : ℕ} (x : FVec Ideal ⟨2, ![n, p]⟩ s) (r : Fin n) (j : Fin p) : EReal := x (ix2 r j)

theorem pay2_at (o : FVec Ideal S256x1024 .bf16) (w : FVec Ideal S1024x1024 .bf16) (x : FVec Ideal S256x1024 .f32)
    (g : FVec Ideal S1x1024 .f32) (r : Fin 256) (j : Fin 1024) :
    k0_pay2 (F := Ideal) o w x g (ix2 r j) = mixed (rowOf o r) (rowOf x r) (rowOf w) (rowOf g 0) j := by
  pointwise! [k0_pay2, mixed, rowNorm, rowMul]

theorem pay3_at (o : FVec Ideal S256x1024 .bf16) (w : FVec Ideal S1024x1024 .bf16) (x : FVec Ideal S256x1024 .f32)
    (g g' : FVec Ideal S1x1024 .f32) (r : Fin 256) (j : Fin 1024) :
    k0_pay3 (F := Ideal) o w x g g' (ix2 r j)
      = rowNorm (mixed (rowOf o r) (rowOf x r) (rowOf w) (rowOf g 0)) (rowOf g' 0) j := by
  have e : rowNorm (mixed (rowOf o r) (rowOf x r) (rowOf w) (rowOf g 0)) (rowOf g' 0) j
      = rowNorm (rowOf (k0_pay2 (F := Ideal) o w x g) r) (rowOf g' 0) j :=
    congrArg (fun z => rowNorm z _ j) (funext fun k => (pay2_at o w x g r k).symm)
  rw [e]
  pointwise! [k0_pay3, rowNorm]

theorem pay6_at (h : FVec Ideal S256x1024 .bf16) (u : FVec Ideal S1024x1024 .bf16) (r : Fin 256) (j : Fin 1024) :
    k0_pay6 (F := Ideal) h u (ix2 r j) = PostBlock.hidden (rowOf h r) (rowOf u) j := by
  pointwise! [k0_pay6, PostBlock.hidden, rowMul]

theorem pay5_at (h : FVec Ideal S256x1024 .bf16) (u₀ d₀ u₁ d₁ u₂ d₂ : FVec Ideal S1024x1024 .bf16) (r : Fin 256) (j : Fin 1024) :
    k0_pay5 (F := Ideal) h (k0_pay4 (F := Ideal)) u₀ d₀ u₁ d₁ u₂ d₂ (ix2 r j)
      = (network (rowOf h r) (rowOf u₀) (rowOf d₀) j + network (rowOf h r) (rowOf u₁) (rowOf d₁) j)
        + network (rowOf h r) (rowOf u₂) (rowOf d₂) j := by
  pointwise! [k0_pay5, k0_pay4, network, PostBlock.hidden, rowMul]

theorem pay1_at (x f q : FVec Ideal S256x1024 .f32) (d : FVec Ideal S1024x1024 .bf16) (g : FVec Ideal S1x1024 .f32)
    (r : Fin 256) (j : Fin 1024) :
    k0_pay1 (F := Ideal) x f q d g (ix2 r j)
      = rowOf x r j + rowNorm (fun l => rowOf f r l + ∑ k, rowOf q r k * rowOf q r k * rowOf d k l) (rowOf g 0) j := by
  pointwise! [k0_pay1, rowNorm]

/-- THE WHOLE BODY on a row, from the four quarters of the two matrices. -/
theorem body_at (o : FVec Ideal S256x1024 .bf16) (w : FVec Ideal S1024x1024 .bf16) (x : FVec Ideal S256x1024 .f32)
    (g₁ g₂ g₃ : FVec Ideal S1x1024 .f32) (u₀ d₀ u₁ d₁ u₂ d₂ u₃ d₃ : FVec Ideal S1024x1024 .bf16)
    (U : Fin 1024 → Fin 4096 → EReal) (D : Fin 4096 → Fin 1024 → EReal)
    (hu₀ : ∀ i k : Fin 1024, u₀ (ix2 i k) = U i ⟨k.val, by omega⟩) (hd₀ : ∀ k j : Fin 1024, d₀ (ix2 k j) = D ⟨k.val, by omega⟩ j)
    (hu₁ : ∀ i k : Fin 1024, u₁ (ix2 i k) = U i ⟨1024 + k.val, by omega⟩) (hd₁ : ∀ k j : Fin 1024, d₁ (ix2 k j) = D ⟨1024 + k.val, by omega⟩ j)
    (hu₂ : ∀ i k : Fin 1024, u₂ (ix2 i k) = U i ⟨2048 + k.val, by omega⟩) (hd₂ : ∀ k j : Fin 1024, d₂ (ix2 k j) = D ⟨2048 + k.val, by omega⟩ j)
    (hu₃ : ∀ i k : Fin 1024, u₃ (ix2 i k) = U i ⟨3072 + k.val, by omega⟩) (hd₃ : ∀ k j : Fin 1024, d₃ (ix2 k j) = D ⟨3072 + k.val, by omega⟩ j)
    (r : Fin 256) (j : Fin 1024) :
    k0_pay1 (F := Ideal) (k0_pay2 (F := Ideal) o w x g₁)
        (k0_pay5 (F := Ideal) (k0_pay3 (F := Ideal) o w x g₁ g₂) (k0_pay4 (F := Ideal)) u₀ d₀ u₁ d₁ u₂ d₂)
        (k0_pay6 (F := Ideal) (k0_pay3 (F := Ideal) o w x g₁ g₂) u₃) d₃ g₃ (ix2 r j)
      = post (rowOf o r) (rowOf x r) (rowOf w) (rowOf g₁ 0) (rowOf g₂ 0) U D (rowOf g₃ 0) j := by
  have eh : rowOf (k0_pay3 (F := Ideal) o w x g₁ g₂) r
      = rowNorm (mixed (rowOf o r) (rowOf x r) (rowOf w) (rowOf g₁ 0)) (rowOf g₂ 0) := funext fun k => pay3_at o w x g₁ g₂ r k
  have U₀ : rowOf u₀ = fun i (k : Fin 1024) => U i ⟨k.val, by omega⟩ := funext₂ hu₀
  have U₁ : rowOf u₁ = fun i (k : Fin 1024) => U i ⟨1024 + k.val, by omega⟩ := funext₂ hu₁
  have U₂ : rowOf u₂ = fun i (k : Fin 1024) => U i ⟨2048 + k.val, by omega⟩ := funext₂ hu₂
  have U₃ : rowOf u₃ = fun i (k : Fin 1024) => U i ⟨3072 + k.val, by omega⟩ := funext₂ hu₃
  have D₀ : rowOf d₀ = fun (k : Fin 1024) => D ⟨k.val, by omega⟩ := funext₂ hd₀
  have D₁ : rowOf d₁ = fun (k : Fin 1024) => D ⟨1024 + k.val, by omega⟩ := funext₂ hd₁
  have D₂ : rowOf d₂ = fun (k : Fin 1024) => D ⟨2048 + k.val, by omega⟩ := funext₂ hd₂
  have D₃ : rowOf d₃ = fun (k : Fin 1024) => D ⟨3072 + k.val, by omega⟩ := funext₂ hd₃
  refine (pay1_at _ _ _ _ _ r j).trans ?_
  refine congrArg₂ (fun a b : EReal => a + b) (pay2_at o w x g₁ r j) ?_
  refine congrArg (fun z => rowNorm z (rowOf g₃ 0) j) (funext fun l => ?_)
  rw [network_quarters, ← eh, ← U₀, ← U₁, ← U₂, ← U₃, ← D₀, ← D₁, ← D₂, ← D₃]
  refine congrArg₂ (fun a b : EReal => a + b) (pay5_at _ _ _ _ _ _ _ r l) ?_
  refine Finset.sum_congr rfl fun k _ => ?_
  exact congrArg (fun z : EReal => z * z * rowOf d₃ k l) (pay6_at _ u₃ r k)

end Cert.SamplePost

end
-- ==== Proof.SamplePostRef.lean ====
/- WHAT THE REFERENCE COMPUTES for the second half of a layer: its result at an entry is `post` of the entry's rows. -/
module

public import proofs.«01_k».proof.Proof.PostSpec
public import proofs.«01_k».proof.Proof.Gen.Reference5Ideal.Read

@[expose] public section

set_option maxRecDepth 16384

noncomputable section

namespace Cert.SamplePost.Ref

open Idealize.ShloMosaic Idealize.ShloMosaic.TcCoe Cert.Reference5Ideal Cert.Reference5Ideal.Gen Cert.Reference5Ideal.Read Cert.PostBlock

variable (x0 x1 : FVec Ideal S32x8x1024 .f32) (x2 : FVec Ideal S1024x1024 .f32) (x3 x4 : FVec Ideal S1024 .f32)
  (x5 : FVec Ideal S1024x4096 .f32) (x6 : FVec Ideal S4096x1024 .f32) (x7 : FVec Ideal S1024 .f32)

theorem v14_at (b : Fin 32) (t : Fin 8) (j : Fin 1024) :
    val_main_v14 (F := Ideal) x0 x1 x2 x3 (ix3 b t j)
      = mixed (fun k => x0 (ix3 b t k)) (fun k => x1 (ix3 b t k)) (fun k l => x2 (ix2 k l)) (fun k => x3 (ix1 k)) j := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    mixed, rowNorm, rowMul, zero_add]

theorem v27_at (b : Fin 32) (t : Fin 8) (j : Fin 1024) :
    val_main_v27 (F := Ideal) x0 x1 x2 x3 x4 (ix3 b t j)
      = rowNorm (fun k => val_main_v14 (F := Ideal) x0 x1 x2 x3 (ix3 b t k)) (fun k => x4 (ix1 k)) j := by
  pointwise [val_main_v27, val_main_v26, val_main_v25, val_main_v24, val_main_v23, val_main_v22, val_main_v21, val_main_v20, val_main_v19,
    val_main_v18, val_main_v17, val_main_v16, val_main_v15, val_main_cst_2, val_main_cst_3, val_main_cst_4, rowNorm, zero_add]

theorem v31_at (b : Fin 32) (t : Fin 8) (j : Fin 1024) :
    val_main_v31 (F := Ideal) x0 x1 x2 x3 x4 x5 x6 (ix3 b t j)
      = network (fun k => val_main_v27 (F := Ideal) x0 x1 x2 x3 x4 (ix3 b t k)) (fun k l => x5 (ix2 k l)) (fun k l => x6 (ix2 k l)) j := by
  pointwise [val_main_v31, val_main_v30, val_main_v29, val_main_v28, val_main_call0_v0, val_main_call0_cst, network, PostBlock.hidden, rowMul]

theorem v45_at (b : Fin 32) (t : Fin 8) (j : Fin 1024) :
    val_main_v45 (F := Ideal) x0 x1 x2 x3 x4 x5 x6 x7 (ix3 b t j)
      = val_main_v14 (F := Ideal) x0 x1 x2 x3 (ix3 b t j)
        + rowNorm (fun k => val_main_v31 (F := Ideal) x0 x1 x2 x3 x4 x5 x6 (ix3 b t k)) (fun k => x7 (ix1 k)) j := by
  pointwise [val_main_v45, val_main_v44, val_main_v43, val_main_v42, val_main_v41, val_main_v40, val_main_v39, val_main_v38, val_main_v37,
    val_main_v36, val_main_v35, val_main_v34, val_main_v33, val_main_v32, val_main_cst_5, val_main_cst_6, val_main_cst_7, rowNorm, zero_add]

/-- THE REFERENCE'S RESULT at row `n` and column `j`. -/
theorem result_at (n : Fin 256) (j : Fin 1024) :
    val_main_v46 (F := Ideal) x0 x1 x2 x3 x4 x5 x6 x7 (ix2 n j)
      = post (fun k => x0 (ix3 ⟨n.val / 8, by omega⟩ ⟨n.val % 8, by omega⟩ k))
          (fun k => x1 (ix3 ⟨n.val / 8, by omega⟩ ⟨n.val % 8, by omega⟩ k)) (fun k l => x2 (ix2 k l)) (fun k => x3 (ix1 k))
          (fun k => x4 (ix1 k)) (fun k l => x5 (ix2 k l)) (fun k l => x6 (ix2 k l)) (fun k => x7 (ix1 k)) j := by
  have e : val_main_v46 (F := Ideal) x0 x1 x2 x3 x4 x5 x6 x7 (ix2 n j)
      = val_main_v45 (F := Ideal) x0 x1 x2 x3 x4 x5 x6 x7 (ix3 ⟨n.val / 8, by omega⟩ ⟨n.val % 8, by omega⟩ j) := by
    pointwise [val_main_v46]
  rw [e, v45_at]
  simp only [v31_at, v27_at, v14_at, PostBlock.post]

end Cert.SamplePost.Ref

end
-- ==== Proof.SamplePostValue.lean ====
/- THE BLOCKS OF A GRID POINT AND THE RESULT ARRAY of the second half of a layer. Point `t` works on rows `256 t … 256 t + 255`. -/
module

public import proofs.«01_k».proof.Proof.SamplePostBody
public import proofs.«01_k».proof.Proof.SamplePostRef
public import proofs.«01_k».proof.Proof.Gen.Kernel5Ideal.Value
public import Idealize.ShloMosaic.Lib.Pipeline.ValueKit
public import Idealize.ShloMosaic.Lib.Claim

@[expose] public section

set_option maxRecDepth 16384

noncomputable section

namespace Cert.SamplePost

open Idealize.ShloMosaic Idealize.ShloMosaic.TcCoe Idealize.SL.Sem Cert.Kernel5Ideal Cert.Kernel5Ideal.Gen Cert.PostBlock

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ t.val < 1 :=
  (by decide +kernel : ∀ t : Fin grid0.N, _)

/-- A row of an argument of the shape of the activations. -/
abbrev actRow (x : FVec Ideal S32x8x1024 .f32) (n : Fin 256) (j : Fin 1024) : EReal :=
  x (ix3 ⟨n.val / 8, by omega⟩ ⟨n.val % 8, by omega⟩ j)

/-! ## The arrays the host code prepares -/

theorem entry_o (n : Fin 256) (j : Fin 1024) :
    (V m c main_v1 : FVec Ideal S256x1024 .bf16) (ix2 n j) = actRow (m ((c : Thread nD τ).loc main_arg0)) n j := by
  entry_read
  pointwise

theorem entry_x (n : Fin 256) (j : Fin 1024) :
    (V m c main_v2 : FVec Ideal S256x1024 .f32) (ix2 n j) = actRow (m ((c : Thread nD τ).loc main_arg1)) n j := by
  entry_read
  pointwise

theorem entry_w (k j : Fin 1024) :
    (V m c main_v3 : FVec Ideal S1024x1024 .bf16) (ix2 k j) = (m ((c : Thread nD τ).loc main_arg2) : FVec Ideal S1024x1024 .f32) (ix2 k j) := by
  entry_read
  pointwise

theorem entry_g₁ (j : Fin 1024) :
    (V m c main_v6 : FVec Ideal S1x1024 .f32) (ix2 0 j) = (m ((c : Thread nD τ).loc main_arg3) : FVec Ideal S1024 .f32) (ix1 j) := by
  entry_read
  pointwise

theorem entry_g₂ (j : Fin 1024) :
    (V m c main_v7 : FVec Ideal S1x1024 .f32) (ix2 0 j) = (m ((c : Thread nD τ).loc main_arg4) : FVec Ideal S1024 .f32) (ix1 j) := by
  entry_read
  pointwise

theorem entry_u (k : Fin 1024) (j : Fin 4096) :
    (V m c main_v4 : FVec Ideal S1024x4096 .bf16) (ix2 k j) = (m ((c : Thread nD τ).loc main_arg5) : FVec Ideal S1024x4096 .f32) (ix2 k j) := by
  entry_read
  pointwise

theorem entry_d (k : Fin 4096) (j : Fin 1024) :
    (V m c main_v5 : FVec Ideal S4096x1024 .bf16) (ix2 k j) = (m ((c : Thread nD τ).loc main_arg6) : FVec Ideal S4096x1024 .f32) (ix2 k j) := by
  entry_read
  pointwise

theorem entry_g₃ (j : Fin 1024) :
    (V m c main_v8 : FVec Ideal S1x1024 .f32) (ix2 0 j) = (m ((c : Thread nD τ).loc main_arg7) : FVec Ideal S1024 .f32) (ix1 j) := by
  entry_read
  pointwise

/-! ## The blocks of a grid point -/

/-- The row of the arrays that row `r` of point `t` is. -/
abbrev rowAt (t : Fin cfg0.N) (r : Fin 256) : Fin 256 := ⟨256 * t.val + r.val, by have := (idx t).2.2.2.2.2.2.2.2.2; omega⟩

theorem blk_o (t : Fin cfg0.N) (r : Fin 256) (j : Fin 1024) :
    (iblk m c 0 t : FVec Ideal S256x1024 .bf16) (ix2 r j) = actRow (m ((c : Thread nD τ).loc main_arg0)) (rowAt t r) j := by
  refine Eq.trans ?_ (entry_o m c (rowAt t r) j)
  blk_ext [iblk, idx t]

theorem blk_x (t : Fin cfg0.N) (r : Fin 256) (j : Fin 1024) :
    (iblk m c 1 t : FVec Ideal S256x1024 .f32) (ix2 r j) = actRow (m ((c : Thread nD τ).loc main_arg1)) (rowAt t r) j := by
  refine Eq.trans ?_ (entry_x m c (rowAt t r) j)
  blk_ext [iblk, idx t]

theorem blk_w (t : Fin cfg0.N) (k j : Fin 1024) :
    (iblk m c 2 t : FVec Ideal S1024x1024 .bf16) (ix2 k j) = (m ((c : Thread nD τ).loc main_arg2) : FVec Ideal S1024x1024 .f32) (ix2 k j) := by
  refine Eq.trans ?_ (entry_w m c k j)
  blk_ext [iblk, idx t]

theorem blk_g₁ (t : Fin cfg0.N) (j : Fin 1024) :
    (iblk m c 3 t : FVec Ideal S1x1024 .f32) (ix2 0 j) = (m ((c : Thread nD τ).loc main_arg3) : FVec Ideal S1024 .f32) (ix1 j) := by
  refine Eq.trans ?_ (entry_g₁ m c j)
  blk_ext [iblk, idx t]

theorem blk_g₂ (t : Fin cfg0.N) (j : Fin 1024) :
    (iblk m c 4 t : FVec Ideal S1x1024 .f32) (ix2 0 j) = (m ((c : Thread nD τ).loc main_arg4) : FVec Ideal S1024 .f32) (ix1 j) := by
  refine Eq.trans ?_ (entry_g₂ m c j)
  blk_ext [iblk, idx t]

theorem blk_u (t : Fin cfg0.N) (k : Fin 1024) (j : Fin 4096) :
    (iblk m c 5 t : FVec Ideal S1024x4096 .bf16) (ix2 k j) = (m ((c : Thread nD τ).loc main_arg5) : FVec Ideal S1024x4096 .f32) (ix2 k j) := by
  refine Eq.trans ?_ (entry_u m c k j)
  blk_ext [iblk, idx t]

theorem blk_d (t : Fin cfg0.N) (k : Fin 4096) (j : Fin 1024) :
    (iblk m c 6 t : FVec Ideal S4096x1024 .bf16) (ix2 k j) = (m ((c : Thread nD τ).loc main_arg6) : FVec Ideal S4096x1024 .f32) (ix2 k j) := by
  refine Eq.trans ?_ (entry_d m c k j)
  blk_ext [iblk, idx t]

theorem blk_g₃ (t : Fin cfg0.N) (j : Fin 1024) :
    (iblk m c 7 t : FVec Ideal S1x1024 .f32) (ix2 0 j) = (m ((c : Thread nD τ).loc main_arg7) : FVec Ideal S1024 .f32) (ix1 j) := by
  refine Eq.trans ?_ (entry_g₃ m c j)
  blk_ext [iblk, idx t]

/-! ## The result -/

/-- WHAT A POINT STORES, from its blocks. -/
theorem out_at (o : FVec Ideal S256x1024 .bf16) (x : FVec Ideal S256x1024 .f32) (w : FVec Ideal S1024x1024 .bf16)
    (g₁ g₂ : FVec Ideal S1x1024 .f32) (u : FVec Ideal S1024x4096 .bf16) (d : FVec Ideal S4096x1024 .bf16) (g₃ : FVec Ideal S1x1024 .f32)
    (r : Fin 256) (j : Fin 1024) :
    out0_8 (F := Ideal) o x w g₁ g₂ u d g₃ (ix2 r j)
      = post (rowOf o r) (rowOf x r) (rowOf w) (rowOf g₁ 0) (rowOf g₂ 0) (rowOf u) (rowOf d) (rowOf g₃ 0) j := by
  unfold_out out0_8
  frame_out
  refine body_at o w x g₁ g₂ g₃ _ _ _ _ _ _ _ _ _ _ ?_ ?_ ?_ ?_ ?_ ?_ ?_ ?_ r j <;> intro i k <;> pointwise

/-- The result array. -/
abbrev postArr (x0 x1 : FVec Ideal S32x8x1024 .f32) (x2 : FVec Ideal S1024x1024 .f32) (x3 x4 : FVec Ideal S1024 .f32)
    (x5 : FVec Ideal S1024x4096 .f32) (x6 : FVec Ideal S4096x1024 .f32) (x7 : FVec Ideal S1024 .f32) : FVec Ideal S256x1024 .f32 :=
  Cert.Reference5Ideal.Read.val_main_v46 (F := Ideal) x0 x1 x2 x3 x4 x5 x6 x7

theorem point_at (t : Fin cfg0.N) (r : Fin 256) (j : Fin 1024) :
    out0_8 (F := Ideal) (iblk m c 0 t) (iblk m c 1 t) (iblk m c 2 t) (iblk m c 3 t) (iblk m c 4 t) (iblk m c 5 t) (iblk m c 6 t) (iblk m c 7 t)
        (ix2 r j)
      = postArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (ix2 (rowAt t r) j) := by
  refine (out_at _ _ _ _ _ _ _ _ r j).trans (Eq.trans ?_ (Ref.result_at _ _ _ _ _ _ _ _ (rowAt t r) j).symm)
  exact post_congr (blk_o m c t r) (blk_x m c t r) (blk_w m c t) (blk_g₁ m c t) (blk_g₂ m c t) (blk_u m c t) (blk_d m c t) (blk_g₃ m c t) j

/-- THE KERNEL'S ARRAY after the run is the reference's result. -/
theorem kernel_eq : (dats m 0 c).arrAt 8 (cfgs 0).N
    = postArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (dats m 0 c).arrAt_eq_of_covers 8 _ (by decide +kernel) fun t _ y => ?_
  blk_simp
  rw [after0_8]
  have y0 : (y 0).val < 256 := (y 0).isLt
  have y1 : (y 1).val < 1024 := (y 1).isLt
  have hy : (ix2 ⟨(y 0).val, y0⟩ ⟨(y 1).val, y1⟩ : S256x1024.Idx) = y := by
    funext z
    match z with
    | ⟨0, _⟩ => rfl
    | ⟨1, _⟩ => rfl
  refine ((congrArg (out0_8 (F := Ideal) _ _ _ _ _ _ _ _) hy.symm).trans (point_at m c t ⟨(y 0).val, y0⟩ ⟨(y 1).val, y1⟩)).trans ?_
  refine congrArg (postArr _ _ _ _ _ _ _ _) ?_
  blk_ext [idx t]

end Cert.SamplePost

end
-- ==== Proof.SampleProjBody.lean ====
/- WHAT THE BODY OF THE INPUT PROJECTION OVER THE SAMPLE GROUP COMPUTES, at an entry. -/
module

public import proofs.«01_k».proof.Proof.Gen.Kernel6Ideal.Frame
public import proofs.«01_k».proof.Proof.ProjSpec
public import Idealize.ShloMosaic.Lib.Pipeline.ValueKit

@[expose] public section

set_option maxRecDepth 16384

noncomputable section

namespace Cert.SampleProj

open Idealize.ShloMosaic Idealize.ShloMosaic.TcCoe Idealize.SL.Sem Cert.Kernel6Ideal Cert.Kernel6Ideal.Gen Cert.PostBlock Cert.Proj

/-- A row of a block. -/
abbrev rowOf {s : FTy} {n p : ℕ} (x : FVec Ideal ⟨2, ![n, p]⟩ s) (r : Fin n) (j : Fin p) : EReal := x (ix2 r j)

variable (x : FVec Ideal S256x1024 .f32) (g : FVec Ideal S1x1024 .f32) (w : FVec Ideal S1024x2944 .bf16) (c s : FVec Ideal S256x128 .f32)

/-- The projected row `r`, at column `j` of the weights. -/
def cell (r : Fin 256) (j : Fin 2944) : EReal := rowMul (rowNorm (rowOf x r) (rowOf g 0)) (rowOf w) j

/-! ## The values the body computes -/

theorem norm_at (r : Fin 256) (j : Fin 1024) : k0_pay64 (F := Ideal) x g w c s (ix2 r j) = rowNorm (rowOf x r) (rowOf g 0) j := by
  pointwise! [k0_pay64, k0_pay1, rowNorm]

theorem mask_at (r : Fin 256) (l : Fin 128) (a b : EReal) :
    Scalar.select (k0_pay4 (ix2 r l)) a b = if l.val % 64 < 32 then a else b := by
  pointwise [k0_pay4]
  rw [first_half]
  by_cases h : l.val % 64 < 32
  · simp only [h, if_true]
    rfl
  · simp only [h, if_false]
    rfl

theorem mask67_at (w' : Vec Ideal S1024x2944 .bf16) (x' : Vec Ideal S256x1024 .f32) (g' : Vec Ideal S1x1024 .f32) (c' s' : Vec Ideal S256x128 .f32) (r : Fin 256) (l : Fin 128) (a b : EReal) :
    Scalar.select (k0_pay67 (F := Ideal) x' g' w' c' s' (ix2 r l)) a b = if l.val % 64 < 32 then a else b :=
  mask_at r l a b

theorem aq_at (a : Fin 4) (r : Fin 256) (l : Fin 128) :
    k0_pay73 (F := Ideal) x g w c s (ix2 r ⟨128 * a.val + l.val, by omega⟩)
      = laneRope (rowOf c r) (rowOf s r) (fun e => cell x g w r ⟨(128 * a.val + e.val), by omega⟩) l := by
  match a with
  | 0 =>
    pointwise [k0_pay73, k0_pay65, k0_pay66, k0_pay67, k0_pay68, k0_pay69, k0_pay70, k0_pay71, k0_pay72, k0_pay10, k0_pay2, k0_pay3, k0_pay5, k0_pay6, k0_pay7,
      k0_pay8, k0_pay9, k0_pay1, mask_at, laneRope, cell, rowMul, rowNorm]
    simp only [up_at, down_at]
  | 1 =>
    pointwise [k0_pay73, k0_pay65, k0_pay66, k0_pay67, k0_pay68, k0_pay69, k0_pay70, k0_pay71, k0_pay72, k0_pay10, k0_pay2, k0_pay3, k0_pay5, k0_pay6, k0_pay7,
      k0_pay8, k0_pay9, k0_pay1, mask_at, laneRope, cell, rowMul, rowNorm]
    simp only [up_at, down_at]
  | 2 =>
    pointwise [k0_pay73, k0_pay65, k0_pay66, k0_pay67, k0_pay68, k0_pay69, k0_pay70, k0_pay71, k0_pay72, k0_pay10, k0_pay2, k0_pay3, k0_pay5, k0_pay6, k0_pay7,
      k0_pay8, k0_pay9, k0_pay1, mask_at, laneRope, cell, rowMul, rowNorm]
    rw [dif_neg (by omega), dif_neg (by omega), dif_pos (by omega)]
    simp only [show 256 + l.val - 128 - 128 = l.val by omega]
    simp only [up_at, down_at]
  | 3 =>
    pointwise [k0_pay73, k0_pay65, k0_pay66, k0_pay67, k0_pay68, k0_pay69, k0_pay70, k0_pay71, k0_pay72, k0_pay10, k0_pay2, k0_pay3, k0_pay5, k0_pay6, k0_pay7,
      k0_pay8, k0_pay9, k0_pay1, mask_at, laneRope, cell, rowMul, rowNorm]
    rw [dif_neg (by omega), dif_neg (by omega), dif_neg (by omega)]
    simp only [show 384 + l.val - 128 - 128 - 128 = l.val by omega]
    simp only [up_at, down_at]

theorem iq_at (a : Fin 4) (r : Fin 256) (l : Fin 128) :
    k0_pay74 (F := Ideal) x g w c s (ix2 r ⟨128 * a.val + l.val, by omega⟩)
      = laneRope (rowOf c r) (rowOf s r) (fun e => cell x g w r ⟨512 + (128 * a.val + e.val), by omega⟩) l := by
  match a with
  | 0 =>
    pointwise [k0_pay74, k0_pay65, k0_pay66, k0_pay20, k0_pay2, k0_pay3, norm_at, mask67_at, laneRope, cell, rowMul]
    simp only [up_at, down_at]
  | 1 =>
    pointwise [k0_pay74, k0_pay65, k0_pay66, k0_pay20, k0_pay2, k0_pay3, norm_at, mask67_at, laneRope, cell, rowMul]
    simp only [up_at, down_at]
  | 2 =>
    pointwise [k0_pay74, k0_pay65, k0_pay66, k0_pay20, k0_pay2, k0_pay3, norm_at, mask67_at, laneRope, cell, rowMul]
    rw [dif_neg (by omega), dif_neg (by omega), dif_pos (by omega)]
    simp only [show 256 + l.val - 128 - 128 = l.val by omega]
    simp only [up_at, down_at]
  | 3 =>
    pointwise [k0_pay74, k0_pay65, k0_pay66, k0_pay20, k0_pay2, k0_pay3, norm_at, mask67_at, laneRope, cell, rowMul]
    rw [dif_neg (by omega), dif_neg (by omega), dif_neg (by omega)]
    simp only [show 384 + l.val - 128 - 128 - 128 = l.val by omega]
    simp only [up_at, down_at]

theorem ak_at (r : Fin 256) (l : Fin 128) :
    k0_pay40 (F := Ideal) (k0_pay64 (F := Ideal) x g w c s) (k0_pay65 (F := Ideal) x g w c s) (k0_pay66 (F := Ideal) x g w c s) (k0_pay67 (F := Ideal) x g w c s) (View.ld w r0_14) (ix2 r l)
      = laneRope (rowOf c r) (rowOf s r) (fun e => cell x g w r ⟨1024 + e.val, by omega⟩) l := by
  pointwise [k0_pay65, k0_pay66, k0_pay40, k0_pay2, k0_pay3, norm_at, mask67_at, laneRope, cell, rowMul]
  simp only [up_at, down_at]

theorem av_at (r : Fin 256) (j : Fin 128) :
    k0_pay44 (F := Ideal) (k0_pay64 (F := Ideal) x g w c s) (View.ld w r0_17) (ix2 r j) = cell x g w r ⟨1152 + j.val, by omega⟩ := by
  pointwise! [k0_pay44, norm_at, cell, rowMul]

theorem bq_at (r : Fin 256) (j : Fin 512) : k0_pay75 (F := Ideal) x g w c s (ix2 r j) = cell x g w r ⟨1280 + j.val, by omega⟩ := by
  pointwise! [k0_pay75, k0_pay31, norm_at, cell, rowMul]

theorem bk_at (r : Fin 256) (j : Fin 512) : k0_pay76 (F := Ideal) x g w c s (ix2 r j) = cell x g w r ⟨1792 + j.val, by omega⟩ := by
  pointwise! [k0_pay76, k0_pay46, norm_at, cell, rowMul]

theorem bv_at (r : Fin 256) (j : Fin 512) :
    k0_pay57 (F := Ideal) (k0_pay64 (F := Ideal) x g w c s) (View.ld w r0_28) (ix2 r j) = cell x g w r ⟨2304 + j.val, by omega⟩ := by
  pointwise! [k0_pay57, norm_at, cell, rowMul]

theorem tail_at (r : Fin 256) (j : Fin 128) :
    k0_pay59 (F := Ideal) (k0_pay64 (F := Ideal) x g w c s) (View.ld w r0_29) (ix2 r j) = cell x g w r ⟨2816 + j.val, by omega⟩ := by
  pointwise! [k0_pay59, norm_at, cell, rowMul]

theorem ik_at (l : Fin 64) (r : Fin 256) :
    k0_pay61 (F := Ideal) (k0_pay64 (F := Ideal) x g w c s) (k0_pay65 (F := Ideal) x g w c s) (k0_pay66 (F := Ideal) x g w c s)
        (k0_pay67 (F := Ideal) x g w c s) (View.ld w r0_29) (ix2 r l)
      = laneRope (rowOf c r) (rowOf s r) (fun e => cell x g w r ⟨2816 + e.val, by omega⟩) ⟨l.val, by omega⟩ := by
  pointwise [k0_pay65, k0_pay66, k0_pay61, k0_pay60, k0_pay59, k0_pay2, k0_pay3, norm_at, mask67_at, laneRope, cell, rowMul]
  simp only [up_at, down_at]

theorem ikt_at (l : Fin 64) (r : Fin 256) :
    k0_pay62 (F := Ideal) (k0_pay64 (F := Ideal) x g w c s) (k0_pay65 (F := Ideal) x g w c s) (k0_pay66 (F := Ideal) x g w c s)
        (k0_pay67 (F := Ideal) x g w c s) (View.ld w r0_29) (ix2 l r)
      = laneRope (rowOf c r) (rowOf s r) (fun e => cell x g w r ⟨2816 + e.val, by omega⟩) ⟨l.val, by omega⟩ := by
  pointwise [k0_pay65, k0_pay66, k0_pay62, k0_pay60, k0_pay59, k0_pay2, k0_pay3, norm_at, mask67_at, laneRope, cell, rowMul]
  simp only [up_at, down_at]

/-! ## Heads: the rotary positions of the 64 columns of one head -/

/-- What the tables of a row hold: the cosines `c'` repeated four times, and the sines `s'` with a sign. -/
def Tables (r : Fin 256) (c' s' : Fin 32 → EReal) : Prop :=
  (∀ l : Fin 128, rowOf c r l = c' ⟨l.val % 32, by omega⟩)
    ∧ ∀ l : Fin 128, rowOf s r l = if l.val % 64 < 32 then -s' ⟨l.val % 32, by omega⟩ else s' ⟨l.val % 32, by omega⟩

variable {c s} {r : Fin 256} {c' s' : Fin 32 → EReal} (T : Tables c s r c' s')

include T

theorem aq_head (h : Fin 8) (d : Fin 64) :
    k0_pay73 (F := Ideal) x g w c s (ix2 r ⟨64 * h.val + d.val, by omega⟩)
      = rope c' s' (fun e => cell x g w r ⟨64 * h.val + e.val, by omega⟩) d :=
  heads_of_lanes (rowOf c r) (rowOf s r) c' s' (fun j => cell x g w r ⟨j.val, by omega⟩) (fun j => k0_pay73 (F := Ideal) x g w c s (ix2 r j))
    T.1 T.2 (fun a l => aq_at x g w c s a r l) h d

theorem iq_head (h : Fin 8) (d : Fin 64) :
    k0_pay74 (F := Ideal) x g w c s (ix2 r ⟨64 * h.val + d.val, by omega⟩)
      = rope c' s' (fun e => cell x g w r ⟨512 + (64 * h.val + e.val), by omega⟩) d :=
  heads_of_lanes (rowOf c r) (rowOf s r) c' s' (fun j => cell x g w r ⟨512 + j.val, by omega⟩) (fun j => k0_pay74 (F := Ideal) x g w c s (ix2 r j))
    T.1 T.2 (fun a l => iq_at x g w c s a r l) h d

theorem ak_head (h : Fin 2) (d : Fin 64) :
    k0_pay40 (F := Ideal) (k0_pay64 (F := Ideal) x g w c s) (k0_pay65 (F := Ideal) x g w c s) (k0_pay66 (F := Ideal) x g w c s)
        (k0_pay67 (F := Ideal) x g w c s) (View.ld w r0_14) (ix2 r ⟨64 * h.val + d.val, by omega⟩)
      = rope c' s' (fun e => cell x g w r ⟨1024 + (64 * h.val + e.val), by omega⟩) d :=
  (ak_at x g w c s r _).trans (laneRope_eq (rowOf c r) (rowOf s r) (fun l => cell x g w r ⟨1024 + l.val, by omega⟩) c' s' T.1 T.2 h d)

theorem ik_head (d : Fin 64) :
    k0_pay61 (F := Ideal) (k0_pay64 (F := Ideal) x g w c s) (k0_pay65 (F := Ideal) x g w c s) (k0_pay66 (F := Ideal) x g w c s)
        (k0_pay67 (F := Ideal) x g w c s) (View.ld w r0_29) (ix2 r d)
      = rope c' s' (fun e => cell x g w r ⟨2816 + e.val, by omega⟩) d := by
  have e := laneRope_eq (rowOf c r) (rowOf s r) (fun l => cell x g w r ⟨2816 + l.val, by omega⟩) c' s' T.1 T.2 0 d
  refine (ik_at x g w c s d r).trans ((congrArg (laneRope (rowOf c r) (rowOf s r) _) (Fin.ext ?_)).trans (e.trans ?_))
  · show d.val = 64 * 0 + d.val
    omega
  · refine congrArg (fun z => rope c' s' z d) (funext fun e => congrArg (cell x g w r) (Fin.ext ?_))
    show 2816 + (64 * 0 + e.val) = 2816 + e.val
    omega

theorem ikt_head (d : Fin 64) :
    k0_pay62 (F := Ideal) (k0_pay64 (F := Ideal) x g w c s) (k0_pay65 (F := Ideal) x g w c s) (k0_pay66 (F := Ideal) x g w c s)
        (k0_pay67 (F := Ideal) x g w c s) (View.ld w r0_29) (ix2 d r)
      = rope c' s' (fun e => cell x g w r ⟨2816 + e.val, by omega⟩) d := by
  have e := laneRope_eq (rowOf c r) (rowOf s r) (fun l => cell x g w r ⟨2816 + l.val, by omega⟩) c' s' T.1 T.2 0 d
  refine (ikt_at x g w c s d r).trans ((congrArg (laneRope (rowOf c r) (rowOf s r) _) (Fin.ext ?_)).trans (e.trans ?_))
  · show d.val = 64 * 0 + d.val
    omega
  · refine congrArg (fun z => rope c' s' z d) (funext fun e => congrArg (cell x g w r) (Fin.ext ?_))
    show 2816 + (64 * 0 + e.val) = 2816 + e.val
    omega

/-! ## The blocks a point stores -/

omit T in
/-- The factor of the queries that meet in powers of two: `1 / (8 log 2)`. -/
theorem scale_eq : (Named.named Cert.Kernel6Ideal.κ "scale" 0x3E38AA3B#32 : Ideal .f32) = (((8 * Real.log 2)⁻¹ : ℝ) : EReal) :=
  IdealRules.named_const.ideal_named_scalar _ _ _ _ rfl

/-- The queries of the first attention. -/
theorem out_aq (h : Fin 8) (d : Fin 64) :
    out0_5 (F := Ideal) x g w c s (ix3 h r d)
      = rope c' s' (fun e => cell x g w r ⟨64 * h.val + e.val, by omega⟩) d * (((8 * Real.log 2)⁻¹ : ℝ) : EReal) := by
  rw [← aq_head x g w T h d]
  unfold out0_5 k0_pay73
  canon_tiles u q
  all_goals
    change h.val = _ at q0; change r.val = _ at q1; change d.val = _ at q2
    pointwise [k0_pay11, k0_pay12, k0_pay13, k0_pay14, k0_pay15, k0_pay16, k0_pay17, k0_pay18, k0_pay19, scale_eq]
    refine congrArg (fun z : EReal => z * _) ?_
    blk_ext <;> omega

/-- The queries of the index scores. -/
theorem out_iq (h : Fin 8) (d : Fin 64) :
    out0_6 (F := Ideal) x g w c s (ix3 h r d)
      = rope c' s' (fun e => cell x g w r ⟨512 + (64 * h.val + e.val), by omega⟩) d * Ideal.ofBits .f32 0x3E000000#32 := by
  rw [← iq_head x g w T h d]
  unfold out0_6 k0_pay74
  canon_tiles u q
  all_goals
    change h.val = _ at q0; change r.val = _ at q1; change d.val = _ at q2
    pointwise [k0_pay21, k0_pay22, k0_pay23, k0_pay24, k0_pay25, k0_pay26, k0_pay27, k0_pay28, k0_pay29, k0_pay30]
    refine congrArg (fun z : EReal => z * _) ?_
    blk_ext <;> omega

/-- The keys of the first attention, row by row. -/
theorem out_ak (j : Fin 128) :
    out0_8 (F := Ideal) x g w c s (ix2 r j)
      = rope c' s' (fun e => cell x g w r ⟨1024 + (64 * (j.val / 64) + e.val), by omega⟩) ⟨j.val % 64, by omega⟩ := by
  refine Eq.trans ?_ (ak_head x g w T ⟨j.val / 64, by omega⟩ ⟨j.val % 64, by omega⟩)
  unfold out0_8
  canon_tiles u q
  all_goals
    change r.val = _ at q0; change j.val = _ at q1
    blk_ext <;> omega

/-- The keys of the first attention, all rows side by side. -/
theorem out_akt (h : Fin 2) (d : Fin 64) :
    out0_9 (F := Ideal) x g w c s (ix3 h d r)
      = rope c' s' (fun e => cell x g w r ⟨1024 + (64 * h.val + e.val), by omega⟩) d := by
  rw [← ak_head x g w T h d]
  unfold out0_9
  canon_tiles u q
  all_goals
    change h.val = _ at q0; change d.val = _ at q1; change r.val = _ at q2
    pointwise [k0_pay41, k0_pay42, k0_pay43]
    blk_ext <;> omega

/-- The keys of the index scores, row by row. -/
theorem out_ik (d : Fin 64) :
    out0_12 (F := Ideal) x g w c s (ix2 r d)
      = rope c' s' (fun e => cell x g w r ⟨2816 + e.val, by omega⟩) d := by
  rw [← ik_head x g w T d]
  unfold out0_12
  canon_tiles u q
  all_goals
    change r.val = _ at q0; change d.val = _ at q1
    blk_ext <;> omega

/-- The keys of the index scores, all rows side by side. -/
theorem out_ikt (d : Fin 64) :
    out0_13 (F := Ideal) x g w c s (ix2 d r)
      = rope c' s' (fun e => cell x g w r ⟨2816 + e.val, by omega⟩) d := by
  rw [← ikt_head x g w T d]
  unfold out0_13
  canon_tiles u q
  all_goals
    change d.val = _ at q0; change r.val = _ at q1
    blk_ext <;> omega

omit T

variable (c s) (r)

/-- The queries of the second attention. -/
theorem out_bq (h : Fin 8) (d : Fin 64) :
    out0_7 (F := Ideal) x g w c s (ix3 h r d)
      = cell x g w r ⟨1280 + (64 * h.val + d.val), by omega⟩ * (((8 * Real.log 2)⁻¹ : ℝ) : EReal) := by
  rw [← bq_at x g w c s r ⟨64 * h.val + d.val, by omega⟩]
  unfold out0_7 k0_pay75
  canon_tiles u q
  all_goals
    change h.val = _ at q0; change r.val = _ at q1; change d.val = _ at q2
    pointwise [k0_pay32, k0_pay33, k0_pay34, k0_pay35, k0_pay36, k0_pay37, k0_pay38, k0_pay39, scale_eq]
    refine congrArg (fun z : EReal => z * _) ?_
    blk_ext <;> omega

/-- The values of the first attention, row by row. -/
theorem out_av (j : Fin 128) :
    out0_10 (F := Ideal) x g w c s (ix2 r j) = cell x g w r ⟨1152 + j.val, by omega⟩ := by
  rw [← av_at x g w c s r j]
  unfold out0_10
  canon_tiles u q
  all_goals
    change r.val = _ at q0; change j.val = _ at q1
    blk_ext <;> omega

/-- The values of the first attention, row by row, rounded. -/
theorem out_av16 (j : Fin 128) :
    out0_11 (F := Ideal) x g w c s (ix2 r j) = cell x g w r ⟨1152 + j.val, by omega⟩ := by
  rw [← av_at x g w c s r j]
  unfold out0_11
  canon_tiles u q
  all_goals
    change r.val = _ at q0; change j.val = _ at q1
    pointwise [k0_pay45]
    blk_ext <;> omega

/-- The weights of the index scores. -/
theorem out_iw (j : Fin 8) :
    out0_14 (F := Ideal) x g w c s (ix2 r j)
      = cell x g w r ⟨2816 + (64 + j.val), by omega⟩ * Ideal.ofBits .f32 0x3EB504F3#32 := by
  rw [← tail_at x g w c s r ⟨64 + j.val, by omega⟩]
  unfold out0_14
  canon_tiles u q
  all_goals
    change r.val = _ at q0; change j.val = _ at q1
    pointwise [k0_pay63]
    refine congrArg (fun z : EReal => z * _) ?_
    blk_ext <;> omega

/-- The keys of the second attention, row by row. -/
theorem out_bk (j : Fin 512) :
    out0_15 (F := Ideal) x g w c s (ix2 r j) = cell x g w r ⟨1792 + j.val, by omega⟩ := by
  rw [← bk_at x g w c s r j]
  unfold out0_15
  canon_tiles u q
  all_goals
    change r.val = _ at q0; change j.val = _ at q1
    blk_ext <;> omega

/-- The keys of the second attention, all rows side by side. -/
theorem out_bkt (h : Fin 8) (d : Fin 64) :
    out0_16 (F := Ideal) x g w c s (ix3 h d r)
      = cell x g w r ⟨1792 + (64 * h.val + d.val), by omega⟩ := by
  rw [← bk_at x g w c s r ⟨64 * h.val + d.val, by omega⟩]
  unfold out0_16 k0_pay76
  canon_tiles u q
  all_goals
    change h.val = _ at q0; change d.val = _ at q1; change r.val = _ at q2
    pointwise [k0_pay47, k0_pay48, k0_pay49, k0_pay50, k0_pay51, k0_pay52, k0_pay53, k0_pay54, k0_pay55, k0_pay56]
    blk_ext <;> omega

/-- The values of the second attention, row by row. -/
theorem out_bv (j : Fin 512) :
    out0_17 (F := Ideal) x g w c s (ix2 r j) = cell x g w r ⟨2304 + j.val, by omega⟩ := by
  rw [← bv_at x g w c s r j]
  unfold out0_17
  canon_tiles u q
  all_goals
    change r.val = _ at q0; change j.val = _ at q1
    blk_ext <;> omega

/-- The values of the second attention, row by row, rounded. -/
theorem out_bv16 (j : Fin 512) :
    out0_18 (F := Ideal) x g w c s (ix2 r j) = cell x g w r ⟨2304 + j.val, by omega⟩ := by
  rw [← bv_at x g w c s r j]
  unfold out0_18
  canon_tiles u q
  all_goals
    change r.val = _ at q0; change j.val = _ at q1
    pointwise [k0_pay58]
    blk_ext <;> omega

end Cert.SampleProj

end
-- ==== Proof.SampleProjEntry.lean ====
/- WHAT THE GRID POINT OF THE INPUT PROJECTION OVER THE SAMPLE GROUP READS. The one point works on all 256 rows, 32 sequences of 8 positions
   laid one after the other; the weights' columns stand in another order, and the tables of a position are repeated for two heads. -/
module

public import proofs.«01_k».proof.Proof.Gen.Kernel6Ideal.Value
public import proofs.«01_k».proof.Proof.Gen.Reference6Ideal.Read
public import Idealize.ShloMosaic.Lib.Pipeline.ValueKit
public import Idealize.ShloMosaic.Lib.Claim
public import Idealize.ShloMosaic.Lib.StableHlo.ReadAt

@[expose] public section

set_option maxRecDepth 16384
set_option maxHeartbeats 4000000

noncomputable section

namespace Cert.SampleProj

open Idealize.ShloMosaic Idealize.ShloMosaic.TcCoe Idealize.SL.Sem Cert.Kernel6Ideal Cert.Kernel6Ideal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ t.val < 1 :=
  (by decide +kernel : ∀ t : Fin grid0.N, _)

theorem idx_out : ∀ t : Fin cfg0.N, win0_5.index t = ![0, t.val, 0] ∧ win0_6.index t = ![0, t.val, 0] ∧ win0_7.index t = ![0, t.val, 0]
    ∧ win0_8.index t = ![t.val, 0] ∧ win0_9.index t = ![0, 0, t.val] ∧ win0_10.index t = ![t.val, 0] ∧ win0_11.index t = ![t.val, 0]
    ∧ win0_12.index t = ![t.val, 0] ∧ win0_13.index t = ![0, t.val] ∧ win0_14.index t = ![t.val, 0] ∧ win0_15.index t = ![t.val, 0]
    ∧ win0_16.index t = ![0, 0, t.val] ∧ win0_17.index t = ![t.val, 0] ∧ win0_18.index t = ![t.val, 0] :=
  (by decide +kernel : ∀ t : Fin grid0.N, _)

/-! ## The arrays the host code prepares -/

theorem entry_x (n : Fin 256) (j : Fin 1024) :
    (V m c main_v27 : FVec Ideal S256x1024 .f32) (ix2 n j)
      = (m ((c : Thread nD τ).loc main_arg0) : FVec Ideal S32x8x1024 .f32) (ix3 ⟨n.val / 8, by omega⟩ ⟨n.val % 8, by omega⟩ j) := by
  entry_read
  pointwise

theorem entry_g (j : Fin 1024) :
    (V m c main_v43 : FVec Ideal S1x1024 .f32) (ix2 0 j) = (m ((c : Thread nD τ).loc main_arg1) : FVec Ideal S2x1024 .f32) (ix2 0 j) := by
  entry_read
  pointwise

theorem entry_aq (k : Fin 1024) (e : Fin 512) :
    (V m c main_v42 : FVec Ideal S1024x2944 .bf16) (ix2 k ⟨e.val, by omega⟩)
      = (m ((c : Thread nD τ).loc main_arg2) : FVec Ideal S1x1024x2888 .f32) (ix3 0 k ⟨e.val, by omega⟩) := by
  after_reads_simp
  pointwise
  after_reads_at

theorem entry_iq (k : Fin 1024) (e : Fin 512) :
    (V m c main_v42 : FVec Ideal S1024x2944 .bf16) (ix2 k ⟨512 + e.val, by omega⟩)
      = (m ((c : Thread nD τ).loc main_arg2) : FVec Ideal S1x1024x2888 .f32) (ix3 0 k ⟨768 + e.val, by omega⟩) := by
  after_reads_simp
  pointwise
  after_reads_at

theorem entry_ak (k : Fin 1024) (e : Fin 128) :
    (V m c main_v42 : FVec Ideal S1024x2944 .bf16) (ix2 k ⟨1024 + e.val, by omega⟩)
      = (m ((c : Thread nD τ).loc main_arg2) : FVec Ideal S1x1024x2888 .f32) (ix3 0 k ⟨512 + e.val, by omega⟩) := by
  after_reads_simp
  pointwise
  rw [dif_neg (by omega), dif_neg (by omega), dif_pos (by omega)]
  after_reads_at
  blk_ext <;> omega

theorem entry_av (k : Fin 1024) (e : Fin 128) :
    (V m c main_v42 : FVec Ideal S1024x2944 .bf16) (ix2 k ⟨1152 + e.val, by omega⟩)
      = (m ((c : Thread nD τ).loc main_arg2) : FVec Ideal S1x1024x2888 .f32) (ix3 0 k ⟨640 + e.val, by omega⟩) := by
  after_reads_simp
  pointwise
  rw [dif_neg (by omega), dif_neg (by omega), dif_neg (by omega), dif_pos (by omega)]
  after_reads_at
  blk_ext <;> omega

theorem entry_bq (k : Fin 1024) (e : Fin 512) :
    (V m c main_v42 : FVec Ideal S1024x2944 .bf16) (ix2 k ⟨1280 + e.val, by omega⟩)
      = (m ((c : Thread nD τ).loc main_arg2) : FVec Ideal S1x1024x2888 .f32) (ix3 0 k ⟨1352 + e.val, by omega⟩) := by
  after_reads_simp
  pointwise
  rw [dif_neg (by omega), dif_neg (by omega), dif_neg (by omega), dif_neg (by omega), dif_pos (by omega)]
  after_reads_at
  blk_ext <;> omega

theorem entry_bk (k : Fin 1024) (e : Fin 512) :
    (V m c main_v42 : FVec Ideal S1024x2944 .bf16) (ix2 k ⟨1792 + e.val, by omega⟩)
      = (m ((c : Thread nD τ).loc main_arg2) : FVec Ideal S1x1024x2888 .f32) (ix3 0 k ⟨1864 + e.val, by omega⟩) := by
  after_reads_simp
  pointwise
  rw [dif_neg (by omega), dif_neg (by omega), dif_neg (by omega), dif_neg (by omega), dif_neg (by omega), dif_pos (by omega)]
  after_reads_at
  blk_ext <;> omega

theorem entry_bv (k : Fin 1024) (e : Fin 512) :
    (V m c main_v42 : FVec Ideal S1024x2944 .bf16) (ix2 k ⟨2304 + e.val, by omega⟩)
      = (m ((c : Thread nD τ).loc main_arg2) : FVec Ideal S1x1024x2888 .f32) (ix3 0 k ⟨2376 + e.val, by omega⟩) := by
  after_reads_simp
  pointwise
  rw [dif_neg (by omega), dif_neg (by omega), dif_neg (by omega), dif_neg (by omega), dif_neg (by omega), dif_neg (by omega), dif_pos (by
    omega)]
  after_reads_at
  blk_ext <;> omega

theorem entry_ik (k : Fin 1024) (e : Fin 64) :
    (V m c main_v42 : FVec Ideal S1024x2944 .bf16) (ix2 k ⟨2816 + e.val, by omega⟩)
      = (m ((c : Thread nD τ).loc main_arg2) : FVec Ideal S1x1024x2888 .f32) (ix3 0 k ⟨1280 + e.val, by omega⟩) := by
  after_reads_simp
  pointwise
  rw [dif_neg (by omega), dif_neg (by omega), dif_neg (by omega), dif_neg (by omega), dif_neg (by omega), dif_neg (by omega), dif_neg (by
    omega), dif_pos (by omega)]
  after_reads_at
  blk_ext <;> omega

theorem entry_iw (k : Fin 1024) (e : Fin 8) :
    (V m c main_v42 : FVec Ideal S1024x2944 .bf16) (ix2 k ⟨2880 + e.val, by omega⟩)
      = (m ((c : Thread nD τ).loc main_arg2) : FVec Ideal S1x1024x2888 .f32) (ix3 0 k ⟨1344 + e.val, by omega⟩) := by
  after_reads_simp
  pointwise
  rw [dif_neg (by omega), dif_neg (by omega), dif_neg (by omega), dif_neg (by omega), dif_neg (by omega), dif_neg (by omega), dif_neg (by
    omega), dif_neg (by omega), dif_pos (by omega)]
  after_reads_at
  blk_ext <;> omega

theorem entry_cos (n : Fin 256) (l : Fin 128) :
    (V m c main_v23 : FVec Ideal S256x128 .f32) (ix2 n l)
      = Cert.Reference6Ideal.Read.val_main_v42 (F := Ideal) (ix2 ⟨n.val % 8, by omega⟩ ⟨l.val % 32, by omega⟩) := by
  after_reads_simp
  pointwise
  by_cases h0 : l.val < 32
  · rw [dif_pos h0]
    after_reads_simp
    exact congrArg (fun e => Cert.Reference6Ideal.Read.val_main_v42 (F := Ideal) (ix2 ⟨n.val % 8, by omega⟩ e)) (Fin.ext (by dsimp only; omega))
  rw [dif_neg h0]
  by_cases h1 : l.val - 32 < 32
  · rw [dif_pos h1]
    after_reads_simp
    exact congrArg (fun e => Cert.Reference6Ideal.Read.val_main_v42 (F := Ideal) (ix2 ⟨n.val % 8, by omega⟩ e)) (Fin.ext (by dsimp only; omega))
  rw [dif_neg h1]
  by_cases h2 : l.val - 32 - 32 < 32
  · rw [dif_pos h2]
    after_reads_simp
    exact congrArg (fun e => Cert.Reference6Ideal.Read.val_main_v42 (F := Ideal) (ix2 ⟨n.val % 8, by omega⟩ e)) (Fin.ext (by dsimp only; omega))
  rw [dif_neg h2]
  after_reads_simp
  exact congrArg (fun e => Cert.Reference6Ideal.Read.val_main_v42 (F := Ideal) (ix2 ⟨n.val % 8, by omega⟩ e)) (Fin.ext (by dsimp only; omega))

theorem entry_sin (n : Fin 256) (l : Fin 128) :
    (V m c main_v26 : FVec Ideal S256x128 .f32) (ix2 n l)
      = if l.val % 64 < 32 then -Cert.Reference6Ideal.Read.val_main_v44 (F := Ideal) (ix2 ⟨n.val % 8, by omega⟩ ⟨l.val % 32, by omega⟩)
        else Cert.Reference6Ideal.Read.val_main_v44 (F := Ideal) (ix2 ⟨n.val % 8, by omega⟩ ⟨l.val % 32, by omega⟩) := by
  have hn (e : Fin 32) : Host.negf (F := Ideal) (φ := .f32) (Cert.Reference6Ideal.Read.val_main_v44 (F := Ideal)) (ix2 ⟨n.val % 8, by omega⟩ e)
      = -Cert.Reference6Ideal.Read.val_main_v44 (F := Ideal) (ix2 ⟨n.val % 8, by omega⟩ e) := by pointwise
  after_reads_simp
  pointwise
  by_cases h0 : l.val < 32
  · rw [dif_pos h0]
    refine Eq.trans ?_ (if_pos (by omega)).symm
    after_reads_simp
    exact (hn _).trans (congrArg (fun e => -Cert.Reference6Ideal.Read.val_main_v44 (F := Ideal) (ix2 ⟨n.val % 8, by omega⟩ e)) (Fin.ext (by dsimp only; omega)))
  rw [dif_neg h0]
  by_cases h1 : l.val - 32 < 32
  · rw [dif_pos h1]
    refine Eq.trans ?_ (if_neg (by omega)).symm
    after_reads_simp
    exact congrArg (fun e => Cert.Reference6Ideal.Read.val_main_v44 (F := Ideal) (ix2 ⟨n.val % 8, by omega⟩ e)) (Fin.ext (by dsimp only; omega))
  rw [dif_neg h1]
  by_cases h2 : l.val - 32 - 32 < 32
  · rw [dif_pos h2]
    refine Eq.trans ?_ (if_pos (by omega)).symm
    after_reads_simp
    exact (hn _).trans (congrArg (fun e => -Cert.Reference6Ideal.Read.val_main_v44 (F := Ideal) (ix2 ⟨n.val % 8, by omega⟩ e)) (Fin.ext (by dsimp only; omega)))
  rw [dif_neg h2]
  refine Eq.trans ?_ (if_neg (by omega)).symm
  after_reads_simp
  exact congrArg (fun e => Cert.Reference6Ideal.Read.val_main_v44 (F := Ideal) (ix2 ⟨n.val % 8, by omega⟩ e)) (Fin.ext (by dsimp only; omega))

end Cert.SampleProj

end
-- ==== Proof.SampleProjRef.lean ====
/- WHAT THE REFERENCE OF THE INPUT PROJECTION OVER THE SAMPLE GROUP COMPUTES, at an entry of each of its fourteen results. -/
module

public import proofs.«01_k».proof.Proof.Gen.Reference6Ideal.Read
public import proofs.«01_k».proof.Proof.ProjSpec
public import proofs.«01_k».proof.Proof.Value
public import Idealize.ShloMosaic.Lib.Pipeline.ValueKit

@[expose] public section

set_option maxRecDepth 16384

noncomputable section

namespace Cert.SampleProj.Ref

open Idealize.ShloMosaic Idealize.ShloMosaic.TcCoe Idealize.SL.Sem Cert.Reference6Ideal Cert.Reference6Ideal.Read Cert.PostBlock Cert.Proj

variable (x0 : FVec Ideal S32x8x1024 .f32) (x1 : FVec Ideal S2x1024 .f32) (x2 : FVec Ideal S1x1024x2888 .f32)

/-- The projected row at batch `b`, position `t`, column `j` of the weights. -/
def column (b : Fin 32) (t : Fin 8) (j : Fin 2888) : EReal :=
  rowMul (rowNorm (fun i => x0 (ix3 b t i)) (fun i => x1 (ix2 0 i))) (fun k j => x2 (ix3 0 k j)) j

/-- The cosines and the sines of a position. -/
def cosines (t : Fin 8) (e : Fin 32) : EReal := val_main_v42 (F := Ideal) (ix2 t e)

@[inherit_doc cosines]
def sines (t : Fin 8) (e : Fin 32) : EReal := val_main_v44 (F := Ideal) (ix2 t e)

theorem v19_at (b : Fin 32) (t : Fin 8) (j : Fin 2888) : val_main_v19 (F := Ideal) x0 x1 x2 (ix3 b t j) = column x0 x1 x2 b t j := by
  pointwise! [val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_cst, val_main_cst_0,
    val_main_cst_1, column, rowMul, rowNorm, zero_add]

theorem v58_at (b : Fin 32) (t : Fin 8) (h : Fin 8) (d : Fin 64) : val_main_v58 (F := Ideal) x0 x1 x2 (ix4 b t h d)
    = rope (cosines t) (sines t) (fun e => column x0 x1 x2 b t ⟨64 * h.val + e.val, by omega⟩) d := by
  pointwise [val_main_v58, val_main_v57, val_main_v56, val_main_v55, val_main_v54, val_main_v53, val_main_v52, val_main_v51,
    val_main_v50, val_main_v49, val_main_v48, val_main_v47, val_main_v46, val_main_v45, val_main_v43, val_main_v29, val_main_v20, v19_at,
    rope, cosines, sines]
  by_cases hd : d.val < 32
  · rw [dif_pos hd, dif_pos hd]
    refine congrArg₂ (fun u v : EReal => u - v) (congrArg (fun z : EReal => z * _) ?_) (congrArg (fun z : EReal => z * _) ?_) <;>
      exact congrArg (column x0 x1 x2 b t) (Fin.ext (by simp only [Fin.val_zero] <;> omega))
  · rw [dif_neg hd, dif_neg hd]
    refine congrArg₂ (fun u v : EReal => u + v) (congrArg (fun z : EReal => z * _) ?_) (congrArg (fun z : EReal => z * _) ?_) <;>
      exact congrArg (column x0 x1 x2 b t) (Fin.ext (by simp only [Fin.val_zero] <;> omega))

theorem cosines_88 : val_main_v72 (F := Ideal) = val_main_v42 (F := Ideal) := rfl

theorem sines_88 : val_main_v74 (F := Ideal) = val_main_v44 (F := Ideal) := rfl

theorem v88_at (b : Fin 32) (t : Fin 8) (h : Fin 2) (d : Fin 64) : val_main_v88 (F := Ideal) x0 x1 x2 (ix4 b t h d)
    = rope (cosines t) (sines t) (fun e => column x0 x1 x2 b t ⟨512 + (64 * h.val + e.val), by omega⟩) d := by
  pointwise [val_main_v88, val_main_v87, val_main_v86, val_main_v85, val_main_v84, val_main_v83, val_main_v82, val_main_v81,
    val_main_v80, val_main_v79, val_main_v78, val_main_v77, val_main_v76, val_main_v75, val_main_v73, val_main_v59, val_main_v21, v19_at,
    rope, cosines_88, sines_88, cosines, sines]
  by_cases hd : d.val < 32
  · rw [dif_pos hd, dif_pos hd]
    refine congrArg₂ (fun u v : EReal => u - v) (congrArg (fun z : EReal => z * _) ?_) (congrArg (fun z : EReal => z * _) ?_) <;>
      exact congrArg (column x0 x1 x2 b t) (Fin.ext (by simp only [Fin.val_zero] <;> omega))
  · rw [dif_neg hd, dif_neg hd]
    refine congrArg₂ (fun u v : EReal => u + v) (congrArg (fun z : EReal => z * _) ?_) (congrArg (fun z : EReal => z * _) ?_) <;>
      exact congrArg (column x0 x1 x2 b t) (Fin.ext (by simp only [Fin.val_zero] <;> omega))

theorem cosines_119 : val_main_v103 (F := Ideal) = val_main_v42 (F := Ideal) := rfl

theorem sines_119 : val_main_v105 (F := Ideal) = val_main_v44 (F := Ideal) := rfl

theorem v119_at (b : Fin 32) (t : Fin 8) (h : Fin 8) (d : Fin 64) : val_main_v119 (F := Ideal) x0 x1 x2 (ix4 b t h d)
    = rope (cosines t) (sines t) (fun e => column x0 x1 x2 b t ⟨768 + (64 * h.val + e.val), by omega⟩) d := by
  pointwise [val_main_v119, val_main_v118, val_main_v117, val_main_v116, val_main_v115, val_main_v114, val_main_v113, val_main_v112,
    val_main_v111, val_main_v110, val_main_v109, val_main_v108, val_main_v107, val_main_v106, val_main_v104, val_main_v90, val_main_v23,
    v19_at, rope, cosines_119, sines_119, cosines, sines]
  by_cases hd : d.val < 32
  · rw [dif_pos hd, dif_pos hd]
    refine congrArg₂ (fun u v : EReal => u - v) (congrArg (fun z : EReal => z * _) ?_) (congrArg (fun z : EReal => z * _) ?_) <;>
      exact congrArg (column x0 x1 x2 b t) (Fin.ext (by simp only [Fin.val_zero] <;> omega))
  · rw [dif_neg hd, dif_neg hd]
    refine congrArg₂ (fun u v : EReal => u + v) (congrArg (fun z : EReal => z * _) ?_) (congrArg (fun z : EReal => z * _) ?_) <;>
      exact congrArg (column x0 x1 x2 b t) (Fin.ext (by simp only [Fin.val_zero] <;> omega))

theorem cosines_149 : val_main_v133 (F := Ideal) = val_main_v42 (F := Ideal) := rfl

theorem sines_149 : val_main_v135 (F := Ideal) = val_main_v44 (F := Ideal) := rfl

theorem v149_at (b : Fin 32) (t : Fin 8) (d : Fin 64) : val_main_v149 (F := Ideal) x0 x1 x2 (ix4 b t 0 d)
    = rope (cosines t) (sines t) (fun e => column x0 x1 x2 b t ⟨1280 + e.val, by omega⟩) d := by
  pointwise [val_main_v149, val_main_v148, val_main_v147, val_main_v146, val_main_v145, val_main_v144, val_main_v143, val_main_v142,
    val_main_v141, val_main_v140, val_main_v139, val_main_v138, val_main_v137, val_main_v136, val_main_v134, val_main_v120, val_main_v24,
    v19_at, rope, cosines_149, sines_149, cosines, sines]
  by_cases hd : d.val < 32
  · rw [dif_pos hd, dif_pos hd]
    refine congrArg₂ (fun u v : EReal => u - v) (congrArg (fun z : EReal => z * _) ?_) (congrArg (fun z : EReal => z * _) ?_) <;>
      exact congrArg (column x0 x1 x2 b t) (Fin.ext (by simp only [Fin.val_zero] <;> omega))
  · rw [dif_neg hd, dif_neg hd]
    refine congrArg₂ (fun u v : EReal => u + v) (congrArg (fun z : EReal => z * _) ?_) (congrArg (fun z : EReal => z * _) ?_) <;>
      exact congrArg (column x0 x1 x2 b t) (Fin.ext (by simp only [Fin.val_zero] <;> omega))

theorem v157_eq : val_main_v157 (F := Ideal) ix0 = (((8 * Real.log 2)⁻¹ : ℝ) : EReal) := by
  pointwise [val_main_v157, val_main_v156, val_main_cst_11, val_main_cst_12]
  exact Cert.DiffAttn.qscale_eq.trans (by rw [one_div])

/-- A row's column: row `n` is position `n % 8` of batch `n / 8`. -/
abbrev rowColumn (n : Fin 256) (j : Fin 2888) : EReal := column x0 x1 x2 ⟨n.val / 8, by omega⟩ ⟨n.val % 8, by omega⟩ j

/-- The rotary positions of a row. -/
abbrev rowRope (n : Fin 256) (y : Fin 64 → EReal) (d : Fin 64) : EReal :=
  rope (cosines ⟨n.val % 8, by omega⟩) (sines ⟨n.val % 8, by omega⟩) y d

theorem v162_at (h : Fin 8) (n : Fin 256) (d : Fin 64) : val_main_v162 (F := Ideal) x0 x1 x2 (ix3 h n d)
    = rowRope n (fun e => rowColumn x0 x1 x2 n ⟨64 * h.val + e.val, by omega⟩) d * (((8 * Real.log 2)⁻¹ : ℝ) : EReal) := by
  pointwise [val_main_v162, val_main_v161, val_main_v160, val_main_v159, val_main_v158, v157_eq, v58_at]

theorem v167_at (h : Fin 8) (n : Fin 256) (d : Fin 64) : val_main_v167 (F := Ideal) x0 x1 x2 (ix3 h n d)
    = rowRope n (fun e => rowColumn x0 x1 x2 n ⟨768 + (64 * h.val + e.val), by omega⟩) d * Ideal.ofBits .f32 0x3E000000#32 := by
  pointwise [val_main_v167, val_main_v166, val_main_v165, val_main_v164, val_main_v163, val_main_cst_13, v119_at]

theorem v172_at (h : Fin 8) (n : Fin 256) (d : Fin 64) : val_main_v172 (F := Ideal) x0 x1 x2 (ix3 h n d)
    = rowColumn x0 x1 x2 n ⟨1352 + (64 * h.val + d.val), by omega⟩ * (((8 * Real.log 2)⁻¹ : ℝ) : EReal) := by
  pointwise [val_main_v172, val_main_v171, val_main_v170, val_main_v169, val_main_v168, val_main_v153, val_main_v26, v157_eq, v19_at]
  refine congrArg (fun z : EReal => z * _) ?_
  exact congrArg (column x0 x1 x2 _ _) (Fin.ext (by dsimp only; omega))

theorem v173_at (n : Fin 256) (j : Fin 128) : val_main_v173 (F := Ideal) x0 x1 x2 (ix2 n j)
    = rowRope n (fun e => rowColumn x0 x1 x2 n ⟨512 + (64 * (j.val / 64) + e.val), by omega⟩) ⟨j.val % 64, by omega⟩ := by
  have e : val_main_v173 (F := Ideal) x0 x1 x2 (ix2 n j) = val_main_v88 (F := Ideal) x0 x1 x2
      (ix4 ⟨n.val / 8, by omega⟩ ⟨n.val % 8, by omega⟩ ⟨j.val / 64, by omega⟩ ⟨j.val % 64, by omega⟩) := by
    pointwise [val_main_v173]
  exact e.trans (v88_at x0 x1 x2 _ _ _ _)

theorem v176_at (h : Fin 2) (d : Fin 64) (n : Fin 256) : val_main_v176 (F := Ideal) x0 x1 x2 (ix3 h d n)
    = rowRope n (fun e => rowColumn x0 x1 x2 n ⟨512 + (64 * h.val + e.val), by omega⟩) d := by
  pointwise [val_main_v176, val_main_v175, val_main_v174, v88_at]

theorem v177_at (n : Fin 256) (j : Fin 128) : val_main_v177 (F := Ideal) x0 x1 x2 (ix2 n j)
    = rowColumn x0 x1 x2 n ⟨640 + j.val, by omega⟩ := by
  pointwise [val_main_v177, val_main_v89, val_main_v22, v19_at]

theorem v179_at (n : Fin 256) (j : Fin 128) : val_main_v179 (F := Ideal) x0 x1 x2 (ix2 n j)
    = rowColumn x0 x1 x2 n ⟨640 + j.val, by omega⟩ := by
  pointwise [val_main_v179, val_main_v178, val_main_v89, val_main_v22, v19_at]

theorem v180_at (n : Fin 256) (d : Fin 64) : val_main_v180 (F := Ideal) x0 x1 x2 (ix2 n d)
    = rowRope n (fun e => rowColumn x0 x1 x2 n ⟨1280 + e.val, by omega⟩) d := by
  pointwise [val_main_v180, val_main_v150, v149_at]

theorem v183_at (d : Fin 64) (n : Fin 256) : val_main_v183 (F := Ideal) x0 x1 x2 (ix2 d n)
    = rowRope n (fun e => rowColumn x0 x1 x2 n ⟨1280 + e.val, by omega⟩) d := by
  pointwise [val_main_v183, val_main_v182, val_main_v181, val_main_v150, v149_at]

theorem v184_at (n : Fin 256) (j : Fin 8) : val_main_v184 (F := Ideal) x0 x1 x2 (ix2 n j)
    = rowColumn x0 x1 x2 n ⟨1344 + j.val, by omega⟩ * Ideal.ofBits .f32 0x3EB504F3#32 := by
  pointwise [val_main_v184, val_main_v152, val_main_v151, val_main_v25, val_main_cst_10, v19_at]

theorem v185_at (n : Fin 256) (j : Fin 512) : val_main_v185 (F := Ideal) x0 x1 x2 (ix2 n j)
    = rowColumn x0 x1 x2 n ⟨1864 + j.val, by omega⟩ := by
  pointwise [val_main_v185, val_main_v154, val_main_v27, v19_at]

theorem v188_at (h : Fin 8) (d : Fin 64) (n : Fin 256) : val_main_v188 (F := Ideal) x0 x1 x2 (ix3 h d n)
    = rowColumn x0 x1 x2 n ⟨1864 + (64 * h.val + d.val), by omega⟩ := by
  pointwise [val_main_v188, val_main_v187, val_main_v186, val_main_v154, val_main_v27, v19_at]
  exact congrArg (column x0 x1 x2 _ _) (Fin.ext (by dsimp only; omega))

theorem v189_at (n : Fin 256) (j : Fin 512) : val_main_v189 (F := Ideal) x0 x1 x2 (ix2 n j)
    = rowColumn x0 x1 x2 n ⟨2376 + j.val, by omega⟩ := by
  pointwise [val_main_v189, val_main_v155, val_main_v28, v19_at]

theorem v191_at (n : Fin 256) (j : Fin 512) : val_main_v191 (F := Ideal) x0 x1 x2 (ix2 n j)
    = rowColumn x0 x1 x2 n ⟨2376 + j.val, by omega⟩ := by
  pointwise [val_main_v191, val_main_v190, val_main_v155, val_main_v28, v19_at]

end Cert.SampleProj.Ref

end
-- ==== Proof.SampleProjValue.lean ====
/- THE BLOCKS OF A GRID POINT OF THE INPUT PROJECTION OVER THE SAMPLE GROUP AND ITS FOURTEEN RESULT ARRAYS. -/
module

public import proofs.«01_k».proof.Proof.SampleProjBody
public import proofs.«01_k».proof.Proof.SampleProjEntry
public import proofs.«01_k».proof.Proof.SampleProjRef

@[expose] public section

set_option maxRecDepth 16384

noncomputable section

namespace Cert.SampleProj

open Idealize.ShloMosaic Idealize.ShloMosaic.TcCoe Idealize.SL.Sem Cert.Kernel6Ideal Cert.Kernel6Ideal.Gen Cert.PostBlock Cert.Proj

variable (m : (ℓ : Loc nD τ sig) → Buf (Elt Ideal) ℓ) (c : Dev nD)

/-- The launch contents of the arguments. -/
abbrev argX : FVec Ideal S32x8x1024 .f32 := m ((c : Thread nD τ).loc main_arg0)

@[inherit_doc argX]
abbrev argG : FVec Ideal S2x1024 .f32 := m ((c : Thread nD τ).loc main_arg1)

@[inherit_doc argX]
abbrev argW : FVec Ideal S1x1024x2888 .f32 := m ((c : Thread nD τ).loc main_arg2)

/-! ## The blocks of a grid point -/

/-- The row that row `r` of point `t` is, its batch, and its position. -/
abbrev rowAt (t : Fin cfg0.N) (r : Fin 256) : Fin 256 := ⟨256 * t.val + r.val, by have := (idx t).2.2.2.2.2; omega⟩

@[inherit_doc rowAt]
abbrev batchAt (t : Fin cfg0.N) (r : Fin 256) : Fin 32 := ⟨(rowAt t r).val / 8, by omega⟩

@[inherit_doc rowAt]
abbrev posAt (t : Fin cfg0.N) (r : Fin 256) : Fin 8 := ⟨(rowAt t r).val % 8, by omega⟩

theorem blk_x (t : Fin cfg0.N) (r : Fin 256) (j : Fin 1024) :
    (iblk m c 0 t : FVec Ideal S256x1024 .f32) (ix2 r j) = argX m c (ix3 (batchAt t r) (posAt t r) j) := by
  refine Eq.trans ?_ (entry_x m c (rowAt t r) j)
  blk_ext [iblk, idx t]

theorem blk_g (t : Fin cfg0.N) (j : Fin 1024) : (iblk m c 1 t : FVec Ideal S1x1024 .f32) (ix2 0 j) = argG m c (ix2 0 j) := by
  refine Eq.trans ?_ (entry_g m c j)
  blk_ext [iblk, idx t]

theorem blk_w (t : Fin cfg0.N) (k : Fin 1024) (j : Fin 2944) :
    (iblk m c 2 t : FVec Ideal S1024x2944 .bf16) (ix2 k j) = (V m c main_v42 : FVec Ideal S1024x2944 .bf16) (ix2 k j) := by
  blk_ext [iblk, idx t]

theorem blk_cos (t : Fin cfg0.N) (r : Fin 256) (l : Fin 128) :
    (iblk m c 3 t : FVec Ideal S256x128 .f32) (ix2 r l) = (V m c main_v23 : FVec Ideal S256x128 .f32) (ix2 (rowAt t r) l) := by
  blk_ext [iblk, idx t]

theorem blk_sin (t : Fin cfg0.N) (r : Fin 256) (l : Fin 128) :
    (iblk m c 4 t : FVec Ideal S256x128 .f32) (ix2 r l) = (V m c main_v26 : FVec Ideal S256x128 .f32) (ix2 (rowAt t r) l) := by
  blk_ext [iblk, idx t]

/-- THE TABLES OF A ROW are the reference's cosines and sines of its position. -/
theorem tables (t : Fin cfg0.N) (r : Fin 256) :
    Tables (iblk m c 3 t) (iblk m c 4 t) r (Ref.cosines (posAt t r)) (Ref.sines (posAt t r)) :=
  ⟨fun l => (blk_cos m c t r l).trans (entry_cos m c (rowAt t r) l), fun l => (blk_sin m c t r l).trans (entry_sin m c (rowAt t r) l)⟩

/-! ## The projected columns -/

/-- A row's columns in the reference, at the arguments' launch contents. -/
abbrev refColumn (n : Fin 256) (j : Fin 2888) : EReal := Ref.rowColumn (argX m c) (argG m c) (argW m c) n j

/-- A column of the kernel's weights that is column `j'` of the reference's gives the reference's projected column. -/
theorem cell_eq (t : Fin cfg0.N) (r : Fin 256) (j : Fin 2944) (j' : Fin 2888)
    (h : ∀ k, (V m c main_v42 : FVec Ideal S1024x2944 .bf16) (ix2 k j) = argW m c (ix3 0 k j')) :
    cell (iblk m c 0 t) (iblk m c 1 t) (iblk m c 2 t) r j = refColumn m c (rowAt t r) j' := by
  unfold cell refColumn Ref.rowColumn Ref.column
  exact rowMul_congr (congrArg₂ rowNorm (funext fun i => blk_x m c t r i) (funext fun i => blk_g m c t i)) fun k =>
    (blk_w m c t k j).trans (h k)

theorem cell_aq (t : Fin cfg0.N) (r : Fin 256) (e : Fin 512) :
    cell (iblk m c 0 t) (iblk m c 1 t) (iblk m c 2 t) r ⟨e.val, by omega⟩ = refColumn m c (rowAt t r) ⟨e.val, by omega⟩ :=
  cell_eq m c t r _ _ fun k => entry_aq m c k e

theorem cell_iq (t : Fin cfg0.N) (r : Fin 256) (e : Fin 512) :
    cell (iblk m c 0 t) (iblk m c 1 t) (iblk m c 2 t) r ⟨512 + e.val, by omega⟩ = refColumn m c (rowAt t r) ⟨768 + e.val, by omega⟩ :=
  cell_eq m c t r _ _ fun k => entry_iq m c k e

theorem cell_ak (t : Fin cfg0.N) (r : Fin 256) (e : Fin 128) :
    cell (iblk m c 0 t) (iblk m c 1 t) (iblk m c 2 t) r ⟨1024 + e.val, by omega⟩ = refColumn m c (rowAt t r) ⟨512 + e.val, by omega⟩ :=
  cell_eq m c t r _ _ fun k => entry_ak m c k e

theorem cell_av (t : Fin cfg0.N) (r : Fin 256) (e : Fin 128) :
    cell (iblk m c 0 t) (iblk m c 1 t) (iblk m c 2 t) r ⟨1152 + e.val, by omega⟩ = refColumn m c (rowAt t r) ⟨640 + e.val, by omega⟩ :=
  cell_eq m c t r _ _ fun k => entry_av m c k e

theorem cell_bq (t : Fin cfg0.N) (r : Fin 256) (e : Fin 512) :
    cell (iblk m c 0 t) (iblk m c 1 t) (iblk m c 2 t) r ⟨1280 + e.val, by omega⟩ = refColumn m c (rowAt t r) ⟨1352 + e.val, by omega⟩ :=
  cell_eq m c t r _ _ fun k => entry_bq m c k e

theorem cell_bk (t : Fin cfg0.N) (r : Fin 256) (e : Fin 512) :
    cell (iblk m c 0 t) (iblk m c 1 t) (iblk m c 2 t) r ⟨1792 + e.val, by omega⟩ = refColumn m c (rowAt t r) ⟨1864 + e.val, by omega⟩ :=
  cell_eq m c t r _ _ fun k => entry_bk m c k e

theorem cell_bv (t : Fin cfg0.N) (r : Fin 256) (e : Fin 512) :
    cell (iblk m c 0 t) (iblk m c 1 t) (iblk m c 2 t) r ⟨2304 + e.val, by omega⟩ = refColumn m c (rowAt t r) ⟨2376 + e.val, by omega⟩ :=
  cell_eq m c t r _ _ fun k => entry_bv m c k e

theorem cell_ik (t : Fin cfg0.N) (r : Fin 256) (e : Fin 64) :
    cell (iblk m c 0 t) (iblk m c 1 t) (iblk m c 2 t) r ⟨2816 + e.val, by omega⟩ = refColumn m c (rowAt t r) ⟨1280 + e.val, by omega⟩ :=
  cell_eq m c t r _ _ fun k => entry_ik m c k e

theorem cell_iw (t : Fin cfg0.N) (r : Fin 256) (e : Fin 8) :
    cell (iblk m c 0 t) (iblk m c 1 t) (iblk m c 2 t) r ⟨2880 + e.val, by omega⟩ = refColumn m c (rowAt t r) ⟨1344 + e.val, by omega⟩ :=
  cell_eq m c t r _ _ fun k => entry_iw m c k e

/-! ## The results -/

theorem point_5 (t : Fin cfg0.N) (h : Fin 8) (r : Fin 256) (d : Fin 64) :
    out0_5 (F := Ideal) (iblk m c 0 t) (iblk m c 1 t) (iblk m c 2 t) (iblk m c 3 t) (iblk m c 4 t) (ix3 h r d)
      = Cert.Reference6Ideal.Read.val_main_v162 (F := Ideal) (argX m c) (argG m c) (argW m c) (ix3 h (rowAt t r) d) :=
  (out_aq _ _ _ (tables m c t r) h d).trans (Eq.trans (congrArg (fun z : EReal => z * _) (congrArg (fun f => rope _ _ f _) (funext fun e => cell_aq m c t r ⟨64 * h.val + e.val, by omega⟩)))
    (Ref.v162_at _ _ _ h (rowAt t r) d).symm)

/-- The attention queries. -/
theorem kernel_eq_5 : (dats m 0 c).arrAt 5 (cfgs 0).N = Cert.Reference6Ideal.Read.val_main_v162 (F := Ideal) (argX m c) (argG m c) (argW m c) := by
  refine (dats m 0 c).arrAt_eq_of_covers 5 _ (by decide +kernel) fun t _ y => ?_
  blk_simp
  rw [after0_5]
  have y0 : (y 0).val < 8 := (y 0).isLt
  have y1 : (y 1).val < 256 := (y 1).isLt
  have y2 : (y 2).val < 64 := (y 2).isLt
  have hy : (ix3 ⟨(y 0).val, y0⟩ ⟨(y 1).val, y1⟩ ⟨(y 2).val, y2⟩ : S8x256x64.Idx) = y := by
    funext z
    match z with
    | ⟨0, _⟩ => rfl
    | ⟨1, _⟩ => rfl
    | ⟨2, _⟩ => rfl
  refine ((congrArg (out0_5 (F := Ideal) _ _ _ _ _) hy.symm).trans (point_5 m c t ⟨(y 0).val, y0⟩ ⟨(y 1).val, y1⟩ ⟨(y 2).val, y2⟩)).trans ?_
  refine congrArg (Cert.Reference6Ideal.Read.val_main_v162 (F := Ideal) _ _ _) ?_
  blk_ext [idx_out t]

theorem point_6 (t : Fin cfg0.N) (h : Fin 8) (r : Fin 256) (d : Fin 64) :
    out0_6 (F := Ideal) (iblk m c 0 t) (iblk m c 1 t) (iblk m c 2 t) (iblk m c 3 t) (iblk m c 4 t) (ix3 h r d)
      = Cert.Reference6Ideal.Read.val_main_v167 (F := Ideal) (argX m c) (argG m c) (argW m c) (ix3 h (rowAt t r) d) :=
  (out_iq _ _ _ (tables m c t r) h d).trans (Eq.trans (congrArg (fun z : EReal => z * _) (congrArg (fun f => rope _ _ f _) (funext fun e => cell_iq m c t r ⟨64 * h.val + e.val, by omega⟩)))
    (Ref.v167_at _ _ _ h (rowAt t r) d).symm)

/-- The index queries. -/
theorem kernel_eq_6 : (dats m 0 c).arrAt 6 (cfgs 0).N = Cert.Reference6Ideal.Read.val_main_v167 (F := Ideal) (argX m c) (argG m c) (argW m c) := by
  refine (dats m 0 c).arrAt_eq_of_covers 6 _ (by decide +kernel) fun t _ y => ?_
  blk_simp
  rw [after0_6]
  have y0 : (y 0).val < 8 := (y 0).isLt
  have y1 : (y 1).val < 256 := (y 1).isLt
  have y2 : (y 2).val < 64 := (y 2).isLt
  have hy : (ix3 ⟨(y 0).val, y0⟩ ⟨(y 1).val, y1⟩ ⟨(y 2).val, y2⟩ : S8x256x64.Idx) = y := by
    funext z
    match z with
    | ⟨0, _⟩ => rfl
    | ⟨1, _⟩ => rfl
    | ⟨2, _⟩ => rfl
  refine ((congrArg (out0_6 (F := Ideal) _ _ _ _ _) hy.symm).trans (point_6 m c t ⟨(y 0).val, y0⟩ ⟨(y 1).val, y1⟩ ⟨(y 2).val, y2⟩)).trans ?_
  refine congrArg (Cert.Reference6Ideal.Read.val_main_v167 (F := Ideal) _ _ _) ?_
  blk_ext [idx_out t]

theorem point_7 (t : Fin cfg0.N) (h : Fin 8) (r : Fin 256) (d : Fin 64) :
    out0_7 (F := Ideal) (iblk m c 0 t) (iblk m c 1 t) (iblk m c 2 t) (iblk m c 3 t) (iblk m c 4 t) (ix3 h r d)
      = Cert.Reference6Ideal.Read.val_main_v172 (F := Ideal) (argX m c) (argG m c) (argW m c) (ix3 h (rowAt t r) d) :=
  (out_bq _ _ _ _ _ r h d).trans (Eq.trans (congrArg (fun z : EReal => z * _) (cell_bq m c t r ⟨64 * h.val + d.val, by omega⟩))
    (Ref.v172_at _ _ _ h (rowAt t r) d).symm)

/-- The window queries. -/
theorem kernel_eq_7 : (dats m 0 c).arrAt 7 (cfgs 0).N = Cert.Reference6Ideal.Read.val_main_v172 (F := Ideal) (argX m c) (argG m c) (argW m c) := by
  refine (dats m 0 c).arrAt_eq_of_covers 7 _ (by decide +kernel) fun t _ y => ?_
  blk_simp
  rw [after0_7]
  have y0 : (y 0).val < 8 := (y 0).isLt
  have y1 : (y 1).val < 256 := (y 1).isLt
  have y2 : (y 2).val < 64 := (y 2).isLt
  have hy : (ix3 ⟨(y 0).val, y0⟩ ⟨(y 1).val, y1⟩ ⟨(y 2).val, y2⟩ : S8x256x64.Idx) = y := by
    funext z
    match z with
    | ⟨0, _⟩ => rfl
    | ⟨1, _⟩ => rfl
    | ⟨2, _⟩ => rfl
  refine ((congrArg (out0_7 (F := Ideal) _ _ _ _ _) hy.symm).trans (point_7 m c t ⟨(y 0).val, y0⟩ ⟨(y 1).val, y1⟩ ⟨(y 2).val, y2⟩)).trans ?_
  refine congrArg (Cert.Reference6Ideal.Read.val_main_v172 (F := Ideal) _ _ _) ?_
  blk_ext [idx_out t]

theorem point_8 (t : Fin cfg0.N) (r : Fin 256) (j : Fin 128) :
    out0_8 (F := Ideal) (iblk m c 0 t) (iblk m c 1 t) (iblk m c 2 t) (iblk m c 3 t) (iblk m c 4 t) (ix2 r j)
      = Cert.Reference6Ideal.Read.val_main_v173 (F := Ideal) (argX m c) (argG m c) (argW m c) (ix2 (rowAt t r) j) :=
  (out_ak _ _ _ (tables m c t r) j).trans (Eq.trans (congrArg (fun f => rope _ _ f _) (funext fun e => cell_ak m c t r ⟨64 * (j.val / 64) + e.val, by omega⟩))
    (Ref.v173_at _ _ _ (rowAt t r) j).symm)

/-- The attention keys, row by row. -/
theorem kernel_eq_8 : (dats m 0 c).arrAt 8 (cfgs 0).N = Cert.Reference6Ideal.Read.val_main_v173 (F := Ideal) (argX m c) (argG m c) (argW m c) := by
  refine (dats m 0 c).arrAt_eq_of_covers 8 _ (by decide +kernel) fun t _ y => ?_
  blk_simp
  rw [after0_8]
  have y0 : (y 0).val < 256 := (y 0).isLt
  have y1 : (y 1).val < 128 := (y 1).isLt
  have hy : (ix2 ⟨(y 0).val, y0⟩ ⟨(y 1).val, y1⟩ : S256x128.Idx) = y := by
    funext z
    match z with
    | ⟨0, _⟩ => rfl
    | ⟨1, _⟩ => rfl
  refine ((congrArg (out0_8 (F := Ideal) _ _ _ _ _) hy.symm).trans (point_8 m c t ⟨(y 0).val, y0⟩ ⟨(y 1).val, y1⟩)).trans ?_
  refine congrArg (Cert.Reference6Ideal.Read.val_main_v173 (F := Ideal) _ _ _) ?_
  blk_ext [idx_out t]

theorem point_9 (t : Fin cfg0.N) (h : Fin 2) (d : Fin 64) (r : Fin 256) :
    out0_9 (F := Ideal) (iblk m c 0 t) (iblk m c 1 t) (iblk m c 2 t) (iblk m c 3 t) (iblk m c 4 t) (ix3 h d r)
      = Cert.Reference6Ideal.Read.val_main_v176 (F := Ideal) (argX m c) (argG m c) (argW m c) (ix3 h d (rowAt t r)) :=
  (out_akt _ _ _ (tables m c t r) h d).trans (Eq.trans (congrArg (fun f => rope _ _ f _) (funext fun e => cell_ak m c t r ⟨64 * h.val + e.val, by omega⟩))
    (Ref.v176_at _ _ _ h d (rowAt t r)).symm)

/-- The attention keys, transposed. -/
theorem kernel_eq_9 : (dats m 0 c).arrAt 9 (cfgs 0).N = Cert.Reference6Ideal.Read.val_main_v176 (F := Ideal) (argX m c) (argG m c) (argW m c) := by
  refine (dats m 0 c).arrAt_eq_of_covers 9 _ (by decide +kernel) fun t _ y => ?_
  blk_simp
  rw [after0_9]
  have y0 : (y 0).val < 2 := (y 0).isLt
  have y1 : (y 1).val < 64 := (y 1).isLt
  have y2 : (y 2).val < 256 := (y 2).isLt
  have hy : (ix3 ⟨(y 0).val, y0⟩ ⟨(y 1).val, y1⟩ ⟨(y 2).val, y2⟩ : S2x64x256.Idx) = y := by
    funext z
    match z with
    | ⟨0, _⟩ => rfl
    | ⟨1, _⟩ => rfl
    | ⟨2, _⟩ => rfl
  refine ((congrArg (out0_9 (F := Ideal) _ _ _ _ _) hy.symm).trans (point_9 m c t ⟨(y 0).val, y0⟩ ⟨(y 1).val, y1⟩ ⟨(y 2).val, y2⟩)).trans ?_
  refine congrArg (Cert.Reference6Ideal.Read.val_main_v176 (F := Ideal) _ _ _) ?_
  blk_ext [idx_out t]

theorem point_10 (t : Fin cfg0.N) (r : Fin 256) (j : Fin 128) :
    out0_10 (F := Ideal) (iblk m c 0 t) (iblk m c 1 t) (iblk m c 2 t) (iblk m c 3 t) (iblk m c 4 t) (ix2 r j)
      = Cert.Reference6Ideal.Read.val_main_v177 (F := Ideal) (argX m c) (argG m c) (argW m c) (ix2 (rowAt t r) j) :=
  (out_av _ _ _ _ _ r j).trans (Eq.trans (cell_av m c t r j)
    (Ref.v177_at _ _ _ (rowAt t r) j).symm)

/-- The attention values, row by row. -/
theorem kernel_eq_10 : (dats m 0 c).arrAt 10 (cfgs 0).N = Cert.Reference6Ideal.Read.val_main_v177 (F := Ideal) (argX m c) (argG m c) (argW m c) := by
  refine (dats m 0 c).arrAt_eq_of_covers 10 _ (by decide +kernel) fun t _ y => ?_
  blk_simp
  rw [after0_10]
  have y0 : (y 0).val < 256 := (y 0).isLt
  have y1 : (y 1).val < 128 := (y 1).isLt
  have hy : (ix2 ⟨(y 0).val, y0⟩ ⟨(y 1).val, y1⟩ : S256x128.Idx) = y := by
    funext z
    match z with
    | ⟨0, _⟩ => rfl
    | ⟨1, _⟩ => rfl
  refine ((congrArg (out0_10 (F := Ideal) _ _ _ _ _) hy.symm).trans (point_10 m c t ⟨(y 0).val, y0⟩ ⟨(y 1).val, y1⟩)).trans ?_
  refine congrArg (Cert.Reference6Ideal.Read.val_main_v177 (F := Ideal) _ _ _) ?_
  blk_ext [idx_out t]

theorem point_11 (t : Fin cfg0.N) (r : Fin 256) (j : Fin 128) :
    out0_11 (F := Ideal) (iblk m c 0 t) (iblk m c 1 t) (iblk m c 2 t) (iblk m c 3 t) (iblk m c 4 t) (ix2 r j)
      = Cert.Reference6Ideal.Read.val_main_v179 (F := Ideal) (argX m c) (argG m c) (argW m c) (ix2 (rowAt t r) j) :=
  (out_av16 _ _ _ _ _ r j).trans (Eq.trans (cell_av m c t r j)
    (Ref.v179_at _ _ _ (rowAt t r) j).symm)

/-- The attention values, row by row, rounded. -/
theorem kernel_eq_11 : (dats m 0 c).arrAt 11 (cfgs 0).N = Cert.Reference6Ideal.Read.val_main_v179 (F := Ideal) (argX m c) (argG m c) (argW m c) := by
  refine (dats m 0 c).arrAt_eq_of_covers 11 _ (by decide +kernel) fun t _ y => ?_
  blk_simp
  rw [after0_11]
  have y0 : (y 0).val < 256 := (y 0).isLt
  have y1 : (y 1).val < 128 := (y 1).isLt
  have hy : (ix2 ⟨(y 0).val, y0⟩ ⟨(y 1).val, y1⟩ : S256x128.Idx) = y := by
    funext z
    match z with
    | ⟨0, _⟩ => rfl
    | ⟨1, _⟩ => rfl
  refine ((congrArg (out0_11 (F := Ideal) _ _ _ _ _) hy.symm).trans (point_11 m c t ⟨(y 0).val, y0⟩ ⟨(y 1).val, y1⟩)).trans ?_
  refine congrArg (Cert.Reference6Ideal.Read.val_main_v179 (F := Ideal) _ _ _) ?_
  blk_ext [idx_out t]

theorem point_12 (t : Fin cfg0.N) (r : Fin 256) (j : Fin 64) :
    out0_12 (F := Ideal) (iblk m c 0 t) (iblk m c 1 t) (iblk m c 2 t) (iblk m c 3 t) (iblk m c 4 t) (ix2 r j)
      = Cert.Reference6Ideal.Read.val_main_v180 (F := Ideal) (argX m c) (argG m c) (argW m c) (ix2 (rowAt t r) j) :=
  (out_ik _ _ _ (tables m c t r) j).trans (Eq.trans (congrArg (fun f => rope _ _ f _) (funext fun e => cell_ik m c t r e))
    (Ref.v180_at _ _ _ (rowAt t r) j).symm)

/-- The index keys, row by row. -/
theorem kernel_eq_12 : (dats m 0 c).arrAt 12 (cfgs 0).N = Cert.Reference6Ideal.Read.val_main_v180 (F := Ideal) (argX m c) (argG m c) (argW m c) := by
  refine (dats m 0 c).arrAt_eq_of_covers 12 _ (by decide +kernel) fun t _ y => ?_
  blk_simp
  rw [after0_12]
  have y0 : (y 0).val < 256 := (y 0).isLt
  have y1 : (y 1).val < 64 := (y 1).isLt
  have hy : (ix2 ⟨(y 0).val, y0⟩ ⟨(y 1).val, y1⟩ : S256x64.Idx) = y := by
    funext z
    match z with
    | ⟨0, _⟩ => rfl
    | ⟨1, _⟩ => rfl
  refine ((congrArg (out0_12 (F := Ideal) _ _ _ _ _) hy.symm).trans (point_12 m c t ⟨(y 0).val, y0⟩ ⟨(y 1).val, y1⟩)).trans ?_
  refine congrArg (Cert.Reference6Ideal.Read.val_main_v180 (F := Ideal) _ _ _) ?_
  blk_ext [idx_out t]

theorem point_13 (t : Fin cfg0.N) (d : Fin 64) (r : Fin 256) :
    out0_13 (F := Ideal) (iblk m c 0 t) (iblk m c 1 t) (iblk m c 2 t) (iblk m c 3 t) (iblk m c 4 t) (ix2 d r)
      = Cert.Reference6Ideal.Read.val_main_v183 (F := Ideal) (argX m c) (argG m c) (argW m c) (ix2 d (rowAt t r)) :=
  (out_ikt _ _ _ (tables m c t r) d).trans (Eq.trans (congrArg (fun f => rope _ _ f _) (funext fun e => cell_ik m c t r e))
    (Ref.v183_at _ _ _ d (rowAt t r)).symm)

/-- The index keys, transposed. -/
theorem kernel_eq_13 : (dats m 0 c).arrAt 13 (cfgs 0).N = Cert.Reference6Ideal.Read.val_main_v183 (F := Ideal) (argX m c) (argG m c) (argW m c) := by
  refine (dats m 0 c).arrAt_eq_of_covers 13 _ (by decide +kernel) fun t _ y => ?_
  blk_simp
  rw [after0_13]
  have y0 : (y 0).val < 64 := (y 0).isLt
  have y1 : (y 1).val < 256 := (y 1).isLt
  have hy : (ix2 ⟨(y 0).val, y0⟩ ⟨(y 1).val, y1⟩ : S64x256.Idx) = y := by
    funext z
    match z with
    | ⟨0, _⟩ => rfl
    | ⟨1, _⟩ => rfl
  refine ((congrArg (out0_13 (F := Ideal) _ _ _ _ _) hy.symm).trans (point_13 m c t ⟨(y 0).val, y0⟩ ⟨(y 1).val, y1⟩)).trans ?_
  refine congrArg (Cert.Reference6Ideal.Read.val_main_v183 (F := Ideal) _ _ _) ?_
  blk_ext [idx_out t]

theorem point_14 (t : Fin cfg0.N) (r : Fin 256) (j : Fin 8) :
    out0_14 (F := Ideal) (iblk m c 0 t) (iblk m c 1 t) (iblk m c 2 t) (iblk m c 3 t) (iblk m c 4 t) (ix2 r j)
      = Cert.Reference6Ideal.Read.val_main_v184 (F := Ideal) (argX m c) (argG m c) (argW m c) (ix2 (rowAt t r) j) :=
  (out_iw _ _ _ _ _ r j).trans (Eq.trans (congrArg (fun z : EReal => z * _) ((congrArg (cell _ _ _ r) (Fin.ext (by dsimp only; omega))).trans (cell_iw m c t r j)))
    (Ref.v184_at _ _ _ (rowAt t r) j).symm)

/-- The index weights. -/
theorem kernel_eq_14 : (dats m 0 c).arrAt 14 (cfgs 0).N = Cert.Reference6Ideal.Read.val_main_v184 (F := Ideal) (argX m c) (argG m c) (argW m c) := by
  refine (dats m 0 c).arrAt_eq_of_covers 14 _ (by decide +kernel) fun t _ y => ?_
  blk_simp
  rw [after0_14]
  have y0 : (y 0).val < 256 := (y 0).isLt
  have y1 : (y 1).val < 8 := (y 1).isLt
  have hy : (ix2 ⟨(y 0).val, y0⟩ ⟨(y 1).val, y1⟩ : S256x8.Idx) = y := by
    funext z
    match z with
    | ⟨0, _⟩ => rfl
    | ⟨1, _⟩ => rfl
  refine ((congrArg (out0_14 (F := Ideal) _ _ _ _ _) hy.symm).trans (point_14 m c t ⟨(y 0).val, y0⟩ ⟨(y 1).val, y1⟩)).trans ?_
  refine congrArg (Cert.Reference6Ideal.Read.val_main_v184 (F := Ideal) _ _ _) ?_
  blk_ext [idx_out t]

theorem point_15 (t : Fin cfg0.N) (r : Fin 256) (j : Fin 512) :
    out0_15 (F := Ideal) (iblk m c 0 t) (iblk m c 1 t) (iblk m c 2 t) (iblk m c 3 t) (iblk m c 4 t) (ix2 r j)
      = Cert.Reference6Ideal.Read.val_main_v185 (F := Ideal) (argX m c) (argG m c) (argW m c) (ix2 (rowAt t r) j) :=
  (out_bk _ _ _ _ _ r j).trans (Eq.trans (cell_bk m c t r j)
    (Ref.v185_at _ _ _ (rowAt t r) j).symm)

/-- The window keys, row by row. -/
theorem kernel_eq_15 : (dats m 0 c).arrAt 15 (cfgs 0).N = Cert.Reference6Ideal.Read.val_main_v185 (F := Ideal) (argX m c) (argG m c) (argW m c) := by
  refine (dats m 0 c).arrAt_eq_of_covers 15 _ (by decide +kernel) fun t _ y => ?_
  blk_simp
  rw [after0_15]
  have y0 : (y 0).val < 256 := (y 0).isLt
  have y1 : (y 1).val < 512 := (y 1).isLt
  have hy : (ix2 ⟨(y 0).val, y0⟩ ⟨(y 1).val, y1⟩ : S256x512.Idx) = y := by
    funext z
    match z with
    | ⟨0, _⟩ => rfl
    | ⟨1, _⟩ => rfl
  refine ((congrArg (out0_15 (F := Ideal) _ _ _ _ _) hy.symm).trans (point_15 m c t ⟨(y 0).val, y0⟩ ⟨(y 1).val, y1⟩)).trans ?_
  refine congrArg (Cert.Reference6Ideal.Read.val_main_v185 (F := Ideal) _ _ _) ?_
  blk_ext [idx_out t]

theorem point_16 (t : Fin cfg0.N) (h : Fin 8) (d : Fin 64) (r : Fin 256) :
    out0_16 (F := Ideal) (iblk m c 0 t) (iblk m c 1 t) (iblk m c 2 t) (iblk m c 3 t) (iblk m c 4 t) (ix3 h d r)
      = Cert.Reference6Ideal.Read.val_main_v188 (F := Ideal) (argX m c) (argG m c) (argW m c) (ix3 h d (rowAt t r)) :=
  (out_bkt _ _ _ _ _ r h d).trans (Eq.trans (cell_bk m c t r ⟨64 * h.val + d.val, by omega⟩)
    (Ref.v188_at _ _ _ h d (rowAt t r)).symm)

/-- The window keys, transposed. -/
theorem kernel_eq_16 : (dats m 0 c).arrAt 16 (cfgs 0).N = Cert.Reference6Ideal.Read.val_main_v188 (F := Ideal) (argX m c) (argG m c) (argW m c) := by
  refine (dats m 0 c).arrAt_eq_of_covers 16 _ (by decide +kernel) fun t _ y => ?_
  blk_simp
  rw [after0_16]
  have y0 : (y 0).val < 8 := (y 0).isLt
  have y1 : (y 1).val < 64 := (y 1).isLt
  have y2 : (y 2).val < 256 := (y 2).isLt
  have hy : (ix3 ⟨(y 0).val, y0⟩ ⟨(y 1).val, y1⟩ ⟨(y 2).val, y2⟩ : S8x64x256.Idx) = y := by
    funext z
    match z with
    | ⟨0, _⟩ => rfl
    | ⟨1, _⟩ => rfl
    | ⟨2, _⟩ => rfl
  refine ((congrArg (out0_16 (F := Ideal) _ _ _ _ _) hy.symm).trans (point_16 m c t ⟨(y 0).val, y0⟩ ⟨(y 1).val, y1⟩ ⟨(y 2).val, y2⟩)).trans ?_
  refine congrArg (Cert.Reference6Ideal.Read.val_main_v188 (F := Ideal) _ _ _) ?_
  blk_ext [idx_out t]

theorem point_17 (t : Fin cfg0.N) (r : Fin 256) (j : Fin 512) :
    out0_17 (F := Ideal) (iblk m c 0 t) (iblk m c 1 t) (iblk m c 2 t) (iblk m c 3 t) (iblk m c 4 t) (ix2 r j)
      = Cert.Reference6Ideal.Read.val_main_v189 (F := Ideal) (argX m c) (argG m c) (argW m c) (ix2 (rowAt t r) j) :=
  (out_bv _ _ _ _ _ r j).trans (Eq.trans (cell_bv m c t r j)
    (Ref.v189_at _ _ _ (rowAt t r) j).symm)

/-- The window values, row by row. -/
theorem kernel_eq_17 : (dats m 0 c).arrAt 17 (cfgs 0).N = Cert.Reference6Ideal.Read.val_main_v189 (F := Ideal) (argX m c) (argG m c) (argW m c) := by
  refine (dats m 0 c).arrAt_eq_of_covers 17 _ (by decide +kernel) fun t _ y => ?_
  blk_simp
  rw [after0_17]
  have y0 : (y 0).val < 256 := (y 0).isLt
  have y1 : (y 1).val < 512 := (y 1).isLt
  have hy : (ix2 ⟨(y 0).val, y0⟩ ⟨(y 1).val, y1⟩ : S256x512.Idx) = y := by
    funext z
    match z with
    | ⟨0, _⟩ => rfl
    | ⟨1, _⟩ => rfl
  refine ((congrArg (out0_17 (F := Ideal) _ _ _ _ _) hy.symm).trans (point_17 m c t ⟨(y 0).val, y0⟩ ⟨(y 1).val, y1⟩)).trans ?_
  refine congrArg (Cert.Reference6Ideal.Read.val_main_v189 (F := Ideal) _ _ _) ?_
  blk_ext [idx_out t]

theorem point_18 (t : Fin cfg0.N) (r : Fin 256) (j : Fin 512) :
    out0_18 (F := Ideal) (iblk m c 0 t) (iblk m c 1 t) (iblk m c 2 t) (iblk m c 3 t) (iblk m c 4 t) (ix2 r j)
      = Cert.Reference6Ideal.Read.val_main_v191 (F := Ideal) (argX m c) (argG m c) (argW m c) (ix2 (rowAt t r) j) :=
  (out_bv16 _ _ _ _ _ r j).trans (Eq.trans (cell_bv m c t r j)
    (Ref.v191_at _ _ _ (rowAt t r) j).symm)

/-- The window values, row by row, rounded. -/
theorem kernel_eq_18 : (dats m 0 c).arrAt 18 (cfgs 0).N = Cert.Reference6Ideal.Read.val_main_v191 (F := Ideal) (argX m c) (argG m c) (argW m c) := by
  refine (dats m 0 c).arrAt_eq_of_covers 18 _ (by decide +kernel) fun t _ y => ?_
  blk_simp
  rw [after0_18]
  have y0 : (y 0).val < 256 := (y 0).isLt
  have y1 : (y 1).val < 512 := (y 1).isLt
  have hy : (ix2 ⟨(y 0).val, y0⟩ ⟨(y 1).val, y1⟩ : S256x512.Idx) = y := by
    funext z
    match z with
    | ⟨0, _⟩ => rfl
    | ⟨1, _⟩ => rfl
  refine ((congrArg (out0_18 (F := Ideal) _ _ _ _ _) hy.symm).trans (point_18 m c t ⟨(y 0).val, y0⟩ ⟨(y 1).val, y1⟩)).trans ?_
  refine congrArg (Cert.Reference6Ideal.Read.val_main_v191 (F := Ideal) _ _ _) ?_
  blk_ext [idx_out t]

end Cert.SampleProj

end
-- ==== Proof.RowsRunIdeal.lean ====
/- THE RUN OF THE SECOND LAYER'S INPUT PROJECTION OVER THE PROMPT, in exact numbers. The keys and the values of a position are stored
   with a stride of four rows, the four column blocks of a position on four rows that follow one another. Here: what the body leaves in each of
   its five results, that it does so, and the run of the whole program. -/
module

public import proofs.«01_k».proof.Proof.Gen.Kernel7Ideal.Frame
public import proofs.«01_k».proof.Proof.Gen.Kernel7Ideal.Skeleton
public import Idealize.ShloMosaic.Lib.Claim
public import Idealize.ShloMosaic.Lib.Pipeline.FrameBody
public import Idealize.ShloMosaic.Lib.Tactic
public import Idealize.ShloMosaic.Lib.Pipeline.ValueKit

@[expose] public section

set_option maxRecDepth 16384

noncomputable section

namespace Cert.Kernel7Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel7Ideal Cert.Kernel7Ideal.Gen

variable {F : FTy → Type} [FloatOps F] [Named F]

/-! ## The values of the body, by what they are computed from -/

/-- Row `a`'s block of 64 columns among the queries. -/
abbrev headQ (a : ℕ) (h : ∀ b, ![a, 0, 0] b + S1x512x64.size b ≤ S16x512x64.size b) : Rect S16x512x64 := Rect.unit ![a, 0, 0] S1x512x64.size h

/-- Head `a` among the transposed keys. -/
abbrev headK (a : ℕ) (h : ∀ b, ![a, 0, 0] b + S1x64x512.size b ≤ S8x64x512.size b) : Rect S8x64x512 := Rect.unit ![a, 0, 0] S1x64x512.size h

/-- Every fourth row from row `a` on. -/
abbrev fourth0 : Rect S2048x128 := ⟨⟨![0, 0], S512x128.size, ![4, 1], inb_S2048x128_S512x128_0_0_s_4_1⟩, spos_4_1⟩
@[inherit_doc fourth0]
abbrev fourth1 : Rect S2048x128 := ⟨⟨![1, 0], S512x128.size, ![4, 1], inb_S2048x128_S512x128_1_0_s_4_1⟩, spos_4_1⟩
@[inherit_doc fourth0]
abbrev fourth2 : Rect S2048x128 := ⟨⟨![2, 0], S512x128.size, ![4, 1], inb_S2048x128_S512x128_2_0_s_4_1⟩, spos_4_1⟩
@[inherit_doc fourth0]
abbrev fourth3 : Rect S2048x128 := ⟨⟨![3, 0], S512x128.size, ![4, 1], inb_S2048x128_S512x128_3_0_s_4_1⟩, spos_4_1⟩

/-- The four blocks of 512 columns of the weights. -/
abbrev wide0 (w : Vec F S1024x2048 .bf16) : Vec F S1024x512 .bf16 := View.ld w (Rect.unit (s := S1024x2048) ![0, 0] S1024x512.size inb_S1024x2048_S1024x512_0_0)
@[inherit_doc wide0]
abbrev wide1 (w : Vec F S1024x2048 .bf16) : Vec F S1024x512 .bf16 := View.ld w (Rect.unit (s := S1024x2048) ![0, 512] S1024x512.size inb_S1024x2048_S1024x512_0_512)
@[inherit_doc wide0]
abbrev wide2 (w : Vec F S1024x2048 .bf16) : Vec F S1024x512 .bf16 := View.ld w (Rect.unit (s := S1024x2048) ![0, 1024] S1024x512.size inb_S1024x2048_S1024x512_0_1024)
@[inherit_doc wide0]
abbrev wide3 (w : Vec F S1024x2048 .bf16) : Vec F S1024x512 .bf16 := View.ld w (Rect.unit (s := S1024x2048) ![0, 1536] S1024x512.size inb_S1024x2048_S1024x512_0_1536)

/-- The rows and the norm's weights as the body reads them. -/
abbrev rowsOf (x : Vec F S512x1024 .f32) : Vec F S512x1024 .f32 := View.ld x (Rect.unit (s := S512x1024) ![0, 0] S512x1024.size inb_S512x1024_S512x1024_0_0)
@[inherit_doc rowsOf]
abbrev gainOf (g : Vec F S1x1024 .f32) : Vec F S1x1024 .f32 := View.ld g (Rect.unit (s := S1x1024) ![0, 0] S1x1024.size inb_S1x1024_S1x1024_0_0)
/-- A table as the body reads it. -/
abbrev tableOf (c : Vec F S512x128 .f32) : Vec F S512x128 .f32 := View.ld c (Rect.unit (s := S512x128) ![0, 0] S512x128.size inb_S512x128_S512x128_0_0)

section Values

variable {α : Type} (x : Vec F S512x1024 .f32) (g : Vec F S1x1024 .f32) (w : Vec F S1024x2048 .bf16) (c s : Vec F S512x128 .f32)

/-- The normed rows. -/
def normed : FVec F S512x1024 .bf16 := k0_pay2 (rowsOf x) (gainOf g)

/-- A value of the first 512 columns of queries. -/
def ofQ1 (f : FVec F S512x128 .f32 → FVec F S512x128 .f32 → IVec S512x128 1 → FVec F S512x512 .f32 → FVec F S512x128 .f32 → FVec F S512x128 .f32
    → FVec F S512x128 .f32 → FVec F S512x128 .f32 → α) : α :=
  f (k0_pay3 (tableOf c)) (k0_pay4 (tableOf s)) k0_pay5 (k0_pay6 (rowsOf x) (gainOf g) (wide0 w))
    (k0_pay7 (rowsOf x) (gainOf g) (tableOf c) (tableOf s) (wide0 w)) (k0_pay8 (rowsOf x) (gainOf g) (wide0 w))
    (k0_pay9 (rowsOf x) (gainOf g) (wide0 w)) (k0_pay10 (rowsOf x) (gainOf g) (wide0 w))

/-- A value of another 512 columns `w'`, rotated. -/
def ofWide (w' : Vec F S1024x512 .bf16) (f : FVec F S512x1024 .bf16 → FVec F S512x128 .f32 → FVec F S512x128 .f32 → IVec S512x128 1 → Vec F S1024x512 .bf16 → α) : α :=
  f (normed x g) (k0_pay3 (tableOf c)) (k0_pay4 (tableOf s)) k0_pay5 w'

/-- A value of the keys. -/
def ofK (f : FVec F S512x128 .f32 → FVec F S512x128 .f32 → FVec F S512x128 .f32 → FVec F S512x128 .f32 → α) : α :=
  f (ofWide x g c s (wide2 w) k0_pay33) (ofWide x g c s (wide2 w) k0_pay34) (ofWide x g c s (wide2 w) k0_pay35) (ofWide x g c s (wide2 w) k0_pay36)

/-- All 512 columns of a kind: the queries' two halves, the keys, the keys transposed, and the values. -/
def q1 : FVec F S512x512 .f32 := ofQ1 x g w c s k0_pay11
@[inherit_doc q1]
def q2 : FVec F S512x512 .f32 := ofWide x g c s (wide1 w) k0_pay21
@[inherit_doc q1]
def keys : FVec F S512x512 .f32 := ofK x g w c s k0_pay37
@[inherit_doc q1]
def keysT : FVec F S512x512 .f32 := ofK x g w c s k0_pay42
@[inherit_doc q1]
def vals : FVec F S512x512 .f32 := k0_pay52 (normed x g) (wide3 w)

/-! ## What the body leaves in its results, the newest store first -/

/-- The queries. -/
def out0_5 : Vec F S16x512x64 .bf16 :=
  View.canon [⟨headQ 15 inb_S16x512x64_S1x512x64_15_0_0, k0_pay31 (q2 x g w c s)⟩,
    ⟨headQ 13 inb_S16x512x64_S1x512x64_13_0_0, k0_pay30 (k0_pay29 (q2 x g w c s))⟩,
    ⟨headQ 14 inb_S16x512x64_S1x512x64_14_0_0, k0_pay28 (q2 x g w c s)⟩,
    ⟨headQ 12 inb_S16x512x64_S1x512x64_12_0_0, k0_pay27 (q2 x g w c s)⟩,
    ⟨headQ 11 inb_S16x512x64_S1x512x64_11_0_0, k0_pay26 (q2 x g w c s)⟩,
    ⟨headQ 9 inb_S16x512x64_S1x512x64_9_0_0, k0_pay25 (q2 x g w c s)⟩,
    ⟨headQ 10 inb_S16x512x64_S1x512x64_10_0_0, k0_pay24 (ofWide x g c s (wide1 w) k0_pay23)⟩,
    ⟨headQ 8 inb_S16x512x64_S1x512x64_8_0_0, ofWide x g c s (wide1 w) k0_pay22⟩,
    ⟨headQ 7 inb_S16x512x64_S1x512x64_7_0_0, k0_pay20 (q1 x g w c s)⟩,
    ⟨headQ 5 inb_S16x512x64_S1x512x64_5_0_0, k0_pay19 (q1 x g w c s)⟩,
    ⟨headQ 6 inb_S16x512x64_S1x512x64_6_0_0, k0_pay18 (q1 x g w c s)⟩,
    ⟨headQ 4 inb_S16x512x64_S1x512x64_4_0_0, k0_pay17 (q1 x g w c s)⟩,
    ⟨headQ 3 inb_S16x512x64_S1x512x64_3_0_0, k0_pay16 (ofQ1 x g w c s k0_pay15)⟩,
    ⟨headQ 1 inb_S16x512x64_S1x512x64_1_0_0, ofQ1 x g w c s k0_pay14⟩,
    ⟨headQ 2 inb_S16x512x64_S1x512x64_2_0_0, ofQ1 x g w c s k0_pay13⟩,
    ⟨headQ 0 inb_S16x512x64_S1x512x64_0_0_0, ofQ1 x g w c s k0_pay12⟩]

/-- The keys, four rows to a position. -/
def out0_6 : Vec F S2048x128 .f32 :=
  View.canon [⟨fourth3, ofK x g w c s k0_pay41⟩, ⟨fourth2, ofK x g w c s k0_pay40⟩, ⟨fourth1, ofK x g w c s k0_pay39⟩, ⟨fourth0, ofK x g w c s k0_pay38⟩]

/-- The keys, transposed. -/
def out0_7 : Vec F S8x64x512 .bf16 :=
  View.canon [⟨headK 7 inb_S8x64x512_S1x64x512_7_0_0, k0_pay51 (keysT x g w c s)⟩,
    ⟨headK 6 inb_S8x64x512_S1x64x512_6_0_0, k0_pay50 (keysT x g w c s)⟩,
    ⟨headK 5 inb_S8x64x512_S1x64x512_5_0_0, k0_pay49 (keysT x g w c s)⟩,
    ⟨headK 4 inb_S8x64x512_S1x64x512_4_0_0, k0_pay48 (ofK x g w c s k0_pay47)⟩,
    ⟨headK 3 inb_S8x64x512_S1x64x512_3_0_0, ofK x g w c s k0_pay46⟩,
    ⟨headK 2 inb_S8x64x512_S1x64x512_2_0_0, ofK x g w c s k0_pay45⟩,
    ⟨headK 1 inb_S8x64x512_S1x64x512_1_0_0, ofK x g w c s k0_pay44⟩,
    ⟨headK 0 inb_S8x64x512_S1x64x512_0_0_0, ofK x g w c s k0_pay43⟩]

/-- The values, four rows to a position. -/
def out0_8 : Vec F S2048x128 .f32 :=
  View.canon [⟨fourth3, k0_pay56 (normed x g) (wide3 w)⟩, ⟨fourth2, k0_pay55 (normed x g) (wide3 w)⟩, ⟨fourth1, k0_pay54 (normed x g) (wide3 w)⟩,
    ⟨fourth0, k0_pay53 (normed x g) (wide3 w)⟩]

/-- The values, rounded. -/
def out0_9 : Vec F S512x512 .bf16 := View.canon [⟨Rect.unit (s := S512x512) ![0, 0] S512x512.size inb_S512x512_S512x512_0_0, k0_pay1 (vals x g w)⟩]

end Values

/-- FOUR STORES WITH A STRIDE OF FOUR ROWS COVER ALL ROWS, whatever they store. -/
theorem fourths_cover (p0 p1 p2 p3 : Vec F S512x128 .f32) (y : S2048x128.Idx) :
    ∃ p ∈ ([⟨fourth3, p3⟩, ⟨fourth2, p2⟩, ⟨fourth1, p1⟩, ⟨fourth0, p0⟩] : List (View.Piece (Elt F) S2048x128 .f32)), y ∈ p.1.set := by
  have hr : (y 0).val < 2048 := (y 0).isLt
  have hl : (y 1).val < 128 := (y 1).isLt
  have hm : (y 0).val % 4 < 4 := Nat.mod_lt _ (by norm_num)
  have key (r : Rect S2048x128) (a : ℕ) (ha : (y 0).val % 4 = a) (h0 : r.off 0 = a) (h1 : r.off 1 = 0) (s0 : r.stride 0 = 4) (s1 : r.stride 1 = 1)
      (z0 : r.size 0 = 512) (z1 : r.size 1 = 128) : y ∈ r.set := by
    rw [LoadRect.mem_set]
    intro b
    match b with
    | ⟨0, _⟩ => exact ⟨(y 0).val / 4, lt_of_lt_of_eq (by omega) z0.symm, by
        show (y 0).val = r.off 0 + r.stride 0 * ((y 0).val / 4)
        rw [h0, s0]; omega⟩
    | ⟨1, _⟩ => exact ⟨(y 1).val, lt_of_lt_of_eq hl z1.symm, by
        show (y 1).val = r.off 1 + r.stride 1 * (y 1).val
        rw [h1, s1]; omega⟩
  rcases (by omega : (y 0).val % 4 = 3 ∨ (y 0).val % 4 = 2 ∨ (y 0).val % 4 = 1 ∨ (y 0).val % 4 = 0) with h | h | h | h
  · exact ⟨_, List.mem_cons_self, key fourth3 3 h rfl rfl rfl rfl rfl rfl⟩
  · exact ⟨_, List.mem_cons_of_mem _ List.mem_cons_self, key fourth2 2 h rfl rfl rfl rfl rfl rfl⟩
  · exact ⟨_, List.mem_cons_of_mem _ (List.mem_cons_of_mem _ List.mem_cons_self), key fourth1 1 h rfl rfl rfl rfl rfl rfl⟩
  · exact ⟨_, List.mem_cons_of_mem _ (List.mem_cons_of_mem _ (List.mem_cons_of_mem _ List.mem_cons_self)), key fourth0 0 h rfl rfl rfl rfl rfl rfl⟩

/-! ## The body does so -/

set_option maxHeartbeats 2000000 in
/-- THE BODY, from its five inputs and five buffers that hold anything, leaves the inputs as they were and the results in the buffers. -/
theorem body_runs (c : Dev nD) (E : Set ℕ) (i : grid0.Coords) (a1 : Memref sig .tc .vmem S512x1024 .f32) (h1 : a1.IsWhole) (a2 : Memref sig .tc .vmem S1x1024 .f32) (h2 : a2.IsWhole) (a3 : Memref sig .tc .vmem S1024x2048 .bf16) (h3 : a3.IsWhole) (a4 : Memref sig .tc .vmem S512x128 .f32) (h4 : a4.IsWhole) (a5 : Memref sig .tc .vmem S512x128 .f32) (h5 : a5.IsWhole) (a6 : Memref sig .tc .vmem S16x512x64 .bf16) (h6 : a6.IsWhole) (a7 : Memref sig .tc .vmem S2048x128 .f32) (h7 : a7.IsWhole) (a8 : Memref sig .tc .vmem S8x64x512 .bf16) (h8 : a8.IsWhole) (a9 : Memref sig .tc .vmem S2048x128 .f32) (h9 : a9.IsWhole) (a10 : Memref sig .tc .vmem S512x512 .bf16) (h10 : a10.IsWhole)
    (x : Vec F S512x1024 .f32) (g : Vec F S1x1024 .f32) (w : Vec F S1024x2048 .bf16) (tc ts : Vec F S512x128 .f32)
    (Q : PUnit → sProp (MT nD τ sig Unit (Elt F) ℕ (UR sig nD τ) ℕ)) :
    iprop(owns (c : Thread nD τ) a1 fullShare x ∗ owns (c : Thread nD τ) a2 fullShare g ∗ owns (c : Thread nD τ) a3 fullShare w ∗ owns (c : Thread nD τ) a4 fullShare tc ∗ owns (c : Thread nD τ) a5 fullShare ts ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d) ∗ (∃ d, owns (c : Thread nD τ) a10 fullShare d)
        ∗ (iprop(owns (c : Thread nD τ) a1 fullShare x ∗ owns (c : Thread nD τ) a2 fullShare g ∗ owns (c : Thread nD τ) a3 fullShare w ∗ owns (c : Thread nD τ) a4 fullShare tc ∗ owns (c : Thread nD τ) a5 fullShare ts ∗ owns (c : Thread nD τ) a6 fullShare (out0_5 x g w tc ts) ∗ owns (c : Thread nD τ) a7 fullShare (out0_6 x g w tc ts) ∗ owns (c : Thread nD τ) a8 fullShare (out0_7 x g w tc ts) ∗ owns (c : Thread nD τ) a9 fullShare (out0_8 x g w) ∗ owns (c : Thread nD τ) a10 fullShare (out0_9 x g w)) -∗ Q ⟨⟩))
      ⊢ wp frame (wpE (defs₀ (F := F)) Variants.none c none) E (cc0_in_proj_c i a1 h1 a2 h2 a3 h3 a4 h4 a5 h5 a6 h6 a7 h7 a8 h8 a9 h9 a10 h10) Q := by
  simp only [cc0_in_proj_c_eq_skeleton]
  unfold cc0_in_proj_c_skel
  simp only [k0_part1_eq_skeleton, k0_part2_eq_skeleton, k0_part3_eq_skeleton, k0_part4_eq_skeleton, k0_part5_eq_skeleton, k0_part6_eq_skeleton,
    k0_part7_eq_skeleton, k0_part8_eq_skeleton]
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, ⟨%d10, %f10, -, H10⟩, HQ⟩
  subst e1 e2 e3 e4 e5
  sl_exec
  sl_step
  iapply HQ
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ ?_).trans ?_
    · exact (fun y => View.cover_of_tiled (s := S16x512x64) _ S1x512x64.size (by rfl) y)
    · rfl
  isplitl [H7]
  · iexists _; isplitr
    swap; · iexact H7
    ipureintro
    refine (View.read_writes_eq_canon _ _ _ ?_).trans ?_
    · exact (fourths_cover _ _ _ _)
    · rfl
  isplitl [H8]
  · iexists _; isplitr
    swap; · iexact H8
    ipureintro
    refine (View.read_writes_eq_canon _ _ _ ?_).trans ?_
    · exact (fun y => View.cover_of_tiled (s := S8x64x512) _ S1x64x512.size (by rfl) y)
    · rfl
  isplitl [H9]
  · iexists _; isplitr
    swap; · iexact H9
    ipureintro
    refine (View.read_writes_eq_canon _ _ _ ?_).trans ?_
    · exact (fourths_cover _ _ _ _)
    · rfl
  iexists _; isplitr
  swap; · iexact H10
  ipureintro
  refine (View.read_writes_eq_canon _ _ _ ?_).trans ?_
  · exact (fun y => View.cover_of_tiled _ S512x512.size (by rfl) y)
  · rfl

/-! ## The run -/

variable (m : (ℓ : Loc nD τ sig) → Buf (Elt F) ℓ) (ρ : Dev nD → PrngReg)

/-- The data of the run: the arrays as they are entered, and what every window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
    | ⟨7, _⟩ => out0_7 (iblk m c 0 t) (iblk m c 1 t) (iblk m c 2 t) (iblk m c 3 t) (iblk m c 4 t)
    | ⟨8, _⟩ => out0_8 (iblk m c 0 t) (iblk m c 1 t) (iblk m c 2 t)
    | ⟨9, _⟩ => out0_9 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]
theorem after0_7 (c : Dev nD) (t : Fin cfg0.N) : (dats m 0 c).after 7 t = out0_7 (iblk m c 0 t) (iblk m c 1 t) (iblk m c 2 t) (iblk m c 3 t) (iblk m c 4 t) := by dsimp only [dats]
theorem after0_8 (c : Dev nD) (t : Fin cfg0.N) : (dats m 0 c).after 8 t = out0_8 (iblk m c 0 t) (iblk m c 1 t) (iblk m c 2 t) := by dsimp only [dats]
theorem after0_9 (c : Dev nD) (t : Fin cfg0.N) : (dats m 0 c).after 9 t = out0_9 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What a point starts from, and what it leaves. -/
def atStart (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

@[inherit_doc atStart]
def atEnd (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- A POINT leaves what it should. -/
theorem point_runs (c : Dev nD) (t : Fin cfg0.N) :
    atStart m c t ⊢ wp frame (wpE (defs₀ (F := F)) Variants.none c none) Set.univ (bodyAt0 t) (fun _ => atEnd m c t) := by
  unfold atStart atEnd bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_runs c Set.univ (grid0.coords t) _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (point_runs m c t) rfl .rfl fun _ => .rfl

set_option backward.isDefEq.respectTransparency.types false in
set_option maxHeartbeats 800000 in
/-- THE PROGRAM'S RUN: it ends, with every array as the data say and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

@[inherit_doc run_main_quiescent]
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel7Ideal.Run

end
-- ==== Proof.RowsBody.lean ====
/- WHAT THE BODY OF THE SECOND LAYER'S INPUT PROJECTION OVER THE PROMPT COMPUTES, at an entry. -/
module

public import proofs.«01_k».proof.Proof.RowsRunIdeal
public import proofs.«01_k».proof.Proof.ProjSpec
public import Idealize.ShloMosaic.Lib.Pipeline.ValueKit

@[expose] public section

set_option maxRecDepth 16384

noncomputable section

namespace Cert.Rows

open Idealize.ShloMosaic Idealize.ShloMosaic.TcCoe Idealize.SL.Sem Cert.Kernel7Ideal Cert.Kernel7Ideal.Gen Cert.Kernel7Ideal.Run Cert.PostBlock Cert.Proj

/-- A row of a block. -/
abbrev rowOf {s : FTy} {n p : ℕ} (x : FVec Ideal ⟨2, ![n, p]⟩ s) (r : Fin n) (j : Fin p) : EReal := x (ix2 r j)

variable (x : FVec Ideal S512x1024 .f32) (g : FVec Ideal S1x1024 .f32) (w : FVec Ideal S1024x2048 .bf16) (c s : FVec Ideal S512x128 .f32)

/-- The projected row `r`, at column `j` of the weights. -/
def cell (r : Fin 512) (j : Fin 2048) : EReal := rowMul (rowNorm (rowOf x r) (rowOf g 0)) (rowOf w) j

/-! ## The values the body computes -/

theorem norm_at (r : Fin 512) (j : Fin 1024) : normed (F := Ideal) x g (ix2 r j) = rowNorm (rowOf x r) (rowOf g 0) j := by
  pointwise! [normed, rowsOf, gainOf, k0_pay2, rowNorm]

theorem mask_at (r : Fin 512) (l : Fin 128) (a b : EReal) :
    Scalar.select (k0_pay5 (ix2 r l)) a b = if l.val % 64 < 32 then a else b := by
  pointwise [k0_pay5]
  rw [first_half]
  by_cases h : l.val % 64 < 32
  · simp only [h, if_true]
    rfl
  · simp only [h, if_false]
    rfl

theorem q1_at (a : Fin 4) (r : Fin 512) (l : Fin 128) :
    q1 (F := Ideal) x g w c s (ix2 r ⟨128 * a.val + l.val, by omega⟩)
      = laneRope (rowOf c r) (rowOf s r) (fun e => cell x g w r ⟨(128 * a.val + e.val), by omega⟩) l := by
  match a with
  | 0 =>
    pointwise [q1, ofQ1, k0_pay11, k0_pay3, k0_pay4, k0_pay6, k0_pay7, k0_pay8, k0_pay9, k0_pay10, k0_pay2, mask_at, wide0, wide1, wide2, rowsOf, gainOf, tableOf, laneRope, cell, rowMul,
      rowNorm]
    simp only [up_at, down_at]
  | 1 =>
    pointwise [q1, ofQ1, k0_pay11, k0_pay3, k0_pay4, k0_pay6, k0_pay7, k0_pay8, k0_pay9, k0_pay10, k0_pay2, mask_at, wide0, wide1, wide2, rowsOf, gainOf, tableOf, laneRope, cell, rowMul,
      rowNorm]
    simp only [up_at, down_at]
  | 2 =>
    pointwise [q1, ofQ1, k0_pay11, k0_pay3, k0_pay4, k0_pay6, k0_pay7, k0_pay8, k0_pay9, k0_pay10, k0_pay2, mask_at, wide0, wide1, wide2, rowsOf, gainOf, tableOf, laneRope, cell, rowMul,
      rowNorm]
    rw [dif_neg (by omega), dif_neg (by omega), dif_pos (by omega)]
    simp only [show 256 + l.val - 128 - 128 = l.val by omega]
    simp only [up_at, down_at]
  | 3 =>
    pointwise [q1, ofQ1, k0_pay11, k0_pay3, k0_pay4, k0_pay6, k0_pay7, k0_pay8, k0_pay9, k0_pay10, k0_pay2, mask_at, wide0, wide1, wide2, rowsOf, gainOf, tableOf, laneRope, cell, rowMul,
      rowNorm]
    rw [dif_neg (by omega), dif_neg (by omega), dif_neg (by omega)]
    simp only [show 384 + l.val - 128 - 128 - 128 = l.val by omega]
    simp only [up_at, down_at]

theorem q2_at (a : Fin 4) (r : Fin 512) (l : Fin 128) :
    q2 (F := Ideal) x g w c s (ix2 r ⟨128 * a.val + l.val, by omega⟩)
      = laneRope (rowOf c r) (rowOf s r) (fun e => cell x g w r ⟨512 + (128 * a.val + e.val), by omega⟩) l := by
  match a with
  | 0 =>
    pointwise [q2, ofWide, k0_pay21, k0_pay3, k0_pay4, norm_at, mask_at, wide0, wide1, wide2, rowsOf, gainOf, tableOf, laneRope, cell, rowMul]
    simp only [up_at, down_at]
  | 1 =>
    pointwise [q2, ofWide, k0_pay21, k0_pay3, k0_pay4, norm_at, mask_at, wide0, wide1, wide2, rowsOf, gainOf, tableOf, laneRope, cell, rowMul]
    simp only [up_at, down_at]
  | 2 =>
    pointwise [q2, ofWide, k0_pay21, k0_pay3, k0_pay4, norm_at, mask_at, wide0, wide1, wide2, rowsOf, gainOf, tableOf, laneRope, cell, rowMul]
    rw [dif_neg (by omega), dif_neg (by omega), dif_pos (by omega)]
    simp only [show 256 + l.val - 128 - 128 = l.val by omega]
    simp only [up_at, down_at]
  | 3 =>
    pointwise [q2, ofWide, k0_pay21, k0_pay3, k0_pay4, norm_at, mask_at, wide0, wide1, wide2, rowsOf, gainOf, tableOf, laneRope, cell, rowMul]
    rw [dif_neg (by omega), dif_neg (by omega), dif_neg (by omega)]
    simp only [show 384 + l.val - 128 - 128 - 128 = l.val by omega]
    simp only [up_at, down_at]

theorem k_at (a : Fin 4) (r : Fin 512) (l : Fin 128) :
    keys (F := Ideal) x g w c s (ix2 r ⟨128 * a.val + l.val, by omega⟩)
      = laneRope (rowOf c r) (rowOf s r) (fun e => cell x g w r ⟨1024 + (128 * a.val + e.val), by omega⟩) l := by
  match a with
  | 0 =>
    pointwise [keys, ofK, ofWide, k0_pay37, k0_pay32, k0_pay33, k0_pay34, k0_pay35, k0_pay36, k0_pay3, k0_pay4, norm_at, mask_at, wide2, tableOf, laneRope, cell,
      rowMul]
    simp only [up_at, down_at]
  | 1 =>
    pointwise [keys, ofK, ofWide, k0_pay37, k0_pay32, k0_pay33, k0_pay34, k0_pay35, k0_pay36, k0_pay3, k0_pay4, norm_at, mask_at, wide2, tableOf, laneRope, cell,
      rowMul]
    simp only [up_at, down_at]
  | 2 =>
    pointwise [keys, ofK, ofWide, k0_pay37, k0_pay32, k0_pay33, k0_pay34, k0_pay35, k0_pay36, k0_pay3, k0_pay4, norm_at, mask_at, wide2, tableOf, laneRope, cell,
      rowMul]
    rw [dif_neg (by omega), dif_neg (by omega), dif_pos (by omega)]
    simp only [show 256 + l.val - 128 - 128 = l.val by omega]
    simp only [up_at, down_at]
  | 3 =>
    pointwise [keys, ofK, ofWide, k0_pay37, k0_pay32, k0_pay33, k0_pay34, k0_pay35, k0_pay36, k0_pay3, k0_pay4, norm_at, mask_at, wide2, tableOf, laneRope, cell,
      rowMul]
    rw [dif_neg (by omega), dif_neg (by omega), dif_neg (by omega)]
    simp only [show 384 + l.val - 128 - 128 - 128 = l.val by omega]
    simp only [up_at, down_at]

theorem v_at (r : Fin 512) (j : Fin 512) :
    vals (F := Ideal) x g w (ix2 r j) = cell x g w r ⟨1536 + j.val, by omega⟩ := by
  pointwise! [vals, wide3, k0_pay52, norm_at, cell, rowMul]

/-! ## Heads: the rotary positions of the 64 columns of one head -/

/-- What the tables of a row hold: the cosines `c'` repeated four times, and the sines `s'` with a sign. -/
def Tables (r : Fin 512) (c' s' : Fin 32 → EReal) : Prop :=
  (∀ l : Fin 128, rowOf c r l = c' ⟨l.val % 32, by omega⟩)
    ∧ ∀ l : Fin 128, rowOf s r l = if l.val % 64 < 32 then -s' ⟨l.val % 32, by omega⟩ else s' ⟨l.val % 32, by omega⟩

variable {c s} {r : Fin 512} {c' s' : Fin 32 → EReal} (T : Tables c s r c' s')

include T

theorem q1_head (h : Fin 8) (d : Fin 64) :
    q1 (F := Ideal) x g w c s (ix2 r ⟨64 * h.val + d.val, by omega⟩)
      = rope c' s' (fun e => cell x g w r ⟨64 * h.val + e.val, by omega⟩) d :=
  heads_of_lanes (rowOf c r) (rowOf s r) c' s' (fun j => cell x g w r ⟨j.val, by omega⟩) (fun j => q1 (F := Ideal) x g w c s (ix2 r j))
    T.1 T.2 (fun a l => q1_at x g w c s a r l) h d

theorem q2_head (h : Fin 8) (d : Fin 64) :
    q2 (F := Ideal) x g w c s (ix2 r ⟨64 * h.val + d.val, by omega⟩)
      = rope c' s' (fun e => cell x g w r ⟨512 + (64 * h.val + e.val), by omega⟩) d :=
  heads_of_lanes (rowOf c r) (rowOf s r) c' s' (fun j => cell x g w r ⟨512 + j.val, by omega⟩) (fun j => q2 (F := Ideal) x g w c s (ix2 r j))
    T.1 T.2 (fun a l => q2_at x g w c s a r l) h d

theorem k_head (h : Fin 8) (d : Fin 64) :
    keys (F := Ideal) x g w c s (ix2 r ⟨64 * h.val + d.val, by omega⟩)
      = rope c' s' (fun e => cell x g w r ⟨1024 + (64 * h.val + e.val), by omega⟩) d :=
  heads_of_lanes (rowOf c r) (rowOf s r) c' s' (fun j => cell x g w r ⟨1024 + j.val, by omega⟩) (fun j => keys (F := Ideal) x g w c s (ix2 r j))
    T.1 T.2 (fun a l => k_at x g w c s a r l) h d

/-! ## The blocks a point stores -/

omit T in
/-- The factor of the queries that meet in powers of two: `1 / (8 log 2)`. -/
theorem scale_eq : (Named.named Cert.Kernel7Ideal.κ "scale" 0x3E38AA3B#32 : Ideal .f32) = (((8 * Real.log 2)⁻¹ : ℝ) : EReal) :=
  IdealRules.named_const.ideal_named_scalar _ _ _ _ rfl

/-- The first eight blocks of queries: two heads of 128 columns, their first halves, then their second halves. -/
theorem out_q1 (h : Fin 8) (d : Fin 64) :
    out0_5 (F := Ideal) x g w c s (ix3 ⟨h.val, by omega⟩ r d)
      = rope c' s' (fun e => cell x g w r ⟨64 * (4 * (h.val / 4) + 2 * (h.val % 2) + h.val % 4 / 2) + e.val, by omega⟩) d * (((8 * Real.log 2)⁻¹ : ℝ) : EReal) := by
  refine Eq.trans ?_ (congrArg (fun z : EReal => z * (((8 * Real.log 2)⁻¹ : ℝ) : EReal)) (q1_head x g w T ⟨4 * (h.val / 4) + 2 * (h.val % 2) + h.val % 4 / 2, by omega⟩ d))
  dsimp only
  unfold out0_5 q1 ofQ1
  canon_tiles u q
  all_goals
    change h.val = _ at q0; change r.val = _ at q1; change d.val = _ at q2
    first
      | (exfalso; omega)
      | (pointwise [k0_pay12, k0_pay13, k0_pay14, k0_pay15, k0_pay16, k0_pay17, k0_pay18, k0_pay19, k0_pay20, scale_eq]
         refine congrArg (fun z : EReal => z * _) ?_
         blk_ext <;> omega)

/-- The other eight blocks of queries. -/
theorem out_q2 (h : Fin 8) (d : Fin 64) :
    out0_5 (F := Ideal) x g w c s (ix3 ⟨8 + h.val, by omega⟩ r d)
      = rope c' s' (fun e => cell x g w r ⟨512 + (64 * (4 * (h.val / 4) + 2 * (h.val % 2) + h.val % 4 / 2) + e.val), by omega⟩) d * (((8 * Real.log 2)⁻¹ : ℝ) : EReal) := by
  refine Eq.trans ?_ (congrArg (fun z : EReal => z * (((8 * Real.log 2)⁻¹ : ℝ) : EReal)) (q2_head x g w T ⟨4 * (h.val / 4) + 2 * (h.val % 2) + h.val % 4 / 2, by omega⟩ d))
  dsimp only
  unfold out0_5 q2 ofWide
  canon_tiles u q
  all_goals
    change 8 + h.val = _ at q0; change r.val = _ at q1; change d.val = _ at q2
    first
      | (exfalso; omega)
      | (pointwise [k0_pay22, k0_pay23, k0_pay24, k0_pay25, k0_pay26, k0_pay27, k0_pay28, k0_pay29, k0_pay30, k0_pay31, scale_eq]
         refine congrArg (fun z : EReal => z * _) ?_
         blk_ext <;> omega)

/-- The queries, in the order group, half, head of the group. -/
theorem out_q (h : Fin 16) (d : Fin 64) :
    out0_5 (F := Ideal) x g w c s (ix3 h r d)
      = rope c' s' (fun e => cell x g w r ⟨64 * (4 * (h.val / 4) + 2 * (h.val % 2) + h.val % 4 / 2) + e.val, by omega⟩) d * (((8 * Real.log 2)⁻¹ : ℝ) : EReal) := by
  by_cases h8 : h.val < 8
  · exact out_q1 x g w T ⟨h.val, h8⟩ d
  · refine (congrArg (fun z => out0_5 (F := Ideal) x g w c s (ix3 z r d)) (Fin.ext ?_)).trans
      ((out_q2 x g w T ⟨h.val - 8, by omega⟩ d).trans
        (congrArg (fun f => rope c' s' f d * (((8 * Real.log 2)⁻¹ : ℝ) : EReal)) (funext fun e => congrArg (cell x g w r) (Fin.ext ?_))))
    · show h.val = 8 + (h.val - 8)
      omega
    · show 512 + (64 * (4 * ((h.val - 8) / 4) + 2 * ((h.val - 8) % 2) + (h.val - 8) % 4 / 2) + e.val)
        = 64 * (4 * (h.val / 4) + 2 * (h.val % 2) + h.val % 4 / 2) + e.val
      omega

omit T in
/-- An entry of 512 rows of 128 columns is its row and its column. -/
theorem parts (z : S512x128.Idx) : ∃ (u : Fin 512) (v : Fin 128), z = ix2 u v :=
  ⟨⟨(z 0).val, (z 0).isLt⟩, ⟨(z 1).val, (z 1).isLt⟩, by
    funext b
    match b with
    | ⟨0, _⟩ => rfl
    | ⟨1, _⟩ => rfl⟩

omit T in
theorem fourths_k (a : Fin 4) (l : Fin 128) :
    out0_6 (F := Ideal) x g w c s (ix2 ⟨4 * r.val + a.val, by omega⟩ l) = keys (F := Ideal) x g w c s (ix2 r ⟨128 * a.val + l.val, by omega⟩) := by
  have hG : ∀ y : S2048x128.Idx, out0_6 (F := Ideal) x g w c s y
      = keys (F := Ideal) x g w c s (ix2 ⟨(y 0).val / 4, by have : (y 0).val < 2048 := (y 0).isLt; omega⟩
          ⟨128 * ((y 0).val % 4) + (y 1).val, by have : (y 1).val < 128 := (y 1).isLt; omega⟩) := by
    intro y
    unfold out0_6
    refine View.canon_apply_of_pieces (Val := Elt Ideal) (fun y : S2048x128.Idx => (keys (F := Ideal) x g w c s (ix2 ⟨(y 0).val / 4, by have : (y 0).val < 2048 := (y 0).isLt; omega⟩
        ⟨128 * ((y 0).val % 4) + (y 1).val, by have : (y 1).val < 128 := (y 1).isLt; omega⟩) : Elt Ideal .f32)) _ ?_ y (fourths_cover _ _ _ _ y)
    intro p hp z
    simp only [List.mem_cons, List.not_mem_nil, or_false] at hp
    rcases hp with rfl | rfl | rfl | rfl <;> obtain ⟨u, v, rfl⟩ := parts z
    · have e0 : ((fourth3.emb (ix2 u v)) 0).val = 3 + 4 * u.val := rfl
      have e1 : ((fourth3.emb (ix2 u v)) 1).val = 0 + 1 * v.val := rfl
      dsimp only
      pointwise [keys, ofK, k0_pay38, k0_pay39, k0_pay40, k0_pay41]
      exact congrArg₂ (fun a b => keys (F := Ideal) x g w c s (ix2 a b)) (Fin.ext (by dsimp only; omega)) (Fin.ext (by dsimp only; omega))
    · have e0 : ((fourth2.emb (ix2 u v)) 0).val = 2 + 4 * u.val := rfl
      have e1 : ((fourth2.emb (ix2 u v)) 1).val = 0 + 1 * v.val := rfl
      dsimp only
      pointwise [keys, ofK, k0_pay38, k0_pay39, k0_pay40, k0_pay41]
      exact congrArg₂ (fun a b => keys (F := Ideal) x g w c s (ix2 a b)) (Fin.ext (by dsimp only; omega)) (Fin.ext (by dsimp only; omega))
    · have e0 : ((fourth1.emb (ix2 u v)) 0).val = 1 + 4 * u.val := rfl
      have e1 : ((fourth1.emb (ix2 u v)) 1).val = 0 + 1 * v.val := rfl
      dsimp only
      pointwise [keys, ofK, k0_pay38, k0_pay39, k0_pay40, k0_pay41]
      exact congrArg₂ (fun a b => keys (F := Ideal) x g w c s (ix2 a b)) (Fin.ext (by dsimp only; omega)) (Fin.ext (by dsimp only; omega))
    · have e0 : ((fourth0.emb (ix2 u v)) 0).val = 0 + 4 * u.val := rfl
      have e1 : ((fourth0.emb (ix2 u v)) 1).val = 0 + 1 * v.val := rfl
      dsimp only
      pointwise [keys, ofK, k0_pay38, k0_pay39, k0_pay40, k0_pay41]
      exact congrArg₂ (fun a b => keys (F := Ideal) x g w c s (ix2 a b)) (Fin.ext (by dsimp only; omega)) (Fin.ext (by dsimp only; omega))
  refine (hG _).trans (congrArg (keys (F := Ideal) x g w c s) ?_)
  have : (4 * r.val + a.val) / 4 = r.val := by omega
  have : (4 * r.val + a.val) % 4 = a.val := by omega
  blk_ext <;> omega

/-- The keys, four rows to a position. -/
theorem out_k (a : Fin 4) (l : Fin 128) :
    out0_6 (F := Ideal) x g w c s (ix2 ⟨4 * r.val + a.val, by omega⟩ l)
      = rope c' s' (fun e => cell x g w r ⟨1024 + (64 * ((128 * a.val + l.val) / 64) + e.val), by omega⟩) ⟨(128 * a.val + l.val) % 64, by omega⟩ := by
  refine (fourths_k x g w a l).trans (Eq.trans ?_ (k_head x g w T ⟨(128 * a.val + l.val) / 64, by omega⟩ ⟨(128 * a.val + l.val) % 64, by omega⟩))
  blk_ext <;> omega

/-- The keys, all rows side by side. -/
theorem out_kt (h : Fin 8) (d : Fin 64) :
    out0_7 (F := Ideal) x g w c s (ix3 h d r)
      = rope c' s' (fun e => cell x g w r ⟨1024 + (64 * h.val + e.val), by omega⟩) d := by
  rw [← k_head x g w T h d]
  unfold out0_7 keysT keys ofK
  canon_tiles u q
  all_goals
    change h.val = _ at q0; change d.val = _ at q1; change r.val = _ at q2
    pointwise [k0_pay42, k0_pay43, k0_pay44, k0_pay45, k0_pay46, k0_pay47, k0_pay48, k0_pay49, k0_pay50, k0_pay51]
    blk_ext <;> omega

omit T

variable (r)

theorem fourths_v (a : Fin 4) (l : Fin 128) :
    out0_8 (F := Ideal) x g w (ix2 ⟨4 * r.val + a.val, by omega⟩ l) = vals (F := Ideal) x g w (ix2 r ⟨128 * a.val + l.val, by omega⟩) := by
  have hG : ∀ y : S2048x128.Idx, out0_8 (F := Ideal) x g w y
      = vals (F := Ideal) x g w (ix2 ⟨(y 0).val / 4, by have : (y 0).val < 2048 := (y 0).isLt; omega⟩
          ⟨128 * ((y 0).val % 4) + (y 1).val, by have : (y 1).val < 128 := (y 1).isLt; omega⟩) := by
    intro y
    unfold out0_8
    refine View.canon_apply_of_pieces (Val := Elt Ideal) (fun y : S2048x128.Idx => (vals (F := Ideal) x g w (ix2 ⟨(y 0).val / 4, by have : (y 0).val < 2048 := (y 0).isLt; omega⟩
        ⟨128 * ((y 0).val % 4) + (y 1).val, by have : (y 1).val < 128 := (y 1).isLt; omega⟩) : Elt Ideal .f32)) _ ?_ y (fourths_cover _ _ _ _ y)
    intro p hp z
    simp only [List.mem_cons, List.not_mem_nil, or_false] at hp
    rcases hp with rfl | rfl | rfl | rfl <;> obtain ⟨u, v, rfl⟩ := parts z
    · have e0 : ((fourth3.emb (ix2 u v)) 0).val = 3 + 4 * u.val := rfl
      have e1 : ((fourth3.emb (ix2 u v)) 1).val = 0 + 1 * v.val := rfl
      dsimp only
      pointwise [vals, k0_pay53, k0_pay54, k0_pay55, k0_pay56]
      exact congrArg₂ (fun a b => vals (F := Ideal) x g w (ix2 a b)) (Fin.ext (by dsimp only; omega)) (Fin.ext (by dsimp only; omega))
    · have e0 : ((fourth2.emb (ix2 u v)) 0).val = 2 + 4 * u.val := rfl
      have e1 : ((fourth2.emb (ix2 u v)) 1).val = 0 + 1 * v.val := rfl
      dsimp only
      pointwise [vals, k0_pay53, k0_pay54, k0_pay55, k0_pay56]
      exact congrArg₂ (fun a b => vals (F := Ideal) x g w (ix2 a b)) (Fin.ext (by dsimp only; omega)) (Fin.ext (by dsimp only; omega))
    · have e0 : ((fourth1.emb (ix2 u v)) 0).val = 1 + 4 * u.val := rfl
      have e1 : ((fourth1.emb (ix2 u v)) 1).val = 0 + 1 * v.val := rfl
      dsimp only
      pointwise [vals, k0_pay53, k0_pay54, k0_pay55, k0_pay56]
      exact congrArg₂ (fun a b => vals (F := Ideal) x g w (ix2 a b)) (Fin.ext (by dsimp only; omega)) (Fin.ext (by dsimp only; omega))
    · have e0 : ((fourth0.emb (ix2 u v)) 0).val = 0 + 4 * u.val := rfl
      have e1 : ((fourth0.emb (ix2 u v)) 1).val = 0 + 1 * v.val := rfl
      dsimp only
      pointwise [vals, k0_pay53, k0_pay54, k0_pay55, k0_pay56]
      exact congrArg₂ (fun a b => vals (F := Ideal) x g w (ix2 a b)) (Fin.ext (by dsimp only; omega)) (Fin.ext (by dsimp only; omega))
  refine (hG _).trans (congrArg (vals (F := Ideal) x g w) ?_)
  have : (4 * r.val + a.val) / 4 = r.val := by omega
  have : (4 * r.val + a.val) % 4 = a.val := by omega
  blk_ext <;> omega

/-- The values, four rows to a position. -/
theorem out_v (a : Fin 4) (l : Fin 128) :
    out0_8 (F := Ideal) x g w (ix2 ⟨4 * r.val + a.val, by omega⟩ l) = cell x g w r ⟨1536 + (128 * a.val + l.val), by omega⟩ :=
  (fourths_v x g w r a l).trans (v_at x g w r ⟨128 * a.val + l.val, by omega⟩)

/-- The values, row by row, rounded. -/
theorem out_v16 (j : Fin 512) :
    out0_9 (F := Ideal) x g w (ix2 r j) = cell x g w r ⟨1536 + j.val, by omega⟩ := by
  rw [← v_at x g w r j]
  unfold out0_9
  canon_tiles u q
  all_goals
    change r.val = _ at q0; change j.val = _ at q1
    pointwise [k0_pay1]
    blk_ext <;> omega

end Cert.Rows

end
-- ==== Proof.RowsEntry.lean ====
/- WHAT THE GRID POINTS OF THE SECOND LAYER'S INPUT PROJECTION OVER THE PROMPT READ. Point `t` works on rows `512 t … 512 t + 511` of the batches
   laid one after the other; the tables of a position are repeated for two heads. -/
module

public import proofs.«01_k».proof.Proof.RowsRunIdeal
public import proofs.«01_k».proof.Proof.Gen.Reference7Ideal.Read
public import Idealize.ShloMosaic.Lib.Pipeline.ValueKit
public import Idealize.ShloMosaic.Lib.Claim
public import Idealize.ShloMosaic.Lib.StableHlo.ReadAt

@[expose] public section

set_option maxRecDepth 16384
set_option maxHeartbeats 4000000

noncomputable section

namespace Cert.Rows

open Idealize.ShloMosaic Idealize.ShloMosaic.TcCoe Idealize.SL.Sem Cert.Kernel7Ideal Cert.Kernel7Ideal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![t.val % 4, 0] ∧ win0_4.index t = ![t.val % 4, 0] ∧ t.val < 32 :=
  (by decide +kernel : ∀ t : Fin grid0.N, _)

theorem idx_out : ∀ t : Fin cfg0.N, win0_5.index t = ![0, t.val, 0] ∧ win0_6.index t = ![t.val, 0] ∧ win0_7.index t = ![0, 0, t.val]
    ∧ win0_8.index t = ![t.val, 0] ∧ win0_9.index t = ![t.val, 0] :=
  (by decide +kernel : ∀ t : Fin grid0.N, _)

/-! ## The arrays the host code prepares -/

theorem entry_x (n : Fin 16384) (j : Fin 1024) :
    (V m c main_v19 : FVec Ideal S16384x1024 .f32) (ix2 n j)
      = (m ((c : Thread nD τ).loc main_arg0) : FVec Ideal S8x2048x1024 .f32) (ix3 ⟨n.val / 2048, by omega⟩ ⟨n.val % 2048, by omega⟩ j) := by
  entry_read
  pointwise

theorem entry_g (j : Fin 1024) :
    (V m c main_v24 : FVec Ideal S1x1024 .f32) (ix2 0 j) = (m ((c : Thread nD τ).loc main_arg1) : FVec Ideal S2x1024 .f32) (ix2 1 j) := by
  entry_read
  pointwise

theorem entry_w (k : Fin 1024) (j : Fin 2048) :
    (V m c main_v23 : FVec Ideal S1024x2048 .bf16) (ix2 k j)
      = (m ((c : Thread nD τ).loc main_arg2) : FVec Ideal S1x1024x2048 .f32) (ix3 0 k j) := by
  entry_read
  pointwise

theorem entry_cos (n : Fin 2048) (l : Fin 128) :
    (V m c main_v15 : FVec Ideal S2048x128 .f32) (ix2 n l)
      = Cert.Reference7Ideal.Read.val_main_v34 (F := Ideal) (ix2 n ⟨l.val % 32, by omega⟩) := by
  after_reads_simp
  pointwise
  by_cases h0 : l.val < 32
  · rw [dif_pos h0]
    after_reads_simp
    exact congrArg (fun e => Cert.Reference7Ideal.Read.val_main_v34 (F := Ideal) (ix2 n e)) (Fin.ext (by dsimp only; omega))
  rw [dif_neg h0]
  by_cases h1 : l.val - 32 < 32
  · rw [dif_pos h1]
    after_reads_simp
    exact congrArg (fun e => Cert.Reference7Ideal.Read.val_main_v34 (F := Ideal) (ix2 n e)) (Fin.ext (by dsimp only; omega))
  rw [dif_neg h1]
  by_cases h2 : l.val - 32 - 32 < 32
  · rw [dif_pos h2]
    after_reads_simp
    exact congrArg (fun e => Cert.Reference7Ideal.Read.val_main_v34 (F := Ideal) (ix2 n e)) (Fin.ext (by dsimp only; omega))
  rw [dif_neg h2]
  after_reads_simp
  exact congrArg (fun e => Cert.Reference7Ideal.Read.val_main_v34 (F := Ideal) (ix2 n e)) (Fin.ext (by dsimp only; omega))

theorem entry_sin (n : Fin 2048) (l : Fin 128) :
    (V m c main_v18 : FVec Ideal S2048x128 .f32) (ix2 n l)
      = if l.val % 64 < 32 then -Cert.Reference7Ideal.Read.val_main_v36 (F := Ideal) (ix2 n ⟨l.val % 32, by omega⟩)
        else Cert.Reference7Ideal.Read.val_main_v36 (F := Ideal) (ix2 n ⟨l.val % 32, by omega⟩) := by
  have hn (e : Fin 32) : Host.negf (F := Ideal) (φ := .f32) (Cert.Reference7Ideal.Read.val_main_v36 (F := Ideal)) (ix2 n e)
      = -Cert.Reference7Ideal.Read.val_main_v36 (F := Ideal) (ix2 n e) := by pointwise
  after_reads_simp
  pointwise
  by_cases h0 : l.val < 32
  · rw [dif_pos h0]
    refine Eq.trans ?_ (if_pos (by omega)).symm
    after_reads_simp
    exact (hn _).trans (congrArg (fun e => -Cert.Reference7Ideal.Read.val_main_v36 (F := Ideal) (ix2 n e)) (Fin.ext (by dsimp only; omega)))
  rw [dif_neg h0]
  by_cases h1 : l.val - 32 < 32
  · rw [dif_pos h1]
    refine Eq.trans ?_ (if_neg (by omega)).symm
    after_reads_simp
    exact congrArg (fun e => Cert.Reference7Ideal.Read.val_main_v36 (F := Ideal) (ix2 n e)) (Fin.ext (by dsimp only; omega))
  rw [dif_neg h1]
  by_cases h2 : l.val - 32 - 32 < 32
  · rw [dif_pos h2]
    refine Eq.trans ?_ (if_pos (by omega)).symm
    after_reads_simp
    exact (hn _).trans (congrArg (fun e => -Cert.Reference7Ideal.Read.val_main_v36 (F := Ideal) (ix2 n e)) (Fin.ext (by dsimp only; omega)))
  rw [dif_neg h2]
  refine Eq.trans ?_ (if_neg (by omega)).symm
  after_reads_simp
  exact congrArg (fun e => Cert.Reference7Ideal.Read.val_main_v36 (F := Ideal) (ix2 n e)) (Fin.ext (by dsimp only; omega))

end Cert.Rows

end
-- ==== Proof.RowsRef.lean ====
/- WHAT THE REFERENCE OF THE SECOND LAYER'S INPUT PROJECTION OVER THE PROMPT COMPUTES, at an entry of each of its
   five results. -/
module

public import proofs.«01_k».proof.Proof.Gen.Reference7Ideal.Read
public import proofs.«01_k».proof.Proof.ProjSpec
public import proofs.«01_k».proof.Proof.Value
public import Idealize.ShloMosaic.Lib.Pipeline.ValueKit

@[expose] public section

set_option maxRecDepth 16384

noncomputable section

namespace Cert.Rows.Ref

open Idealize.ShloMosaic Idealize.ShloMosaic.TcCoe Idealize.SL.Sem Cert.Reference7Ideal Cert.Reference7Ideal.Read Cert.PostBlock Cert.Proj

variable (x0 : FVec Ideal S8x2048x1024 .f32) (x1 : FVec Ideal S2x1024 .f32) (x2 : FVec Ideal S1x1024x2048 .f32)

/-- The projected row at batch `b`, position `t`, column `j` of the weights. -/
def column (b : Fin 8) (t : Fin 2048) (j : Fin 2048) : EReal :=
  rowMul (rowNorm (fun i => x0 (ix3 b t i)) (fun i => x1 (ix2 1 i))) (fun k j => x2 (ix3 0 k j)) j

/-- The cosines and the sines of a position. -/
def cosines (t : Fin 2048) (e : Fin 32) : EReal := val_main_v34 (F := Ideal) (ix2 t e)

@[inherit_doc cosines]
def sines (t : Fin 2048) (e : Fin 32) : EReal := val_main_v36 (F := Ideal) (ix2 t e)

theorem v17_at (b : Fin 8) (t : Fin 2048) (j : Fin 2048) : val_main_v17 (F := Ideal) x0 x1 x2 (ix3 b t j) = column x0 x1 x2 b t j := by
  pointwise! [val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_cst, val_main_cst_0,
    val_main_cst_1, column, rowMul, rowNorm, zero_add]

theorem v50_at (b : Fin 8) (t : Fin 2048) (h : Fin 16) (d : Fin 64) : val_main_v50 (F := Ideal) x0 x1 x2 (ix4 b t h d)
    = rope (cosines t) (sines t) (fun e => column x0 x1 x2 b t ⟨64 * h.val + e.val, by omega⟩) d := by
  pointwise [val_main_v50, val_main_v49, val_main_v48, val_main_v47, val_main_v46, val_main_v45, val_main_v44, val_main_v43, val_main_v42, val_main_v41, val_main_v40, val_main_v39, val_main_v38, val_main_v37, val_main_v35, val_main_v21, val_main_v18, v17_at,
    rope, cosines, sines]
  by_cases hd : d.val < 32
  · rw [dif_pos hd, dif_pos hd]
    refine congrArg₂ (fun u v : EReal => u - v) (congrArg (fun z : EReal => z * _) ?_) (congrArg (fun z : EReal => z * _) ?_) <;>
      exact congrArg (column x0 x1 x2 b t) (Fin.ext (by simp only [Fin.val_zero] <;> omega))
  · rw [dif_neg hd, dif_neg hd]
    refine congrArg₂ (fun u v : EReal => u + v) (congrArg (fun z : EReal => z * _) ?_) (congrArg (fun z : EReal => z * _) ?_) <;>
      exact congrArg (column x0 x1 x2 b t) (Fin.ext (by simp only [Fin.val_zero] <;> omega))

theorem cosines_80 : val_main_v64 (F := Ideal) = val_main_v34 (F := Ideal) := rfl

theorem sines_80 : val_main_v66 (F := Ideal) = val_main_v36 (F := Ideal) := rfl

theorem v80_at (b : Fin 8) (t : Fin 2048) (h : Fin 8) (d : Fin 64) : val_main_v80 (F := Ideal) x0 x1 x2 (ix4 b t h d)
    = rope (cosines t) (sines t) (fun e => column x0 x1 x2 b t ⟨1024 + (64 * h.val + e.val), by omega⟩) d := by
  pointwise [val_main_v80, val_main_v79, val_main_v78, val_main_v77, val_main_v76, val_main_v75, val_main_v74, val_main_v73, val_main_v72, val_main_v71, val_main_v70, val_main_v69, val_main_v68, val_main_v67, val_main_v65, val_main_v51, val_main_v19, v17_at,
    rope, cosines_80, sines_80, cosines, sines]
  by_cases hd : d.val < 32
  · rw [dif_pos hd, dif_pos hd]
    refine congrArg₂ (fun u v : EReal => u - v) (congrArg (fun z : EReal => z * _) ?_) (congrArg (fun z : EReal => z * _) ?_) <;>
      exact congrArg (column x0 x1 x2 b t) (Fin.ext (by simp only [Fin.val_zero] <;> omega))
  · rw [dif_neg hd, dif_neg hd]
    refine congrArg₂ (fun u v : EReal => u + v) (congrArg (fun z : EReal => z * _) ?_) (congrArg (fun z : EReal => z * _) ?_) <;>
      exact congrArg (column x0 x1 x2 b t) (Fin.ext (by simp only [Fin.val_zero] <;> omega))

theorem v85_eq : val_main_v85 (F := Ideal) ix0 = (((8 * Real.log 2)⁻¹ : ℝ) : EReal) := by
  pointwise [val_main_v85, val_main_v84, val_main_cst_6, val_main_cst_7]
  exact Cert.DiffAttn.qscale_eq.trans (by rw [one_div])

/-- A row's column: row `n` is position `n % 2048` of batch `n / 2048`. -/
abbrev rowColumn (n : Fin 16384) (j : Fin 2048) : EReal := column x0 x1 x2 ⟨n.val / 2048, by omega⟩ ⟨n.val % 2048, by omega⟩ j

/-- The rotary positions of a row. -/
abbrev rowRope (n : Fin 16384) (y : Fin 64 → EReal) (d : Fin 64) : EReal :=
  rope (cosines ⟨n.val % 2048, by omega⟩) (sines ⟨n.val % 2048, by omega⟩) y d

theorem v88_at (h : Fin 16) (n : Fin 16384) (d : Fin 64) : val_main_v88 (F := Ideal) x0 x1 x2 (ix3 h n d)
    = rowRope n (fun e => rowColumn x0 x1 x2 n ⟨64 * (4 * (h.val / 4) + 2 * (h.val % 2) + h.val % 4 / 2) + e.val, by omega⟩) d * (((8 * Real.log 2)⁻¹ : ℝ) : EReal) := by
  have e : val_main_v83 (F := Ideal) x0 x1 x2 (ix3 h n d) = val_main_v50 (F := Ideal) x0 x1 x2
      (ix4 ⟨n.val / 2048, by omega⟩ ⟨n.val % 2048, by omega⟩ ⟨4 * (h.val / 4) + 2 * (h.val % 2) + h.val % 4 / 2, by omega⟩ d) := by
    pointwise [val_main_v83, val_main_v82, val_main_v81]
    blk_ext <;> omega
  pointwise [val_main_v88, val_main_v87, val_main_v86, v85_eq]
  exact congrArg (fun z : EReal => z * _) (e.trans (v50_at x0 x1 x2 _ _ _ _))

theorem v89_at (n : Fin 16384) (a : Fin 4) (l : Fin 128) : val_main_v89 (F := Ideal) x0 x1 x2 (ix2 ⟨4 * n.val + a.val, by omega⟩ l)
    = rowRope n (fun e => rowColumn x0 x1 x2 n ⟨1024 + (64 * ((128 * a.val + l.val) / 64) + e.val), by omega⟩) ⟨(128 * a.val + l.val) % 64, by omega⟩ := by
  have e : val_main_v89 (F := Ideal) x0 x1 x2 (ix2 ⟨4 * n.val + a.val, by omega⟩ l) = val_main_v80 (F := Ideal) x0 x1 x2
      (ix4 ⟨n.val / 2048, by omega⟩ ⟨n.val % 2048, by omega⟩ ⟨(128 * a.val + l.val) / 64, by omega⟩ ⟨(128 * a.val + l.val) % 64, by omega⟩) := by
    pointwise [val_main_v89]
    blk_ext <;> omega
  exact e.trans (v80_at x0 x1 x2 _ _ _ _)

theorem v92_at (h : Fin 8) (d : Fin 64) (n : Fin 16384) : val_main_v92 (F := Ideal) x0 x1 x2 (ix3 h d n)
    = rowRope n (fun e => rowColumn x0 x1 x2 n ⟨1024 + (64 * h.val + e.val), by omega⟩) d := by
  pointwise [val_main_v92, val_main_v91, val_main_v90, v80_at]

theorem v93_at (n : Fin 16384) (a : Fin 4) (l : Fin 128) : val_main_v93 (F := Ideal) x0 x1 x2 (ix2 ⟨4 * n.val + a.val, by omega⟩ l)
    = rowColumn x0 x1 x2 n ⟨1536 + (128 * a.val + l.val), by omega⟩ := by
  have e : val_main_v93 (F := Ideal) x0 x1 x2 (ix2 ⟨4 * n.val + a.val, by omega⟩ l) = val_main_v20 (F := Ideal) x0 x1 x2
      (ix3 ⟨n.val / 2048, by omega⟩ ⟨n.val % 2048, by omega⟩ ⟨128 * a.val + l.val, by omega⟩) := by
    pointwise [val_main_v93]
    blk_ext <;> omega
  refine e.trans ?_
  pointwise [val_main_v20, v17_at]

theorem v95_at (n : Fin 16384) (j : Fin 512) : val_main_v95 (F := Ideal) x0 x1 x2 (ix2 n j)
    = rowColumn x0 x1 x2 n ⟨1536 + j.val, by omega⟩ := by
  pointwise [val_main_v95, val_main_v94, val_main_v20, v17_at]

end Cert.Rows.Ref

end
-- ==== Proof.RowsValue.lean ====
/- THE BLOCKS OF A GRID POINT OF THE SECOND LAYER'S INPUT PROJECTION OVER THE PROMPT AND ITS FIVE RESULT ARRAYS. -/
module

public import proofs.«01_k».proof.Proof.RowsBody
public import proofs.«01_k».proof.Proof.RowsEntry
public import proofs.«01_k».proof.Proof.RowsRef

@[expose] public section

set_option maxRecDepth 16384

noncomputable section

namespace Cert.Rows

open Idealize.ShloMosaic Idealize.ShloMosaic.TcCoe Idealize.SL.Sem Cert.Kernel7Ideal Cert.Kernel7Ideal.Gen Cert.Kernel7Ideal.Run Cert.PostBlock Cert.Proj

variable (m : (ℓ : Loc nD τ sig) → Buf (Elt Ideal) ℓ) (c : Dev nD)

/-- The launch contents of the arguments. -/
abbrev argX : FVec Ideal S8x2048x1024 .f32 := m ((c : Thread nD τ).loc main_arg0)

@[inherit_doc argX]
abbrev argG : FVec Ideal S2x1024 .f32 := m ((c : Thread nD τ).loc main_arg1)

@[inherit_doc argX]
abbrev argW : FVec Ideal S1x1024x2048 .f32 := m ((c : Thread nD τ).loc main_arg2)

/-! ## The blocks of a grid point -/

/-- The row that row `r` of point `t` is, its batch, and its position. -/
abbrev rowAt (t : Fin cfg0.N) (r : Fin 512) : Fin 16384 := ⟨512 * t.val + r.val, by have := (idx t).2.2.2.2.2; omega⟩

@[inherit_doc rowAt]
abbrev batchAt (t : Fin cfg0.N) (r : Fin 512) : Fin 8 := ⟨(rowAt t r).val / 2048, by omega⟩

@[inherit_doc rowAt]
abbrev posAt (t : Fin cfg0.N) (r : Fin 512) : Fin 2048 := ⟨(rowAt t r).val % 2048, by omega⟩

theorem blk_x (t : Fin cfg0.N) (r : Fin 512) (j : Fin 1024) :
    (iblk m c 0 t : FVec Ideal S512x1024 .f32) (ix2 r j) = argX m c (ix3 (batchAt t r) (posAt t r) j) := by
  refine Eq.trans ?_ (entry_x m c (rowAt t r) j)
  blk_ext [iblk, idx t]

theorem blk_g (t : Fin cfg0.N) (j : Fin 1024) : (iblk m c 1 t : FVec Ideal S1x1024 .f32) (ix2 0 j) = argG m c (ix2 1 j) := by
  refine Eq.trans ?_ (entry_g m c j)
  blk_ext [iblk, idx t]

theorem blk_w (t : Fin cfg0.N) (k : Fin 1024) (j : Fin 2048) :
    (iblk m c 2 t : FVec Ideal S1024x2048 .bf16) (ix2 k j) = (V m c main_v23 : FVec Ideal S1024x2048 .bf16) (ix2 k j) := by
  blk_ext [iblk, idx t]

theorem blk_cos (t : Fin cfg0.N) (r : Fin 512) (l : Fin 128) :
    (iblk m c 3 t : FVec Ideal S512x128 .f32) (ix2 r l) = (V m c main_v15 : FVec Ideal S2048x128 .f32) (ix2 (posAt t r) l) := by
  have := (idx t).2.2.2.2.2
  have e : 512 * (t.val % 4) + r.val = (512 * t.val + r.val) % 2048 := by omega
  blk_ext [iblk, idx t]
  all_goals first | rfl | omega

theorem blk_sin (t : Fin cfg0.N) (r : Fin 512) (l : Fin 128) :
    (iblk m c 4 t : FVec Ideal S512x128 .f32) (ix2 r l) = (V m c main_v18 : FVec Ideal S2048x128 .f32) (ix2 (posAt t r) l) := by
  have := (idx t).2.2.2.2.2
  have e : 512 * (t.val % 4) + r.val = (512 * t.val + r.val) % 2048 := by omega
  blk_ext [iblk, idx t]
  all_goals first | rfl | omega

/-- THE TABLES OF A ROW are the reference's cosines and sines of its position. -/
theorem tables (t : Fin cfg0.N) (r : Fin 512) :
    Tables (iblk m c 3 t) (iblk m c 4 t) r (Ref.cosines (posAt t r)) (Ref.sines (posAt t r)) :=
  ⟨fun l => (blk_cos m c t r l).trans (entry_cos m c (posAt t r) l), fun l => (blk_sin m c t r l).trans (entry_sin m c (posAt t r) l)⟩

/-! ## The projected columns -/

/-- A row's columns in the reference, at the arguments' launch contents. -/
abbrev refColumn (n : Fin 16384) (j : Fin 2048) : EReal := Ref.rowColumn (argX m c) (argG m c) (argW m c) n j

theorem cell_eq (t : Fin cfg0.N) (r : Fin 512) (j : Fin 2048) :
    cell (iblk m c 0 t) (iblk m c 1 t) (iblk m c 2 t) r j = refColumn m c (rowAt t r) j := by
  unfold cell refColumn Ref.rowColumn Ref.column
  exact rowMul_congr (congrArg₂ rowNorm (funext fun i => blk_x m c t r i) (funext fun i => blk_g m c t i)) fun k =>
    (blk_w m c t k j).trans (entry_w m c k j)

/-! ## The results -/

theorem point_5 (t : Fin cfg0.N) (h : Fin 16) (r : Fin 512) (d : Fin 64) :
    out0_5 (F := Ideal) (iblk m c 0 t) (iblk m c 1 t) (iblk m c 2 t) (iblk m c 3 t) (iblk m c 4 t) (ix3 h r d)
      = Cert.Reference7Ideal.Read.val_main_v88 (F := Ideal) (argX m c) (argG m c) (argW m c) (ix3 h (rowAt t r) d) :=
  (out_q _ _ _ (tables m c t r) h d).trans (Eq.trans (congrArg (fun z : EReal => z * _) (congrArg (fun f => rope _ _ f _) (funext fun e => cell_eq m c t r _)))
    (Ref.v88_at _ _ _ h (rowAt t r) d).symm)

/-- The queries. -/
theorem kernel_eq_5 : (dats m 0 c).arrAt 5 (cfgs 0).N = Cert.Reference7Ideal.Read.val_main_v88 (F := Ideal) (argX m c) (argG m c) (argW m c) := by
  refine (dats m 0 c).arrAt_eq_of_covers 5 _ (by decide +kernel) fun t _ y => ?_
  blk_simp
  rw [after0_5]
  have y0 : (y 0).val < 16 := (y 0).isLt
  have y1 : (y 1).val < 512 := (y 1).isLt
  have y2 : (y 2).val < 64 := (y 2).isLt
  have hy : (ix3 ⟨(y 0).val, y0⟩ ⟨(y 1).val, y1⟩ ⟨(y 2).val, y2⟩ : S16x512x64.Idx) = y := by
    funext z
    match z with
    | ⟨0, _⟩ => rfl
    | ⟨1, _⟩ => rfl
    | ⟨2, _⟩ => rfl
  refine ((congrArg (out0_5 (F := Ideal) _ _ _ _ _) hy.symm).trans (point_5 m c t ⟨(y 0).val, y0⟩ ⟨(y 1).val, y1⟩ ⟨(y 2).val, y2⟩)).trans ?_
  refine congrArg (Cert.Reference7Ideal.Read.val_main_v88 (F := Ideal) _ _ _) ?_
  blk_ext [idx_out t]

theorem point_6 (t : Fin cfg0.N) (r : Fin 512) (a : Fin 4) (l : Fin 128) :
    out0_6 (F := Ideal) (iblk m c 0 t) (iblk m c 1 t) (iblk m c 2 t) (iblk m c 3 t) (iblk m c 4 t) (ix2 ⟨4 * r.val + a.val, by omega⟩ l)
      = Cert.Reference7Ideal.Read.val_main_v89 (F := Ideal) (argX m c) (argG m c) (argW m c) (ix2 ⟨4 * (rowAt t r).val + a.val, by omega⟩ l) :=
  (out_k _ _ _ (tables m c t r) a l).trans (Eq.trans (congrArg (fun f => rope _ _ f _) (funext fun e => cell_eq m c t r _))
    (Ref.v89_at _ _ _ (rowAt t r) a l).symm)

/-- The keys, four rows to a position. -/
theorem kernel_eq_6 : (dats m 0 c).arrAt 6 (cfgs 0).N = Cert.Reference7Ideal.Read.val_main_v89 (F := Ideal) (argX m c) (argG m c) (argW m c) := by
  refine (dats m 0 c).arrAt_eq_of_covers 6 _ (by decide +kernel) fun t _ y => ?_
  blk_simp
  rw [after0_6]
  have y0 : (y 0).val < 2048 := (y 0).isLt
  have y1 : (y 1).val < 128 := (y 1).isLt
  have hy : (ix2 ⟨4 * ((y 0).val / 4) + (y 0).val % 4, by omega⟩ ⟨(y 1).val, y1⟩ : S2048x128.Idx) = y := by
    funext z
    match z with
    | ⟨0, _⟩ => exact Fin.ext (show 4 * ((y 0).val / 4) + (y 0).val % 4 = (y 0).val by omega)
    | ⟨1, _⟩ => rfl
  refine ((congrArg (out0_6 (F := Ideal) _ _ _ _ _) hy.symm).trans
    (point_6 m c t ⟨(y 0).val / 4, by omega⟩ ⟨(y 0).val % 4, by omega⟩ ⟨(y 1).val, y1⟩)).trans ?_
  refine congrArg (Cert.Reference7Ideal.Read.val_main_v89 (F := Ideal) _ _ _) ?_
  have e : 4 * (512 * t.val + (y 0).val / 4) + (y 0).val % 4 = 2048 * t.val + (y 0).val := by omega
  blk_ext [idx_out t]
  all_goals first | rfl | omega

theorem point_7 (t : Fin cfg0.N) (h : Fin 8) (d : Fin 64) (r : Fin 512) :
    out0_7 (F := Ideal) (iblk m c 0 t) (iblk m c 1 t) (iblk m c 2 t) (iblk m c 3 t) (iblk m c 4 t) (ix3 h d r)
      = Cert.Reference7Ideal.Read.val_main_v92 (F := Ideal) (argX m c) (argG m c) (argW m c) (ix3 h d (rowAt t r)) :=
  (out_kt _ _ _ (tables m c t r) h d).trans (Eq.trans (congrArg (fun f => rope _ _ f _) (funext fun e => cell_eq m c t r _))
    (Ref.v92_at _ _ _ h d (rowAt t r)).symm)

/-- The keys, transposed. -/
theorem kernel_eq_7 : (dats m 0 c).arrAt 7 (cfgs 0).N = Cert.Reference7Ideal.Read.val_main_v92 (F := Ideal) (argX m c) (argG m c) (argW m c) := by
  refine (dats m 0 c).arrAt_eq_of_covers 7 _ (by decide +kernel) fun t _ y => ?_
  blk_simp
  rw [after0_7]
  have y0 : (y 0).val < 8 := (y 0).isLt
  have y1 : (y 1).val < 64 := (y 1).isLt
  have y2 : (y 2).val < 512 := (y 2).isLt
  have hy : (ix3 ⟨(y 0).val, y0⟩ ⟨(y 1).val, y1⟩ ⟨(y 2).val, y2⟩ : S8x64x512.Idx) = y := by
    funext z
    match z with
    | ⟨0, _⟩ => rfl
    | ⟨1, _⟩ => rfl
    | ⟨2, _⟩ => rfl
  refine ((congrArg (out0_7 (F := Ideal) _ _ _ _ _) hy.symm).trans (point_7 m c t ⟨(y 0).val, y0⟩ ⟨(y 1).val, y1⟩ ⟨(y 2).val, y2⟩)).trans ?_
  refine congrArg (Cert.Reference7Ideal.Read.val_main_v92 (F := Ideal) _ _ _) ?_
  blk_ext [idx_out t]

theorem point_8 (t : Fin cfg0.N) (r : Fin 512) (a : Fin 4) (l : Fin 128) :
    out0_8 (F := Ideal) (iblk m c 0 t) (iblk m c 1 t) (iblk m c 2 t) (ix2 ⟨4 * r.val + a.val, by omega⟩ l)
      = Cert.Reference7Ideal.Read.val_main_v93 (F := Ideal) (argX m c) (argG m c) (argW m c) (ix2 ⟨4 * (rowAt t r).val + a.val, by omega⟩ l) :=
  (out_v _ _ _ r a l).trans (Eq.trans (cell_eq m c t r _)
    (Ref.v93_at _ _ _ (rowAt t r) a l).symm)

/-- The values, four rows to a position. -/
theorem kernel_eq_8 : (dats m 0 c).arrAt 8 (cfgs 0).N = Cert.Reference7Ideal.Read.val_main_v93 (F := Ideal) (argX m c) (argG m c) (argW m c) := by
  refine (dats m 0 c).arrAt_eq_of_covers 8 _ (by decide +kernel) fun t _ y => ?_
  blk_simp
  rw [after0_8]
  have y0 : (y 0).val < 2048 := (y 0).isLt
  have y1 : (y 1).val < 128 := (y 1).isLt
  have hy : (ix2 ⟨4 * ((y 0).val / 4) + (y 0).val % 4, by omega⟩ ⟨(y 1).val, y1⟩ : S2048x128.Idx) = y := by
    funext z
    match z with
    | ⟨0, _⟩ => exact Fin.ext (show 4 * ((y 0).val / 4) + (y 0).val % 4 = (y 0).val by omega)
    | ⟨1, _⟩ => rfl
  refine ((congrArg (out0_8 (F := Ideal) _ _ _) hy.symm).trans
    (point_8 m c t ⟨(y 0).val / 4, by omega⟩ ⟨(y 0).val % 4, by omega⟩ ⟨(y 1).val, y1⟩)).trans ?_
  refine congrArg (Cert.Reference7Ideal.Read.val_main_v93 (F := Ideal) _ _ _) ?_
  have e : 4 * (512 * t.val + (y 0).val / 4) + (y 0).val % 4 = 2048 * t.val + (y 0).val := by omega
  blk_ext [idx_out t]
  all_goals first | rfl | omega

theorem point_9 (t : Fin cfg0.N) (r : Fin 512) (j : Fin 512) :
    out0_9 (F := Ideal) (iblk m c 0 t) (iblk m c 1 t) (iblk m c 2 t) (ix2 r j)
      = Cert.Reference7Ideal.Read.val_main_v95 (F := Ideal) (argX m c) (argG m c) (argW m c) (ix2 (rowAt t r) j) :=
  (out_v16 _ _ _ r j).trans (Eq.trans (cell_eq m c t r _)
    (Ref.v95_at _ _ _ (rowAt t r) j).symm)

/-- The values, row by row, rounded. -/
theorem kernel_eq_9 : (dats m 0 c).arrAt 9 (cfgs 0).N = Cert.Reference7Ideal.Read.val_main_v95 (F := Ideal) (argX m c) (argG m c) (argW m c) := by
  refine (dats m 0 c).arrAt_eq_of_covers 9 _ (by decide +kernel) fun t _ y => ?_
  blk_simp
  rw [after0_9]
  have y0 : (y 0).val < 512 := (y 0).isLt
  have y1 : (y 1).val < 512 := (y 1).isLt
  have hy : (ix2 ⟨(y 0).val, y0⟩ ⟨(y 1).val, y1⟩ : S512x512.Idx) = y := by
    funext z
    match z with
    | ⟨0, _⟩ => rfl
    | ⟨1, _⟩ => rfl
  refine ((congrArg (out0_9 (F := Ideal) _ _ _) hy.symm).trans (point_9 m c t ⟨(y 0).val, y0⟩ ⟨(y 1).val, y1⟩)).trans ?_
  refine congrArg (Cert.Reference7Ideal.Read.val_main_v95 (F := Ideal) _ _ _) ?_
  blk_ext [idx_out t]

/-! ## The run, with its five results -/

/-- THE RUN leaves the five result arrays named, and the arguments as they were. -/
theorem run_results (ρ : Dev nD → PrngReg) : θ_run defs (onTc (τ := τ) (main (F := Ideal))) ⟨m, fun _ => 0, ρ⟩ fun r => ∀ c : Dev nD,
      r.2.mem ((c : Thread nD τ).loc main_v25_0) = (dats m 0 c).arrAt 5 cfg0.N
      ∧ r.2.mem ((c : Thread nD τ).loc main_v25_1) = (dats m 0 c).arrAt 6 cfg0.N
      ∧ r.2.mem ((c : Thread nD τ).loc main_v25_2) = (dats m 0 c).arrAt 7 cfg0.N
      ∧ r.2.mem ((c : Thread nD τ).loc main_v25_3) = (dats m 0 c).arrAt 8 cfg0.N
      ∧ r.2.mem ((c : Thread nD τ).loc main_v25_4) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 5, (h.1 c).1 6, (h.1 c).1 7,
      (h.1 c).1 8, (h.1 c).1 9, h.2.1 c⟩)
    (θ_run_and (run_main m ρ) (frame m ρ))

end Cert.Rows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_finite
public import proofs.«01_k».proof.Proof.Gen.ReferenceIdeal.Run
public import proofs.«01_k».proof.Proof.Gen.ReferenceIdeal.Read
public import proofs.«01_k».proof.Proof.Equation
public import proofs.«01_k».proof.Proof.PostValue
public import proofs.«01_k».proof.Proof.ProjValue
public import proofs.«01_k».proof.Proof.SampleCValue
public import proofs.«01_k».proof.Proof.SamplePostValue
public import proofs.«01_k».proof.Proof.SampleProjValue
public import proofs.«01_k».proof.Proof.RowsRun
public import proofs.«01_k».proof.Proof.RowsRunIdeal
public import proofs.«01_k».proof.Proof.RowsValue
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The mask's constant is named: over the extended reals it reads `⊥`. -/
theorem preserves : Cert.preserves_Kernel_KernelIdeal :=
  IdealRules.named_const.statement Cert.KernelIdeal.κ "mask" .f32 0xF149F2CA#32 ⊥ rfl

/-- The reference's run changes no argument, and it has no semaphore. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

set_option maxHeartbeats 1600000 in
/-- The kernel and the reference end with equal arrays. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Value.run_blocks m g
  · run_from Cert.ReferenceIdeal.Value.run m' g'
    haveI := Cert.Pre_finite.Gen.facts
    obtain ⟨h0, h1, h2, h3, h4, h5, h6, h7⟩ := hagree c
    rw [Cert.ReferenceIdeal.Read.val_main_v58_eq, h0, h1, h2, h3, h4, h5, h6, h7]
    exact (Cert.DiffAttn.kernel_eq m c (Cert.DiffAttn.allReal_of _ _ _ _ _ _ _ _ (hpre c))).symm

/-- The plain second half of the layer terminates with its arguments unchanged and no semaphore left raised. -/
theorem reference2_frame : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The kernel's second half of the layer and the plain one return the same array over the extended reals. -/
theorem algebraic2 : Cert.algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · run_from Cert.Reference2Ideal.Value.run m' g'
    obtain ⟨h0, h1, h2, h3, h4, h5, h6, h7⟩ := hagree c
    rw [Cert.Reference2Ideal.Read.val_main_v46_eq, h0, h1, h2, h3, h4, h5, h6, h7]
    exact (Cert.PostBlock.kernel_eq m c).symm

/-- The constant in the input projection's queries' factor is named: over the extended reals it reads `1 / (8 log 2)`. -/
theorem preserves3 : Cert.preserves_Kernel3_Kernel3Ideal :=
  IdealRules.named_const.statement Cert.Kernel3Ideal.κ "scale" .f32 0x3E38AA3B#32 _ rfl

/-- The plain input projection terminates with its arguments unchanged and no semaphore left raised. -/
theorem reference3_frame : Cert.quiescent_Reference3Ideal (hReference3Ideal := Cert.Reference3Ideal.Gen.facts) := fun m ρ _ =>
  (θ_run Cert.Reference3Ideal.defs _ _).mono
    (fun r h => ⟨fun c => (h c).2.2.2.2.2.2.2.2.2.2.2.2.2.2, Idealize.ShloMosaic.sem_eq_zero_of_no_sems (by decide) r.2⟩)
    (Cert.Reference3Ideal.Value.run (F := Ideal) m ρ)

set_option maxHeartbeats 4000000 in
/-- The kernel's input projection and the plain one return the same fourteen arrays over the extended reals. -/
theorem algebraic3 : Cert.algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · run_from Cert.Reference3Ideal.Value.run m' g'
    all_goals obtain ⟨h0, h1, h2⟩ := hagree c
    · rw [Cert.Reference3Ideal.Read.val_main_v160_eq, StableHlo.launchContents_devRef, StableHlo.launchContents_devRef, StableHlo.launchContents_devRef, h0, h1, h2]
      exact (Cert.Proj.kernel_eq_5 m c).symm
    · rw [Cert.Reference3Ideal.Read.val_main_v165_eq, StableHlo.launchContents_devRef, StableHlo.launchContents_devRef, StableHlo.launchContents_devRef, h0, h1, h2]
      exact (Cert.Proj.kernel_eq_6 m c).symm
    · rw [Cert.Reference3Ideal.Read.val_main_v170_eq, StableHlo.launchContents_devRef, StableHlo.launchContents_devRef, StableHlo.launchContents_devRef, h0, h1, h2]
      exact (Cert.Proj.kernel_eq_7 m c).symm
    · rw [Cert.Reference3Ideal.Read.val_main_v171_eq, StableHlo.launchContents_devRef, StableHlo.launchContents_devRef, StableHlo.launchContents_devRef, h0, h1, h2]
      exact (Cert.Proj.kernel_eq_8 m c).symm
    · rw [Cert.Reference3Ideal.Read.val_main_v174_eq, StableHlo.launchContents_devRef, StableHlo.launchContents_devRef, StableHlo.launchContents_devRef, h0, h1, h2]
      exact (Cert.Proj.kernel_eq_9 m c).symm
    · rw [Cert.Reference3Ideal.Read.val_main_v175_eq, StableHlo.launchContents_devRef, StableHlo.launchContents_devRef, StableHlo.launchContents_devRef, h0, h1, h2]
      exact (Cert.Proj.kernel_eq_10 m c).symm
    · rw [Cert.Reference3Ideal.Read.val_main_v177_eq, StableHlo.launchContents_devRef, StableHlo.launchContents_devRef, StableHlo.launchContents_devRef, h0, h1, h2]
      exact (Cert.Proj.kernel_eq_11 m c).symm
    · rw [Cert.Reference3Ideal.Read.val_main_v178_eq, StableHlo.launchContents_devRef, StableHlo.launchContents_devRef, StableHlo.launchContents_devRef, h0, h1, h2]
      exact (Cert.Proj.kernel_eq_12 m c).symm
    · rw [Cert.Reference3Ideal.Read.val_main_v181_eq, StableHlo.launchContents_devRef, StableHlo.launchContents_devRef, StableHlo.launchContents_devRef, h0, h1, h2]
      exact (Cert.Proj.kernel_eq_13 m c).symm
    · rw [Cert.Reference3Ideal.Read.val_main_v182_eq, StableHlo.launchContents_devRef, StableHlo.launchContents_devRef, StableHlo.launchContents_devRef, h0, h1, h2]
      exact (Cert.Proj.kernel_eq_14 m c).symm
    · rw [Cert.Reference3Ideal.Read.val_main_v183_eq, StableHlo.launchContents_devRef, StableHlo.launchContents_devRef, StableHlo.launchContents_devRef, h0, h1, h2]
      exact (Cert.Proj.kernel_eq_15 m c).symm
    · rw [Cert.Reference3Ideal.Read.val_main_v186_eq, StableHlo.launchContents_devRef, StableHlo.launchContents_devRef, StableHlo.launchContents_devRef, h0, h1, h2]
      exact (Cert.Proj.kernel_eq_16 m c).symm
    · rw [Cert.Reference3Ideal.Read.val_main_v187_eq, StableHlo.launchContents_devRef, StableHlo.launchContents_devRef, StableHlo.launchContents_devRef, h0, h1, h2]
      exact (Cert.Proj.kernel_eq_17 m c).symm
    · rw [Cert.Reference3Ideal.Read.val_main_v189_eq, StableHlo.launchContents_devRef, StableHlo.launchContents_devRef, StableHlo.launchContents_devRef, h0, h1, h2]
      exact (Cert.Proj.kernel_eq_18 m c).symm

/-- The constant in the queries' factor of the second layer's input projection over the sample group is named: over the extended reals it reads `1 / (8 log 2)`. -/
theorem preserves4 : Cert.preserves_Kernel4_Kernel4Ideal :=
  IdealRules.named_const.statement Cert.Kernel4Ideal.κ "scale" .f32 0x3E38AA3B#32 _ rfl

/-- The plain input projection of the second layer over the sample group terminates with its arguments unchanged and no semaphore left raised. -/
theorem reference4_frame : Cert.quiescent_Reference4Ideal (hReference4Ideal := Cert.Reference4Ideal.Gen.facts) := fun m ρ _ =>
  (θ_run Cert.Reference4Ideal.defs _ _).mono
    (fun r h => ⟨fun c => (h c).2.2.2.2.2, Idealize.ShloMosaic.sem_eq_zero_of_no_sems (by decide) r.2⟩)
    (Cert.Reference4Ideal.Value.run (F := Ideal) m ρ)

set_option maxHeartbeats 4000000 in
/-- The kernel's input projection of the second layer over the sample group and the plain one return the same five arrays over the extended reals. -/
theorem algebraic4 : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    all_goals obtain ⟨h0, h1, h2⟩ := hagree c
    · rw [Cert.Reference4Ideal.Read.val_main_v90_eq, h0, h1, h2]
      exact (Cert.SampleC.kernel_eq_5 m c).symm
    · rw [Cert.Reference4Ideal.Read.val_main_v91_eq, h0, h1, h2]
      exact (Cert.SampleC.kernel_eq_6 m c).symm
    · rw [Cert.Reference4Ideal.Read.val_main_v94_eq, h0, h1, h2]
      exact (Cert.SampleC.kernel_eq_7 m c).symm
    · first
        | rw [Cert.Reference4Ideal.Read.val_main_v95_eq, h0, h1, h2]
        | rw [Cert.Reference4Ideal.Read.val_main_v95_eq]
      exact (Cert.SampleC.kernel_eq_8 m c).symm
    · first
        | rw [Cert.Reference4Ideal.Read.val_main_v97_eq, h0, h1, h2]
        | rw [Cert.Reference4Ideal.Read.val_main_v97_eq]
      exact (Cert.SampleC.kernel_eq_9 m c).symm

/-- The plain second half of the layer over the sample group terminates with its arguments unchanged and no semaphore left raised. -/
theorem reference5_frame : Cert.quiescent_Reference5Ideal (hReference5Ideal := Cert.Reference5Ideal.Gen.facts) := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The kernel's second half of the layer over the sample group and the plain one return the same array over the extended reals. -/
theorem algebraic5 : Cert.algebraic_Kernel5Ideal_Reference5Ideal (hKernel5Ideal := Cert.Kernel5Ideal.Gen.facts)
    (hReference5Ideal := Cert.Reference5Ideal.Gen.facts) := by
  pair_intro
  · run_from Cert.Kernel5Ideal.Value.run_blocks m g
  · run_from Cert.Reference5Ideal.Value.run m' g'
    obtain ⟨h0, h1, h2, h3, h4, h5, h6, h7⟩ := hagree c
    rw [Cert.Reference5Ideal.Read.val_main_v46_eq, h0, h1, h2, h3, h4, h5, h6, h7]
    exact (Cert.SamplePost.kernel_eq m c).symm

/-- The constant in the queries' factor of the input projection over the sample group is named: over the extended reals it reads `1 / (8 log 2)`. -/
theorem preserves6 : Cert.preserves_Kernel6_Kernel6Ideal :=
  IdealRules.named_const.statement Cert.Kernel6Ideal.κ "scale" .f32 0x3E38AA3B#32 _ rfl

/-- The plain input projection over the sample group terminates with its arguments unchanged and no semaphore left raised. -/
theorem reference6_frame : Cert.quiescent_Reference6Ideal (hReference6Ideal := Cert.Reference6Ideal.Gen.facts) := fun m ρ _ =>
  (θ_run Cert.Reference6Ideal.defs _ _).mono
    (fun r h => ⟨fun c => (h c).2.2.2.2.2.2.2.2.2.2.2.2.2.2, Idealize.ShloMosaic.sem_eq_zero_of_no_sems (by decide) r.2⟩)
    (Cert.Reference6Ideal.Value.run (F := Ideal) m ρ)

set_option maxHeartbeats 4000000 in
/-- The kernel's input projection over the sample group and the plain one return the same fourteen arrays over the extended reals. -/
theorem algebraic6 : Cert.algebraic_Kernel6Ideal_Reference6Ideal (hKernel6Ideal := Cert.Kernel6Ideal.Gen.facts)
    (hReference6Ideal := Cert.Reference6Ideal.Gen.facts) := by
  pair_intro
  · run_from Cert.Kernel6Ideal.Value.run_blocks m g
  · run_from Cert.Reference6Ideal.Value.run m' g'
    all_goals obtain ⟨h0, h1, h2⟩ := hagree c
    · rw [Cert.Reference6Ideal.Read.val_main_v162_eq, StableHlo.launchContents_devRef, StableHlo.launchContents_devRef, StableHlo.launchContents_devRef, h0, h1, h2]
      exact (Cert.SampleProj.kernel_eq_5 m c).symm
    · rw [Cert.Reference6Ideal.Read.val_main_v167_eq, StableHlo.launchContents_devRef, StableHlo.launchContents_devRef, StableHlo.launchContents_devRef, h0, h1, h2]
      exact (Cert.SampleProj.kernel_eq_6 m c).symm
    · rw [Cert.Reference6Ideal.Read.val_main_v172_eq, StableHlo.launchContents_devRef, StableHlo.launchContents_devRef, StableHlo.launchContents_devRef, h0, h1, h2]
      exact (Cert.SampleProj.kernel_eq_7 m c).symm
    · rw [Cert.Reference6Ideal.Read.val_main_v173_eq, StableHlo.launchContents_devRef, StableHlo.launchContents_devRef, StableHlo.launchContents_devRef, h0, h1, h2]
      exact (Cert.SampleProj.kernel_eq_8 m c).symm
    · rw [Cert.Reference6Ideal.Read.val_main_v176_eq, StableHlo.launchContents_devRef, StableHlo.launchContents_devRef, StableHlo.launchContents_devRef, h0, h1, h2]
      exact (Cert.SampleProj.kernel_eq_9 m c).symm
    · rw [Cert.Reference6Ideal.Read.val_main_v177_eq, StableHlo.launchContents_devRef, StableHlo.launchContents_devRef, StableHlo.launchContents_devRef, h0, h1, h2]
      exact (Cert.SampleProj.kernel_eq_10 m c).symm
    · rw [Cert.Reference6Ideal.Read.val_main_v179_eq, StableHlo.launchContents_devRef, StableHlo.launchContents_devRef, StableHlo.launchContents_devRef, h0, h1, h2]
      exact (Cert.SampleProj.kernel_eq_11 m c).symm
    · rw [Cert.Reference6Ideal.Read.val_main_v180_eq, StableHlo.launchContents_devRef, StableHlo.launchContents_devRef, StableHlo.launchContents_devRef, h0, h1, h2]
      exact (Cert.SampleProj.kernel_eq_12 m c).symm
    · rw [Cert.Reference6Ideal.Read.val_main_v183_eq, StableHlo.launchContents_devRef, StableHlo.launchContents_devRef, StableHlo.launchContents_devRef, h0, h1, h2]
      exact (Cert.SampleProj.kernel_eq_13 m c).symm
    · rw [Cert.Reference6Ideal.Read.val_main_v184_eq, StableHlo.launchContents_devRef, StableHlo.launchContents_devRef, StableHlo.launchContents_devRef, h0, h1, h2]
      exact (Cert.SampleProj.kernel_eq_14 m c).symm
    · rw [Cert.Reference6Ideal.Read.val_main_v185_eq, StableHlo.launchContents_devRef, StableHlo.launchContents_devRef, StableHlo.launchContents_devRef, h0, h1, h2]
      exact (Cert.SampleProj.kernel_eq_15 m c).symm
    · rw [Cert.Reference6Ideal.Read.val_main_v188_eq, StableHlo.launchContents_devRef, StableHlo.launchContents_devRef, StableHlo.launchContents_devRef, h0, h1, h2]
      exact (Cert.SampleProj.kernel_eq_16 m c).symm
    · rw [Cert.Reference6Ideal.Read.val_main_v189_eq, StableHlo.launchContents_devRef, StableHlo.launchContents_devRef, StableHlo.launchContents_devRef, h0, h1, h2]
      exact (Cert.SampleProj.kernel_eq_17 m c).symm
    · rw [Cert.Reference6Ideal.Read.val_main_v191_eq, StableHlo.launchContents_devRef, StableHlo.launchContents_devRef, StableHlo.launchContents_devRef, h0, h1, h2]
      exact (Cert.SampleProj.kernel_eq_18 m c).symm

/-- The constant in the queries' factor of the second layer's input projection over the prompt is named: over the extended reals it reads
    `1 / (8 log 2)`. -/
theorem preserves7 : Cert.preserves_Kernel7_Kernel7Ideal :=
  IdealRules.named_const.statement Cert.Kernel7Ideal.κ "scale" .f32 0x3E38AA3B#32 _ rfl

/-- The plain input projection of the second layer over the prompt terminates with its arguments unchanged and no semaphore left raised. -/
theorem reference7_frame : Cert.quiescent_Reference7Ideal (hReference7Ideal := Cert.Reference7Ideal.Gen.facts) := fun m ρ _ =>
  (θ_run Cert.Reference7Ideal.defs _ _).mono
    (fun r h => ⟨fun c => (h c).2.2.2.2.2, Idealize.ShloMosaic.sem_eq_zero_of_no_sems (by decide) r.2⟩)
    (Cert.Reference7Ideal.Value.run (F := Ideal) m ρ)

set_option maxHeartbeats 4000000 in
/-- The kernel's input projection of the second layer over the prompt and the plain one return the same five arrays over the extended reals. -/
theorem algebraic7 : Cert.algebraic_Kernel7Ideal_Reference7Ideal (hKernel7Ideal := Cert.Kernel7Ideal.Gen.facts)
    (hReference7Ideal := Cert.Reference7Ideal.Gen.facts) := by
  pair_intro
  · run_from Cert.Rows.run_results m g
  · run_from Cert.Reference7Ideal.Value.run m' g'
    all_goals obtain ⟨h0, h1, h2⟩ := hagree c
    · rw [Cert.Reference7Ideal.Read.val_main_v88_eq, h0, h1, h2]
      exact (Cert.Rows.kernel_eq_5 m c).symm
    · rw [Cert.Reference7Ideal.Read.val_main_v89_eq, h0, h1, h2]
      exact (Cert.Rows.kernel_eq_6 m c).symm
    · rw [Cert.Reference7Ideal.Read.val_main_v92_eq, h0, h1, h2]
      exact (Cert.Rows.kernel_eq_7 m c).symm
    · first
        | rw [Cert.Reference7Ideal.Read.val_main_v93_eq, h0, h1, h2]
        | rw [Cert.Reference7Ideal.Read.val_main_v93_eq]
      exact (Cert.Rows.kernel_eq_8 m c).symm
    · first
        | rw [Cert.Reference7Ideal.Read.val_main_v95_eq, h0, h1, h2]
        | rw [Cert.Reference7Ideal.Read.val_main_v95_eq]
      exact (Cert.Rows.kernel_eq_9 m c).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, reference4_frame,
    fun m ρ _ => Cert.Kernel5.Gen.frame m ρ, fun m ρ _ => Cert.Kernel5Ideal.Gen.frame m ρ, reference5_frame,
    fun m ρ _ => Cert.Kernel6.Gen.frame m ρ, fun m ρ _ => Cert.Kernel6Ideal.Gen.frame m ρ, reference6_frame,
    fun m ρ _ => Cert.Kernel7.Run.frame m ρ, fun m ρ _ => Cert.Kernel7Ideal.Run.frame m ρ, reference7_frame,
    preserves, algebraic, trivial, algebraic2, preserves3, algebraic3, preserves4, algebraic4, trivial, algebraic5,
    preserves6, algebraic6, preserves7, algebraic7⟩

end Cert.Proof

end
